-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))).1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))).2.1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))).2.2.1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))).2.2.2.1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))).2.2.2.2.1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))).2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))).1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))).2.1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))).2.2.1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))).2.2.2.1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))).2.2.2.2.1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))).2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_v31) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v42_0)) (v1 : (c : Dev Cert.Kernel4Ideal.nD) → Buf (Elt Ideal) ((c.tc : Thread Cert.Kernel4Ideal.nD Cert.Kernel4Ideal.τ).loc Cert.Kernel4Ideal.main_v42_1)) (v2 : (c : Dev Cert.Kernel4Ideal.nD) → Buf (Elt Ideal) ((c.tc : Thread Cert.Kernel4Ideal.nD Cert.Kernel4Ideal.τ).loc Cert.Kernel4Ideal.main_v42_2)) (v3 : (c : Dev Cert.Kernel4Ideal.nD) → Buf (Elt Ideal) ((c.tc : Thread Cert.Kernel4Ideal.nD Cert.Kernel4Ideal.τ).loc Cert.Kernel4Ideal.main_v42_3)) (v4 : (c : Dev Cert.Kernel4Ideal.nD) → Buf (Elt Ideal) ((c.tc : Thread Cert.Kernel4Ideal.nD Cert.Kernel4Ideal.τ).loc Cert.Kernel4Ideal.main_v42_4)) (v5 : (c : Dev Cert.Kernel4Ideal.nD) → Buf (Elt Ideal) ((c.tc : Thread Cert.Kernel4Ideal.nD Cert.Kernel4Ideal.τ).loc Cert.Kernel4Ideal.main_v42_5)) (v6 : (c : Dev Cert.Kernel4Ideal.nD) → Buf (Elt Ideal) ((c.tc : Thread Cert.Kernel4Ideal.nD Cert.Kernel4Ideal.τ).loc Cert.Kernel4Ideal.main_v42_6)) (v7 : (c : Dev Cert.Kernel4Ideal.nD) → Buf (Elt Ideal) ((c.tc : Thread Cert.Kernel4Ideal.nD Cert.Kernel4Ideal.τ).loc Cert.Kernel4Ideal.main_v42_7)) (v8 : (c : Dev Cert.Kernel4Ideal.nD) → Buf (Elt Ideal) ((c.tc : Thread Cert.Kernel4Ideal.nD Cert.Kernel4Ideal.τ).loc Cert.Kernel4Ideal.main_v42_8)) (v9 : (c : Dev Cert.Kernel4Ideal.nD) → Buf (Elt Ideal) ((c.tc : Thread Cert.Kernel4Ideal.nD Cert.Kernel4Ideal.τ).loc Cert.Kernel4Ideal.main_v42_9)) (v10 : (c : Dev Cert.Kernel4Ideal.nD) → Buf (Elt Ideal) ((c.tc : Thread Cert.Kernel4Ideal.nD Cert.Kernel4Ideal.τ).loc Cert.Kernel4Ideal.main_v42_10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v42_0) = v0 c
          ∧ r.2.mem ((c.tc : Thread Cert.Kernel4Ideal.nD Cert.Kernel4Ideal.τ).loc Cert.Kernel4Ideal.main_v42_1) = v1 c
          ∧ r.2.mem ((c.tc : Thread Cert.Kernel4Ideal.nD Cert.Kernel4Ideal.τ).loc Cert.Kernel4Ideal.main_v42_2) = v2 c
          ∧ r.2.mem ((c.tc : Thread Cert.Kernel4Ideal.nD Cert.Kernel4Ideal.τ).loc Cert.Kernel4Ideal.main_v42_3) = v3 c
          ∧ r.2.mem ((c.tc : Thread Cert.Kernel4Ideal.nD Cert.Kernel4Ideal.τ).loc Cert.Kernel4Ideal.main_v42_4) = v4 c
          ∧ r.2.mem ((c.tc : Thread Cert.Kernel4Ideal.nD Cert.Kernel4Ideal.τ).loc Cert.Kernel4Ideal.main_v42_5) = v5 c
          ∧ r.2.mem ((c.tc : Thread Cert.Kernel4Ideal.nD Cert.Kernel4Ideal.τ).loc Cert.Kernel4Ideal.main_v42_6) = v6 c
          ∧ r.2.mem ((c.tc : Thread Cert.Kernel4Ideal.nD Cert.Kernel4Ideal.τ).loc Cert.Kernel4Ideal.main_v42_7) = v7 c
          ∧ r.2.mem ((c.tc : Thread Cert.Kernel4Ideal.nD Cert.Kernel4Ideal.τ).loc Cert.Kernel4Ideal.main_v42_8) = v8 c
          ∧ r.2.mem ((c.tc : Thread Cert.Kernel4Ideal.nD Cert.Kernel4Ideal.τ).loc Cert.Kernel4Ideal.main_v42_9) = v9 c
          ∧ r.2.mem ((c.tc : Thread Cert.Kernel4Ideal.nD Cert.Kernel4Ideal.τ).loc Cert.Kernel4Ideal.main_v42_10) = v10 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v112) = v0 c
          ∧ r.2.mem ((c.tc : Thread Cert.Reference4Ideal.nD Cert.Reference4Ideal.τ).loc Cert.Reference4Ideal.main_v113) = v1 c
          ∧ r.2.mem ((c.tc : Thread Cert.Reference4Ideal.nD Cert.Reference4Ideal.τ).loc Cert.Reference4Ideal.main_v114) = v2 c
          ∧ r.2.mem ((c.tc : Thread Cert.Reference4Ideal.nD Cert.Reference4Ideal.τ).loc Cert.Reference4Ideal.main_v115) = v3 c
          ∧ r.2.mem ((c.tc : Thread Cert.Reference4Ideal.nD Cert.Reference4Ideal.τ).loc Cert.Reference4Ideal.main_v116) = v4 c
          ∧ r.2.mem ((c.tc : Thread Cert.Reference4Ideal.nD Cert.Reference4Ideal.τ).loc Cert.Reference4Ideal.main_v118) = v5 c
          ∧ r.2.mem ((c.tc : Thread Cert.Reference4Ideal.nD Cert.Reference4Ideal.τ).loc Cert.Reference4Ideal.main_v121) = v6 c
          ∧ r.2.mem ((c.tc : Thread Cert.Reference4Ideal.nD Cert.Reference4Ideal.τ).loc Cert.Reference4Ideal.main_v124) = v7 c
          ∧ r.2.mem ((c.tc : Thread Cert.Reference4Ideal.nD Cert.Reference4Ideal.τ).loc Cert.Reference4Ideal.main_v126) = v8 c
          ∧ r.2.mem ((c.tc : Thread Cert.Reference4Ideal.nD Cert.Reference4Ideal.τ).loc Cert.Reference4Ideal.main_v128) = v9 c
          ∧ r.2.mem ((c.tc : Thread Cert.Reference4Ideal.nD Cert.Reference4Ideal.τ).loc Cert.Reference4Ideal.main_v131) = v10 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v42_0)) (v1 : (c : Dev Cert.Kernel5Ideal.nD) → Buf (Elt Ideal) ((c.tc : Thread Cert.Kernel5Ideal.nD Cert.Kernel5Ideal.τ).loc Cert.Kernel5Ideal.main_v42_1)) (v2 : (c : Dev Cert.Kernel5Ideal.nD) → Buf (Elt Ideal) ((c.tc : Thread Cert.Kernel5Ideal.nD Cert.Kernel5Ideal.τ).loc Cert.Kernel5Ideal.main_v42_2)) (v3 : (c : Dev Cert.Kernel5Ideal.nD) → Buf (Elt Ideal) ((c.tc : Thread Cert.Kernel5Ideal.nD Cert.Kernel5Ideal.τ).loc Cert.Kernel5Ideal.main_v42_3)) (v4 : (c : Dev Cert.Kernel5Ideal.nD) → Buf (Elt Ideal) ((c.tc : Thread Cert.Kernel5Ideal.nD Cert.Kernel5Ideal.τ).loc Cert.Kernel5Ideal.main_v42_4)) (v5 : (c : Dev Cert.Kernel5Ideal.nD) → Buf (Elt Ideal) ((c.tc : Thread Cert.Kernel5Ideal.nD Cert.Kernel5Ideal.τ).loc Cert.Kernel5Ideal.main_v42_5)) (v6 : (c : Dev Cert.Kernel5Ideal.nD) → Buf (Elt Ideal) ((c.tc : Thread Cert.Kernel5Ideal.nD Cert.Kernel5Ideal.τ).loc Cert.Kernel5Ideal.main_v42_6)) (v7 : (c : Dev Cert.Kernel5Ideal.nD) → Buf (Elt Ideal) ((c.tc : Thread Cert.Kernel5Ideal.nD Cert.Kernel5Ideal.τ).loc Cert.Kernel5Ideal.main_v42_7)) (v8 : (c : Dev Cert.Kernel5Ideal.nD) → Buf (Elt Ideal) ((c.tc : Thread Cert.Kernel5Ideal.nD Cert.Kernel5Ideal.τ).loc Cert.Kernel5Ideal.main_v42_8)) (v9 : (c : Dev Cert.Kernel5Ideal.nD) → Buf (Elt Ideal) ((c.tc : Thread Cert.Kernel5Ideal.nD Cert.Kernel5Ideal.τ).loc Cert.Kernel5Ideal.main_v42_9)) (v10 : (c : Dev Cert.Kernel5Ideal.nD) → Buf (Elt Ideal) ((c.tc : Thread Cert.Kernel5Ideal.nD Cert.Kernel5Ideal.τ).loc Cert.Kernel5Ideal.main_v42_10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v42_0) = v0 c
          ∧ r.2.mem ((c.tc : Thread Cert.Kernel5Ideal.nD Cert.Kernel5Ideal.τ).loc Cert.Kernel5Ideal.main_v42_1) = v1 c
          ∧ r.2.mem ((c.tc : Thread Cert.Kernel5Ideal.nD Cert.Kernel5Ideal.τ).loc Cert.Kernel5Ideal.main_v42_2) = v2 c
          ∧ r.2.mem ((c.tc : Thread Cert.Kernel5Ideal.nD Cert.Kernel5Ideal.τ).loc Cert.Kernel5Ideal.main_v42_3) = v3 c
          ∧ r.2.mem ((c.tc : Thread Cert.Kernel5Ideal.nD Cert.Kernel5Ideal.τ).loc Cert.Kernel5Ideal.main_v42_4) = v4 c
          ∧ r.2.mem ((c.tc : Thread Cert.Kernel5Ideal.nD Cert.Kernel5Ideal.τ).loc Cert.Kernel5Ideal.main_v42_5) = v5 c
          ∧ r.2.mem ((c.tc : Thread Cert.Kernel5Ideal.nD Cert.Kernel5Ideal.τ).loc Cert.Kernel5Ideal.main_v42_6) = v6 c
          ∧ r.2.mem ((c.tc : Thread Cert.Kernel5Ideal.nD Cert.Kernel5Ideal.τ).loc Cert.Kernel5Ideal.main_v42_7) = v7 c
          ∧ r.2.mem ((c.tc : Thread Cert.Kernel5Ideal.nD Cert.Kernel5Ideal.τ).loc Cert.Kernel5Ideal.main_v42_8) = v8 c
          ∧ r.2.mem ((c.tc : Thread Cert.Kernel5Ideal.nD Cert.Kernel5Ideal.τ).loc Cert.Kernel5Ideal.main_v42_9) = v9 c
          ∧ r.2.mem ((c.tc : Thread Cert.Kernel5Ideal.nD Cert.Kernel5Ideal.τ).loc Cert.Kernel5Ideal.main_v42_10) = v10 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v98) = v0 c
          ∧ r.2.mem ((c.tc : Thread Cert.Reference5Ideal.nD Cert.Reference5Ideal.τ).loc Cert.Reference5Ideal.main_v21) = v1 c
          ∧ r.2.mem ((c.tc : Thread Cert.Reference5Ideal.nD Cert.Reference5Ideal.τ).loc Cert.Reference5Ideal.main_v22) = v2 c
          ∧ r.2.mem ((c.tc : Thread Cert.Reference5Ideal.nD Cert.Reference5Ideal.τ).loc Cert.Reference5Ideal.main_v33) = v3 c
          ∧ r.2.mem ((c.tc : Thread Cert.Reference5Ideal.nD Cert.Reference5Ideal.τ).loc Cert.Reference5Ideal.main_v58) = v4 c
          ∧ r.2.mem ((c.tc : Thread Cert.Reference5Ideal.nD Cert.Reference5Ideal.τ).loc Cert.Reference5Ideal.main_v100) = v5 c
          ∧ r.2.mem ((c.tc : Thread Cert.Reference5Ideal.nD Cert.Reference5Ideal.τ).loc Cert.Reference5Ideal.main_v103) = v6 c
          ∧ r.2.mem ((c.tc : Thread Cert.Reference5Ideal.nD Cert.Reference5Ideal.τ).loc Cert.Reference5Ideal.main_v105) = v7 c
          ∧ r.2.mem ((c.tc : Thread Cert.Reference5Ideal.nD Cert.Reference5Ideal.τ).loc Cert.Reference5Ideal.main_v107) = v8 c
          ∧ r.2.mem ((c.tc : Thread Cert.Reference5Ideal.nD Cert.Reference5Ideal.τ).loc Cert.Reference5Ideal.main_v109) = v9 c
          ∧ r.2.mem ((c.tc : Thread Cert.Reference5Ideal.nD Cert.Reference5Ideal.τ).loc Cert.Reference5Ideal.main_v111) = v10 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_v27) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v15) = v0 c
          ∧ r.2.mem ((c.tc : Thread Cert.Reference9Ideal.nD Cert.Reference9Ideal.τ).loc Cert.Reference9Ideal.main_v31) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S16384x2048 : Shape := ⟨2, ![16384, 2048]⟩
abbrev S4x1x2048 : Shape := ⟨3, ![4, 1, 2048]⟩
abbrev S2048 : Shape := ⟨1, ![2048]⟩
abbrev S2048x2904 : Shape := ⟨2, ![2048, 2904]⟩
abbrev S512 : Shape := ⟨1, ![512]⟩
abbrev S512x1536 : Shape := ⟨2, ![512, 1536]⟩
abbrev S512x8x128 : Shape := ⟨3, ![512, 8, 128]⟩
abbrev S4096x32 : Shape := ⟨2, ![4096, 32]⟩
abbrev S_ : Shape := ⟨0, ![]⟩
abbrev S2048x64 : Shape := ⟨2, ![2048, 64]⟩
abbrev S512x8x192 : Shape := ⟨3, ![512, 8, 192]⟩
abbrev S512x8x64 : Shape := ⟨3, ![512, 8, 64]⟩

class Facts : Prop where
  bcast_S_S4x1x2048 : S_.BroadcastsInDim S4x1x2048 (![] : Fin 0 → Fin S4x1x2048.rank)
  bcast_S_S2048 : S_.BroadcastsInDim S2048 (![] : Fin 0 → Fin S2048.rank)
  slices_S2048x2904_S2048x64_0_2840 : S2048x2904.Slices ![0, 2840] S2048x64
  bcast_S_S2048x64 : S_.BroadcastsInDim S2048x64 (![] : Fin 0 → Fin S2048x64.rank)
  bcast_S_S512 : S_.BroadcastsInDim S512 (![] : Fin 0 → Fin S512.rank)
  shapeCasts_S512x1536_S512x8x192 : S512x1536.ShapeCasts S512x8x192
  slices_S512x8x192_S512x8x64_0_0_128 : S512x8x192.Slices ![0, 0, 128] S512x8x64
  bcast_S_S512x8x64 : S_.BroadcastsInDim S512x8x64 (![] : Fin 0 → Fin S512x8x64.rank)

variable [Facts]

def fn_part1 {F : FTy → Type} [FloatOps F] (main_v2 : IVec S4x1x2048 1) (main_v5 : IVec S4x1x2048 1) (main_v8 : IVec S2048 1) (main_v12 : IVec S2048x64 1) (main_v15 : IVec S512 1) (main_v18 : FVec F S512x8x64 .f32) : IVec S4x1x2048 1 × IVec S4x1x2048 1 × IVec S2048 1 × IVec S2048x64 1 × IVec S512 1 × IVec S512x8x64 1 :=
  let main_cst_4 : FVec F S_ .f32 := constant S_ .f32 0x7F800000#32
  let main_v19 : FVec F S512x8x64 .f32 := broadcastInDim S512x8x64 ![] bcast_S_S512x8x64 main_cst_4
  let main_v20 : IVec S512x8x64 1 := cmpf .olt main_v18 main_v19
  (main_v2, main_v5, main_v8, main_v12, main_v15, main_v20)

def fn {F : FTy → Type} [FloatOps F] (main_arg0 : FVec F S16384x2048 .f32) (main_arg1 : FVec F S4x1x2048 .f32) (main_arg2 : FVec F S4x1x2048 .f32) (main_arg3 : FVec F S2048 .f32) (main_arg4 : FVec F S2048x2904 .f32) (main_arg5 : FVec F S512 .f32) (main_arg6 : FVec F S512x1536 .f32) (main_arg7 : FVec F S512 .f32) (main_arg8 : FVec F S512x8x128 .f32) (main_arg9 : FVec F S512x8x128 .f32) (main_arg10 : FVec F S4096x32 .f32) : IVec S4x1x2048 1 × IVec S4x1x2048 1 × IVec S2048 1 × IVec S2048x64 1 × IVec S512 1 × IVec S512x8x64 1 :=
  let main_v0 : FVec F S4x1x2048 .f32 := Host.absf main_arg1
  let main_cst : FVec F S_ .f32 := constant S_ .f32 0x7F800000#32
  let main_v1 : FVec F S4x1x2048 .f32 := broadcastInDim S4x1x2048 ![] bcast_S_S4x1x2048 main_cst
  let main_v2 : IVec S4x1x2048 1 := cmpf .olt main_v0 main_v1
  let main_v3 : FVec F S4x1x2048 .f32 := Host.absf main_arg2
  let main_cst_0 : FVec F S_ .f32 := constant S_ .f32 0x7F800000#32
  let main_v4 : FVec F S4x1x2048 .f32 := broadcastInDim S4x1x2048 ![] bcast_S_S4x1x2048 main_cst_0
  let main_v5 : IVec S4x1x2048 1 := cmpf .olt main_v3 main_v4
  let main_v6 : FVec F S2048 .f32 := Host.absf main_arg3
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  let main_v9 : FVec F S2048x64 .f32 := (extractStridedSlice S2048x64 ![0, 2840] · slices_S2048x2904_S2048x64_0_2840) main_arg4
  let main_v10 : FVec F S2048x64 .f32 := Host.absf main_v9
  let main_cst_2 : FVec F S_ .f32 := constant S_ .f32 0x7F800000#32
  let main_v11 : FVec F S2048x64 .f32 := broadcastInDim S2048x64 ![] bcast_S_S2048x64 main_cst_2
  let main_v12 : IVec S2048x64 1 := cmpf .olt main_v10 main_v11
  let main_v13 : FVec F S512 .f32 := Host.absf main_arg5
  let main_cst_3 : FVec F S_ .f32 := constant S_ .f32 0x7F800000#32
  let main_v14 : FVec F S512 .f32 := broadcastInDim S512 ![] bcast_S_S512 main_cst_3
  let main_v15 : IVec S512 1 := cmpf .olt main_v13 main_v14
  let main_v16 : FVec F S512x8x192 .f32 := shapeCast S512x8x192 main_arg6 shapeCasts_S512x1536_S512x8x192
  let main_v17 : FVec F S512x8x64 .f32 := (extractStridedSlice S512x8x64 ![0, 0, 128] · slices_S512x8x192_S512x8x64_0_0_128) main_v16
  let main_v18 : FVec F S512x8x64 .f32 := Host.absf main_v17
  fn_part1 (F := F) main_v2 main_v5 main_v8 main_v12 main_v15 main_v18
-- ==== Pre_finite5.lean ====
abbrev S512x2048 : Shape := ⟨2, ![512, 2048]⟩
abbrev S1x512x2048 : Shape := ⟨3, ![1, 512, 2048]⟩
abbrev S2048 : Shape := ⟨1, ![2048]⟩
abbrev S2048x2904 : Shape := ⟨2, ![2048, 2904]⟩
abbrev S512 : Shape := ⟨1, ![512]⟩
abbrev S512x1536 : Shape := ⟨2, ![512, 1536]⟩
abbrev S512x8x128 : Shape := ⟨3, ![512, 8, 128]⟩
abbrev S512x32 : Shape := ⟨2, ![512, 32]⟩
abbrev S_ : Shape := ⟨0, ![]⟩
abbrev S2048x64 : Shape := ⟨2, ![2048, 64]⟩
abbrev S512x8x192 : Shape := ⟨3, ![512, 8, 192]⟩
abbrev S512x8x64 : Shape := ⟨3, ![512, 8, 64]⟩

class Facts : Prop where
  bcast_S_S1x512x2048 : S_.BroadcastsInDim S1x512x2048 (![] : Fin 0 → Fin S1x512x2048.rank)
  bcast_S_S2048 : S_.BroadcastsInDim S2048 (![] : Fin 0 → Fin S2048.rank)
  slices_S2048x2904_S2048x64_0_2840 : S2048x2904.Slices ![0, 2840] S2048x64
  bcast_S_S2048x64 : S_.BroadcastsInDim S2048x64 (![] : Fin 0 → Fin S2048x64.rank)
  bcast_S_S512 : S_.BroadcastsInDim S512 (![] : Fin 0 → Fin S512.rank)
  shapeCasts_S512x1536_S512x8x192 : S512x1536.ShapeCasts S512x8x192
  slices_S512x8x192_S512x8x64_0_0_128 : S512x8x192.Slices ![0, 0, 128] S512x8x64
  bcast_S_S512x8x64 : S_.BroadcastsInDim S512x8x64 (![] : Fin 0 → Fin S512x8x64.rank)

variable [Facts]

def fn_part1 {F : FTy → Type} [FloatOps F] (main_v2 : IVec S1x512x2048 1) (main_v5 : IVec S1x512x2048 1) (main_v8 : IVec S2048 1) (main_v12 : IVec S2048x64 1) (main_v15 : IVec S512 1) (main_v18 : FVec F S512x8x64 .f32) : IVec S1x512x2048 1 × IVec S1x512x2048 1 × IVec S2048 1 × IVec S2048x64 1 × IVec S512 1 × IVec S512x8x64 1 :=
  let main_cst_4 : FVec F S_ .f32 := constant S_ .f32 0x7F800000#32
  let main_v19 : FVec F S512x8x64 .f32 := broadcastInDim S512x8x64 ![] bcast_S_S512x8x64 main_cst_4
  let main_v20 : IVec S512x8x64 1 := cmpf .olt main_v18 main_v19
  (main_v2, main_v5, main_v8, main_v12, main_v15, main_v20)

def fn {F : FTy → Type} [FloatOps F] (main_arg0 : FVec F S512x2048 .f32) (main_arg1 : FVec F S1x512x2048 .f32) (main_arg2 : FVec F S1x512x2048 .f32) (main_arg3 : FVec F S2048 .f32) (main_arg4 : FVec F S2048x2904 .f32) (main_arg5 : FVec F S512 .f32) (main_arg6 : FVec F S512x1536 .f32) (main_arg7 : FVec F S512 .f32) (main_arg8 : FVec F S512x8x128 .f32) (main_arg9 : FVec F S512x8x128 .f32) (main_arg10 : FVec F S512x32 .f32) : IVec S1x512x2048 1 × IVec S1x512x2048 1 × IVec S2048 1 × IVec S2048x64 1 × IVec S512 1 × IVec S512x8x64 1 :=
  let main_v0 : FVec F S1x512x2048 .f32 := Host.absf main_arg1
  let main_cst : FVec F S_ .f32 := constant S_ .f32 0x7F800000#32
  let main_v1 : FVec F S1x512x2048 .f32 := broadcastInDim S1x512x2048 ![] bcast_S_S1x512x2048 main_cst
  let main_v2 : IVec S1x512x2048 1 := cmpf .olt main_v0 main_v1
  let main_v3 : FVec F S1x512x2048 .f32 := Host.absf main_arg2
  let main_cst_0 : FVec F S_ .f32 := constant S_ .f32 0x7F800000#32
  let main_v4 : FVec F S1x512x2048 .f32 := broadcastInDim S1x512x2048 ![] bcast_S_S1x512x2048 main_cst_0
  let main_v5 : IVec S1x512x2048 1 := cmpf .olt main_v3 main_v4
  let main_v6 : FVec F S2048 .f32 := Host.absf main_arg3
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  let main_v9 : FVec F S2048x64 .f32 := (extractStridedSlice S2048x64 ![0, 2840] · slices_S2048x2904_S2048x64_0_2840) main_arg4
  let main_v10 : FVec F S2048x64 .f32 := Host.absf main_v9
  let main_cst_2 : FVec F S_ .f32 := constant S_ .f32 0x7F800000#32
  let main_v11 : FVec F S2048x64 .f32 := broadcastInDim S2048x64 ![] bcast_S_S2048x64 main_cst_2
  let main_v12 : IVec S2048x64 1 := cmpf .olt main_v10 main_v11
  let main_v13 : FVec F S512 .f32 := Host.absf main_arg5
  let main_cst_3 : FVec F S_ .f32 := constant S_ .f32 0x7F800000#32
  let main_v14 : FVec F S512 .f32 := broadcastInDim S512 ![] bcast_S_S512 main_cst_3
  let main_v15 : IVec S512 1 := cmpf .olt main_v13 main_v14
  let main_v16 : FVec F S512x8x192 .f32 := shapeCast S512x8x192 main_arg6 shapeCasts_S512x1536_S512x8x192
  let main_v17 : FVec F S512x8x64 .f32 := (extractStridedSlice S512x8x64 ![0, 0, 128] · slices_S512x8x192_S512x8x64_0_0_128) main_v16
  let main_v18 : FVec F S512x8x64 .f32 := Host.absf main_v17
  fn_part1 (F := F) main_v2 main_v5 main_v8 main_v12 main_v15 main_v18
-- ==== Kernel.lean ====
abbrev S16384x1024 : Shape := ⟨2, ![16384, 1024]⟩
abbrev S4x4096x1024 : Shape := ⟨3, ![4, 4096, 1024]⟩
abbrev S4x4096x128 : Shape := ⟨3, ![4, 4096, 128]⟩
abbrev S4x1024x4096 : Shape := ⟨3, ![4, 1024, 4096]⟩
abbrev S1x4096x1024 : Shape := ⟨3, ![1, 4096, 1024]⟩
abbrev S128x1024 : Shape := ⟨2, ![128, 1024]⟩
abbrev S1x4096x128 : Shape := ⟨3, ![1, 4096, 128]⟩
abbrev S1x1024x4096 : Shape := ⟨3, ![1, 1024, 4096]⟩
abbrev S8x1x128 : Shape := ⟨3, ![8, 1, 128]⟩
abbrev S8x128x128 : Shape := ⟨3, ![8, 128, 128]⟩
abbrev S1x128 : Shape := ⟨2, ![1, 128]⟩
abbrev S512x1 : Shape := ⟨2, ![512, 1]⟩
abbrev S512x128 : Shape := ⟨2, ![512, 128]⟩
abbrev S1x512x128 : Shape := ⟨3, ![1, 512, 128]⟩
abbrev S512x256 : Shape := ⟨2, ![512, 256]⟩
abbrev S128x128 : Shape := ⟨2, ![128, 128]⟩
abbrev S128x256 : Shape := ⟨2, ![128, 256]⟩
abbrev S1x1x128 : Shape := ⟨3, ![1, 1, 128]⟩
abbrev S128 : Shape := ⟨1, ![128]⟩
abbrev S1x128x128 : Shape := ⟨3, ![1, 128, 128]⟩
abbrev S1x128x512 : Shape := ⟨3, ![1, 128, 512]⟩
abbrev S128x512 : Shape := ⟨2, ![128, 512]⟩

abbrev nBuf : Space → Nat
  | .hbm => 6
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S4x4096x1024, .bf16⟩
  | .hbm, ⟨3, _⟩ => ⟨S4x4096x128, .bf16⟩
  | .hbm, ⟨4, _⟩ => ⟨S4x1024x4096, .bf16⟩
  | .hbm, ⟨5, _⟩ => ⟨S16384x1024, .bf16⟩
  | .local _ .vmem, ⟨0, _⟩ => ⟨S1x4096x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S1x4096x128, .bf16⟩
  | .local _ .vmem, ⟨6, _⟩ => ⟨S1x1024x4096, .bf16⟩
  | .local _ .vmem, ⟨7, _⟩ => ⟨S128x1024, .bf16⟩
  | .local _ .vmem, ⟨8, _⟩ => ⟨S128x1024, .bf16⟩
  | .local _ .vmem, ⟨9, _⟩ => ⟨S8x1x128, .f32⟩
  | .local _ .vmem, ⟨10, _⟩ => ⟨S8x1x128, .f32⟩
  | .local _ .vmem, ⟨11, _⟩ => ⟨S8x128x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_14 : BitVec 32 := 512#32
  let v32 : BitVec 32 := Scalar.muli v17 c512_i32_14
  v32
@[reducible] def k0_t1_loop (i : grid0.Coords) : Scf.Loop 32 :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v44 : BitVec 32 := Scalar.subi v17 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_20 : BitVec 32 := 1#32
  ⟨c0_i32_18, v48, c1_i32_20⟩
def k0_mult2 (i : grid0.Coords) (k0_t1 : Fin (k0_t1_loop i).trips) : BitVec 32 :=
  let c0_i32_18 : BitVec 32 := 0#32
  let c1_i32_20 : BitVec 32 := 1#32
  let arg11 : BitVec 32 := Scf.iv c0_i32_18 c1_i32_20 k0_t1
  let c512_i32_322 : BitVec 32 := 512#32
  let v492 : BitVec 32 := Scalar.muli arg11 c512_i32_322
  v492
def k0_off1 (i : grid0.Coords) (k0_t1 : Fin (k0_t1_loop i).trips) : Fin 3 → Nat :=
  let c0_323 : Index := 0#32
  let c0_i32_18 : BitVec 32 := 0#32
  let c1_i32_20 : BitVec 32 := 1#32
  let arg11 : BitVec 32 := Scf.iv c0_i32_18 c1_i32_20 k0_t1
  let c512_i32_322 : BitVec 32 := 512#32
  let v492 : BitVec 32 := Scalar.muli arg11 c512_i32_322
  let v493 : BitVec 32 := v492
  let v494 : Index := Scalar.indexCast v493
  let c0_324 : Index := 0#32
  ![0, v494.toNat, 0]
def k0_off2 (i : grid0.Coords) (k0_t1 : Fin (k0_t1_loop i).trips) : Fin 3 → Nat :=
  let c0_325 : Index := 0#32
  let c0_i32_18 : BitVec 32 := 0#32
  let c1_i32_20 : BitVec 32 := 1#32
  let arg11 : BitVec 32 := Scf.iv c0_i32_18 c1_i32_20 k0_t1
  let c512_i32_322 : BitVec 32 := 512#32
  let v492 : BitVec 32 := Scalar.muli arg11 c512_i32_322
  let v493 : BitVec 32 := v492
  let v497 : Index := Scalar.indexCast v493
  let c0_326 : Index := 0#32
  ![0, v497.toNat, 0]
def k0_off3 (i : grid0.Coords) (k0_t1 : Fin (k0_t1_loop i).trips) : Fin 3 → Nat :=
  let c0_332 : Index := 0#32
  let c0_i32_18 : BitVec 32 := 0#32
  let c1_i32_20 : BitVec 32 := 1#32
  let arg11 : BitVec 32 := Scf.iv c0_i32_18 c1_i32_20 k0_t1
  let c512_i32_322 : BitVec 32 := 512#32
  let v492 : BitVec 32 := Scalar.muli arg11 c512_i32_322
  let v493 : BitVec 32 := v492
  let v505 : Index := Scalar.indexCast v493
  let c128_333 : Index := 128#32
  ![0, v505.toNat, 128]
def k0_off4 (i : grid0.Coords) (k0_t1 : Fin (k0_t1_loop i).trips) : Fin 3 → Nat :=
  let c0_339 : Index := 0#32
  let c0_i32_18 : BitVec 32 := 0#32
  let c1_i32_20 : BitVec 32 := 1#32
  let arg11 : BitVec 32 := Scf.iv c0_i32_18 c1_i32_20 k0_t1
  let c512_i32_322 : BitVec 32 := 512#32
  let v492 : BitVec 32 := Scalar.muli arg11 c512_i32_322
  let v493 : BitVec 32 := v492
  let v513 : Index := Scalar.indexCast v493
  let c256_340 : Index := 256#32
  ![0, v513.toNat, 256]
def k0_off5 (i : grid0.Coords) (k0_t1 : Fin (k0_t1_loop i).trips) : Fin 3 → Nat :=
  let c0_346 : Index := 0#32
  let c0_i32_18 : BitVec 32 := 0#32
  let c1_i32_20 : BitVec 32 := 1#32
  let arg11 : BitVec 32 := Scf.iv c0_i32_18 c1_i32_20 k0_t1
  let c512_i32_322 : BitVec 32 := 512#32
  let v492 : BitVec 32 := Scalar.muli arg11 c512_i32_322
  let v493 : BitVec 32 := v492
  let v521 : Index := Scalar.indexCast v493
  let c384_347 : Index := 384#32
  ![0, v521.toNat, 384]
def k0_off6 (i : grid0.Coords) (k0_t1 : Fin (k0_t1_loop i).trips) : Fin 3 → Nat :=
  let c0_353 : Index := 0#32
  let c0_i32_18 : BitVec 32 := 0#32
  let c1_i32_20 : BitVec 32 := 1#32
  let arg11 : BitVec 32 := Scf.iv c0_i32_18 c1_i32_20 k0_t1
  let c512_i32_322 : BitVec 32 := 512#32
  let v492 : BitVec 32 := Scalar.muli arg11 c512_i32_322
  let v493 : BitVec 32 := v492
  let v529 : Index := Scalar.indexCast v493
  let c512_354 : Index := 512#32
  ![0, v529.toNat, 512]
def k0_off7 (i : grid0.Coords) (k0_t1 : Fin (k0_t1_loop i).trips) : Fin 3 → Nat :=
  let c0_360 : Index := 0#32
  let c0_i32_18 : BitVec 32 := 0#32
  let c1_i32_20 : BitVec 32 := 1#32
  let arg11 : BitVec 32 := Scf.iv c0_i32_18 c1_i32_20 k0_t1
  let c512_i32_322 : BitVec 32 := 512#32
  let v492 : BitVec 32 := Scalar.muli arg11 c512_i32_322
  let v493 : BitVec 32 := v492
  let v537 : Index := Scalar.indexCast v493
  let c640_361 : Index := 640#32
  ![0, v537.toNat, 640]
def k0_off8 (i : grid0.Coords) (k0_t1 : Fin (k0_t1_loop i).trips) : Fin 3 → Nat :=
  let c0_367 : Index := 0#32
  let c0_i32_18 : BitVec 32 := 0#32
  let c1_i32_20 : BitVec 32 := 1#32
  let arg11 : BitVec 32 := Scf.iv c0_i32_18 c1_i32_20 k0_t1
  let c512_i32_322 : BitVec 32 := 512#32
  let v492 : BitVec 32 := Scalar.muli arg11 c512_i32_322
  let v493 : BitVec 32 := v492
  let v545 : Index := Scalar.indexCast v493
  let c768_368 : Index := 768#32
  ![0, v545.toNat, 768]
def k0_off9 (i : grid0.Coords) (k0_t1 : Fin (k0_t1_loop i).trips) : Fin 3 → Nat :=
  let c0_374 : Index := 0#32
  let c0_i32_18 : BitVec 32 := 0#32
  let c1_i32_20 : BitVec 32 := 1#32
  let arg11 : BitVec 32 := Scf.iv c0_i32_18 c1_i32_20 k0_t1
  let c512_i32_322 : BitVec 32 := 512#32
  let v492 : BitVec 32 := Scalar.muli arg11 c512_i32_322
  let v493 : BitVec 32 := v492
  let v553 : Index := Scalar.indexCast v493
  let c896_375 : Index := 896#32
  ![0, v553.toNat, 896]
def k0_off10 (i : grid0.Coords) (k0_t1 : Fin (k0_t1_loop i).trips) : Fin 3 → Nat :=
  let c0_496 : Index := 0#32
  let c0_497 : Index := 0#32
  let c0_i32_18 : BitVec 32 := 0#32
  let c1_i32_20 : BitVec 32 := 1#32
  let arg11 : BitVec 32 := Scf.iv c0_i32_18 c1_i32_20 k0_t1
  let c512_i32_322 : BitVec 32 := 512#32
  let v492 : BitVec 32 := Scalar.muli arg11 c512_i32_322
  let v493 : BitVec 32 := v492
  let v749 : Index := Scalar.indexCast v493
  ![0, 0, v749.toNat]
def k0_off11 (i : grid0.Coords) (k0_t1 : Fin (k0_t1_loop i).trips) : Fin 3 → Nat :=
  let c0_505 : Index := 0#32
  let c128_506 : Index := 128#32
  let c0_i32_18 : BitVec 32 := 0#32
  let c1_i32_20 : BitVec 32 := 1#32
  let arg11 : BitVec 32 := Scf.iv c0_i32_18 c1_i32_20 k0_t1
  let c512_i32_322 : BitVec 32 := 512#32
  let v492 : BitVec 32 := Scalar.muli arg11 c512_i32_322
  let v493 : BitVec 32 := v492
  let v761 : Index := Scalar.indexCast v493
  ![0, 128, v761.toNat]
def k0_off12 (i : grid0.Coords) (k0_t1 : Fin (k0_t1_loop i).trips) : Fin 3 → Nat :=
  let c0_514 : Index := 0#32
  let c256_515 : Index := 256#32
  let c0_i32_18 : BitVec 32 := 0#32
  let c1_i32_20 : BitVec 32 := 1#32
  let arg11 : BitVec 32 := Scf.iv c0_i32_18 c1_i32_20 k0_t1
  let c512_i32_322 : BitVec 32 := 512#32
  let v492 : BitVec 32 := Scalar.muli arg11 c512_i32_322
  let v493 : BitVec 32 := v492
  let v773 : Index := Scalar.indexCast v493
  ![0, 256, v773.toNat]
def k0_off13 (i : grid0.Coords) (k0_t1 : Fin (k0_t1_loop i).trips) : Fin 3 → Nat :=
  let c0_523 : Index := 0#32
  let c384_524 : Index := 384#32
  let c0_i32_18 : BitVec 32 := 0#32
  let c1_i32_20 : BitVec 32 := 1#32
  let arg11 : BitVec 32 := Scf.iv c0_i32_18 c1_i32_20 k0_t1
  let c512_i32_322 : BitVec 32 := 512#32
  let v492 : BitVec 32 := Scalar.muli arg11 c512_i32_322
  let v493 : BitVec 32 := v492
  let v785 : Index := Scalar.indexCast v493
  ![0, 384, v785.toNat]
def k0_off14 (i : grid0.Coords) (k0_t1 : Fin (k0_t1_loop i).trips) : Fin 3 → Nat :=
  let c0_532 : Index := 0#32
  let c512_533 : Index := 512#32
  let c0_i32_18 : BitVec 32 := 0#32
  let c1_i32_20 : BitVec 32 := 1#32
  let arg11 : BitVec 32 := Scf.iv c0_i32_18 c1_i32_20 k0_t1
  let c512_i32_322 : BitVec 32 := 512#32
  let v492 : BitVec 32 := Scalar.muli arg11 c512_i32_322
  let v493 : BitVec 32 := v492
  let v797 : Index := Scalar.indexCast v493
  ![0, 512, v797.toNat]
def k0_off15 (i : grid0.Coords) (k0_t1 : Fin (k0_t1_loop i).trips) : Fin 3 → Nat :=
  let c0_541 : Index := 0#32
  let c640_542 : Index := 640#32
  let c0_i32_18 : BitVec 32 := 0#32
  let c1_i32_20 : BitVec 32 := 1#32
  let arg11 : BitVec 32 := Scf.iv c0_i32_18 c1_i32_20 k0_t1
  let c512_i32_322 : BitVec 32 := 512#32
  let v492 : BitVec 32 := Scalar.muli arg11 c512_i32_322
  let v493 : BitVec 32 := v492
  let v809 : Index := Scalar.indexCast v493
  ![0, 640, v809.toNat]
def k0_off16 (i : grid0.Coords) (k0_t1 : Fin (k0_t1_loop i).trips) : Fin 3 → Nat :=
  let c0_550 : Index := 0#32
  let c768_551 : Index := 768#32
  let c0_i32_18 : BitVec 32 := 0#32
  let c1_i32_20 : BitVec 32 := 1#32
  let arg11 : BitVec 32 := Scf.iv c0_i32_18 c1_i32_20 k0_t1
  let c512_i32_322 : BitVec 32 := 512#32
  let v492 : BitVec 32 := Scalar.muli arg11 c512_i32_322
  let v493 : BitVec 32 := v492
  let v821 : Index := Scalar.indexCast v493
  ![0, 768, v821.toNat]
def k0_off17 (i : grid0.Coords) (k0_t1 : Fin (k0_t1_loop i).trips) : Fin 3 → Nat :=
  let c0_559 : Index := 0#32
  let c896_560 : Index := 896#32
  let c0_i32_18 : BitVec 32 := 0#32
  let c1_i32_20 : BitVec 32 := 1#32
  let arg11 : BitVec 32 := Scf.iv c0_i32_18 c1_i32_20 k0_t1
  let c512_i32_322 : BitVec 32 := 512#32
  let v492 : BitVec 32 := Scalar.muli arg11 c512_i32_322
  let v493 : BitVec 32 := v492
  let v833 : Index := Scalar.indexCast v493
  ![0, 896, v833.toNat]
@[reducible] def k0_t2_loop (i : grid0.Coords) : Scf.Loop 32 :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v44 : BitVec 32 := Scalar.subi v17 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let v45 : BitVec 32 := Scalar.addi c0_i32_18 v44
  let c1_i32_21 : BitVec 32 := 1#32
  ⟨v48, v45, c1_i32_21⟩
def k0_mult3 (i : grid0.Coords) (k0_t2 : Fin (k0_t2_loop i).trips) : BitVec 32 :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v44 : BitVec 32 := Scalar.subi v17 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg11 : BitVec 32 := Scf.iv v48 c1_i32_21 k0_t2
  let c512_i32_322 : BitVec 32 := 512#32
  let v492 : BitVec 32 := Scalar.muli arg11 c512_i32_322
  v492
def k0_off18 (i : grid0.Coords) (k0_t2 : Fin (k0_t2_loop i).trips) : Fin 3 → Nat :=
  let c0_323 : Index := 0#32
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v44 : BitVec 32 := Scalar.subi v17 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg11 : BitVec 32 := Scf.iv v48 c1_i32_21 k0_t2
  let c512_i32_322 : BitVec 32 := 512#32
  let v492 : BitVec 32 := Scalar.muli arg11 c512_i32_322
  let v493 : BitVec 32 := v492
  let v494 : Index := Scalar.indexCast v493
  let c0_324 : Index := 0#32
  ![0, v494.toNat, 0]
def k0_off19 (i : grid0.Coords) (k0_t2 : Fin (k0_t2_loop i).trips) : Fin 3 → Nat :=
  let c0_325 : Index := 0#32
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v44 : BitVec 32 := Scalar.subi v17 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg11 : BitVec 32 := Scf.iv v48 c1_i32_21 k0_t2
  let c512_i32_322 : BitVec 32 := 512#32
  let v492 : BitVec 32 := Scalar.muli arg11 c512_i32_322
  let v493 : BitVec 32 := v492
  let v497 : Index := Scalar.indexCast v493
  let c0_326 : Index := 0#32
  ![0, v497.toNat, 0]
def k0_off20 (i : grid0.Coords) (k0_t2 : Fin (k0_t2_loop i).trips) : Fin 3 → Nat :=
  let c0_332 : Index := 0#32
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v44 : BitVec 32 := Scalar.subi v17 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg11 : BitVec 32 := Scf.iv v48 c1_i32_21 k0_t2
  let c512_i32_322 : BitVec 32 := 512#32
  let v492 : BitVec 32 := Scalar.muli arg11 c512_i32_322
  let v493 : BitVec 32 := v492
  let v505 : Index := Scalar.indexCast v493
  let c128_333 : Index := 128#32
  ![0, v505.toNat, 128]
def k0_off21 (i : grid0.Coords) (k0_t2 : Fin (k0_t2_loop i).trips) : Fin 3 → Nat :=
  let c0_339 : Index := 0#32
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v44 : BitVec 32 := Scalar.subi v17 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg11 : BitVec 32 := Scf.iv v48 c1_i32_21 k0_t2
  let c512_i32_322 : BitVec 32 := 512#32
  let v492 : BitVec 32 := Scalar.muli arg11 c512_i32_322
  let v493 : BitVec 32 := v492
  let v513 : Index := Scalar.indexCast v493
  let c256_340 : Index := 256#32
  ![0, v513.toNat, 256]
def k0_off22 (i : grid0.Coords) (k0_t2 : Fin (k0_t2_loop i).trips) : Fin 3 → Nat :=
  let c0_346 : Index := 0#32
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v44 : BitVec 32 := Scalar.subi v17 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg11 : BitVec 32 := Scf.iv v48 c1_i32_21 k0_t2
  let c512_i32_322 : BitVec 32 := 512#32
  let v492 : BitVec 32 := Scalar.muli arg11 c512_i32_322
  let v493 : BitVec 32 := v492
  let v521 : Index := Scalar.indexCast v493
  let c384_347 : Index := 384#32
  ![0, v521.toNat, 384]
def k0_off23 (i : grid0.Coords) (k0_t2 : Fin (k0_t2_loop i).trips) : Fin 3 → Nat :=
  let c0_353 : Index := 0#32
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v44 : BitVec 32 := Scalar.subi v17 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg11 : BitVec 32 := Scf.iv v48 c1_i32_21 k0_t2
  let c512_i32_322 : BitVec 32 := 512#32
  let v492 : BitVec 32 := Scalar.muli arg11 c512_i32_322
  let v493 : BitVec 32 := v492
  let v529 : Index := Scalar.indexCast v493
  let c512_354 : Index := 512#32
  ![0, v529.toNat, 512]
def k0_off24 (i : grid0.Coords) (k0_t2 : Fin (k0_t2_loop i).trips) : Fin 3 → Nat :=
  let c0_360 : Index := 0#32
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v44 : BitVec 32 := Scalar.subi v17 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg11 : BitVec 32 := Scf.iv v48 c1_i32_21 k0_t2
  let c512_i32_322 : BitVec 32 := 512#32
  let v492 : BitVec 32 := Scalar.muli arg11 c512_i32_322
  let v493 : BitVec 32 := v492
  let v537 : Index := Scalar.indexCast v493
  let c640_361 : Index := 640#32
  ![0, v537.toNat, 640]
def k0_off25 (i : grid0.Coords) (k0_t2 : Fin (k0_t2_loop i).trips) : Fin 3 → Nat :=
  let c0_367 : Index := 0#32
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v44 : BitVec 32 := Scalar.subi v17 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg11 : BitVec 32 := Scf.iv v48 c1_i32_21 k0_t2
  let c512_i32_322 : BitVec 32 := 512#32
  let v492 : BitVec 32 := Scalar.muli arg11 c512_i32_322
  let v493 : BitVec 32 := v492
  let v545 : Index := Scalar.indexCast v493
  let c768_368 : Index := 768#32
  ![0, v545.toNat, 768]
def k0_off26 (i : grid0.Coords) (k0_t2 : Fin (k0_t2_loop i).trips) : Fin 3 → Nat :=
  let c0_374 : Index := 0#32
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v44 : BitVec 32 := Scalar.subi v17 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg11 : BitVec 32 := Scf.iv v48 c1_i32_21 k0_t2
  let c512_i32_322 : BitVec 32 := 512#32
  let v492 : BitVec 32 := Scalar.muli arg11 c512_i32_322
  let v493 : BitVec 32 := v492
  let v553 : Index := Scalar.indexCast v493
  let c896_375 : Index := 896#32
  ![0, v553.toNat, 896]
def k0_off27 (i : grid0.Coords) (k0_t2 : Fin (k0_t2_loop i).trips) : Fin 3 → Nat :=
  let c0_496 : Index := 0#32
  let c0_497 : Index := 0#32
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v44 : BitVec 32 := Scalar.subi v17 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg11 : BitVec 32 := Scf.iv v48 c1_i32_21 k0_t2
  let c512_i32_322 : BitVec 32 := 512#32
  let v492 : BitVec 32 := Scalar.muli arg11 c512_i32_322
  let v493 : BitVec 32 := v492
  let v749 : Index := Scalar.indexCast v493
  ![0, 0, v749.toNat]
def k0_off28 (i : grid0.Coords) (k0_t2 : Fin (k0_t2_loop i).trips) : Fin 3 → Nat :=
  let c0_505 : Index := 0#32
  let c128_506 : Index := 128#32
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v44 : BitVec 32 := Scalar.subi v17 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg11 : BitVec 32 := Scf.iv v48 c1_i32_21 k0_t2
  let c512_i32_322 : BitVec 32 := 512#32
  let v492 : BitVec 32 := Scalar.muli arg11 c512_i32_322
  let v493 : BitVec 32 := v492
  let v761 : Index := Scalar.indexCast v493
  ![0, 128, v761.toNat]
def k0_off29 (i : grid0.Coords) (k0_t2 : Fin (k0_t2_loop i).trips) : Fin 3 → Nat :=
  let c0_514 : Index := 0#32
  let c256_515 : Index := 256#32
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v44 : BitVec 32 := Scalar.subi v17 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg11 : BitVec 32 := Scf.iv v48 c1_i32_21 k0_t2
  let c512_i32_322 : BitVec 32 := 512#32
  let v492 : BitVec 32 := Scalar.muli arg11 c512_i32_322
  let v493 : BitVec 32 := v492
  let v773 : Index := Scalar.indexCast v493
  ![0, 256, v773.toNat]
def k0_off30 (i : grid0.Coords) (k0_t2 : Fin (k0_t2_loop i).trips) : Fin 3 → Nat :=
  let c0_523 : Index := 0#32
  let c384_524 : Index := 384#32
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v44 : BitVec 32 := Scalar.subi v17 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg11 : BitVec 32 := Scf.iv v48 c1_i32_21 k0_t2
  let c512_i32_322 : BitVec 32 := 512#32
  let v492 : BitVec 32 := Scalar.muli arg11 c512_i32_322
  let v493 : BitVec 32 := v492
  let v785 : Index := Scalar.indexCast v493
  ![0, 384, v785.toNat]
def k0_off31 (i : grid0.Coords) (k0_t2 : Fin (k0_t2_loop i).trips) : Fin 3 → Nat :=
  let c0_532 : Index := 0#32
  let c512_533 : Index := 512#32
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v44 : BitVec 32 := Scalar.subi v17 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg11 : BitVec 32 := Scf.iv v48 c1_i32_21 k0_t2
  let c512_i32_322 : BitVec 32 := 512#32
  let v492 : BitVec 32 := Scalar.muli arg11 c512_i32_322
  let v493 : BitVec 32 := v492
  let v797 : Index := Scalar.indexCast v493
  ![0, 512, v797.toNat]
def k0_off32 (i : grid0.Coords) (k0_t2 : Fin (k0_t2_loop i).trips) : Fin 3 → Nat :=
  let c0_541 : Index := 0#32
  let c640_542 : Index := 640#32
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v44 : BitVec 32 := Scalar.subi v17 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg11 : BitVec 32 := Scf.iv v48 c1_i32_21 k0_t2
  let c512_i32_322 : BitVec 32 := 512#32
  let v492 : BitVec 32 := Scalar.muli arg11 c512_i32_322
  let v493 : BitVec 32 := v492
  let v809 : Index := Scalar.indexCast v493
  ![0, 640, v809.toNat]
def k0_off33 (i : grid0.Coords) (k0_t2 : Fin (k0_t2_loop i).trips) : Fin 3 → Nat :=
  let c0_550 : Index := 0#32
  let c768_551 : Index := 768#32
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v44 : BitVec 32 := Scalar.subi v17 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg11 : BitVec 32 := Scf.iv v48 c1_i32_21 k0_t2
  let c512_i32_322 : BitVec 32 := 512#32
  let v492 : BitVec 32 := Scalar.muli arg11 c512_i32_322
  let v493 : BitVec 32 := v492
  let v821 : Index := Scalar.indexCast v493
  ![0, 768, v821.toNat]
def k0_off34 (i : grid0.Coords) (k0_t2 : Fin (k0_t2_loop i).trips) : Fin 3 → Nat :=
  let c0_559 : Index := 0#32
  let c896_560 : Index := 896#32
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v44 : BitVec 32 := Scalar.subi v17 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg11 : BitVec 32 := Scf.iv v48 c1_i32_21 k0_t2
  let c512_i32_322 : BitVec 32 := 512#32
  let v492 : BitVec 32 := Scalar.muli arg11 c512_i32_322
  let v493 : BitVec 32 := v492
  let v833 : Index := Scalar.indexCast v493
  ![0, 896, v833.toNat]
def k0_off35 (i : grid0.Coords) : Fin 3 → Nat :=
  let c0_22 : Index := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_14 : BitVec 32 := 512#32
  let v32 : BitVec 32 := Scalar.muli v17 c512_i32_14
  let v33 : BitVec 32 := v32
  let v49 : Index := Scalar.indexCast v33
  let c0_23 : Index := 0#32
  ![0, v49.toNat, 0]
def k0_off36 (i : grid0.Coords) : Fin 3 → Nat :=
  let c0_24 : Index := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_14 : BitVec 32 := 512#32
  let v32 : BitVec 32 := Scalar.muli v17 c512_i32_14
  let v33 : BitVec 32 := v32
  let v52 : Index := Scalar.indexCast v33
  let c0_25 : Index := 0#32
  ![0, v52.toNat, 0]
def k0_off37 (i : grid0.Coords) : Fin 3 → Nat :=
  let c0_31 : Index := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_14 : BitVec 32 := 512#32
  let v32 : BitVec 32 := Scalar.muli v17 c512_i32_14
  let v33 : BitVec 32 := v32
  let v61 : Index := Scalar.indexCast v33
  let c128 : Index := 128#32
  ![0, v61.toNat, 128]
def k0_off38 (i : grid0.Coords) : Fin 3 → Nat :=
  let c0_37 : Index := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_14 : BitVec 32 := 512#32
  let v32 : BitVec 32 := Scalar.muli v17 c512_i32_14
  let v33 : BitVec 32 := v32
  let v70 : Index := Scalar.indexCast v33
  let c256 : Index := 256#32
  ![0, v70.toNat, 256]
def k0_off39 (i : grid0.Coords) : Fin 3 → Nat :=
  let c0_43 : Index := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_14 : BitVec 32 := 512#32
  let v32 : BitVec 32 := Scalar.muli v17 c512_i32_14
  let v33 : BitVec 32 := v32
  let v79 : Index := Scalar.indexCast v33
  let c384 : Index := 384#32
  ![0, v79.toNat, 384]
def k0_off40 (i : grid0.Coords) : Fin 3 → Nat :=
  let c0_49 : Index := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_14 : BitVec 32 := 512#32
  let v32 : BitVec 32 := Scalar.muli v17 c512_i32_14
  let v33 : BitVec 32 := v32
  let v88 : Index := Scalar.indexCast v33
  let c512 : Index := 512#32
  ![0, v88.toNat, 512]
def k0_off41 (i : grid0.Coords) : Fin 3 → Nat :=
  let c0_55 : Index := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_14 : BitVec 32 := 512#32
  let v32 : BitVec 32 := Scalar.muli v17 c512_i32_14
  let v33 : BitVec 32 := v32
  let v97 : Index := Scalar.indexCast v33
  let c640 : Index := 640#32
  ![0, v97.toNat, 640]
def k0_off42 (i : grid0.Coords) : Fin 3 → Nat :=
  let c0_61 : Index := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_14 : BitVec 32 := 512#32
  let v32 : BitVec 32 := Scalar.muli v17 c512_i32_14
  let v33 : BitVec 32 := v32
  let v106 : Index := Scalar.indexCast v33
  let c768 : Index := 768#32
  ![0, v106.toNat, 768]
def k0_off43 (i : grid0.Coords) : Fin 3 → Nat :=
  let c0_67 : Index := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_14 : BitVec 32 := 512#32
  let v32 : BitVec 32 := Scalar.muli v17 c512_i32_14
  let v33 : BitVec 32 := v32
  let v115 : Index := Scalar.indexCast v33
  let c896 : Index := 896#32
  ![0, v115.toNat, 896]
def k0_off44 (i : grid0.Coords) : Fin 3 → Nat :=
  let c0_181 : Index := 0#32
  let c0_182 : Index := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_14 : BitVec 32 := 512#32
  let v32 : BitVec 32 := Scalar.muli v17 c512_i32_14
  let v33 : BitVec 32 := v32
  let v312 : Index := Scalar.indexCast v33
  ![0, 0, v312.toNat]
def k0_off45 (i : grid0.Coords) : Fin 3 → Nat :=
  let c0_190 : Index := 0#32
  let c128_191 : Index := 128#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_14 : BitVec 32 := 512#32
  let v32 : BitVec 32 := Scalar.muli v17 c512_i32_14
  let v33 : BitVec 32 := v32
  let v324 : Index := Scalar.indexCast v33
  ![0, 128, v324.toNat]
def k0_off46 (i : grid0.Coords) : Fin 3 → Nat :=
  let c0_199 : Index := 0#32
  let c256_200 : Index := 256#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_14 : BitVec 32 := 512#32
  let v32 : BitVec 32 := Scalar.muli v17 c512_i32_14
  let v33 : BitVec 32 := v32
  let v336 : Index := Scalar.indexCast v33
  ![0, 256, v336.toNat]
def k0_off47 (i : grid0.Coords) : Fin 3 → Nat :=
  let c0_208 : Index := 0#32
  let c384_209 : Index := 384#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_14 : BitVec 32 := 512#32
  let v32 : BitVec 32 := Scalar.muli v17 c512_i32_14
  let v33 : BitVec 32 := v32
  let v348 : Index := Scalar.indexCast v33
  ![0, 384, v348.toNat]
def k0_off48 (i : grid0.Coords) : Fin 3 → Nat :=
  let c0_217 : Index := 0#32
  let c512_218 : Index := 512#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_14 : BitVec 32 := 512#32
  let v32 : BitVec 32 := Scalar.muli v17 c512_i32_14
  let v33 : BitVec 32 := v32
  let v360 : Index := Scalar.indexCast v33
  ![0, 512, v360.toNat]
def k0_off49 (i : grid0.Coords) : Fin 3 → Nat :=
  let c0_226 : Index := 0#32
  let c640_227 : Index := 640#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_14 : BitVec 32 := 512#32
  let v32 : BitVec 32 := Scalar.muli v17 c512_i32_14
  let v33 : BitVec 32 := v32
  let v372 : Index := Scalar.indexCast v33
  ![0, 640, v372.toNat]
def k0_off50 (i : grid0.Coords) : Fin 3 → Nat :=
  let c0_235 : Index := 0#32
  let c768_236 : Index := 768#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_14 : BitVec 32 := 512#32
  let v32 : BitVec 32 := Scalar.muli v17 c512_i32_14
  let v33 : BitVec 32 := v32
  let v384 : Index := Scalar.indexCast v33
  ![0, 768, v384.toNat]
def k0_off51 (i : grid0.Coords) : Fin 3 → Nat :=
  let c0_244 : Index := 0#32
  let c896_245 : Index := 896#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_14 : BitVec 32 := 512#32
  let v32 : BitVec 32 := Scalar.muli v17 c512_i32_14
  let v33 : BitVec 32 := v32
  let v396 : Index := Scalar.indexCast v33
  ![0, 896, v396.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S1x4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x1024 : Shape := ⟨2, ![16384, 1024]⟩
abbrev S4x4096x1024 : Shape := ⟨3, ![4, 4096, 1024]⟩
abbrev S4x4096x128 : Shape := ⟨3, ![4, 4096, 128]⟩
abbrev S4x1024x4096 : Shape := ⟨3, ![4, 1024, 4096]⟩
abbrev S4x4096x8x128 : Shape := ⟨4, ![4, 4096, 8, 128]⟩
abbrev S4x8x128x4096 : Shape := ⟨4, ![4, 8, 128, 4096]⟩
abbrev S4x8x4096x4096 : Shape := ⟨4, ![4, 8, 4096, 4096]⟩
abbrev S4x4096x4096x8 : Shape := ⟨4, ![4, 4096, 4096, 8]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S4x8x4096 : Shape := ⟨3, ![4, 8, 4096]⟩
abbrev S4x8x4096x1 : Shape := ⟨4, ![4, 8, 4096, 1]⟩
abbrev S1x1x4096x4096 : Shape := ⟨4, ![1, 1, 4096, 4096]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S4x4096x1024, .bf16⟩
  | .hbm, ⟨3, _⟩ => ⟨S4x4096x128, .bf16⟩
  | .hbm, ⟨4, _⟩ => ⟨S4x1024x4096, .bf16⟩
  | .hbm, ⟨5, _⟩ => ⟨S16384x1024, .f32⟩
  | .hbm, ⟨6, _⟩ => ⟨S4x4096x8x128, .f32⟩
  | .hbm, ⟨7, _⟩ => ⟨S16384x1024, .f32⟩
  | .hbm, ⟨8, _⟩ => ⟨S4x4096x8x128, .f32⟩
  | .hbm, ⟨9, _⟩ => ⟨S4x4096x1024, .f32⟩
  | .hbm, ⟨10, _⟩ => ⟨S4x4096x8x128, .f32⟩
  | .hbm, ⟨11, _⟩ => ⟨S4x4096x128, .f32⟩
  | .hbm, ⟨12, _⟩ => ⟨S4x1024x4096, .f32⟩
  | .hbm, ⟨13, _⟩ => ⟨S4x8x128x4096, .f32⟩
  | .hbm, ⟨14, _⟩ => ⟨S4x8x4096x4096, .f32⟩
  | .hbm, ⟨15, _⟩ => ⟨S4x4096x4096x8, .f32⟩
  | .hbm, ⟨16, _⟩ => ⟨S4x8x4096x4096, .f32⟩
  | .hbm, ⟨17, _⟩ => ⟨S4x8x4096x4096, .f32⟩
  | .hbm, ⟨18, _⟩ => ⟨S4096, .i32⟩
  | .hbm, ⟨19, _⟩ => ⟨S1x4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S_, .f32⟩
  | .hbm, ⟨25, _⟩ => ⟨S_, .f32⟩
  | .hbm, ⟨26, _⟩ => ⟨S4x8x4096x4096, .i1⟩
  | .hbm, ⟨27, _⟩ => ⟨S4x8x4096x4096, .f32⟩
  | .hbm, ⟨28, _⟩ => ⟨S4x8x4096x4096, .f32⟩
  | .hbm, ⟨29, _⟩ => ⟨S_, .f32⟩
  | .hbm, ⟨30, _⟩ => ⟨S4x8x4096, .f32⟩
  | .hbm, ⟨31, _⟩ => ⟨S4x8x4096x1, .f32⟩
  | .hbm, ⟨32, _⟩ => ⟨S_, .f32⟩
  | .hbm, ⟨33, _⟩ => ⟨S4x8x4096x4096, .f32⟩
  | .hbm, ⟨34, _⟩ => ⟨S4x8x4096x4096, .f32⟩
  | .hbm, ⟨35, _⟩ => ⟨S4x8x4096x4096, .f32⟩
  | .hbm, ⟨36, _⟩ => ⟨S4x8x4096x4096, .f32⟩
  | .hbm, ⟨37, _⟩ => ⟨S4096x4096, .f32⟩
  | .hbm, ⟨38, _⟩ => ⟨S1x1x4096x4096, .f32⟩
  | .hbm, ⟨39, _⟩ => ⟨S4x8x4096x4096, .f32⟩
  | .hbm, ⟨40, _⟩ => ⟨S4x8x4096x4096, .f32⟩
  | .hbm, ⟨41, _⟩ => ⟨S_, .f32⟩
  | .hbm, ⟨42, _⟩ => ⟨S4x8x4096, .f32⟩
  | .hbm, ⟨43, _⟩ => ⟨S4x8x4096x1, .f32⟩
  | .hbm, ⟨44, _⟩ => ⟨S_, .f32⟩
  | .hbm, ⟨45, _⟩ => ⟨S4x8x4096x1, .f32⟩
  | .hbm, ⟨46, _⟩ => ⟨S4x8x4096x1, .f32⟩
  | .hbm, ⟨47, _⟩ => ⟨S4x8x4096x4096, .f32⟩
  | .hbm, ⟨48, _⟩ => ⟨S4x8x4096x4096, .f32⟩
  | .hbm, ⟨49, _⟩ => ⟨S4x8x128x4096, .f32⟩
  | .hbm, ⟨50, _⟩ => ⟨S4x4096x8x128, .f32⟩
  | .hbm, ⟨51, _⟩ => ⟨S16384x1024, .f32⟩
  | .hbm, ⟨52, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel2.lean ====
abbrev S16384x2048 : Shape := ⟨2, ![16384, 2048]⟩
abbrev S2048x5632 : Shape := ⟨2, ![2048, 5632]⟩
abbrev S5632x2048 : Shape := ⟨2, ![5632, 2048]⟩
abbrev S4x1x2048 : Shape := ⟨3, ![4, 1, 2048]⟩
abbrev S2048 : Shape := ⟨1, ![2048]⟩
abbrev S1x2048 : Shape := ⟨2, ![1, 2048]⟩
abbrev S512x2048 : Shape := ⟨2, ![512, 2048]⟩
abbrev S2048x512 : Shape := ⟨2, ![2048, 512]⟩
abbrev S1x1x2048 : Shape := ⟨3, ![1, 1, 2048]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 16
  | .smem => 0
  | _ => 0

abbrev bufTy : (tb : Table) → Fin (tcTables nBuf tb) → BufTy
  | .hbm, ⟨0, _⟩ => ⟨S16384x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S16384x2048, .f32⟩
  | .hbm, ⟨5, _⟩ => ⟨S4x1x2048, .f32⟩
  | .hbm, ⟨6, _⟩ => ⟨S2048, .f32⟩
  | .hbm, ⟨7, _⟩ => ⟨S1x2048, .f32⟩
  | .hbm, ⟨8, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 11], ![false, false]⟩

def k0_cond3 (i : grid0.Coords) : BitVec 1 :=
  let arg1 : BitVec 32 := BitVec.ofNat 32 (i 1).val
  let c10_i32 : BitVec 32 := 10#32
  let v17 : BitVec 1 := Scalar.cmpi .eq arg1 c10_i32
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S16384x2048 : Shape := ⟨2, ![16384, 2048]⟩
abbrev S2048x5632 : Shape := ⟨2, ![2048, 5632]⟩
abbrev S5632x2048 : Shape := ⟨2, ![5632, 2048]⟩
abbrev S4x1x2048 : Shape := ⟨3, ![4, 1, 2048]⟩
abbrev S2048 : Shape := ⟨1, ![2048]⟩
abbrev S4x4096x2048 : Shape := ⟨3, ![4, 4096, 2048]⟩
abbrev S4x4096x5632 : Shape := ⟨3, ![4, 4096, 5632]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 46
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S16384x2048, .f32⟩
  | .hbm, ⟨5, _⟩ => ⟨S4x1x2048, .f32⟩
  | .hbm, ⟨6, _⟩ => ⟨S2048, .f32⟩
  | .hbm, ⟨7, _⟩ => ⟨S16384x2048, .f32⟩
  | .hbm, ⟨8, _⟩ => ⟨S4x4096x2048, .f32⟩
  | .hbm, ⟨9, _⟩ => ⟨S4x4096x2048, .f32⟩
  | .hbm, ⟨10, _⟩ => ⟨S2048x5632, .f32⟩
  | .hbm, ⟨11, _⟩ => ⟨S4x4096x5632, .f32⟩
  | .hbm, ⟨12, _⟩ => ⟨S4x4096x5632, .f32⟩
  | .hbm, ⟨13, _⟩ => ⟨S4x4096x5632, .f32⟩
  | .hbm, ⟨14, _⟩ => ⟨S_, .f32⟩
  | .hbm, ⟨15, _⟩ => ⟨S4x4096x5632, .f32⟩
  | .hbm, ⟨16, _⟩ => ⟨S4x4096x5632, .f32⟩
  | .hbm, ⟨17, _⟩ => ⟨S_, .f32⟩
  | .hbm, ⟨18, _⟩ => ⟨S4x4096x5632, .f32⟩
  | .hbm, ⟨19, _⟩ => ⟨S4x4096x5632, .f32⟩
  | .hbm, ⟨20, _⟩ => ⟨S4x4096x5632, .f32⟩
  | .hbm, ⟨21, _⟩ => ⟨S2048x5632, .f32⟩
  | .hbm, ⟨22, _⟩ => ⟨S4x4096x5632, .f32⟩
  | .hbm, ⟨23, _⟩ => ⟨S4x4096x5632, .f32⟩
  | .hbm, ⟨24, _⟩ => ⟨S5632x2048, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S_, .f32⟩
  | .hbm, ⟨31, _⟩ => ⟨S4x4096, .f32⟩
  | .hbm, ⟨32, _⟩ => ⟨S4x4096x1, .f32⟩
  | .hbm, ⟨33, _⟩ => ⟨S_, .f32⟩
  | .hbm, ⟨34, _⟩ => ⟨S4x4096x1, .f32⟩
  | .hbm, ⟨35, _⟩ => ⟨S4x4096x1, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S4x4096x1, .f32⟩
  | .hbm, ⟨40, _⟩ => ⟨S4x4096x2048, .f32⟩
  | .hbm, ⟨41, _⟩ => ⟨S4x4096x2048, .f32⟩
  | .hbm, ⟨42, _⟩ => ⟨S1x1x2048, .f32⟩
  | .hbm, ⟨43, _⟩ => ⟨S4x4096x2048, .f32⟩
  | .hbm, ⟨44, _⟩ => ⟨S4x4096x2048, .f32⟩
  | .hbm, ⟨45, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩

abbrev nD : Nat := 1
abbrev τ : Topo := Topo.v7x

variable {F : FTy → Type} [FloatOps F]
-- ==== Kernel3.lean ====
abbrev S16384x1024 : Shape := ⟨2, ![16384, 1024]⟩
abbrev S2048x2048 : Shape := ⟨2, ![2048, 2048]⟩
abbrev S16384x2048 : Shape := ⟨2, ![16384, 2048]⟩
abbrev S4x1x2048 : Shape := ⟨3, ![4, 1, 2048]⟩
abbrev S2048 : Shape := ⟨1, ![2048]⟩
abbrev S1x2048 : Shape := ⟨2, ![1, 2048]⟩
abbrev S512x1024 : Shape := ⟨2, ![512, 1024]⟩
abbrev S512x2048 : Shape := ⟨2, ![512, 2048]⟩
abbrev S1x1x2048 : Shape := ⟨3, ![1, 1, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 11
  | .vmem => 18
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .bf16⟩
  | .hbm, ⟨3, _⟩ => ⟨S16384x2048, .f32⟩
  | .hbm, ⟨4, _⟩ => ⟨S4x1x2048, .f32⟩
  | .hbm, ⟨5, _⟩ => ⟨S4x1x2048, .f32⟩
  | .hbm, ⟨6, _⟩ => ⟨S4x1x2048, .f32⟩
  | .hbm, ⟨7, _⟩ => ⟨S2048, .f32⟩
  | .hbm, ⟨8, _⟩ => ⟨S1x2048, .f32⟩
  | .hbm, ⟨9, _⟩ => ⟨S16384x2048, .f32⟩
  | .hbm, ⟨10, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S16384x1024 : Shape := ⟨2, ![16384, 1024]⟩
abbrev S2048x2048 : Shape := ⟨2, ![2048, 2048]⟩
abbrev S16384x2048 : Shape := ⟨2, ![16384, 2048]⟩
abbrev S4x1x2048 : Shape := ⟨3, ![4, 1, 2048]⟩
abbrev S2048 : Shape := ⟨1, ![2048]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .bf16⟩
  | .hbm, ⟨3, _⟩ => ⟨S16384x2048, .f32⟩
  | .hbm, ⟨4, _⟩ => ⟨S4x1x2048, .f32⟩
  | .hbm, ⟨5, _⟩ => ⟨S4x1x2048, .f32⟩
  | .hbm, ⟨6, _⟩ => ⟨S4x1x2048, .f32⟩
  | .hbm, ⟨7, _⟩ => ⟨S2048, .f32⟩
  | .hbm, ⟨8, _⟩ => ⟨S16384x1024, .f32⟩
  | .hbm, ⟨9, _⟩ => ⟨S16384x1024, .f32⟩
  | .hbm, ⟨10, _⟩ => ⟨S16384x2048, .f32⟩
  | .hbm, ⟨11, _⟩ => ⟨S4x4096x2048, .f32⟩
  | .hbm, ⟨12, _⟩ => ⟨S2048x2048, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S4x4096x1, .f32⟩
  | .hbm, ⟨29, _⟩ => ⟨S4x4096x2048, .f32⟩
  | .hbm, ⟨30, _⟩ => ⟨S4x4096x2048, .f32⟩
  | .hbm, ⟨31, _⟩ => ⟨S1x1x2048, .f32⟩
  | .hbm, ⟨32, _⟩ => ⟨S4x4096x2048, .f32⟩
  | .hbm, ⟨33, _⟩ => ⟨S4x4096x2048, .f32⟩
  | .hbm, ⟨34, _⟩ => ⟨S_, .f32⟩
  | .hbm, ⟨35, _⟩ => ⟨S4x1x2048, .f32⟩
  | .hbm, ⟨36, _⟩ => ⟨S4x1x2048, .f32⟩
  | .hbm, ⟨37, _⟩ => ⟨S4x4096x2048, .f32⟩
  | .hbm, ⟨38, _⟩ => ⟨S4x4096x2048, .f32⟩
  | .hbm, ⟨39, _⟩ => ⟨S4x4096x2048, .f32⟩
  | .hbm, ⟨40, _⟩ => ⟨S4x4096x2048, .f32⟩
  | .hbm, ⟨41, _⟩ => ⟨S16384x2048, .f32⟩
  | .hbm, ⟨42, _⟩ => ⟨S16384x2048, .f32⟩
  | .hbm, ⟨43, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Kernel4.lean ====
abbrev S16384x2048 : Shape := ⟨2, ![16384, 2048]⟩
abbrev S4x1x2048 : Shape := ⟨3, ![4, 1, 2048]⟩
abbrev S2048 : Shape := ⟨1, ![2048]⟩
abbrev S2048x2904 : Shape := ⟨2, ![2048, 2904]⟩
abbrev S512 : Shape := ⟨1, ![512]⟩
abbrev S512x1536 : Shape := ⟨2, ![512, 1536]⟩
abbrev S512x8x128 : Shape := ⟨3, ![512, 8, 128]⟩
abbrev S4096x32 : Shape := ⟨2, ![4096, 32]⟩
abbrev S2048x1024 : Shape := ⟨2, ![2048, 1024]⟩
abbrev S2048x512 : Shape := ⟨2, ![2048, 512]⟩
abbrev S2048x256 : Shape := ⟨2, ![2048, 256]⟩
abbrev S2048x24 : Shape := ⟨2, ![2048, 24]⟩
abbrev S2048x64 : Shape := ⟨2, ![2048, 64]⟩
abbrev S2048x32 : Shape := ⟨2, ![2048, 32]⟩
abbrev S_ : Shape := ⟨0, ![]⟩
abbrev S2048x128 : Shape := ⟨2, ![2048, 128]⟩
abbrev S2048x3200 : Shape := ⟨2, ![2048, 3200]⟩
abbrev S512x8x192 : Shape := ⟨3, ![512, 8, 192]⟩
abbrev S512x1024 : Shape := ⟨2, ![512, 1024]⟩
abbrev S512x8x64 : Shape := ⟨3, ![512, 8, 64]⟩
abbrev S512x8x32 : Shape := ⟨3, ![512, 8, 32]⟩
abbrev S512x3072 : Shape := ⟨2, ![512, 3072]⟩
abbrev S512x2048 : Shape := ⟨2, ![512, 2048]⟩
abbrev S4096x64 : Shape := ⟨2, ![4096, 64]⟩
abbrev S4096x128 : Shape := ⟨2, ![4096, 128]⟩
abbrev S1x2048 : Shape := ⟨2, ![1, 2048]⟩
abbrev S1x512 : Shape := ⟨2, ![1, 512]⟩
abbrev S16384x1024 : Shape := ⟨2, ![16384, 1024]⟩
abbrev S16384x512 : Shape := ⟨2, ![16384, 512]⟩
abbrev S16384x256 : Shape := ⟨2, ![16384, 256]⟩
abbrev S16384x128 : Shape := ⟨2, ![16384, 128]⟩
abbrev S16384x576 : Shape := ⟨2, ![16384, 576]⟩
abbrev S16384x768 : Shape := ⟨2, ![16384, 768]⟩
abbrev S1x1x2048 : Shape := ⟨3, ![1, 1, 2048]⟩
abbrev S512x128 : Shape := ⟨2, ![512, 128]⟩
abbrev S512x512 : Shape := ⟨2, ![512, 512]⟩
abbrev S512x256 : Shape := ⟨2, ![512, 256]⟩
abbrev S512x576 : Shape := ⟨2, ![512, 576]⟩
abbrev S512x768 : Shape := ⟨2, ![512, 768]⟩
abbrev S512x1 : Shape := ⟨2, ![512, 1]⟩
abbrev S512x3200 : Shape := ⟨2, ![512, 3200]⟩
abbrev S512x64 : Shape := ⟨2, ![512, 64]⟩

abbrev nBuf : Space → Nat
  | .hbm => 75
  | .vmem => 38
  | .smem => 0
  | _ => 0

abbrev bufTy : (tb : Table) → Fin (tcTables nBuf tb) → BufTy
  | .hbm, ⟨0, _⟩ => ⟨S16384x2048, .f32⟩
  | .hbm, ⟨1, _⟩ => ⟨S4x1x2048, .f32⟩
  | .hbm, ⟨2, _⟩ => ⟨S4x1x2048, .f32⟩
  | .hbm, ⟨3, _⟩ => ⟨S2048, .f32⟩
  | .hbm, ⟨4, _⟩ => ⟨S2048x2904, .f32⟩
  | .hbm, ⟨5, _⟩ => ⟨S512, .f32⟩
  | .hbm, ⟨6, _⟩ => ⟨S512x1536, .f32⟩
  | .hbm, ⟨7, _⟩ => ⟨S512, .f32⟩
  | .hbm, ⟨8, _⟩ => ⟨S512x8x128, .f32⟩
  | .hbm, ⟨9, _⟩ => ⟨S512x8x128, .f32⟩
  | .hbm, ⟨10, _⟩ => ⟨S4096x32, .f32⟩
  | .hbm, ⟨11, _⟩ => ⟨S2048x1024, .f32⟩
  | .hbm, ⟨12, _⟩ => ⟨S2048x512, .f32⟩
  | .hbm, ⟨13, _⟩ => ⟨S2048x256, .f32⟩
  | .hbm, ⟨14, _⟩ => ⟨S2048x24, .f32⟩
  | .hbm, ⟨15, _⟩ => ⟨S2048x512, .f32⟩
  | .hbm, ⟨16, _⟩ => ⟨S2048x512, .f32⟩
  | .hbm, ⟨17, _⟩ => ⟨S2048x64, .f32⟩
  | .hbm, ⟨18, _⟩ => ⟨S2048x32, .f32⟩
  | .hbm, ⟨19, _⟩ => ⟨S2048x32, .f32⟩
  | .hbm, ⟨20, _⟩ => ⟨S2048x32, .f32⟩
  | .hbm, ⟨21, _⟩ => ⟨S2048x64, .f32⟩
  | .hbm, ⟨22, _⟩ => ⟨S_, .i32⟩
  | .hbm, ⟨23, _⟩ => ⟨S_, .f32⟩
  | .hbm, ⟨24, _⟩ => ⟨S2048x128, .f32⟩
  | .hbm, ⟨25, _⟩ => ⟨S_, .i32⟩
  | .hbm, ⟨26, _⟩ => ⟨S_, .f32⟩
  | .hbm, ⟨27, _⟩ => ⟨S2048x128, .f32⟩
  | .hbm, ⟨28, _⟩ => ⟨S_, .i32⟩
  | .hbm, ⟨29, _⟩ => ⟨S_, .f32⟩
  | .hbm, ⟨30, _⟩ => ⟨S2048x128, .f32⟩
  | .hbm, ⟨31, _⟩ => ⟨S2048x3200, .f32⟩
  | .hbm, ⟨32, _⟩ => ⟨S2048x3200, .bf16⟩
  | .hbm, ⟨33, _⟩ => ⟨S512x8x192, .f32⟩
  | .hbm, ⟨34, _⟩ => ⟨S512x8x128, .f32⟩
  | .hbm, ⟨35, _⟩ => ⟨S512x1024, .f32⟩
  | .hbm, ⟨36, _⟩ => ⟨S512x8x64, .f32⟩
  | .hbm, ⟨37, _⟩ => ⟨S512x8x32, .f32⟩
  | .hbm, ⟨38, _⟩ => ⟨S512x8x32, .f32⟩
  | .hbm, ⟨39, _⟩ => ⟨S512x8x32, .f32⟩
  | .hbm, ⟨40, _⟩ => ⟨S512x8x64, .f32⟩
  | .hbm, ⟨41, _⟩ => ⟨S_, .i32⟩
  | .hbm, ⟨42, _⟩ => ⟨S_, .f32⟩
  | .hbm, ⟨43, _⟩ => ⟨S512x8x128, .f32⟩
  | .hbm, ⟨44, _⟩ => ⟨S512x1024, .f32⟩
  | .hbm, ⟨45, _⟩ => ⟨S_, .i32⟩
  | .hbm, ⟨46, _⟩ => ⟨S_, .f32⟩
  | .hbm, ⟨47, _⟩ => ⟨S512x8x128, .f32⟩
  | .hbm, ⟨48, _⟩ => ⟨S512x1024, .f32⟩
  | .hbm, ⟨49, _⟩ => ⟨S512x3072, .f32⟩
  | .hbm, ⟨50, _⟩ => ⟨S512x3072, .bf16⟩
  | .hbm, ⟨51, _⟩ => ⟨S512x1024, .f32⟩
  | .hbm, ⟨52, _⟩ => ⟨S512x1024, .f32⟩
  | .hbm, ⟨53, _⟩ => ⟨S512x2048, .f32⟩
  | .hbm, ⟨54, _⟩ => ⟨S512x2048, .bf16⟩
  | .hbm, ⟨55, _⟩ => ⟨S4096x32, .f32⟩
  | .hbm, ⟨56, _⟩ => ⟨S4096x32, .f32⟩
  | .hbm, ⟨57, _⟩ => ⟨S_, .f32⟩
  | .hbm, ⟨58, _⟩ => ⟨S4096x64, .f32⟩
  | .hbm, ⟨59, _⟩ => ⟨S4096x128, .f32⟩
  | .hbm, ⟨60, _⟩ => ⟨S4096x128, .f32⟩
  | .hbm, ⟨61, _⟩ => ⟨S1x2048, .f32⟩
  | .hbm, ⟨62, _⟩ => ⟨S1x512, .f32⟩
  | .hbm, ⟨63, _⟩ => ⟨S1x512, .f32⟩
  | .hbm, ⟨64, _⟩ => ⟨S16384x1024, .bf16⟩
  | .hbm, ⟨65, _⟩ => ⟨S16384x512, .f32⟩
  | .hbm, ⟨66, _⟩ => ⟨S16384x256, .f32⟩
  | .hbm, ⟨67, _⟩ => ⟨S16384x128, .f32⟩
  | .hbm, ⟨68, _⟩ => ⟨S16384x576, .f32⟩
  | .hbm, ⟨69, _⟩ => ⟨S16384x1024, .bf16⟩
  | .hbm, ⟨70, _⟩ => ⟨S16384x1024, .bf16⟩
  | .hbm, ⟨71, _⟩ => ⟨S16384x128, .bf16⟩
  | .hbm, ⟨72, _⟩ => ⟨S16384x1024, .bf16⟩
  | .hbm, ⟨73, _⟩ => ⟨S16384x1024, .bf16⟩
  | .hbm, ⟨74, _⟩ => ⟨S16384x768, .bf16⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S2048x3200, .bf16⟩
  | .local _ .vmem, ⟨8, _⟩ => ⟨S1x512, .f32⟩
  | .local _ .vmem, ⟨9, _⟩ => ⟨S512x3072, .bf16⟩
  | .local _ .vmem, ⟨10, _⟩ => ⟨S1x512, .f32⟩
  | .local _ .vmem, ⟨11, _⟩ => ⟨S512x2048, .bf16⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x1024, .bf16⟩
  | .local _ .vmem, ⟨17, _⟩ => ⟨S512x1024, .bf16⟩
  | .local _ .vmem, ⟨18, _⟩ => ⟨S512x512, .f32⟩
  | .local _ .vmem, ⟨19, _⟩ => ⟨S512x512, .f32⟩
  | .local _ .vmem, ⟨20, _⟩ => ⟨S512x256, .f32⟩
  | .local _ .vmem, ⟨21, _⟩ => ⟨S512x256, .f32⟩
  | .local _ .vmem, ⟨22, _⟩ => ⟨S512x128, .f32⟩
  | .local _ .vmem, ⟨23, _⟩ => ⟨S512x128, .f32⟩
  | .local _ .vmem, ⟨24, _⟩ => ⟨S512x576, .f32⟩
  | .local _ .vmem, ⟨25, _⟩ => ⟨S512x576, .f32⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x128, .bf16⟩
  | .local _ .vmem, ⟨31, _⟩ => ⟨S512x128, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S512x768, .bf16⟩
  | .local _ .vmem, ⟨37, _⟩ => ⟨S512x768, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_call0_v0 : Ref sig .tc := ⟨.hbm, 23, rfl⟩
abbrev main_v11 : Ref sig .tc := ⟨.hbm, 24, rfl⟩
abbrev main_c_0 : Ref sig .tc := ⟨.hbm, 25, rfl⟩
abbrev main_call1_v0 : Ref sig .tc := ⟨.hbm, 26, rfl⟩
abbrev main_v12 : Ref sig .tc := ⟨.hbm, 27, rfl⟩
abbrev main_c_1 : Ref sig .tc := ⟨.hbm, 28, rfl⟩
abbrev main_call2_v0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_2 : Ref sig .tc := ⟨.hbm, 41, rfl⟩
abbrev main_call3_v0 : Ref sig .tc := ⟨.hbm, 42, rfl⟩
abbrev main_v24 : Ref sig .tc := ⟨.hbm, 43, rfl⟩
abbrev main_v25 : Ref sig .tc := ⟨.hbm, 44, rfl⟩
abbrev main_c_3 : Ref sig .tc := ⟨.hbm, 45, rfl⟩
abbrev main_call4_v0 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42_0 : Ref sig .tc := ⟨.hbm, 64, rfl⟩
abbrev main_v42_1 : Ref sig .tc := ⟨.hbm, 65, rfl⟩
abbrev main_v42_2 : Ref sig .tc := ⟨.hbm, 66, rfl⟩
abbrev main_v42_3 : Ref sig .tc := ⟨.hbm, 67, rfl⟩
abbrev main_v42_4 : Ref sig .tc := ⟨.hbm, 68, rfl⟩
abbrev main_v42_5 : Ref sig .tc := ⟨.hbm, 69, rfl⟩
abbrev main_v42_6 : Ref sig .tc := ⟨.hbm, 70, rfl⟩
abbrev main_v42_7 : Ref sig .tc := ⟨.hbm, 71, rfl⟩
abbrev main_v42_8 : Ref sig .tc := ⟨.hbm, 72, rfl⟩
abbrev main_v42_9 : Ref sig .tc := ⟨.hbm, 73, rfl⟩
abbrev main_v42_10 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x3200 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x576 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x768 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference4Ideal.lean ====
abbrev S16384x2048 : Shape := ⟨2, ![16384, 2048]⟩
abbrev S4x1x2048 : Shape := ⟨3, ![4, 1, 2048]⟩
abbrev S2048 : Shape := ⟨1, ![2048]⟩
abbrev S2048x2904 : Shape := ⟨2, ![2048, 2904]⟩
abbrev S512 : Shape := ⟨1, ![512]⟩
abbrev S512x1536 : Shape := ⟨2, ![512, 1536]⟩
abbrev S512x8x128 : Shape := ⟨3, ![512, 8, 128]⟩
abbrev S4096x32 : Shape := ⟨2, ![4096, 32]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x2904 : Shape := ⟨3, ![4, 4096, 2904]⟩
abbrev S4x4096x1024 : Shape := ⟨3, ![4, 4096, 1024]⟩
abbrev S4x4096x512 : Shape := ⟨3, ![4, 4096, 512]⟩
abbrev S4x4096x256 : Shape := ⟨3, ![4, 4096, 256]⟩
abbrev S4x4096x24 : Shape := ⟨3, ![4, 4096, 24]⟩
abbrev S4x4096x64 : Shape := ⟨3, ![4, 4096, 64]⟩
abbrev S4x4096x128 : Shape := ⟨3, ![4, 4096, 128]⟩
abbrev S1x1x512 : Shape := ⟨3, ![1, 1, 512]⟩
abbrev S4x4096x32 : Shape := ⟨3, ![4, 4096, 32]⟩
abbrev S1x4096x32 : Shape := ⟨3, ![1, 4096, 32]⟩
abbrev S4x4096x576 : Shape := ⟨3, ![4, 4096, 576]⟩
abbrev S4x4096x1536 : Shape := ⟨3, ![4, 4096, 1536]⟩
abbrev S4x4096x8x192 : Shape := ⟨4, ![4, 4096, 8, 192]⟩
abbrev S4x4096x8x128 : Shape := ⟨4, ![4, 4096, 8, 128]⟩
abbrev S4096x1x32 : Shape := ⟨3, ![4096, 1, 32]⟩
abbrev S4x4096x8x32 : Shape := ⟨4, ![4, 4096, 8, 32]⟩
abbrev S1x4096x1x32 : Shape := ⟨4, ![1, 4096, 1, 32]⟩
abbrev S4x4096x8x64 : Shape := ⟨4, ![4, 4096, 8, 64]⟩
abbrev S16384x1024 : Shape := ⟨2, ![16384, 1024]⟩
abbrev S16384x512 : Shape := ⟨2, ![16384, 512]⟩
abbrev S16384x256 : Shape := ⟨2, ![16384, 256]⟩
abbrev S16384x128 : Shape := ⟨2, ![16384, 128]⟩
abbrev S16384x576 : Shape := ⟨2, ![16384, 576]⟩
abbrev S4x4096x768 : Shape := ⟨3, ![4, 4096, 768]⟩
abbrev S16384x768 : Shape := ⟨2, ![16384, 768]⟩

abbrev nBuf : Space → Nat
  | .hbm => 164
  | .vmem => 0
  | .smem => 0
  | _ => 0

abbrev hbmTy0_0 (i : Nat) : BufTy := match i % 128 with
  | 0 => ⟨S16384x2048, .f32⟩
  | 1 => ⟨S4x1x2048, .f32⟩
  | 2 => ⟨S4x1x2048, .f32⟩
  | 3 => ⟨S2048, .f32⟩
  | 4 => ⟨S2048x2904, .f32⟩
  | 5 => ⟨S512, .f32⟩
  | 6 => ⟨S512x1536, .f32⟩
  | 7 => ⟨S512, .f32⟩
  | 8 => ⟨S512x8x128, .f32⟩
  | 9 => ⟨S512x8x128, .f32⟩
  | 10 => ⟨S4096x32, .f32⟩
  | 11 => ⟨S4x4096x2048, .f32⟩
  | 12 => ⟨S4x4096x2048, .f32⟩
  | 13 => ⟨S_, .f32⟩
  | 14 => ⟨S4x4096, .f32⟩
  | 15 => ⟨S4x4096x1, .f32⟩
  | 16 => ⟨S_, .f32⟩
  | 17 => ⟨S4x4096x1, .f32⟩
  | 18 => ⟨S4x4096x1, .f32⟩
  | 19 => ⟨S_, .f32⟩
  | 20 => ⟨S4x4096x1, .f32⟩
  | 21 => ⟨S4x4096x1, .f32⟩
  | 22 => ⟨S4x4096x1, .f32⟩
  | 23 => ⟨S4x4096x2048, .f32⟩
  | 24 => ⟨S4x4096x2048, .f32⟩
  | 25 => ⟨S1x1x2048, .f32⟩
  | 26 => ⟨S4x4096x2048, .f32⟩
  | 27 => ⟨S4x4096x2048, .f32⟩
  | 28 => ⟨S_, .f32⟩
  | 29 => ⟨S4x1x2048, .f32⟩
  | 30 => ⟨S4x1x2048, .f32⟩
  | 31 => ⟨S4x4096x2048, .f32⟩
  | 32 => ⟨S4x4096x2048, .f32⟩
  | 33 => ⟨S4x4096x2048, .f32⟩
  | 34 => ⟨S4x4096x2048, .f32⟩
  | 35 => ⟨S4x4096x2904, .f32⟩
  | 36 => ⟨S4x4096x1024, .f32⟩
  | 37 => ⟨S4x4096x512, .f32⟩
  | 38 => ⟨S4x4096x256, .f32⟩
  | 39 => ⟨S4x4096x24, .f32⟩
  | 40 => ⟨S4x4096x512, .f32⟩
  | 41 => ⟨S4x4096x512, .f32⟩
  | 42 => ⟨S4x4096x64, .f32⟩
  | 43 => ⟨S_, .i32⟩
  | 44 => ⟨S_, .f32⟩
  | 45 => ⟨S4x4096x128, .f32⟩
  | 46 => ⟨S4x4096x128, .f32⟩
  | 47 => ⟨S4x4096x128, .f32⟩
  | 48 => ⟨S_, .f32⟩
  | 49 => ⟨S4x4096x128, .f32⟩
  | 50 => ⟨S4x4096x128, .f32⟩
  | 51 => ⟨S_, .f32⟩
  | 52 => ⟨S4x4096x128, .f32⟩
  | 53 => ⟨S4x4096x128, .f32⟩
  | 54 => ⟨S4x4096x512, .f32⟩
  | 55 => ⟨S_, .f32⟩
  | 56 => ⟨S4x4096, .f32⟩
  | 57 => ⟨S4x4096x1, .f32⟩
  | 58 => ⟨S_, .f32⟩
  | 59 => ⟨S4x4096x1, .f32⟩
  | 60 => ⟨S4x4096x1, .f32⟩
  | 61 => ⟨S_, .f32⟩
  | 62 => ⟨S4x4096x1, .f32⟩
  | 63 => ⟨S4x4096x1, .f32⟩
  | 64 => ⟨S4x4096x1, .f32⟩
  | 65 => ⟨S4x4096x512, .f32⟩
  | 66 => ⟨S4x4096x512, .f32⟩
  | 67 => ⟨S1x1x512, .f32⟩
  | 68 => ⟨S4x4096x512, .f32⟩
  | 69 => ⟨S4x4096x512, .f32⟩
  | 70 => ⟨S4096x32, .f32⟩
  | 71 => ⟨S4096x32, .f32⟩
  | 72 => ⟨S4x4096x32, .f32⟩
  | 73 => ⟨S4x4096x32, .f32⟩
  | 74 => ⟨S1x4096x32, .f32⟩
  | 75 => ⟨S4x4096x32, .f32⟩
  | 76 => ⟨S4x4096x32, .f32⟩
  | 77 => ⟨S1x4096x32, .f32⟩
  | 78 => ⟨S4x4096x32, .f32⟩
  | 79 => ⟨S4x4096x32, .f32⟩
  | 80 => ⟨S4x4096x32, .f32⟩
  | 81 => ⟨S1x4096x32, .f32⟩
  | 82 => ⟨S4x4096x32, .f32⟩
  | 83 => ⟨S4x4096x32, .f32⟩
  | 84 => ⟨S1x4096x32, .f32⟩
  | 85 => ⟨S4x4096x32, .f32⟩
  | 86 => ⟨S4x4096x32, .f32⟩
  | 87 => ⟨S4x4096x32, .f32⟩
  | 88 => ⟨S4x4096x64, .f32⟩
  | 89 => ⟨S4x4096x576, .f32⟩
  | 90 => ⟨S4x4096x512, .f32⟩
  | 91 => ⟨S_, .f32⟩
  | 92 => ⟨S4x4096, .f32⟩
  | 93 => ⟨S4x4096x1, .f32⟩
  | 94 => ⟨S_, .f32⟩
  | 95 => ⟨S4x4096x1, .f32⟩
  | 96 => ⟨S4x4096x1, .f32⟩
  | 97 => ⟨S_, .f32⟩
  | 98 => ⟨S4x4096x1, .f32⟩
  | 99 => ⟨S4x4096x1, .f32⟩
  | 100 => ⟨S4x4096x1, .f32⟩
  | 101 => ⟨S4x4096x512, .f32⟩
  | 102 => ⟨S4x4096x512, .f32⟩
  | 103 => ⟨S1x1x512, .f32⟩
  | 104 => ⟨S4x4096x512, .f32⟩
  | 105 => ⟨S4x4096x512, .f32⟩
  | 106 => ⟨S4x4096x1536, .f32⟩
  | 107 => ⟨S4x4096x8x192, .f32⟩
  | 108 => ⟨S4x4096x8x128, .f32⟩
  | 109 => ⟨S_, .f32⟩
  | 110 => ⟨S4x4096x8x128, .f32⟩
  | 111 => ⟨S4x4096x8x128, .f32⟩
  | 112 => ⟨S4096x1x32, .f32⟩
  | 113 => ⟨S4096x1x32, .f32⟩
  | 114 => ⟨S4x4096x8x32, .f32⟩
  | 115 => ⟨S4x4096x8x32, .f32⟩
  | 116 => ⟨S1x4096x1x32, .f32⟩
  | 117 => ⟨S4x4096x8x32, .f32⟩
  | 118 => ⟨S4x4096x8x32, .f32⟩
  | 119 => ⟨S1x4096x1x32, .f32⟩
  | 120 => ⟨S4x4096x8x32, .f32⟩
  | 121 => ⟨S4x4096x8x32, .f32⟩
  | 122 => ⟨S4x4096x8x32, .f32⟩
  | 123 => ⟨S1x4096x1x32, .f32⟩
  | 124 => ⟨S4x4096x8x32, .f32⟩
  | 125 => ⟨S4x4096x8x32, .f32⟩
  | 126 => ⟨S1x4096x1x32, .f32⟩
  | 127 => ⟨S4x4096x8x32, .f32⟩
  | _ => ⟨S16384x2048, .f32⟩

abbrev hbmTy0_1 (i : Nat) : BufTy := match i % 128 with
  | 0 => ⟨S4x4096x8x32, .f32⟩
  | 1 => ⟨S4x4096x8x32, .f32⟩
  | 2 => ⟨S4x4096x8x64, .f32⟩
  | 3 => ⟨S_, .f32⟩
  | 4 => ⟨S4x4096x8x64, .f32⟩
  | 5 => ⟨S4x4096x8x64, .f32⟩
  | 6 => ⟨S4x4096x8x128, .f32⟩
  | 7 => ⟨S4x4096x8x128, .f32⟩
  | 8 => ⟨S_, .f32⟩
  | 9 => ⟨S4x4096x1024, .f32⟩
  | 10 => ⟨S4x4096x1024, .f32⟩
  | 11 => ⟨S16384x1024, .f32⟩
  | 12 => ⟨S16384x1024, .bf16⟩
  | 13 => ⟨S16384x512, .f32⟩
  | 14 => ⟨S16384x256, .f32⟩
  | 15 => ⟨S16384x128, .f32⟩
  | 16 => ⟨S16384x576, .f32⟩
  | 17 => ⟨S16384x1024, .f32⟩
  | 18 => ⟨S16384x1024, .bf16⟩
  | 19 => ⟨S_, .i32⟩
  | 20 => ⟨S_, .f32⟩
  | 21 => ⟨S4x4096x8x128, .f32⟩
  | 22 => ⟨S16384x1024, .f32⟩
  | 23 => ⟨S16384x1024, .bf16⟩
  | 24 => ⟨S_, .i32⟩
  | 25 => ⟨S_, .f32⟩
  | 26 => ⟨S4x4096x128, .f32⟩
  | 27 => ⟨S16384x128, .f32⟩
  | 28 => ⟨S16384x128, .bf16⟩
  | 29 => ⟨S16384x1024, .f32⟩
  | 30 => ⟨S16384x1024, .bf16⟩
  | 31 => ⟨S16384x1024, .f32⟩
  | 32 => ⟨S16384x1024, .bf16⟩
  | 33 => ⟨S4x4096x768, .f32⟩
  | 34 => ⟨S16384x768, .f32⟩
  | 35 => ⟨S16384x768, .bf16⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c : Ref sig .tc := ⟨.hbm, 43, rfl⟩
abbrev main_call0_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_8 : Ref sig .tc := ⟨.hbm, 91, rfl⟩
abbrev main_v69 : Ref sig .tc := ⟨.hbm, 92, rfl⟩
abbrev main_v70 : Ref sig .tc := ⟨.hbm, 93, rfl⟩
abbrev main_cst_9 : Ref sig .tc := ⟨.hbm, 94, rfl⟩
abbrev main_v71 : Ref sig .tc := ⟨.hbm, 95, rfl⟩
abbrev main_v72 : Ref sig .tc := ⟨.hbm, 96, rfl⟩
abbrev main_cst_10 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_11 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_cst_12 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_cst_13 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_c_14 : Ref sig .tc := ⟨.hbm, 147, rfl⟩
abbrev main_call1_v0 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_c_15 : Ref sig .tc := ⟨.hbm, 152, rfl⟩
abbrev main_call2_v0 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩

abbrev nD : Nat := 1
abbrev τ : Topo := Topo.v7x

variable {F : FTy → Type} [FloatOps F]
-- ==== Kernel5.lean ====
abbrev S512x2048 : Shape := ⟨2, ![512, 2048]⟩
abbrev S1x512x2048 : Shape := ⟨3, ![1, 512, 2048]⟩
abbrev S2048 : Shape := ⟨1, ![2048]⟩
abbrev S2048x2904 : Shape := ⟨2, ![2048, 2904]⟩
abbrev S512 : Shape := ⟨1, ![512]⟩
abbrev S512x1536 : Shape := ⟨2, ![512, 1536]⟩
abbrev S512x8x128 : Shape := ⟨3, ![512, 8, 128]⟩
abbrev S512x32 : Shape := ⟨2, ![512, 32]⟩
abbrev S2048x1024 : Shape := ⟨2, ![2048, 1024]⟩
abbrev S2048x512 : Shape := ⟨2, ![2048, 512]⟩
abbrev S2048x256 : Shape := ⟨2, ![2048, 256]⟩
abbrev S2048x24 : Shape := ⟨2, ![2048, 24]⟩
abbrev S2048x64 : Shape := ⟨2, ![2048, 64]⟩
abbrev S2048x32 : Shape := ⟨2, ![2048, 32]⟩
abbrev S_ : Shape := ⟨0, ![]⟩
abbrev S2048x128 : Shape := ⟨2, ![2048, 128]⟩
abbrev S2048x3200 : Shape := ⟨2, ![2048, 3200]⟩
abbrev S512x8x192 : Shape := ⟨3, ![512, 8, 192]⟩
abbrev S512x1024 : Shape := ⟨2, ![512, 1024]⟩
abbrev S512x8x64 : Shape := ⟨3, ![512, 8, 64]⟩
abbrev S512x8x32 : Shape := ⟨3, ![512, 8, 32]⟩
abbrev S512x3072 : Shape := ⟨2, ![512, 3072]⟩
abbrev S512x64 : Shape := ⟨2, ![512, 64]⟩
abbrev S512x128 : Shape := ⟨2, ![512, 128]⟩
abbrev S1x2048 : Shape := ⟨2, ![1, 2048]⟩
abbrev S1x512 : Shape := ⟨2, ![1, 512]⟩
abbrev S512x512 : Shape := ⟨2, ![512, 512]⟩
abbrev S512x256 : Shape := ⟨2, ![512, 256]⟩
abbrev S512x576 : Shape := ⟨2, ![512, 576]⟩
abbrev S512x768 : Shape := ⟨2, ![512, 768]⟩
abbrev S512x1 : Shape := ⟨2, ![512, 1]⟩
abbrev S512x3200 : Shape := ⟨2, ![512, 3200]⟩

abbrev nBuf : Space → Nat
  | .hbm => 75
  | .vmem => 22
  | .smem => 0
  | _ => 0

abbrev bufTy : (tb : Table) → Fin (tcTables nBuf tb) → BufTy
  | .hbm, ⟨0, _⟩ => ⟨S512x2048, .f32⟩
  | .hbm, ⟨1, _⟩ => ⟨S1x512x2048, .f32⟩
  | .hbm, ⟨2, _⟩ => ⟨S1x512x2048, .f32⟩
  | .hbm, ⟨3, _⟩ => ⟨S2048, .f32⟩
  | .hbm, ⟨4, _⟩ => ⟨S2048x2904, .f32⟩
  | .hbm, ⟨5, _⟩ => ⟨S512, .f32⟩
  | .hbm, ⟨6, _⟩ => ⟨S512x1536, .f32⟩
  | .hbm, ⟨7, _⟩ => ⟨S512, .f32⟩
  | .hbm, ⟨8, _⟩ => ⟨S512x8x128, .f32⟩
  | .hbm, ⟨9, _⟩ => ⟨S512x8x128, .f32⟩
  | .hbm, ⟨10, _⟩ => ⟨S512x32, .f32⟩
  | .hbm, ⟨11, _⟩ => ⟨S2048x1024, .f32⟩
  | .hbm, ⟨12, _⟩ => ⟨S2048x512, .f32⟩
  | .hbm, ⟨13, _⟩ => ⟨S2048x256, .f32⟩
  | .hbm, ⟨14, _⟩ => ⟨S2048x24, .f32⟩
  | .hbm, ⟨15, _⟩ => ⟨S2048x512, .f32⟩
  | .hbm, ⟨16, _⟩ => ⟨S2048x512, .f32⟩
  | .hbm, ⟨17, _⟩ => ⟨S2048x64, .f32⟩
  | .hbm, ⟨18, _⟩ => ⟨S2048x32, .f32⟩
  | .hbm, ⟨19, _⟩ => ⟨S2048x32, .f32⟩
  | .hbm, ⟨20, _⟩ => ⟨S2048x32, .f32⟩
  | .hbm, ⟨21, _⟩ => ⟨S2048x64, .f32⟩
  | .hbm, ⟨22, _⟩ => ⟨S_, .i32⟩
  | .hbm, ⟨23, _⟩ => ⟨S_, .f32⟩
  | .hbm, ⟨24, _⟩ => ⟨S2048x128, .f32⟩
  | .hbm, ⟨25, _⟩ => ⟨S_, .i32⟩
  | .hbm, ⟨26, _⟩ => ⟨S_, .f32⟩
  | .hbm, ⟨27, _⟩ => ⟨S2048x128, .f32⟩
  | .hbm, ⟨28, _⟩ => ⟨S_, .i32⟩
  | .hbm, ⟨29, _⟩ => ⟨S_, .f32⟩
  | .hbm, ⟨30, _⟩ => ⟨S2048x128, .f32⟩
  | .hbm, ⟨31, _⟩ => ⟨S2048x3200, .f32⟩
  | .hbm, ⟨32, _⟩ => ⟨S2048x3200, .bf16⟩
  | .hbm, ⟨33, _⟩ => ⟨S512x8x192, .f32⟩
  | .hbm, ⟨34, _⟩ => ⟨S512x8x128, .f32⟩
  | .hbm, ⟨35, _⟩ => ⟨S512x1024, .f32⟩
  | .hbm, ⟨36, _⟩ => ⟨S512x8x64, .f32⟩
  | .hbm, ⟨37, _⟩ => ⟨S512x8x32, .f32⟩
  | .hbm, ⟨38, _⟩ => ⟨S512x8x32, .f32⟩
  | .hbm, ⟨39, _⟩ => ⟨S512x8x32, .f32⟩
  | .hbm, ⟨40, _⟩ => ⟨S512x8x64, .f32⟩
  | .hbm, ⟨41, _⟩ => ⟨S_, .i32⟩
  | .hbm, ⟨42, _⟩ => ⟨S_, .f32⟩
  | .hbm, ⟨43, _⟩ => ⟨S512x8x128, .f32⟩
  | .hbm, ⟨44, _⟩ => ⟨S512x1024, .f32⟩
  | .hbm, ⟨45, _⟩ => ⟨S_, .i32⟩
  | .hbm, ⟨46, _⟩ => ⟨S_, .f32⟩
  | .hbm, ⟨47, _⟩ => ⟨S512x8x128, .f32⟩
  | .hbm, ⟨48, _⟩ => ⟨S512x1024, .f32⟩
  | .hbm, ⟨49, _⟩ => ⟨S512x3072, .f32⟩
  | .hbm, ⟨50, _⟩ => ⟨S512x3072, .bf16⟩
  | .hbm, ⟨51, _⟩ => ⟨S512x1024, .f32⟩
  | .hbm, ⟨52, _⟩ => ⟨S512x1024, .f32⟩
  | .hbm, ⟨53, _⟩ => ⟨S512x2048, .f32⟩
  | .hbm, ⟨54, _⟩ => ⟨S512x2048, .bf16⟩
  | .hbm, ⟨55, _⟩ => ⟨S512x32, .f32⟩
  | .hbm, ⟨56, _⟩ => ⟨S512x32, .f32⟩
  | .hbm, ⟨57, _⟩ => ⟨S_, .f32⟩
  | .hbm, ⟨58, _⟩ => ⟨S512x64, .f32⟩
  | .hbm, ⟨59, _⟩ => ⟨S512x128, .f32⟩
  | .hbm, ⟨60, _⟩ => ⟨S512x128, .f32⟩
  | .hbm, ⟨61, _⟩ => ⟨S1x2048, .f32⟩
  | .hbm, ⟨62, _⟩ => ⟨S1x512, .f32⟩
  | .hbm, ⟨63, _⟩ => ⟨S1x512, .f32⟩
  | .hbm, ⟨64, _⟩ => ⟨S512x1024, .bf16⟩
  | .hbm, ⟨65, _⟩ => ⟨S512x512, .f32⟩
  | .hbm, ⟨66, _⟩ => ⟨S512x256, .f32⟩
  | .hbm, ⟨67, _⟩ => ⟨S512x128, .f32⟩
  | .hbm, ⟨68, _⟩ => ⟨S512x576, .f32⟩
  | .hbm, ⟨69, _⟩ => ⟨S512x1024, .bf16⟩
  | .hbm, ⟨70, _⟩ => ⟨S512x1024, .bf16⟩
  | .hbm, ⟨71, _⟩ => ⟨S512x128, .bf16⟩
  | .hbm, ⟨72, _⟩ => ⟨S512x1024, .bf16⟩
  | .hbm, ⟨73, _⟩ => ⟨S512x1024, .bf16⟩
  | .hbm, ⟨74, _⟩ => ⟨S512x768, .bf16⟩
  | .local _ .vmem, ⟨0, _⟩ => ⟨S512x2048, .f32⟩
  | .local _ .vmem, ⟨1, _⟩ => ⟨S1x512x2048, .f32⟩
  | .local _ .vmem, ⟨2, _⟩ => ⟨S1x512x2048, .f32⟩
  | .local _ .vmem, ⟨3, _⟩ => ⟨S1x2048, .f32⟩
  | .local _ .vmem, ⟨4, _⟩ => ⟨S2048x3200, .bf16⟩
  | .local _ .vmem, ⟨5, _⟩ => ⟨S1x512, .f32⟩
  | .local _ .vmem, ⟨6, _⟩ => ⟨S512x3072, .bf16⟩
  | .local _ .vmem, ⟨7, _⟩ => ⟨S1x512, .f32⟩
  | .local _ .vmem, ⟨8, _⟩ => ⟨S512x2048, .bf16⟩
  | .local _ .vmem, ⟨9, _⟩ => ⟨S512x128, .f32⟩
  | .local _ .vmem, ⟨10, _⟩ => ⟨S512x128, .f32⟩
  | .local _ .vmem, ⟨11, _⟩ => ⟨S512x1024, .bf16⟩
  | .local _ .vmem, ⟨12, _⟩ => ⟨S512x512, .f32⟩
  | .local _ .vmem, ⟨13, _⟩ => ⟨S512x256, .f32⟩
  | .local _ .vmem, ⟨14, _⟩ => ⟨S512x128, .f32⟩
  | .local _ .vmem, ⟨15, _⟩ => ⟨S512x576, .f32⟩
  | .local _ .vmem, ⟨16, _⟩ => ⟨S512x1024, .bf16⟩
  | .local _ .vmem, ⟨17, _⟩ => ⟨S512x1024, .bf16⟩
  | .local _ .vmem, ⟨18, _⟩ => ⟨S512x128, .bf16⟩
  | .local _ .vmem, ⟨19, _⟩ => ⟨S512x1024, .bf16⟩
  | .local _ .vmem, ⟨20, _⟩ => ⟨S512x1024, .bf16⟩
  | .local _ .vmem, ⟨21, _⟩ => ⟨S512x768, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_call0_v0 : Ref sig .tc := ⟨.hbm, 23, rfl⟩
abbrev main_v11 : Ref sig .tc := ⟨.hbm, 24, rfl⟩
abbrev main_c_0 : Ref sig .tc := ⟨.hbm, 25, rfl⟩
abbrev main_call1_v0 : Ref sig .tc := ⟨.hbm, 26, rfl⟩
abbrev main_v12 : Ref sig .tc := ⟨.hbm, 27, rfl⟩
abbrev main_c_1 : Ref sig .tc := ⟨.hbm, 28, rfl⟩
abbrev main_call2_v0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_2 : Ref sig .tc := ⟨.hbm, 41, rfl⟩
abbrev main_call3_v0 : Ref sig .tc := ⟨.hbm, 42, rfl⟩
abbrev main_v24 : Ref sig .tc := ⟨.hbm, 43, rfl⟩
abbrev main_v25 : Ref sig .tc := ⟨.hbm, 44, rfl⟩
abbrev main_c_3 : Ref sig .tc := ⟨.hbm, 45, rfl⟩
abbrev main_call4_v0 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42_0 : Ref sig .tc := ⟨.hbm, 64, rfl⟩
abbrev main_v42_1 : Ref sig .tc := ⟨.hbm, 65, rfl⟩
abbrev main_v42_2 : Ref sig .tc := ⟨.hbm, 66, rfl⟩
abbrev main_v42_3 : Ref sig .tc := ⟨.hbm, 67, rfl⟩
abbrev main_v42_4 : Ref sig .tc := ⟨.hbm, 68, rfl⟩
abbrev main_v42_5 : Ref sig .tc := ⟨.hbm, 69, rfl⟩
abbrev main_v42_6 : Ref sig .tc := ⟨.hbm, 70, rfl⟩
abbrev main_v42_7 : Ref sig .tc := ⟨.hbm, 71, rfl⟩
abbrev main_v42_8 : Ref sig .tc := ⟨.hbm, 72, rfl⟩
abbrev main_v42_9 : Ref sig .tc := ⟨.hbm, 73, rfl⟩
abbrev main_v42_10 : Ref sig .tc := ⟨.hbm, 74, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x3200 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S512x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S512x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S512x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S512x576 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S512x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S512x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S512x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S512x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]

abbrev stage0_21 : Fin 1 → Memref sig .tc .vmem S512x768 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]
-- ==== Reference5Ideal.lean ====
abbrev S512x2048 : Shape := ⟨2, ![512, 2048]⟩
abbrev S1x512x2048 : Shape := ⟨3, ![1, 512, 2048]⟩
abbrev S2048 : Shape := ⟨1, ![2048]⟩
abbrev S2048x2904 : Shape := ⟨2, ![2048, 2904]⟩
abbrev S512 : Shape := ⟨1, ![512]⟩
abbrev S512x1536 : Shape := ⟨2, ![512, 1536]⟩
abbrev S512x8x128 : Shape := ⟨3, ![512, 8, 128]⟩
abbrev S512x32 : Shape := ⟨2, ![512, 32]⟩
abbrev S_ : Shape := ⟨0, ![]⟩
abbrev S512x1 : Shape := ⟨2, ![512, 1]⟩
abbrev S1x2048 : Shape := ⟨2, ![1, 2048]⟩
abbrev S512x2904 : Shape := ⟨2, ![512, 2904]⟩
abbrev S512x1024 : Shape := ⟨2, ![512, 1024]⟩
abbrev S512x512 : Shape := ⟨2, ![512, 512]⟩
abbrev S512x256 : Shape := ⟨2, ![512, 256]⟩
abbrev S512x24 : Shape := ⟨2, ![512, 24]⟩
abbrev S512x64 : Shape := ⟨2, ![512, 64]⟩
abbrev S512x128 : Shape := ⟨2, ![512, 128]⟩
abbrev S1x512 : Shape := ⟨2, ![1, 512]⟩
abbrev S512x576 : Shape := ⟨2, ![512, 576]⟩
abbrev S512x8x192 : Shape := ⟨3, ![512, 8, 192]⟩
abbrev S512x1x32 : Shape := ⟨3, ![512, 1, 32]⟩
abbrev S512x8x32 : Shape := ⟨3, ![512, 8, 32]⟩
abbrev S512x8x64 : Shape := ⟨3, ![512, 8, 64]⟩
abbrev S512x768 : Shape := ⟨2, ![512, 768]⟩

abbrev nBuf : Space → Nat
  | .hbm => 144
  | .vmem => 0
  | .smem => 0
  | _ => 0

abbrev hbmTy0_0 (i : Nat) : BufTy := match i % 128 with
  | 0 => ⟨S512x2048, .f32⟩
  | 1 => ⟨S1x512x2048, .f32⟩
  | 2 => ⟨S1x512x2048, .f32⟩
  | 3 => ⟨S2048, .f32⟩
  | 4 => ⟨S2048x2904, .f32⟩
  | 5 => ⟨S512, .f32⟩
  | 6 => ⟨S512x1536, .f32⟩
  | 7 => ⟨S512, .f32⟩
  | 8 => ⟨S512x8x128, .f32⟩
  | 9 => ⟨S512x8x128, .f32⟩
  | 10 => ⟨S512x32, .f32⟩
  | 11 => ⟨S512x2048, .f32⟩
  | 12 => ⟨S_, .f32⟩
  | 13 => ⟨S512, .f32⟩
  | 14 => ⟨S512x1, .f32⟩
  | 15 => ⟨S_, .f32⟩
  | 16 => ⟨S512x1, .f32⟩
  | 17 => ⟨S512x1, .f32⟩
  | 18 => ⟨S_, .f32⟩
  | 19 => ⟨S512x1, .f32⟩
  | 20 => ⟨S512x1, .f32⟩
  | 21 => ⟨S512x1, .f32⟩
  | 22 => ⟨S512x2048, .f32⟩
  | 23 => ⟨S512x2048, .f32⟩
  | 24 => ⟨S1x2048, .f32⟩
  | 25 => ⟨S512x2048, .f32⟩
  | 26 => ⟨S512x2048, .f32⟩
  | 27 => ⟨S512x2048, .f32⟩
  | 28 => ⟨S_, .f32⟩
  | 29 => ⟨S512x2048, .f32⟩
  | 30 => ⟨S512x2048, .f32⟩
  | 31 => ⟨S512x2048, .f32⟩
  | 32 => ⟨S512x2048, .f32⟩
  | 33 => ⟨S512x2048, .f32⟩
  | 34 => ⟨S512x2904, .f32⟩
  | 35 => ⟨S512x1024, .f32⟩
  | 36 => ⟨S512x512, .f32⟩
  | 37 => ⟨S512x256, .f32⟩
  | 38 => ⟨S512x24, .f32⟩
  | 39 => ⟨S512x512, .f32⟩
  | 40 => ⟨S512x512, .f32⟩
  | 41 => ⟨S512x64, .f32⟩
  | 42 => ⟨S_, .i32⟩
  | 43 => ⟨S_, .f32⟩
  | 44 => ⟨S512x128, .f32⟩
  | 45 => ⟨S512x128, .f32⟩
  | 46 => ⟨S512x128, .f32⟩
  | 47 => ⟨S_, .f32⟩
  | 48 => ⟨S512x128, .f32⟩
  | 49 => ⟨S512x128, .f32⟩
  | 50 => ⟨S_, .f32⟩
  | 51 => ⟨S512x128, .f32⟩
  | 52 => ⟨S512x128, .f32⟩
  | 53 => ⟨S512x512, .f32⟩
  | 54 => ⟨S_, .f32⟩
  | 55 => ⟨S512, .f32⟩
  | 56 => ⟨S512x1, .f32⟩
  | 57 => ⟨S_, .f32⟩
  | 58 => ⟨S512x1, .f32⟩
  | 59 => ⟨S512x1, .f32⟩
  | 60 => ⟨S_, .f32⟩
  | 61 => ⟨S512x1, .f32⟩
  | 62 => ⟨S512x1, .f32⟩
  | 63 => ⟨S512x1, .f32⟩
  | 64 => ⟨S512x512, .f32⟩
  | 65 => ⟨S512x512, .f32⟩
  | 66 => ⟨S1x512, .f32⟩
  | 67 => ⟨S512x512, .f32⟩
  | 68 => ⟨S512x512, .f32⟩
  | 69 => ⟨S512x32, .f32⟩
  | 70 => ⟨S512x32, .f32⟩
  | 71 => ⟨S512x32, .f32⟩
  | 72 => ⟨S512x32, .f32⟩
  | 73 => ⟨S512x32, .f32⟩
  | 74 => ⟨S512x32, .f32⟩
  | 75 => ⟨S512x32, .f32⟩
  | 76 => ⟨S512x32, .f32⟩
  | 77 => ⟨S512x32, .f32⟩
  | 78 => ⟨S512x32, .f32⟩
  | 79 => ⟨S512x64, .f32⟩
  | 80 => ⟨S512x576, .f32⟩
  | 81 => ⟨S512x512, .f32⟩
  | 82 => ⟨S_, .f32⟩
  | 83 => ⟨S512, .f32⟩
  | 84 => ⟨S512x1, .f32⟩
  | 85 => ⟨S_, .f32⟩
  | 86 => ⟨S512x1, .f32⟩
  | 87 => ⟨S512x1, .f32⟩
  | 88 => ⟨S_, .f32⟩
  | 89 => ⟨S512x1, .f32⟩
  | 90 => ⟨S512x1, .f32⟩
  | 91 => ⟨S512x1, .f32⟩
  | 92 => ⟨S512x512, .f32⟩
  | 93 => ⟨S512x512, .f32⟩
  | 94 => ⟨S1x512, .f32⟩
  | 95 => ⟨S512x512, .f32⟩
  | 96 => ⟨S512x512, .f32⟩
  | 97 => ⟨S512x1536, .f32⟩
  | 98 => ⟨S512x8x192, .f32⟩
  | 99 => ⟨S512x8x128, .f32⟩
  | 100 => ⟨S_, .f32⟩
  | 101 => ⟨S512x8x128, .f32⟩
  | 102 => ⟨S512x8x128, .f32⟩
  | 103 => ⟨S512x1x32, .f32⟩
  | 104 => ⟨S512x1x32, .f32⟩
  | 105 => ⟨S512x8x32, .f32⟩
  | 106 => ⟨S512x8x32, .f32⟩
  | 107 => ⟨S512x8x32, .f32⟩
  | 108 => ⟨S512x8x32, .f32⟩
  | 109 => ⟨S512x8x32, .f32⟩
  | 110 => ⟨S512x8x32, .f32⟩
  | 111 => ⟨S512x8x32, .f32⟩
  | 112 => ⟨S512x8x32, .f32⟩
  | 113 => ⟨S512x8x32, .f32⟩
  | 114 => ⟨S512x8x32, .f32⟩
  | 115 => ⟨S512x8x32, .f32⟩
  | 116 => ⟨S512x8x32, .f32⟩
  | 117 => ⟨S512x8x64, .f32⟩
  | 118 => ⟨S_, .f32⟩
  | 119 => ⟨S512x8x64, .f32⟩
  | 120 => ⟨S512x8x64, .f32⟩
  | 121 => ⟨S512x8x128, .f32⟩
  | 122 => ⟨S512x8x128, .f32⟩
  | 123 => ⟨S_, .f32⟩
  | 124 => ⟨S512x1024, .f32⟩
  | 125 => ⟨S512x1024, .f32⟩
  | 126 => ⟨S512x1024, .bf16⟩
  | 127 => ⟨S512x1024, .f32⟩
  | _ => ⟨S512x2048, .f32⟩

abbrev hbmTy0_1 (i : Nat) : BufTy := match i % 128 with
  | 0 => ⟨S512x1024, .bf16⟩
  | 1 => ⟨S_, .i32⟩
  | 2 => ⟨S_, .f32⟩
  | 3 => ⟨S512x8x128, .f32⟩
  | 4 => ⟨S512x1024, .f32⟩
  | 5 => ⟨S512x1024, .bf16⟩
  | 6 => ⟨S_, .i32⟩
  | 7 => ⟨S_, .f32⟩
  | 8 => ⟨S512x128, .f32⟩
  | 9 => ⟨S512x128, .bf16⟩
  | 10 => ⟨S512x1024, .f32⟩
  | 11 => ⟨S512x1024, .bf16⟩
  | 12 => ⟨S512x1024, .f32⟩
  | 13 => ⟨S512x1024, .bf16⟩
  | 14 => ⟨S512x768, .f32⟩
  | 15 => ⟨S512x768, .bf16⟩
  | _ => ⟨S512x2048, .f32⟩

abbrev hbmTy (i : Nat) : BufTy := match i / 128 with
  | 0 => hbmTy0_0 i
  | 1 => hbmTy0_1 i
  | _ => ⟨S512x2048, .f32⟩

abbrev bufTy : (tb : Table) → Fin (tcTables nBuf tb) → BufTy
  | .hbm, ⟨i, _⟩ => hbmTy i
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c : Ref sig .tc := ⟨.hbm, 42, rfl⟩
abbrev main_call0_v0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_8 : Ref sig .tc := ⟨.hbm, 82, rfl⟩
abbrev main_v60 : Ref sig .tc := ⟨.hbm, 83, rfl⟩
abbrev main_v61 : Ref sig .tc := ⟨.hbm, 84, rfl⟩
abbrev main_cst_9 : Ref sig .tc := ⟨.hbm, 85, rfl⟩
abbrev main_v62 : Ref sig .tc := ⟨.hbm, 86, rfl⟩
abbrev main_v63 : Ref sig .tc := ⟨.hbm, 87, rfl⟩
abbrev main_cst_10 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_11 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_12 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_13 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_c_14 : Ref sig .tc := ⟨.hbm, 129, rfl⟩
abbrev main_call1_v0 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_c_15 : Ref sig .tc := ⟨.hbm, 134, rfl⟩
abbrev main_call2_v0 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩

abbrev nD : Nat := 1
abbrev τ : Topo := Topo.v7x

variable {F : FTy → Type} [FloatOps F]
-- ==== Kernel6.lean ====
abbrev S512x2048 : Shape := ⟨2, ![512, 2048]⟩
abbrev S2048x5632 : Shape := ⟨2, ![2048, 5632]⟩
abbrev S5632x2048 : Shape := ⟨2, ![5632, 2048]⟩
abbrev S1x512x2048 : Shape := ⟨3, ![1, 512, 2048]⟩
abbrev S2048 : Shape := ⟨1, ![2048]⟩
abbrev S1x2048 : Shape := ⟨2, ![1, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S512x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S512x2048, .f32⟩
  | .hbm, ⟨5, _⟩ => ⟨S1x512x2048, .f32⟩
  | .hbm, ⟨6, _⟩ => ⟨S2048, .f32⟩
  | .hbm, ⟨7, _⟩ => ⟨S1x2048, .f32⟩
  | .hbm, ⟨8, _⟩ => ⟨S512x2048, .f32⟩
  | .local _ .vmem, ⟨0, _⟩ => ⟨S512x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .f32⟩
  | .local _ .vmem, ⟨8, _⟩ => ⟨S1x512x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨2, ![1, 11], ![false, false]⟩

def k0_cond3 (i : grid0.Coords) : BitVec 1 :=
  let arg1 : BitVec 32 := BitVec.ofNat 32 (i 1).val
  let c10_i32 : BitVec 32 := 10#32
  let v17 : BitVec 1 := Scalar.cmpi .eq arg1 c10_i32
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== Reference6Ideal.lean ====
abbrev S512x2048 : Shape := ⟨2, ![512, 2048]⟩
abbrev S2048x5632 : Shape := ⟨2, ![2048, 5632]⟩
abbrev S5632x2048 : Shape := ⟨2, ![5632, 2048]⟩
abbrev S1x512x2048 : Shape := ⟨3, ![1, 512, 2048]⟩
abbrev S2048 : Shape := ⟨1, ![2048]⟩
abbrev S512x5632 : Shape := ⟨2, ![512, 5632]⟩
abbrev S_ : Shape := ⟨0, ![]⟩
abbrev S512 : Shape := ⟨1, ![512]⟩
abbrev S512x1 : Shape := ⟨2, ![512, 1]⟩
abbrev S1x2048 : Shape := ⟨2, ![1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S512x2048, .f32⟩
  | .hbm, ⟨5, _⟩ => ⟨S1x512x2048, .f32⟩
  | .hbm, ⟨6, _⟩ => ⟨S2048, .f32⟩
  | .hbm, ⟨7, _⟩ => ⟨S512x2048, .f32⟩
  | .hbm, ⟨8, _⟩ => ⟨S512x2048, .f32⟩
  | .hbm, ⟨9, _⟩ => ⟨S2048x5632, .f32⟩
  | .hbm, ⟨10, _⟩ => ⟨S512x5632, .f32⟩
  | .hbm, ⟨11, _⟩ => ⟨S512x5632, .f32⟩
  | .hbm, ⟨12, _⟩ => ⟨S512x5632, .f32⟩
  | .hbm, ⟨13, _⟩ => ⟨S_, .f32⟩
  | .hbm, ⟨14, _⟩ => ⟨S512x5632, .f32⟩
  | .hbm, ⟨15, _⟩ => ⟨S512x5632, .f32⟩
  | .hbm, ⟨16, _⟩ => ⟨S_, .f32⟩
  | .hbm, ⟨17, _⟩ => ⟨S512x5632, .f32⟩
  | .hbm, ⟨18, _⟩ => ⟨S512x5632, .f32⟩
  | .hbm, ⟨19, _⟩ => ⟨S512x5632, .f32⟩
  | .hbm, ⟨20, _⟩ => ⟨S2048x5632, .f32⟩
  | .hbm, ⟨21, _⟩ => ⟨S512x5632, .f32⟩
  | .hbm, ⟨22, _⟩ => ⟨S512x5632, .f32⟩
  | .hbm, ⟨23, _⟩ => ⟨S5632x2048, .f32⟩
  | .hbm, ⟨24, _⟩ => ⟨S512x2048, .f32⟩
  | .hbm, ⟨25, _⟩ => ⟨S512x2048, .f32⟩
  | .hbm, ⟨26, _⟩ => ⟨S512x2048, .f32⟩
  | .hbm, ⟨27, _⟩ => ⟨S512x2048, .f32⟩
  | .hbm, ⟨28, _⟩ => ⟨S_, .f32⟩
  | .hbm, ⟨29, _⟩ => ⟨S512, .f32⟩
  | .hbm, ⟨30, _⟩ => ⟨S512x1, .f32⟩
  | .hbm, ⟨31, _⟩ => ⟨S_, .f32⟩
  | .hbm, ⟨32, _⟩ => ⟨S512x1, .f32⟩
  | .hbm, ⟨33, _⟩ => ⟨S512x1, .f32⟩
  | .hbm, ⟨34, _⟩ => ⟨S_, .f32⟩
  | .hbm, ⟨35, _⟩ => ⟨S512x1, .f32⟩
  | .hbm, ⟨36, _⟩ => ⟨S512x1, .f32⟩
  | .hbm, ⟨37, _⟩ => ⟨S512x1, .f32⟩
  | .hbm, ⟨38, _⟩ => ⟨S512x2048, .f32⟩
  | .hbm, ⟨39, _⟩ => ⟨S512x2048, .f32⟩
  | .hbm, ⟨40, _⟩ => ⟨S1x2048, .f32⟩
  | .hbm, ⟨41, _⟩ => ⟨S512x2048, .f32⟩
  | .hbm, ⟨42, _⟩ => ⟨S512x2048, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩

abbrev nD : Nat := 1
abbrev τ : Topo := Topo.v7x

variable {F : FTy → Type} [FloatOps F]
-- ==== Kernel7.lean ====
abbrev S512x1024 : Shape := ⟨2, ![512, 1024]⟩
abbrev S2048x2048 : Shape := ⟨2, ![2048, 2048]⟩
abbrev S512x2048 : Shape := ⟨2, ![512, 2048]⟩
abbrev S1x512x2048 : Shape := ⟨3, ![1, 512, 2048]⟩
abbrev S2048 : Shape := ⟨1, ![2048]⟩
abbrev S1x2048 : Shape := ⟨2, ![1, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S512x1024, .bf16⟩
  | .hbm, ⟨1, _⟩ => ⟨S512x1024, .bf16⟩
  | .hbm, ⟨2, _⟩ => ⟨S2048x2048, .bf16⟩
  | .hbm, ⟨3, _⟩ => ⟨S512x2048, .f32⟩
  | .hbm, ⟨4, _⟩ => ⟨S1x512x2048, .f32⟩
  | .hbm, ⟨5, _⟩ => ⟨S1x512x2048, .f32⟩
  | .hbm, ⟨6, _⟩ => ⟨S1x512x2048, .f32⟩
  | .hbm, ⟨7, _⟩ => ⟨S2048, .f32⟩
  | .hbm, ⟨8, _⟩ => ⟨S1x2048, .f32⟩
  | .hbm, ⟨9, _⟩ => ⟨S512x2048, .f32⟩
  | .hbm, ⟨10, _⟩ => ⟨S512x2048, .bf16⟩
  | .local _ .vmem, ⟨0, _⟩ => ⟨S512x1024, .bf16⟩
  | .local _ .vmem, ⟨1, _⟩ => ⟨S512x1024, .bf16⟩
  | .local _ .vmem, ⟨2, _⟩ => ⟨S2048x2048, .bf16⟩
  | .local _ .vmem, ⟨3, _⟩ => ⟨S512x2048, .f32⟩
  | .local _ .vmem, ⟨4, _⟩ => ⟨S1x512x2048, .f32⟩
  | .local _ .vmem, ⟨5, _⟩ => ⟨S1x512x2048, .f32⟩
  | .local _ .vmem, ⟨6, _⟩ => ⟨S1x512x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference7Ideal.lean ====
abbrev S512x1024 : Shape := ⟨2, ![512, 1024]⟩
abbrev S2048x2048 : Shape := ⟨2, ![2048, 2048]⟩
abbrev S512x2048 : Shape := ⟨2, ![512, 2048]⟩
abbrev S1x512x2048 : Shape := ⟨3, ![1, 512, 2048]⟩
abbrev S2048 : Shape := ⟨1, ![2048]⟩
abbrev S_ : Shape := ⟨0, ![]⟩
abbrev S512 : Shape := ⟨1, ![512]⟩
abbrev S512x1 : Shape := ⟨2, ![512, 1]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S512x1024, .bf16⟩
  | .hbm, ⟨2, _⟩ => ⟨S2048x2048, .bf16⟩
  | .hbm, ⟨3, _⟩ => ⟨S512x2048, .f32⟩
  | .hbm, ⟨4, _⟩ => ⟨S1x512x2048, .f32⟩
  | .hbm, ⟨5, _⟩ => ⟨S1x512x2048, .f32⟩
  | .hbm, ⟨6, _⟩ => ⟨S1x512x2048, .f32⟩
  | .hbm, ⟨7, _⟩ => ⟨S2048, .f32⟩
  | .hbm, ⟨8, _⟩ => ⟨S512x2048, .f32⟩
  | .hbm, ⟨9, _⟩ => ⟨S512x1024, .f32⟩
  | .hbm, ⟨10, _⟩ => ⟨S512x1024, .f32⟩
  | .hbm, ⟨11, _⟩ => ⟨S512x2048, .f32⟩
  | .hbm, ⟨12, _⟩ => ⟨S2048x2048, .f32⟩
  | .hbm, ⟨13, _⟩ => ⟨S512x2048, .f32⟩
  | .hbm, ⟨14, _⟩ => ⟨S512x2048, .f32⟩
  | .hbm, ⟨15, _⟩ => ⟨S512x2048, .f32⟩
  | .hbm, ⟨16, _⟩ => ⟨S512x2048, .f32⟩
  | .hbm, ⟨17, _⟩ => ⟨S_, .f32⟩
  | .hbm, ⟨18, _⟩ => ⟨S512, .f32⟩
  | .hbm, ⟨19, _⟩ => ⟨S512x1, .f32⟩
  | .hbm, ⟨20, _⟩ => ⟨S_, .f32⟩
  | .hbm, ⟨21, _⟩ => ⟨S512x1, .f32⟩
  | .hbm, ⟨22, _⟩ => ⟨S512x1, .f32⟩
  | .hbm, ⟨23, _⟩ => ⟨S_, .f32⟩
  | .hbm, ⟨24, _⟩ => ⟨S512x1, .f32⟩
  | .hbm, ⟨25, _⟩ => ⟨S512x1, .f32⟩
  | .hbm, ⟨26, _⟩ => ⟨S512x1, .f32⟩
  | .hbm, ⟨27, _⟩ => ⟨S512x2048, .f32⟩
  | .hbm, ⟨28, _⟩ => ⟨S512x2048, .f32⟩
  | .hbm, ⟨29, _⟩ => ⟨S1x2048, .f32⟩
  | .hbm, ⟨30, _⟩ => ⟨S512x2048, .f32⟩
  | .hbm, ⟨31, _⟩ => ⟨S512x2048, .f32⟩
  | .hbm, ⟨32, _⟩ => ⟨S512x2048, .f32⟩
  | .hbm, ⟨33, _⟩ => ⟨S_, .f32⟩
  | .hbm, ⟨34, _⟩ => ⟨S512x2048, .f32⟩
  | .hbm, ⟨35, _⟩ => ⟨S512x2048, .f32⟩
  | .hbm, ⟨36, _⟩ => ⟨S512x2048, .f32⟩
  | .hbm, ⟨37, _⟩ => ⟨S512x2048, .f32⟩
  | .hbm, ⟨38, _⟩ => ⟨S512x2048, .f32⟩
  | .hbm, ⟨39, _⟩ => ⟨S512x2048, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Kernel8.lean ====
abbrev S136x2048 : Shape := ⟨2, ![136, 2048]⟩
abbrev S2048x12288 : Shape := ⟨2, ![2048, 12288]⟩
abbrev S12288 : Shape := ⟨1, ![12288]⟩
abbrev S1x12288 : Shape := ⟨2, ![1, 12288]⟩
abbrev S136x12288 : Shape := ⟨2, ![136, 12288]⟩
abbrev S2048x512 : Shape := ⟨2, ![2048, 512]⟩
abbrev S1x512 : Shape := ⟨2, ![1, 512]⟩
abbrev S136x512 : Shape := ⟨2, ![136, 512]⟩

abbrev nBuf : Space → Nat
  | .hbm => 5
  | .vmem => 7
  | .smem => 0
  | _ => 0

abbrev bufTy : (tb : Table) → Fin (tcTables nBuf tb) → BufTy
  | .hbm, ⟨0, _⟩ => ⟨S136x2048, .f32⟩
  | .hbm, ⟨1, _⟩ => ⟨S2048x12288, .f32⟩
  | .hbm, ⟨2, _⟩ => ⟨S12288, .f32⟩
  | .hbm, ⟨3, _⟩ => ⟨S1x12288, .f32⟩
  | .hbm, ⟨4, _⟩ => ⟨S136x12288, .f32⟩
  | .local _ .vmem, ⟨0, _⟩ => ⟨S136x2048, .f32⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S136x512, .f32⟩
  | .local _ .vmem, ⟨6, _⟩ => ⟨S136x512, .f32⟩
  | _, _ => ⟨S136x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S136x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S136x2048 : Shape := ⟨2, ![136, 2048]⟩
abbrev S2048x12288 : Shape := ⟨2, ![2048, 12288]⟩
abbrev S12288 : Shape := ⟨1, ![12288]⟩
abbrev S_ : Shape := ⟨0, ![]⟩
abbrev S136x12288 : Shape := ⟨2, ![136, 12288]⟩
abbrev S1x12288 : Shape := ⟨2, ![1, 12288]⟩

abbrev nBuf : Space → Nat
  | .hbm => 16
  | .vmem => 0
  | .smem => 0
  | _ => 0

abbrev bufTy : (tb : Table) → Fin (tcTables nBuf tb) → BufTy
  | .hbm, ⟨0, _⟩ => ⟨S136x2048, .f32⟩
  | .hbm, ⟨1, _⟩ => ⟨S2048x12288, .f32⟩
  | .hbm, ⟨2, _⟩ => ⟨S12288, .f32⟩
  | .hbm, ⟨3, _⟩ => ⟨S136x2048, .f32⟩
  | .hbm, ⟨4, _⟩ => ⟨S136x2048, .f32⟩
  | .hbm, ⟨5, _⟩ => ⟨S_, .f32⟩
  | .hbm, ⟨6, _⟩ => ⟨S136x2048, .f32⟩
  | .hbm, ⟨7, _⟩ => ⟨S136x2048, .f32⟩
  | .hbm, ⟨8, _⟩ => ⟨S_, .f32⟩
  | .hbm, ⟨9, _⟩ => ⟨S136x2048, .f32⟩
  | .hbm, ⟨10, _⟩ => ⟨S136x2048, .f32⟩
  | .hbm, ⟨11, _⟩ => ⟨S136x2048, .f32⟩
  | .hbm, ⟨12, _⟩ => ⟨S136x12288, .f32⟩
  | .hbm, ⟨13, _⟩ => ⟨S1x12288, .f32⟩
  | .hbm, ⟨14, _⟩ => ⟨S136x12288, .f32⟩
  | .hbm, ⟨15, _⟩ => ⟨S136x12288, .f32⟩
  | _, _ => ⟨S136x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel9.lean ====
abbrev S256x8192 : Shape := ⟨2, ![256, 8192]⟩
abbrev S8192x128 : Shape := ⟨2, ![8192, 128]⟩
abbrev S128x128 : Shape := ⟨2, ![128, 128]⟩
abbrev S256x128 : Shape := ⟨2, ![256, 128]⟩

abbrev nBuf : Space → Nat
  | .hbm => 12
  | .vmem => 8
  | .smem => 0
  | _ => 0

abbrev bufTy : (tb : Table) → Fin (tcTables nBuf tb) → BufTy
  | .hbm, ⟨0, _⟩ => ⟨S256x8192, .bf16⟩
  | .hbm, ⟨1, _⟩ => ⟨S256x8192, .bf16⟩
  | .hbm, ⟨2, _⟩ => ⟨S8192x128, .f32⟩
  | .hbm, ⟨3, _⟩ => ⟨S128x128, .f32⟩
  | .hbm, ⟨4, _⟩ => ⟨S8192x128, .f32⟩
  | .hbm, ⟨5, _⟩ => ⟨S128x128, .f32⟩
  | .hbm, ⟨6, _⟩ => ⟨S8192x128, .bf16⟩
  | .hbm, ⟨7, _⟩ => ⟨S128x128, .bf16⟩
  | .hbm, ⟨8, _⟩ => ⟨S8192x128, .bf16⟩
  | .hbm, ⟨9, _⟩ => ⟨S128x128, .bf16⟩
  | .hbm, ⟨10, _⟩ => ⟨S256x128, .f32⟩
  | .hbm, ⟨11, _⟩ => ⟨S256x128, .f32⟩
  | .local _ .vmem, ⟨0, _⟩ => ⟨S256x8192, .bf16⟩
  | .local _ .vmem, ⟨1, _⟩ => ⟨S256x8192, .bf16⟩
  | .local _ .vmem, ⟨2, _⟩ => ⟨S8192x128, .bf16⟩
  | .local _ .vmem, ⟨3, _⟩ => ⟨S128x128, .bf16⟩
  | .local _ .vmem, ⟨4, _⟩ => ⟨S8192x128, .bf16⟩
  | .local _ .vmem, ⟨5, _⟩ => ⟨S128x128, .bf16⟩
  | .local _ .vmem, ⟨6, _⟩ => ⟨S256x128, .f32⟩
  | .local _ .vmem, ⟨7, _⟩ => ⟨S256x128, .f32⟩
  | _, _ => ⟨S256x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference9Ideal.lean ====
abbrev S256x8192 : Shape := ⟨2, ![256, 8192]⟩
abbrev S8192x128 : Shape := ⟨2, ![8192, 128]⟩
abbrev S128x128 : Shape := ⟨2, ![128, 128]⟩
abbrev S256x128 : Shape := ⟨2, ![256, 128]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S256x8192, .bf16⟩
  | .hbm, ⟨1, _⟩ => ⟨S256x8192, .bf16⟩
  | .hbm, ⟨2, _⟩ => ⟨S8192x128, .f32⟩
  | .hbm, ⟨3, _⟩ => ⟨S128x128, .f32⟩
  | .hbm, ⟨4, _⟩ => ⟨S8192x128, .f32⟩
  | .hbm, ⟨5, _⟩ => ⟨S128x128, .f32⟩
  | .hbm, ⟨6, _⟩ => ⟨S256x8192, .f32⟩
  | .hbm, ⟨7, _⟩ => ⟨S256x128, .f32⟩
  | .hbm, ⟨8, _⟩ => ⟨S256x128, .f32⟩
  | .hbm, ⟨9, _⟩ => ⟨S256x128, .f32⟩
  | .hbm, ⟨10, _⟩ => ⟨S_, .f32⟩
  | .hbm, ⟨11, _⟩ => ⟨S256x128, .f32⟩
  | .hbm, ⟨12, _⟩ => ⟨S256x128, .f32⟩
  | .hbm, ⟨13, _⟩ => ⟨S256x128, .f32⟩
  | .hbm, ⟨14, _⟩ => ⟨S_, .f32⟩
  | .hbm, ⟨15, _⟩ => ⟨S256x128, .f32⟩
  | .hbm, ⟨16, _⟩ => ⟨S256x128, .f32⟩
  | .hbm, ⟨17, _⟩ => ⟨S256x128, .f32⟩
  | .hbm, ⟨18, _⟩ => ⟨S_, .f32⟩
  | .hbm, ⟨19, _⟩ => ⟨S256x128, .f32⟩
  | .hbm, ⟨20, _⟩ => ⟨S256x128, .f32⟩
  | .hbm, ⟨21, _⟩ => ⟨S_, .f32⟩
  | .hbm, ⟨22, _⟩ => ⟨S256x128, .f32⟩
  | .hbm, ⟨23, _⟩ => ⟨S256x128, .f32⟩
  | .hbm, ⟨24, _⟩ => ⟨S256x128, .f32⟩
  | .hbm, ⟨25, _⟩ => ⟨S256x128, .f32⟩
  | .hbm, ⟨26, _⟩ => ⟨S256x8192, .f32⟩
  | .hbm, ⟨27, _⟩ => ⟨S256x128, .f32⟩
  | .hbm, ⟨28, _⟩ => ⟨S256x128, .f32⟩
  | .hbm, ⟨29, _⟩ => ⟨S256x128, .f32⟩
  | .hbm, ⟨30, _⟩ => ⟨S_, .f32⟩
  | .hbm, ⟨31, _⟩ => ⟨S256x128, .f32⟩
  | .hbm, ⟨32, _⟩ => ⟨S256x128, .f32⟩
  | .hbm, ⟨33, _⟩ => ⟨S256x128, .f32⟩
  | .hbm, ⟨34, _⟩ => ⟨S_, .f32⟩
  | .hbm, ⟨35, _⟩ => ⟨S256x128, .f32⟩
  | .hbm, ⟨36, _⟩ => ⟨S256x128, .f32⟩
  | .hbm, ⟨37, _⟩ => ⟨S256x128, .f32⟩
  | .hbm, ⟨38, _⟩ => ⟨S_, .f32⟩
  | .hbm, ⟨39, _⟩ => ⟨S256x128, .f32⟩
  | .hbm, ⟨40, _⟩ => ⟨S256x128, .f32⟩
  | .hbm, ⟨41, _⟩ => ⟨S_, .f32⟩
  | .hbm, ⟨42, _⟩ => ⟨S256x128, .f32⟩
  | .hbm, ⟨43, _⟩ => ⟨S256x128, .f32⟩
  | .hbm, ⟨44, _⟩ => ⟨S256x128, .f32⟩
  | .hbm, ⟨45, _⟩ => ⟨S256x128, .f32⟩
  | _, _ => ⟨S256x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Kernel10.lean ====
abbrev S512x1024 : Shape := ⟨2, ![512, 1024]⟩
abbrev S512x8x128 : Shape := ⟨3, ![512, 8, 128]⟩
abbrev S8x128x512 : Shape := ⟨3, ![8, 128, 512]⟩
abbrev S512x4096 : Shape := ⟨2, ![512, 4096]⟩
abbrev S512x128 : Shape := ⟨2, ![512, 128]⟩
abbrev S1x128x512 : Shape := ⟨3, ![1, 128, 512]⟩
abbrev S512x512 : Shape := ⟨2, ![512, 512]⟩
abbrev S128x512 : Shape := ⟨2, ![128, 512]⟩

abbrev nBuf : Space → Nat
  | .hbm => 5
  | .vmem => 6
  | .smem => 0
  | _ => 0

abbrev bufTy : (tb : Table) → Fin (tcTables nBuf tb) → BufTy
  | .hbm, ⟨0, _⟩ => ⟨S512x1024, .bf16⟩
  | .hbm, ⟨1, _⟩ => ⟨S512x8x128, .f32⟩
  | .hbm, ⟨2, _⟩ => ⟨S8x128x512, .f32⟩
  | .hbm, ⟨3, _⟩ => ⟨S8x128x512, .bf16⟩
  | .hbm, ⟨4, _⟩ => ⟨S512x4096, .f32⟩
  | .local _ .vmem, ⟨0, _⟩ => ⟨S512x128, .bf16⟩
  | .local _ .vmem, ⟨1, _⟩ => ⟨S512x128, .bf16⟩
  | .local _ .vmem, ⟨2, _⟩ => ⟨S1x128x512, .bf16⟩
  | .local _ .vmem, ⟨3, _⟩ => ⟨S1x128x512, .bf16⟩
  | .local _ .vmem, ⟨4, _⟩ => ⟨S512x512, .f32⟩
  | .local _ .vmem, ⟨5, _⟩ => ⟨S512x512, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S512x1024 : Shape := ⟨2, ![512, 1024]⟩
abbrev S512x8x128 : Shape := ⟨3, ![512, 8, 128]⟩
abbrev S8x512x512 : Shape := ⟨3, ![8, 512, 512]⟩
abbrev S512x8x512 : Shape := ⟨3, ![512, 8, 512]⟩
abbrev S512x4096 : Shape := ⟨2, ![512, 4096]⟩

abbrev nBuf : Space → Nat
  | .hbm => 7
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S512x8x128, .f32⟩
  | .hbm, ⟨2, _⟩ => ⟨S512x1024, .f32⟩
  | .hbm, ⟨3, _⟩ => ⟨S512x8x128, .f32⟩
  | .hbm, ⟨4, _⟩ => ⟨S8x512x512, .f32⟩
  | .hbm, ⟨5, _⟩ => ⟨S512x8x512, .f32⟩
  | .hbm, ⟨6, _⟩ => ⟨S512x4096, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel11.lean ====
abbrev S512x4096 : Shape := ⟨2, ![512, 4096]⟩
abbrev S512x8x128 : Shape := ⟨3, ![512, 8, 128]⟩
abbrev S8x512x128 : Shape := ⟨3, ![8, 512, 128]⟩
abbrev S512x1024 : Shape := ⟨2, ![512, 1024]⟩
abbrev S512x512 : Shape := ⟨2, ![512, 512]⟩
abbrev S1x512x128 : Shape := ⟨3, ![1, 512, 128]⟩
abbrev S512x128 : Shape := ⟨2, ![512, 128]⟩

abbrev nBuf : Space → Nat
  | .hbm => 5
  | .vmem => 6
  | .smem => 0
  | _ => 0

abbrev bufTy : (tb : Table) → Fin (tcTables nBuf tb) → BufTy
  | .hbm, ⟨0, _⟩ => ⟨S512x4096, .f32⟩
  | .hbm, ⟨1, _⟩ => ⟨S512x8x128, .f32⟩
  | .hbm, ⟨2, _⟩ => ⟨S8x512x128, .f32⟩
  | .hbm, ⟨3, _⟩ => ⟨S8x512x128, .bf16⟩
  | .hbm, ⟨4, _⟩ => ⟨S512x1024, .f32⟩
  | .local _ .vmem, ⟨0, _⟩ => ⟨S512x512, .f32⟩
  | .local _ .vmem, ⟨1, _⟩ => ⟨S512x512, .f32⟩
  | .local _ .vmem, ⟨2, _⟩ => ⟨S1x512x128, .bf16⟩
  | .local _ .vmem, ⟨3, _⟩ => ⟨S1x512x128, .bf16⟩
  | .local _ .vmem, ⟨4, _⟩ => ⟨S512x128, .f32⟩
  | .local _ .vmem, ⟨5, _⟩ => ⟨S512x128, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S512x4096 : Shape := ⟨2, ![512, 4096]⟩
abbrev S512x8x128 : Shape := ⟨3, ![512, 8, 128]⟩
abbrev S512x8x512 : Shape := ⟨3, ![512, 8, 512]⟩
abbrev S8x128x512 : Shape := ⟨3, ![8, 128, 512]⟩
abbrev S512x1024 : Shape := ⟨2, ![512, 1024]⟩

abbrev nBuf : Space → Nat
  | .hbm => 6
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S512x8x128, .f32⟩
  | .hbm, ⟨2, _⟩ => ⟨S512x8x512, .f32⟩
  | .hbm, ⟨3, _⟩ => ⟨S8x128x512, .f32⟩
  | .hbm, ⟨4, _⟩ => ⟨S512x8x128, .f32⟩
  | .hbm, ⟨5, _⟩ => ⟨S512x1024, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Flash.Online.lean ====
/-
The mathematics of the running softmax, over the extended reals.

A row of scores `s 0, s 1, …` and of values `v 0, v 1, …` is read tile by tile.  After the first `n` scores
the state is their maximum, the sum of `2^(s k - maximum)`, and the sum of those weights times the values.
The module proves what one more tile does to the state, and that scores at `⊥` (masked keys) change nothing.
No score or value is assumed finite.
-/
module

public import Idealize.ShloMosaic.PureOps.Ideal
public import Idealize.ShloMosaic.Lib.Pointwise

@[expose] public section

noncomputable section

namespace Cert.Flash

open Idealize.ShloMosaic Finset

/-! ### Powers of two of differences -/

theorem exp2_bot : Ideal.exp2 ⊥ = 0 := rfl

theorem exp2_nonneg (x : EReal) : 0 ≤ Ideal.exp2 x := by
  induction x with
  | bot => exact le_refl _
  | top => exact le_top
  | coe r => exact EReal.coe_nonneg.2 (Real.rpow_nonneg (by norm_num) r)

theorem exp2_le_one {x : EReal} (hx : x ≤ 0) : Ideal.exp2 x ≤ 1 := by
  induction x with
  | bot => exact zero_le_one
  | top => exact absurd hx (by simp)
  | coe r =>
    have hr : r ≤ 0 := EReal.coe_nonpos.1 hx
    have : Real.rpow 2 r ≤ 1 := Real.rpow_le_one_of_one_le_of_nonpos (by norm_num) hr
    exact EReal.coe_le_coe_iff.2 this

theorem exp2_ne_top {x : EReal} (hx : x ≤ 0) : Ideal.exp2 x ≠ ⊤ :=
  ne_of_lt (lt_of_le_of_lt (exp2_le_one hx) (EReal.coe_lt_top 1))

/-- A score less the maximum of a set that holds it is not positive, infinite scores included. -/
theorem sub_nonpos_of_le {s m : EReal} (h : s ≤ m) : s - m ≤ 0 := by
  induction m with
  | bot => rw [le_bot_iff.1 h]; exact bot_le
  | top => rw [EReal.sub_top]; exact bot_le
  | coe r =>
    induction s with
    | bot => exact bot_le
    | top => exact absurd h (by simp)
    | coe q => exact EReal.coe_nonpos.2 (sub_nonpos.2 (EReal.coe_le_coe_iff.1 h))

/-- Raising the maximum rescales a weight: `2^(m - m') · 2^(s - m) = 2^(s - m')`. -/
theorem exp2_chain {s m m' : EReal} (h : s ≤ m) (h' : m ≤ m') :
    Ideal.exp2 (m - m') * Ideal.exp2 (s - m) = Ideal.exp2 (s - m') := by
  induction m' with
  | top => rw [EReal.sub_top, EReal.sub_top, exp2_bot, zero_mul]
  | bot =>
    have hm := le_bot_iff.1 h'
    subst hm
    have hs := le_bot_iff.1 h
    subst hs
    simp [exp2_bot]
  | coe r' =>
    induction m with
    | top => exact absurd h' (by simp)
    | bot =>
      have hs := le_bot_iff.1 h
      subst hs
      simp [exp2_bot]
    | coe r =>
      induction s with
      | top => exact absurd h (by simp)
      | bot => simp [exp2_bot]
      | coe q =>
        rw [← EReal.coe_sub, ← EReal.coe_sub, ← EReal.coe_sub]
        change ((Real.rpow 2 (r - r') : ℝ) : EReal) * ((Real.rpow 2 (q - r) : ℝ) : EReal)
          = ((Real.rpow 2 (q - r') : ℝ) : EReal)
        rw [← EReal.coe_mul]
        congr 1
        have := Real.rpow_add (x := 2) (by norm_num) (r - r') (q - r)
        rw [show r - r' + (q - r) = q - r' by ring] at this
        exact this.symm

theorem mul_sum_ereal {ι : Type} {a : EReal} (h0 : 0 ≤ a) (ht : a ≠ ⊤) (T : Finset ι) (f : ι → EReal) :
    a * ∑ k ∈ T, f k = ∑ k ∈ T, a * f k := by
  classical
  induction T using Finset.induction_on with
  | empty => simp
  | insert i T hi ih =>
    rw [sum_insert hi, sum_insert hi, EReal.left_distrib_of_nonneg_of_ne_top h0 ht, ih]

/-! ### The state after the first `n` scores -/

/-- The maximum of the first `n` scores. -/
def top (s : ℕ → EReal) (n : ℕ) : EReal := (range n).sup s

/-- The sum of the weights of the first `n` scores. -/
def den (s : ℕ → EReal) (n : ℕ) : EReal := ∑ k ∈ range n, Ideal.exp2 (s k - top s n)

/-- The weighted sum of the first `n` values. -/
def acc (s v : ℕ → EReal) (n : ℕ) : EReal := ∑ k ∈ range n, v k * Ideal.exp2 (s k - top s n)

theorem le_top_of_lt (s : ℕ → EReal) {n k : ℕ} (h : k < n) : s k ≤ top s n :=
  Finset.le_sup (f := s) (mem_range.2 h)

theorem top_mono (s : ℕ → EReal) {n n' : ℕ} (h : n ≤ n') : top s n ≤ top s n' :=
  Finset.sup_mono (range_mono h)

theorem top_zero (s : ℕ → EReal) : top s 0 = ⊥ := by simp [top]
theorem den_zero (s : ℕ → EReal) : den s 0 = 0 := by simp [den]
theorem acc_zero (s v : ℕ → EReal) : acc s v 0 = 0 := by simp [acc]

theorem top_add (s : ℕ → EReal) (n w : ℕ) :
    top s (n + w) = max (top s n) ((range w).sup fun k => s (n + k)) := by
  unfold top
  apply le_antisymm
  · refine Finset.sup_le fun k hk => ?_
    rw [mem_range] at hk
    by_cases h : k < n
    · exact le_max_of_le_left (Finset.le_sup (f := s) (mem_range.2 h))
    · have := Finset.le_sup (f := fun k => s (n + k)) (mem_range.2 (show k - n < w by omega))
      rw [show n + (k - n) = k by omega] at this
      exact le_max_of_le_right this
  · refine max_le (Finset.sup_mono (range_mono (by omega))) (Finset.sup_le fun k hk => ?_)
    rw [mem_range] at hk
    exact Finset.le_sup (f := s) (mem_range.2 (by omega))

theorem scale_sum (s : ℕ → EReal) {n n' : ℕ} (h : n ≤ n') (g : ℕ → EReal) :
    Ideal.exp2 (top s n - top s n') * ∑ k ∈ range n, g k * Ideal.exp2 (s k - top s n)
      = ∑ k ∈ range n, g k * Ideal.exp2 (s k - top s n') := by
  have hm := sub_nonpos_of_le (top_mono s h)
  rw [mul_sum_ereal (exp2_nonneg _) (exp2_ne_top hm)]
  refine sum_congr rfl fun k hk => ?_
  rw [mul_left_comm, exp2_chain (le_top_of_lt s (mem_range.1 hk)) (top_mono s h)]

theorem acc_add (s v : ℕ → EReal) (n w : ℕ) :
    acc s v (n + w) = Ideal.exp2 (top s n - top s (n + w)) * acc s v n
      + ∑ k ∈ range w, v (n + k) * Ideal.exp2 (s (n + k) - top s (n + w)) := by
  unfold acc
  rw [scale_sum s (Nat.le_add_right n w), sum_range_add]

theorem den_eq_acc (s : ℕ → EReal) (n : ℕ) : den s n = acc s (fun _ => 1) n := by
  simp [den, acc]

theorem den_add (s : ℕ → EReal) (n w : ℕ) :
    den s (n + w) = Ideal.exp2 (top s n - top s (n + w)) * den s n
      + ∑ k ∈ range w, Ideal.exp2 (s (n + k) - top s (n + w)) := by
  rw [den_eq_acc, den_eq_acc, acc_add]
  simp

/-! ### Masked scores change nothing -/

theorem top_of_bot (s : ℕ → EReal) {n n' : ℕ} (h : n ≤ n') (hs : ∀ k, n ≤ k → s k = ⊥) :
    top s n' = top s n := by
  refine le_antisymm (Finset.sup_le fun k hk => ?_) (top_mono s h)
  by_cases hk' : k < n
  · exact le_top_of_lt s hk'
  · rw [hs k (by omega)]; exact bot_le

theorem acc_of_bot (s v : ℕ → EReal) {n n' : ℕ} (h : n ≤ n') (hs : ∀ k, n ≤ k → s k = ⊥) :
    acc s v n' = acc s v n := by
  unfold acc
  rw [top_of_bot s h hs]
  symm
  refine sum_subset (range_mono h) fun k _ hk => ?_
  rw [hs k (by simpa using hk), EReal.bot_sub, exp2_bot, mul_zero]

theorem den_of_bot (s : ℕ → EReal) {n n' : ℕ} (h : n ≤ n') (hs : ∀ k, n ≤ k → s k = ⊥) :
    den s n' = den s n := by
  rw [den_eq_acc, den_eq_acc, acc_of_bot s _ h hs]

/-! ### The quotient -/

theorem den_nonneg (s : ℕ → EReal) (n : ℕ) : 0 ≤ den s n :=
  sum_nonneg fun _ _ => exp2_nonneg _

theorem den_ne_top (s : ℕ → EReal) (n : ℕ) : den s n ≠ ⊤ := by
  unfold den
  have : ∀ T : Finset ℕ, T ⊆ range n → ∑ k ∈ T, Ideal.exp2 (s k - top s n) < ⊤ := by
    intro T
    induction T using Finset.induction_on with
    | empty => intro _; simp
    | insert i T hi ih =>
      intro hT
      rw [sum_insert hi]
      have hi' : i < n := mem_range.1 (hT (mem_insert_self i T))
      exact EReal.add_lt_top (exp2_ne_top (sub_nonpos_of_le (le_top_of_lt s hi')))
        (ih fun k hk => hT (mem_insert_of_mem hk)).ne
  exact (this _ (Subset.refl _)).ne

/-- Dividing the weighted sum by a positive denominator is weighting by the quotients. -/
theorem div_acc (s v : ℕ → EReal) (n : ℕ) {d : EReal} (hd : 0 < d) (ht : d ≠ ⊤) :
    Ideal.div (acc s v n) d = ∑ k ∈ range n, v k * Ideal.div (Ideal.exp2 (s k - top s n)) d := by
  lift d to ℝ using ⟨ht, (lt_of_le_of_lt bot_le hd).ne'⟩
  have hd' : (0 : ℝ) < d := EReal.coe_pos.1 hd
  have hinv : ((d : EReal))⁻¹ = ((d⁻¹ : ℝ) : EReal) := rfl
  have h0 : (0 : EReal) ≤ ((d⁻¹ : ℝ) : EReal) := EReal.coe_nonneg.2 (inv_nonneg.2 hd'.le)
  simp only [Ideal.div, if_neg hd.ne', hinv]
  unfold acc
  rw [mul_comm, mul_sum_ereal h0 (EReal.coe_ne_top _)]
  refine sum_congr rfl fun k _ => ?_
  rw [mul_comm, mul_assoc]

end Cert.Flash

end
-- ==== Proof.Flash.Tile.lean ====
/-
One tile of keys in the flash kernel, for one head: 512 keys against 128 queries.

The functions are the kernel's own operations, grouped: the scores of the tile, the new running maximum, the new
denominator, the new accumulator, and the quotient stored at the end.  Each is then read at an index over the
extended reals.
-/
module

public import proofs.«01_k».proof.Proof.Flash.Online
public import proofs.«01_k».proof.Proof.Gen.KernelIdeal.Frame.RunA
public import Idealize.ShloMosaic.Lib.Pointwise
public import Idealize.ShloMosaic.Lib.Pipeline.Value

@[expose] public section

set_option maxRecDepth 16384

noncomputable section

namespace Cert.Flash

open Cert.KernelIdeal Cert.KernelIdeal.Gen Idealize.ShloMosaic Idealize.ShloMosaic.TcCoe

variable {F : FTy → Type} [FloatOps F] [Named F]

/-- The scores of a tile: the keys' two parts side by side against the queries' two parts side by side. -/
def score (kn kr : Vec F S1x512x128 .bf16) (q qr : Vec F S128x128 .bf16) : FVec F S512x128 .f32 :=
  matmul dot_S512x256_S128x256_S512x128_1_1_0_0_n_n none
    (concatenate S512x256 1 [⟨S512x128, shapeCast S512x128 kn shapeCasts_S1x512x128_S512x128⟩,
      ⟨S512x128, shapeCast S512x128 kr shapeCasts_S1x512x128_S512x128⟩] concatenates_S512x128_S512x128_S512x256_d1)
    (concatenate S128x256 1 [⟨S128x128, q⟩, ⟨S128x128, qr⟩] concatenates_S128x128_S128x128_S128x256_d1)
    (constant S512x128 .f32 0x00000000#32)

/-- The running maximum after the tile. -/
def newMax (s : FVec F S512x128 .f32) (m : Vec F S1x1x128 .f32) : FVec F S1x128 .f32 :=
  maximumf (shapeCast S1x128 m shapeCasts_S1x1x128_S1x128)
    (shapeCast S1x128 (multiReduction .maximumf [0] S128 s 0xFF800000#32 reduces_S512x128_S128 (.inl rfl) rfl)
      shapeCasts_S128_S1x128)

/-- The factor by which the raised maximum rescales the old state. -/
def scale (s : FVec F S512x128 .f32) (m : Vec F S1x1x128 .f32) : FVec F S1x128 .f32 :=
  exp2 (subf (shapeCast S1x128 m shapeCasts_S1x1x128_S1x128) (newMax s m))

/-- The weights of the tile. -/
def prob (s : FVec F S512x128 .f32) (m : Vec F S1x1x128 .f32) : FVec F S512x128 .f32 :=
  exp2 (subf s (broadcastTo S512x128 (newMax s m) broadcasts_S1x128_S512x128))

/-- The denominator after the tile. -/
def newDen (s : FVec F S512x128 .f32) (m l : Vec F S1x1x128 .f32) : FVec F S1x128 .f32 :=
  addf (mulf (scale s m) (shapeCast S1x128 l shapeCasts_S1x1x128_S1x128))
    (shapeCast S1x128 (multiReduction .add [0] S128 (prob s m) 0x00000000#32 reduces_S512x128_S128 (.inl rfl) rfl)
      shapeCasts_S128_S1x128)

/-- A row of the state as it is stored. -/
def stored (x : FVec F S1x128 .f32) : FVec F S1x1x128 .f32 := shapeCast S1x1x128 x shapeCasts_S1x128_S1x1x128

/-- The accumulator after the tile, as it is stored. -/
def newAcc (s : FVec F S512x128 .f32) (m : Vec F S1x1x128 .f32) (a : Vec F S1x128x128 .f32)
    (v : Vec F S1x128x512 .bf16) : FVec F S1x128x128 .f32 :=
  shapeCast S1x128x128
    (addf (mulf (broadcastTo S128x128 (scale s m) broadcasts_S1x128_S128x128)
        (shapeCast S128x128 a shapeCasts_S1x128x128_S128x128))
      (matmul dot_S128x512_S512x128_S128x128_1_0_0_1_n_n none (shapeCast S128x512 v shapeCasts_S1x128x512_S128x512)
        (truncf .bf16 (prob s m) bitsLt_bf16_f32) (constant S128x128 .f32 0x00000000#32)))
    shapeCasts_S128x128_S1x128x128

/-- The quotient written to the result's block, keys' axis and queries' axis exchanged. -/
def quot (a : Vec F S1x128x128 .f32) (l : Vec F S1x1x128 .f32) : FVec F S128x128 .bf16 :=
  truncf .bf16 (transpose S128x128 [1, 0]
    (divf (shapeCast S128x128 a shapeCasts_S1x128x128_S128x128)
      (broadcastTo S128x128 (maximumf (shapeCast S1x128 l shapeCasts_S1x1x128_S1x128)
        (broadcast S1x128 (Scalar.ofBits .f32 0x0DA24260#32))) broadcasts_S1x128_S128x128))
    transposes_S128x128_p1_0_S128x128) bitsLt_bf16_f32

/-! ### Read at an index -/

theorem score_apply (kn kr : Vec Ideal S1x512x128 .bf16) (q qr : Vec Ideal S128x128 .bf16) (r : Fin 512) (t : Fin 128) :
    score kn kr q qr (ix2 r t)
      = ∑ d : Fin 128, kn (ix3 0 r d) * q (ix2 t d) + ∑ d : Fin 128, kr (ix3 0 r d) * qr (ix2 t d) := by
  unfold score
  pointwise

theorem newMax_apply (s : FVec Ideal S512x128 .f32) (m : Vec Ideal S1x1x128 .f32) (t : Fin 128) :
    newMax s m (ix2 0 t) = max (m (ix3 0 0 t)) (Finset.univ.sup fun r : Fin 512 => s (ix2 r t)) := by
  unfold newMax
  pointwise
  rw [show Ideal.ofBits .f32 0xFF800000#32 = ⊥ by simp [Ideal.ofBits, Ideal.ieee]]
  rfl

theorem newDen_apply (s : FVec Ideal S512x128 .f32) (m l : Vec Ideal S1x1x128 .f32) (t : Fin 128) :
    newDen s m l (ix2 0 t) = scale s m (ix2 0 t) * l (ix3 0 0 t) + ∑ r : Fin 512, prob s m (ix2 r t) := by
  unfold newDen
  pointwise

theorem scale_apply (s : FVec Ideal S512x128 .f32) (m : Vec Ideal S1x1x128 .f32) (t : Fin 128) :
    scale s m (ix2 0 t) = Ideal.exp2 (m (ix3 0 0 t) - newMax s m (ix2 0 t)) := by
  unfold scale
  pointwise
  rfl

theorem prob_apply (s : FVec Ideal S512x128 .f32) (m : Vec Ideal S1x1x128 .f32) (r : Fin 512) (t : Fin 128) :
    prob s m (ix2 r t) = Ideal.exp2 (s (ix2 r t) - newMax s m (ix2 0 t)) := by
  unfold prob
  pointwise
  rfl

theorem stored_apply (x : FVec Ideal S1x128 .f32) (t : Fin 128) : stored x (ix3 0 0 t) = x (ix2 0 t) := by
  unfold stored
  pointwise

theorem newAcc_apply (s : FVec Ideal S512x128 .f32) (m : Vec Ideal S1x1x128 .f32) (a : Vec Ideal S1x128x128 .f32)
    (v : Vec Ideal S1x128x512 .bf16) (d t : Fin 128) :
    newAcc s m a v (ix3 0 d t) = scale s m (ix2 0 t) * a (ix3 0 d t)
      + ∑ r : Fin 512, v (ix3 0 d r) * prob s m (ix2 r t) := by
  unfold newAcc
  pointwise

/-- The least denominator the kernel divides by. -/
def floorDen : EReal := Ideal.ofBits .f32 0x0DA24260#32

theorem floorDen_pos : 0 < floorDen := by
  unfold floorDen
  simp [Ideal.ofBits, Ideal.ieee, -EReal.coe_mul]

theorem floorDen_ne_top : floorDen ≠ ⊤ := by
  unfold floorDen
  simp [Ideal.ofBits, Ideal.ieee, -EReal.coe_mul]

theorem quot_apply (a : Vec Ideal S1x128x128 .f32) (l : Vec Ideal S1x1x128 .f32) (t d : Fin 128) :
    quot a l (ix2 t d) = Ideal.div (a (ix3 0 d t)) (max (l (ix3 0 0 t)) floorDen) := by
  unfold quot floorDen
  pointwise

end Cert.Flash

end
-- ==== Proof.Flash.Trip.lean ====
/-
One trip of the kernel's loop over the tiles of keys before the diagonal: what it stores, head by head, as the same
function of the head.
-/
module

public import proofs.«01_k».proof.Proof.Flash.Tile
public import Idealize.ShloMosaic.Lib.WritesUnit

@[expose] public section

set_option maxRecDepth 16384

noncomputable section

namespace Cert.Flash

open Cert.KernelIdeal Cert.KernelIdeal.Gen Idealize.ShloMosaic Idealize.ShloMosaic.TcCoe

variable {F : FTy → Type} [FloatOps F] [Named F]

/-! ### The rectangles, as functions of the head and of the tile's first key -/

theorem inb_row (h : Fin 8) : ∀ a, (![h.val, 0, 0] : Fin 3 → ℕ) a + S1x1x128.size a ≤ S8x1x128.size a := by
  revert h; decide

theorem inb_plane (h : Fin 8) : ∀ a, (![h.val, 0, 0] : Fin 3 → ℕ) a + S1x128x128.size a ≤ S8x128x128.size a := by
  revert h; decide

theorem inb_query (h : Fin 8) : ∀ a, (![0, 128 * h.val] : Fin 2 → ℕ) a + S128x128.size a ≤ S128x1024.size a := by
  revert h; decide

theorem inb_key (n : ℕ) (hn : n + 512 ≤ 4096) (h : Fin 8) :
    ∀ a, (![0, n, 128 * h.val] : Fin 3 → ℕ) a + S1x512x128.size a ≤ S1x4096x1024.size a := by
  intro a
  have := h.isLt
  fin_cases a
  · exact Nat.le_refl 1
  · exact hn
  · show 128 * h.val + 128 ≤ 1024
    omega

theorem inb_rope (n : ℕ) (hn : n + 512 ≤ 4096) :
    ∀ a, (![0, n, 0] : Fin 3 → ℕ) a + S1x512x128.size a ≤ S1x4096x128.size a := by
  intro a
  fin_cases a
  · exact Nat.le_refl 1
  · exact hn
  · exact Nat.le_refl 128

theorem inb_value (n : ℕ) (hn : n + 512 ≤ 4096) (h : Fin 8) :
    ∀ a, (![0, 128 * h.val, n] : Fin 3 → ℕ) a + S1x128x512.size a ≤ S1x1024x4096.size a := by
  intro a
  have := h.isLt
  fin_cases a
  · exact Nat.le_refl 1
  · show 128 * h.val + 128 ≤ 1024
    omega
  · exact hn

/-- Head `h`'s row of a running maximum or denominator. -/
def row (x : Vec F S8x1x128 .f32) (h : Fin 8) : Vec F S1x1x128 .f32 :=
  View.ld x (Rect.unit ![h.val, 0, 0] S1x1x128.size (inb_row h))

/-- Head `h`'s plane of the accumulator. -/
def plane (x : Vec F S8x128x128 .f32) (h : Fin 8) : Vec F S1x128x128 .f32 :=
  View.ld x (Rect.unit ![h.val, 0, 0] S1x128x128.size (inb_plane h))

/-- Head `h`'s columns of a block of queries. -/
def query (x : Vec F S128x1024 .bf16) (h : Fin 8) : Vec F S128x128 .bf16 :=
  View.ld x (Rect.unit ![0, 128 * h.val] S128x128.size (inb_query h))

/-- Head `h`'s columns of the tile of keys that begins at `n`. -/
def key (x : Vec F S1x4096x1024 .bf16) (n : ℕ) (hn : n + 512 ≤ 4096) (h : Fin 8) : Vec F S1x512x128 .bf16 :=
  View.ld x (Rect.unit ![0, n, 128 * h.val] S1x512x128.size (inb_key n hn h))

/-- The tile of shared keys that begins at `n`. -/
def rope (x : Vec F S1x4096x128 .bf16) (n : ℕ) (hn : n + 512 ≤ 4096) : Vec F S1x512x128 .bf16 :=
  View.ld x (Rect.unit ![0, n, 0] S1x512x128.size (inb_rope n hn))

/-- Head `h`'s rows of the tile of values that begins at `n`. -/
def value (x : Vec F S1x1024x4096 .bf16) (n : ℕ) (hn : n + 512 ≤ 4096) (h : Fin 8) : Vec F S1x128x512 .bf16 :=
  View.ld x (Rect.unit ![0, 128 * h.val, n] S1x128x512.size (inb_value n hn h))

/-- Head `h`'s scores of the tile of keys that begins at `n`. -/
def scores (x0 : Vec F S1x4096x1024 .bf16) (x1 x2 : Vec F S128x1024 .bf16) (x3 : Vec F S1x4096x128 .bf16) (n : ℕ)
    (hn : n + 512 ≤ 4096) (h : Fin 8) : FVec F S512x128 .f32 :=
  score (key x0 n hn h) (rope x3 n hn) (query x1 h) (query x2 h)

/-- The first key of trip `k`'s tile. -/
def first (i : grid0.Coords) (k : Fin (k0_t1_loop i).trips) : ℕ := k0_off1 i k 1

theorem first_eq : ∀ (i : grid0.Coords) (k : Fin (k0_t1_loop i).trips), first i k = 512 * k.val := by decide +kernel

theorem trips_eq : ∀ i : grid0.Coords, (k0_t1_loop i).trips = (i 1).val / 4 := by decide +kernel

theorem first_le (i : grid0.Coords) (k : Fin (k0_t1_loop i).trips) : first i k + 512 ≤ 4096 := k0_off1_inb i k 1

section

variable (𝒱 : Variants) (c : Dev nD) (bd : Option 𝒱.V) (i : grid0.Coords)
  (arg2 : Memref sig .tc .vmem S1x4096x1024 .bf16) (harg2 : arg2.IsWhole) (arg3 : Memref sig .tc .vmem S128x1024 .bf16)
  (harg3 : arg3.IsWhole) (arg4 : Memref sig .tc .vmem S128x1024 .bf16) (harg4 : arg4.IsWhole)
  (arg5 : Memref sig .tc .vmem S1x4096x128 .bf16) (harg5 : arg5.IsWhole)
  (arg6 : Memref sig .tc .vmem S1x1024x4096 .bf16) (harg6 : arg6.IsWhole)
  (arg7 : Memref sig .tc .vmem S128x1024 .bf16) (harg7 : arg7.IsWhole) (arg8 : Memref sig .tc .vmem S8x1x128 .f32)
  (harg8 : arg8.IsWhole) (arg9 : Memref sig .tc .vmem S8x1x128 .f32) (harg9 : arg9.IsWhole)
  (arg10 : Memref sig .tc .vmem S8x128x128 .f32) (harg10 : arg10.IsWhole) (v0 v17 : BitVec 32) (v30 : IVec S1x128 32)
  (v31 : IVec S512x1 32) (v33 : BitVec 32) (X2 : BufTy.Contents (Elt F) arg2.view.ty)
  (X3 : BufTy.Contents (Elt F) arg3.view.ty) (X4 : BufTy.Contents (Elt F) arg4.view.ty)
  (X5 : BufTy.Contents (Elt F) arg5.view.ty) (X6 : BufTy.Contents (Elt F) arg6.view.ty)
  (k : Fin (k0_t1_loop i).trips) (f8 : BufTy.Contents (Elt F) arg8.view.ty)
  (f9 : BufTy.Contents (Elt F) arg9.view.ty) (f10 : BufTy.Contents (Elt F) arg10.view.ty)

/-- The scores of trip `k` for head `h`. -/
def tripScores (h : Fin 8) : FVec F S512x128 .f32 :=
  scores (arg2.view.read (Elt F) X2) (arg3.view.read (Elt F) X3) (arg4.view.read (Elt F) X4)
    (arg5.view.read (Elt F) X5) (first i k) (first_le i k) h

theorem trip_max :
    (trip_k0_t1 𝒱 c bd i arg2 harg2 arg3 harg3 arg4 harg4 arg5 harg5 arg6 harg6 arg7 harg7 arg8 harg8 arg9 harg9 arg10
        harg10 v0 v17 v30 v31 v33 X2 X3 X4 X5 X6 k).1 f8 f9 f10
      = View.tilePieces (s := S8x1x128) (NT := 8) S1x1x128.size (fun h => ![h.val, 0, 0]) inb_row
          (fun h => stored (newMax (tripScores i arg2 arg3 arg4 arg5 X2 X3 X4 X5 k h)
            (row (arg8.view.read (Elt F) f8) h))) 8 (Nat.le_refl 8) := by
  unfold trip_k0_t1
  rfl

theorem trip_den :
    (trip_k0_t1 𝒱 c bd i arg2 harg2 arg3 harg3 arg4 harg4 arg5 harg5 arg6 harg6 arg7 harg7 arg8 harg8 arg9 harg9 arg10
        harg10 v0 v17 v30 v31 v33 X2 X3 X4 X5 X6 k).2.1 f8 f9 f10
      = View.tilePieces (s := S8x1x128) (NT := 8) S1x1x128.size (fun h => ![h.val, 0, 0]) inb_row
          (fun h => stored (newDen (tripScores i arg2 arg3 arg4 arg5 X2 X3 X4 X5 k h)
            (row (arg8.view.read (Elt F) f8) h) (row (arg9.view.read (Elt F) f9) h))) 8 (Nat.le_refl 8) := by
  unfold trip_k0_t1
  rfl

theorem trip_acc :
    (trip_k0_t1 𝒱 c bd i arg2 harg2 arg3 harg3 arg4 harg4 arg5 harg5 arg6 harg6 arg7 harg7 arg8 harg8 arg9 harg9 arg10
        harg10 v0 v17 v30 v31 v33 X2 X3 X4 X5 X6 k).2.2.1 f8 f9 f10
      = View.tilePieces (s := S8x128x128) (NT := 8) S1x128x128.size (fun h => ![h.val, 0, 0]) inb_plane
          (fun h => newAcc (tripScores i arg2 arg3 arg4 arg5 X2 X3 X4 X5 k h)
            (row (arg8.view.read (Elt F) f8) h) (plane (arg10.view.read (Elt F) f10) h)
            (value (arg6.view.read (Elt F) X6) (first i k) (first_le i k) h)) 8 (Nat.le_refl 8) := by
  unfold trip_k0_t1
  rfl

end

end Cert.Flash

end
-- ==== Proof.Flash.Fold.lean ====
/-
One tile of keys taken into the running state, and the loop over the tiles before the diagonal: after `k` trips the
state is that of the first `512 * k` scores.
-/
module

public import proofs.«01_k».proof.Proof.Flash.Trip

@[expose] public section

set_option maxRecDepth 16384

noncomputable section

namespace Cert.Flash

open Cert.KernelIdeal Cert.KernelIdeal.Gen Idealize.ShloMosaic Idealize.ShloMosaic.TcCoe

theorem sup_fin (w : ℕ) (f : ℕ → EReal) : (Finset.univ.sup fun r : Fin w => f r.val) = (Finset.range w).sup f := by
  refine le_antisymm (Finset.sup_le fun r _ => Finset.le_sup (f := f) (Finset.mem_range.mpr r.isLt))
    (Finset.sup_le fun k hk => ?_)
  exact Finset.le_sup (f := fun r : Fin w => f r.val) (Finset.mem_univ (⟨k, Finset.mem_range.mp hk⟩ : Fin w))

section tile

variable (S : FVec Ideal S512x128 .f32) (m l : Vec Ideal S1x1x128 .f32) (a : Vec Ideal S1x128x128 .f32)
  (v : Vec Ideal S1x128x512 .bf16) (s w : ℕ → EReal) (n : ℕ) (t d : Fin 128)
  (hS : ∀ r : Fin 512, S (ix2 r t) = s (n + r.val)) (hm : m (ix3 0 0 t) = top s n)

include hS hm

theorem newMax_top : newMax S m (ix2 0 t) = top s (n + 512) := by
  rw [newMax_apply, hm, top_add, ← sup_fin]
  simp only [hS]

theorem newDen_den (hl : l (ix3 0 0 t) = den s n) : newDen S m l (ix2 0 t) = den s (n + 512) := by
  rw [newDen_apply, den_add, scale_apply, hl, hm, newMax_top S m s n t hS hm]
  congr 1
  rw [Finset.sum_range]
  refine Finset.sum_congr rfl fun r _ => ?_
  rw [prob_apply, newMax_top S m s n t hS hm, hS]

theorem newAcc_acc (ha : a (ix3 0 d t) = acc s w n) (hv : ∀ r : Fin 512, v (ix3 0 d r) = w (n + r.val)) :
    newAcc S m a v (ix3 0 d t) = acc s w (n + 512) := by
  rw [newAcc_apply, acc_add, scale_apply, ha, hm, newMax_top S m s n t hS hm]
  congr 1
  rw [Finset.sum_range]
  refine Finset.sum_congr rfl fun r _ => ?_
  rw [prob_apply, newMax_top S m s n t hS hm, hS, hv]

end tile

theorem row_apply (x : Vec Ideal S8x1x128 .f32) (h : Fin 8) (t : Fin 128) : row x h (ix3 0 0 t) = x (ix3 h 0 t) := by
  refine congrArg x (funext fun a => Fin.ext ?_)
  fin_cases a
  · exact Nat.add_zero _
  · rfl
  · exact (Nat.zero_add _).trans (Nat.one_mul _)

theorem plane_apply (x : Vec Ideal S8x128x128 .f32) (h : Fin 8) (d t : Fin 128) :
    plane x h (ix3 0 d t) = x (ix3 h d t) := by
  refine congrArg x (funext fun a => Fin.ext ?_)
  fin_cases a
  · exact Nat.add_zero _
  · exact (Nat.zero_add _).trans (Nat.one_mul _)
  · exact (Nat.zero_add _).trans (Nat.one_mul _)

/-- A state whose rows are stored one head after another reads, at head `h`, head `h`'s payload. -/
theorem read_rows {sig : RefSig} {κ : Kind} {sp : Space} (v : View sig κ sp S8x1x128 .f32)
    (f : v.ty.Contents (Elt Ideal)) (P : Fin 8 → Vec Ideal S1x1x128 .f32) (h : Fin 8) (t : Fin 128) :
    v.read (Elt Ideal) (v.writes (Elt Ideal) f (View.tilePieces (s := S8x1x128) (NT := 8) S1x1x128.size
      (fun h => ![h.val, 0, 0]) inb_row P 8 (Nat.le_refl 8))) (ix3 h 0 t) = P h (ix3 0 0 t) :=
  View.read_tilePieces v f _ _ inb_row P 8 (Nat.le_refl 8) (ix3 h 0 t) h h.isLt (ix3 0 0 t)
    (fun a => by fin_cases a; exacts [(Nat.add_zero _).symm, rfl, (Nat.zero_add _).symm]) 0
    fun i' hi => by
      have : i'.val ≠ h.val := fun e => hi (Fin.ext e)
      show h.val < i'.val ∨ i'.val + 1 ≤ h.val
      omega

theorem read_planes {sig : RefSig} {κ : Kind} {sp : Space} (v : View sig κ sp S8x128x128 .f32)
    (f : v.ty.Contents (Elt Ideal)) (P : Fin 8 → Vec Ideal S1x128x128 .f32) (h : Fin 8) (d t : Fin 128) :
    v.read (Elt Ideal) (v.writes (Elt Ideal) f (View.tilePieces (s := S8x128x128) (NT := 8) S1x128x128.size
      (fun h => ![h.val, 0, 0]) inb_plane P 8 (Nat.le_refl 8))) (ix3 h d t) = P h (ix3 0 d t) :=
  View.read_tilePieces v f _ _ inb_plane P 8 (Nat.le_refl 8) (ix3 h d t) h h.isLt (ix3 0 d t)
    (fun a => by fin_cases a; exacts [(Nat.add_zero _).symm, (Nat.zero_add _).symm, (Nat.zero_add _).symm]) 0
    fun i' hi => by
      have : i'.val ≠ h.val := fun e => hi (Fin.ext e)
      show h.val < i'.val ∨ i'.val + 1 ≤ h.val
      omega

section loop

variable (𝒱 : Variants) (c : Dev nD) (bd : Option 𝒱.V) (i : grid0.Coords)
  (arg2 : Memref sig .tc .vmem S1x4096x1024 .bf16) (harg2 : arg2.IsWhole) (arg3 : Memref sig .tc .vmem S128x1024 .bf16)
  (harg3 : arg3.IsWhole) (arg4 : Memref sig .tc .vmem S128x1024 .bf16) (harg4 : arg4.IsWhole)
  (arg5 : Memref sig .tc .vmem S1x4096x128 .bf16) (harg5 : arg5.IsWhole)
  (arg6 : Memref sig .tc .vmem S1x1024x4096 .bf16) (harg6 : arg6.IsWhole)
  (arg7 : Memref sig .tc .vmem S128x1024 .bf16) (harg7 : arg7.IsWhole) (arg8 : Memref sig .tc .vmem S8x1x128 .f32)
  (harg8 : arg8.IsWhole) (arg9 : Memref sig .tc .vmem S8x1x128 .f32) (harg9 : arg9.IsWhole)
  (arg10 : Memref sig .tc .vmem S8x128x128 .f32) (harg10 : arg10.IsWhole) (v0 v17 : BitVec 32) (v30 : IVec S1x128 32)
  (v31 : IVec S512x1 32) (v33 : BitVec 32) (X2 : BufTy.Contents (Elt Ideal) arg2.view.ty)
  (X3 : BufTy.Contents (Elt Ideal) arg3.view.ty) (X4 : BufTy.Contents (Elt Ideal) arg4.view.ty)
  (X5 : BufTy.Contents (Elt Ideal) arg5.view.ty) (X6 : BufTy.Contents (Elt Ideal) arg6.view.ty)
  (G8 : BufTy.Contents (Elt Ideal) arg8.view.ty)
  (G9 : BufTy.Contents (Elt Ideal) arg9.view.ty) (G10 : BufTy.Contents (Elt Ideal) arg10.view.ty)
  (s : Fin 8 → Fin 128 → ℕ → EReal) (w : Fin 8 → Fin 128 → ℕ → EReal)
  (hs : ∀ (n : ℕ) (hn : n + 512 ≤ 4096) (h : Fin 8) (r : Fin 512) (t : Fin 128),
    scores (arg2.view.read (Elt Ideal) X2) (arg3.view.read (Elt Ideal) X3) (arg4.view.read (Elt Ideal) X4)
      (arg5.view.read (Elt Ideal) X5) n hn h (ix2 r t) = s h t (n + r.val))
  (hw : ∀ (n : ℕ) (hn : n + 512 ≤ 4096) (h : Fin 8) (d : Fin 128) (r : Fin 512),
    value (arg6.view.read (Elt Ideal) X6) n hn h (ix3 0 d r) = w h d (n + r.val))
  (h8 : ∀ (h : Fin 8) (t : Fin 128), arg8.view.read (Elt Ideal) G8 (ix3 h 0 t) = ⊥)
  (h9 : ∀ (h : Fin 8) (t : Fin 128), arg9.view.read (Elt Ideal) G9 (ix3 h 0 t) = 0)
  (h10 : ∀ (h : Fin 8) (d t : Fin 128), arg10.view.read (Elt Ideal) G10 (ix3 h d t) = 0)

include hs hw h8 h9 h10

/-- After `k` trips the three scratch buffers hold the running state of the first `512 * k` scores. -/
theorem loop_state (k : ℕ) (hk : k ≤ (k0_t1_loop i).trips) :
    (∀ (h : Fin 8) (t : Fin 128), arg8.view.read (Elt Ideal) (arg8.view.writes (Elt Ideal) G8
      (pb_k0_t1 𝒱 c bd i arg2 harg2 arg3 harg3 arg4 harg4 arg5 harg5 arg6 harg6 arg7 harg7 arg8 harg8 arg9 harg9 arg10
        harg10 v0 v17 v30 v31 v33 X2 X3 X4 X5 X6 G8 G9 G10 k).1) (ix3 h 0 t) = top (s h t) (512 * k))
    ∧ (∀ (h : Fin 8) (t : Fin 128), arg9.view.read (Elt Ideal) (arg9.view.writes (Elt Ideal) G9
      (pb_k0_t1 𝒱 c bd i arg2 harg2 arg3 harg3 arg4 harg4 arg5 harg5 arg6 harg6 arg7 harg7 arg8 harg8 arg9 harg9 arg10
        harg10 v0 v17 v30 v31 v33 X2 X3 X4 X5 X6 G8 G9 G10 k).2.1) (ix3 h 0 t) = den (s h t) (512 * k))
    ∧ (∀ (h : Fin 8) (d t : Fin 128), arg10.view.read (Elt Ideal) (arg10.view.writes (Elt Ideal) G10
      (pb_k0_t1 𝒱 c bd i arg2 harg2 arg3 harg3 arg4 harg4 arg5 harg5 arg6 harg6 arg7 harg7 arg8 harg8 arg9 harg9 arg10
        harg10 v0 v17 v30 v31 v33 X2 X3 X4 X5 X6 G8 G9 G10 k).2.2) (ix3 h d t) = acc (s h t) (w h d) (512 * k)) := by
  induction k with
  | zero =>
    refine ⟨fun h t => ?_, fun h t => ?_, fun h d t => ?_⟩
    · exact (h8 h t).trans (top_zero _).symm
    · exact (h9 h t).trans (den_zero _).symm
    · exact (h10 h d t).trans (acc_zero _ _).symm
  | succ k ih =>
    obtain ⟨i8, i9, i10⟩ := ih (Nat.le_of_succ_le hk)
    have e := first_eq i ⟨k, hk⟩
    have hS : ∀ (h : Fin 8) (r : Fin 512) (t : Fin 128),
        tripScores i arg2 arg3 arg4 arg5 X2 X3 X4 X5 ⟨k, hk⟩ h (ix2 r t) = s h t (512 * k + r.val) :=
      fun h r t => (hs _ _ h r t).trans (by rw [e])
    have hV : ∀ (h : Fin 8) (d : Fin 128) (r : Fin 512),
        value (arg6.view.read (Elt Ideal) X6) (first i ⟨k, hk⟩) (first_le i ⟨k, hk⟩) h (ix3 0 d r)
          = w h d (512 * k + r.val) :=
      fun h d r => (hw _ _ h d r).trans (by rw [e])
    have es := pb_k0_t1_succ (F := Ideal) 𝒱 c bd i arg2 harg2 arg3 harg3 arg4 harg4 arg5 harg5 arg6 harg6 arg7 harg7 arg8
      harg8 arg9 harg9 arg10 harg10 v0 v17 v30 v31 v33 X2 X3 X4 X5 X6 G8 G9 G10 ⟨k, hk⟩
    simp only [] at es
    rw [es]
    refine ⟨fun h t => ?_, fun h t => ?_, fun h d t => ?_⟩
    · rw [View.writes_append, trip_max, read_rows, stored_apply, newMax_top _ _ (s h t) (512 * k) t (fun r => hS h r t)
        ((row_apply _ h t).trans (i8 h t)), Nat.mul_succ]
    · rw [View.writes_append, trip_den, read_rows, stored_apply, newDen_den _ _ _ (s h t) (512 * k) t
        (fun r => hS h r t) ((row_apply _ h t).trans (i8 h t)) ((row_apply _ h t).trans (i9 h t)), Nat.mul_succ]
    · rw [View.writes_append, trip_acc, read_planes, newAcc_acc _ _ _ _ (s h t) (w h d) (512 * k) t d
        (fun r => hS h r t) ((row_apply _ h t).trans (i8 h t)) ((plane_apply _ h d t).trans (i10 h d t))
        (fun r => hV h d r), Nat.mul_succ]

end loop

end Cert.Flash

end
-- ==== Proof.Flash.Diag.lean ====
/-
The whole body at a grid point: the loop over the tiles before the diagonal, then the diagonal tile with the causal
mask, head by head, then the eight quotients.  The pieces stored to the result's block are named as one function of
the head.
-/
module

public import proofs.«01_k».proof.Proof.Flash.Fold
public import Idealize.ShloMosaic.Lib.Pipeline.ReadBack

@[expose] public section

set_option maxRecDepth 16384

noncomputable section

namespace Cert.Flash

open Cert.KernelIdeal Cert.KernelIdeal.Gen Idealize.ShloMosaic Idealize.ShloMosaic.TcCoe

variable {F : FTy → Type} [FloatOps F] [Named F]

/-! ### The words of a grid point -/

/-- The first query of the block within its sequence. -/
def q0 (i : grid0.Coords) : BitVec 32 := Scalar.muli (BitVec.ofNat 32 (i 1).val) 128#32

/-- The number of whole tiles of keys before the block's diagonal. -/
def full (i : grid0.Coords) : BitVec 32 :=
  Scalar.select
    (Scalar.andi
      (Scalar.cmpi .ne (Scalar.subi (Scalar.extui (Scalar.cmpi .sgt (q0 i) 0#32) : BitVec 32)
        (Scalar.extui (Scalar.cmpi .slt (q0 i) 0#32) : BitVec 32)) 1#32)
      (Scalar.cmpi .ne (Scalar.remsi (q0 i) 512#32) 0#32))
    (Scalar.subi (Scalar.divsi (q0 i) 512#32) 1#32) (Scalar.divsi (q0 i) 512#32)

/-- Where the second loop begins. -/
def rest (i : grid0.Coords) : BitVec 32 :=
  Scalar.addi 0#32 (Scalar.muli (Scalar.divsi (Scalar.subi (full i) 0#32) 1#32) 1#32)

/-- The queries' positions in a block, and the keys' positions in a tile. -/
def queryIota : IVec S1x128 32 := iota .tc S1x128 32 [1] iota_S1x128_d1_w32
def keyIota : IVec S512x1 32 := iota .tc S512x1 32 [0] iota_S512x1_d0_w32

/-- The diagonal tile's first key. -/
def diag (i : grid0.Coords) : ℕ := k0_off35 i 1

theorem diag_eq : ∀ i : grid0.Coords, diag i = 512 * ((i 1).val / 4) := by decide +kernel

theorem diag_le (i : grid0.Coords) : diag i + 512 ≤ 4096 := k0_off35_inb i 1

/-- The causal mask of the diagonal tile: zero where the key is not after the query, the mask constant elsewhere. -/
def maskTile (i : grid0.Coords) : FVec F S512x128 .f32 :=
  k0_pay162 (q0 i) queryIota keyIota (Scalar.muli (full i) 512#32)

section pieces

variable (v8 v9 : View sig .tc .vmem S8x1x128 .f32) (v10 : View sig .tc .vmem S8x128x128 .f32)
  (P8 P9 : List (View.Piece (Elt F) S8x1x128 .f32)) (P10 : List (View.Piece (Elt F) S8x128x128 .f32))
  (D : Fin 8 → FVec F S512x128 .f32) (W : Fin 8 → Vec F S1x128x512 .bf16)

/-- The stores to the running maximum after the first `j` heads' diagonal tiles. -/
def maxPieces : (j : ℕ) → j ≤ 8 → List (View.Piece (Elt F) S8x1x128 .f32)
  | 0, _ => P8
  | j + 1, hj =>
    ⟨Rect.unit ![j, 0, 0] S1x1x128.size (inb_row ⟨j, hj⟩), stored (newMax (D ⟨j, hj⟩)
      (v8.readCov (maxPieces j (Nat.le_of_succ_le hj))
        (Rect.unit (s := S8x1x128) ![j, 0, 0] S1x1x128.size (inb_row ⟨j, hj⟩)).toLoadRect))⟩ :: maxPieces j (Nat.le_of_succ_le hj)

/-- The stores to the denominator likewise. -/
def denPieces : (j : ℕ) → j ≤ 8 → List (View.Piece (Elt F) S8x1x128 .f32)
  | 0, _ => P9
  | j + 1, hj =>
    ⟨Rect.unit ![j, 0, 0] S1x1x128.size (inb_row ⟨j, hj⟩), stored (newDen (D ⟨j, hj⟩)
      (v8.readCov (maxPieces v8 P8 D j (Nat.le_of_succ_le hj))
        (Rect.unit (s := S8x1x128) ![j, 0, 0] S1x1x128.size (inb_row ⟨j, hj⟩)).toLoadRect)
      (v9.readCov (denPieces j (Nat.le_of_succ_le hj))
        (Rect.unit (s := S8x1x128) ![j, 0, 0] S1x1x128.size (inb_row ⟨j, hj⟩)).toLoadRect))⟩ :: denPieces j (Nat.le_of_succ_le hj)

/-- The stores to the accumulator likewise. -/
def accPieces : (j : ℕ) → j ≤ 8 → List (View.Piece (Elt F) S8x128x128 .f32)
  | 0, _ => P10
  | j + 1, hj =>
    ⟨Rect.unit ![j, 0, 0] S1x128x128.size (inb_plane ⟨j, hj⟩), newAcc (D ⟨j, hj⟩)
      (v8.readCov (maxPieces v8 P8 D j (Nat.le_of_succ_le hj))
        (Rect.unit (s := S8x1x128) ![j, 0, 0] S1x1x128.size (inb_row ⟨j, hj⟩)).toLoadRect)
      (v10.readCov (accPieces j (Nat.le_of_succ_le hj))
        (Rect.unit (s := S8x128x128) ![j, 0, 0] S1x128x128.size (inb_plane ⟨j, hj⟩)).toLoadRect) (W ⟨j, hj⟩)⟩
      :: accPieces j (Nat.le_of_succ_le hj)

end pieces

section body

variable (c : Dev nD) (i : grid0.Coords)
  (arg2 : Memref sig .tc .vmem S1x4096x1024 .bf16) (harg2 : arg2.IsWhole) (arg3 : Memref sig .tc .vmem S128x1024 .bf16)
  (harg3 : arg3.IsWhole) (arg4 : Memref sig .tc .vmem S128x1024 .bf16) (harg4 : arg4.IsWhole)
  (arg5 : Memref sig .tc .vmem S1x4096x128 .bf16) (harg5 : arg5.IsWhole)
  (arg6 : Memref sig .tc .vmem S1x1024x4096 .bf16) (harg6 : arg6.IsWhole)
  (arg7 : Memref sig .tc .vmem S128x1024 .bf16) (harg7 : arg7.IsWhole) (arg8 : Memref sig .tc .vmem S8x1x128 .f32)
  (harg8 : arg8.IsWhole) (arg9 : Memref sig .tc .vmem S8x1x128 .f32) (harg9 : arg9.IsWhole)
  (arg10 : Memref sig .tc .vmem S8x128x128 .f32) (harg10 : arg10.IsWhole)
  (x0 : Vec F S1x4096x1024 .bf16) (x1 x2 : Vec F S128x1024 .bf16) (x3 : Vec F S1x4096x128 .bf16)
  (x4 : Vec F S1x1024x4096 .bf16)

/-- The reset of the three scratch buffers. -/
def reset8 : List (View.Piece (Elt F) S8x1x128 .f32) :=
  [⟨Rect.unit ![0, 0, 0] S8x1x128.size inb_S8x1x128_S8x1x128_0_0_0, k0_pay159⟩]
def reset9 : List (View.Piece (Elt F) S8x1x128 .f32) :=
  [⟨Rect.unit ![0, 0, 0] S8x1x128.size inb_S8x1x128_S8x1x128_0_0_0, k0_pay160⟩]
def reset10 : List (View.Piece (Elt F) S8x128x128 .f32) :=
  [⟨Rect.unit ![0, 0, 0] S8x128x128.size inb_S8x128x128_S8x128x128_0_0_0, k0_pay161⟩]

/-- The stores of the loop over the tiles before the diagonal. -/
def loop1 := pb_k0_t1 (F := F) Variants.none c none i arg2 harg2 arg3 harg3 arg4 harg4 arg5 harg5 arg6 harg6 arg7 harg7
  arg8 harg8 arg9 harg9 arg10 harg10 (q0 i) (full i) queryIota keyIota (Scalar.muli (full i) 512#32) (harg2.unread x0)
  (harg3.unread x1) (harg4.unread x2) (harg5.unread x3) (harg6.unread x4)
  (arg8.view.writes (Elt F) arg8.view.junk reset8) (arg9.view.writes (Elt F) arg9.view.junk reset9)
  (arg10.view.writes (Elt F) arg10.view.junk reset10) (k0_t1_loop i).trips

/-- The stores of the second loop, which has no trip. -/
def loop2 := pb_k0_t2 (F := F) Variants.none c none i arg2 harg2 arg3 harg3 arg4 harg4 arg5 harg5 arg6 harg6 arg7 harg7
  arg8 harg8 arg9 harg9 arg10 harg10 (q0 i) (full i) queryIota keyIota (Scalar.muli (full i) 512#32) (rest i)
  (harg2.unread x0) (harg3.unread x1) (harg4.unread x2) (harg5.unread x3) (harg6.unread x4)
  (arg8.view.writes (Elt F) arg8.view.junk ((loop1 c i arg2 harg2 arg3 harg3 arg4 harg4 arg5 harg5 arg6 harg6 arg7 harg7
    arg8 harg8 arg9 harg9 arg10 harg10 x0 x1 x2 x3 x4).1 ++ reset8))
  (arg9.view.writes (Elt F) arg9.view.junk ((loop1 c i arg2 harg2 arg3 harg3 arg4 harg4 arg5 harg5 arg6 harg6 arg7 harg7
    arg8 harg8 arg9 harg9 arg10 harg10 x0 x1 x2 x3 x4).2.1 ++ reset9))
  (arg10.view.writes (Elt F) arg10.view.junk ((loop1 c i arg2 harg2 arg3 harg3 arg4 harg4 arg5 harg5 arg6 harg6 arg7
    harg7 arg8 harg8 arg9 harg9 arg10 harg10 x0 x1 x2 x3 x4).2.2 ++ reset10)) (k0_t2_loop i).trips

/-- All the stores to the running maximum before the diagonal tile; to the denominator; to the accumulator. -/
def before8 : List (View.Piece (Elt F) S8x1x128 .f32) :=
  (loop2 c i arg2 harg2 arg3 harg3 arg4 harg4 arg5 harg5 arg6 harg6 arg7 harg7 arg8 harg8 arg9 harg9 arg10 harg10 x0 x1
    x2 x3 x4).1 ++ ((loop1 c i arg2 harg2 arg3 harg3 arg4 harg4 arg5 harg5 arg6 harg6 arg7 harg7 arg8 harg8 arg9 harg9
      arg10 harg10 x0 x1 x2 x3 x4).1 ++ reset8)
def before9 : List (View.Piece (Elt F) S8x1x128 .f32) :=
  (loop2 c i arg2 harg2 arg3 harg3 arg4 harg4 arg5 harg5 arg6 harg6 arg7 harg7 arg8 harg8 arg9 harg9 arg10 harg10 x0 x1
    x2 x3 x4).2.1 ++ ((loop1 c i arg2 harg2 arg3 harg3 arg4 harg4 arg5 harg5 arg6 harg6 arg7 harg7 arg8 harg8 arg9
      harg9 arg10 harg10 x0 x1 x2 x3 x4).2.1 ++ reset9)
def before10 : List (View.Piece (Elt F) S8x128x128 .f32) :=
  (loop2 c i arg2 harg2 arg3 harg3 arg4 harg4 arg5 harg5 arg6 harg6 arg7 harg7 arg8 harg8 arg9 harg9 arg10 harg10 x0 x1
    x2 x3 x4).2.2 ++ ((loop1 c i arg2 harg2 arg3 harg3 arg4 harg4 arg5 harg5 arg6 harg6 arg7 harg7 arg8 harg8 arg9
      harg9 arg10 harg10 x0 x1 x2 x3 x4).2.2 ++ reset10)

/-- Head `h`'s masked scores of the diagonal tile. -/
def diagScores (h : Fin 8) : FVec F S512x128 .f32 :=
  addf (scores (arg2.view.read (Elt F) (harg2.unread x0)) (arg3.view.read (Elt F) (harg3.unread x1))
    (arg4.view.read (Elt F) (harg4.unread x2)) (arg5.view.read (Elt F) (harg5.unread x3)) (diag i) (diag_le i) h)
    (maskTile i)

/-- The pieces stored to the result's block, as one function of the head. -/
theorem run_pieces :
    (kernelRun0_A c i arg2 harg2 arg3 harg3 arg4 harg4 arg5 harg5 arg6 harg6 arg7 harg7 arg8 harg8 arg9 harg9 arg10 harg10
        x0 x1 x2 x3 x4).1
      = View.tilePieces (s := S128x1024) (NT := 8) S128x128.size (fun h => ![0, 128 * h.val]) inb_query
          (fun h => quot
            (arg10.view.readCov (accPieces arg8.view arg10.view
                (before8 c i arg2 harg2 arg3 harg3 arg4 harg4 arg5 harg5 arg6 harg6 arg7 harg7 arg8 harg8 arg9 harg9 arg10
                  harg10 x0 x1 x2 x3 x4)
                (before10 c i arg2 harg2 arg3 harg3 arg4 harg4 arg5 harg5 arg6 harg6 arg7 harg7 arg8 harg8 arg9 harg9
                  arg10 harg10 x0 x1 x2 x3 x4)
                (diagScores i arg2 harg2 arg3 harg3 arg4 harg4 arg5 harg5 x0 x1 x2 x3)
                (value (arg6.view.read (Elt F) (harg6.unread x4)) (diag i) (diag_le i)) 8 (Nat.le_refl 8))
              (Rect.unit (s := S8x128x128) ![h.val, 0, 0] S1x128x128.size (inb_plane h)).toLoadRect)
            (arg9.view.readCov (denPieces arg8.view arg9.view
                (before8 c i arg2 harg2 arg3 harg3 arg4 harg4 arg5 harg5 arg6 harg6 arg7 harg7 arg8 harg8 arg9 harg9 arg10
                  harg10 x0 x1 x2 x3 x4)
                (before9 c i arg2 harg2 arg3 harg3 arg4 harg4 arg5 harg5 arg6 harg6 arg7 harg7 arg8 harg8 arg9 harg9
                  arg10 harg10 x0 x1 x2 x3 x4)
                (diagScores i arg2 harg2 arg3 harg3 arg4 harg4 arg5 harg5 x0 x1 x2 x3) 8 (Nat.le_refl 8))
              (Rect.unit (s := S8x1x128) ![h.val, 0, 0] S1x1x128.size (inb_row h)).toLoadRect)) 8 (Nat.le_refl 8) := by
  unfold kernelRun0_A
  rfl

end body

end Cert.Flash

end
-- ==== Proof.Flash.Words.lean ====
/-
The causal comparison on 32-bit words is the comparison of positions.
-/
module

public import Idealize.ShloMosaic.PureOps.Ideal
public import Idealize.ShloMosaic.Lib.WordArith

@[expose] public section

noncomputable section

namespace Cert.Flash

open Idealize.ShloMosaic

/-- A signed comparison of two small positions is the comparison of the numbers. -/
theorem cmpi_sle {a b : ℕ} (ha : a < 2 ^ 31) (hb : b < 2 ^ 31) :
    IntOp.cmpi .sle (BitVec.ofNat 32 a) (BitVec.ofNat 32 b) = if a ≤ b then 1#1 else 0#1 := by
  show BitVec.ofBool ((BitVec.ofNat 32 a).sle (BitVec.ofNat 32 b)) = _
  rw [BitVec.sle_eq_decide, WordArith.toInt_ofNat_small a ha, WordArith.toInt_ofNat_small b hb]
  by_cases h : a ≤ b
  · rw [if_pos h, decide_eq_true (by exact_mod_cast h)]; rfl
  · rw [if_neg h, decide_eq_false (by exact_mod_cast h)]; rfl

/-- A choice by that comparison is a choice by the numbers. -/
theorem select_sle {α : Type} {a b : ℕ} (ha : a < 2 ^ 31) (hb : b < 2 ^ 31) (x y : α) :
    Scalar.select (IntOp.cmpi .sle (BitVec.ofNat 32 a) (BitVec.ofNat 32 b)) x y = if a ≤ b then x else y := by
  rw [cmpi_sle ha hb]
  by_cases h : a ≤ b
  · rw [if_pos h, if_pos h]; rfl
  · rw [if_neg h, if_neg h]; rfl

end Cert.Flash

end
-- ==== Proof.Flash.State.lean ====
/-
The running state at a grid point, from the reset to the end of the diagonal tile, and the result's block: for every
head and query the quotient of the accumulator by the denominator over the keys not after the query.
-/
module

public import proofs.«01_k».proof.Proof.Flash.Diag
public import proofs.«01_k».proof.Proof.Flash.Words

@[expose] public section

set_option maxRecDepth 16384

noncomputable section

namespace Cert.Flash

open Cert.KernelIdeal Cert.KernelIdeal.Gen Idealize.ShloMosaic Idealize.ShloMosaic.TcCoe

/-! ### The diagonal tile's stores, read back -/

section pieces

variable (v8 v9 : View sig .tc .vmem S8x1x128 .f32) (v10 : View sig .tc .vmem S8x128x128 .f32)
  (P8 P9 : List (View.Piece (Elt Ideal) S8x1x128 .f32)) (P10 : List (View.Piece (Elt Ideal) S8x128x128 .f32))
  (D : Fin 8 → FVec Ideal S512x128 .f32) (W : Fin 8 → Vec Ideal S1x128x512 .bf16)
  (s w : Fin 8 → Fin 128 → ℕ → EReal) (n : ℕ)

include v8 in
/-- A row stored at head `j`, read at head `h`. -/
theorem canon_row (j : Fin 8) (x : Vec Ideal S1x1x128 .f32) (L : List (View.Piece (Elt Ideal) S8x1x128 .f32)) (h : Fin 8)
    (t : Fin 128) :
    View.canon ((⟨Rect.unit (s := S8x1x128) ![j.val, 0, 0] S1x1x128.size (inb_row j), x⟩ :
        View.Piece (Elt Ideal) S8x1x128 .f32) :: L) (ix3 h 0 t)
      = if h = j then x (ix3 0 0 t) else View.canon L (ix3 h 0 t) := by
  rw [← View.read_writes_junk_apply_eq_canon v8]
  split
  · next e =>
    subst e
    exact View.read_writes_cons_unit_of_mem v8 _ (inb_row h) x L (ix3 h 0 t) (ix3 0 0 t) rfl
      fun a => by fin_cases a; exacts [(Nat.add_zero _).symm, rfl, (Nat.zero_add _).symm]
  · next e =>
    rw [View.read_writes_cons_unit_of_not_mem v8 _ (inb_row j) x L (ix3 h 0 t) rfl 0 (by
      have : h.val ≠ j.val := fun e' => e (Fin.ext e')
      show h.val < j.val ∨ j.val + 1 ≤ h.val
      omega), View.read_writes_junk_apply_eq_canon]

include v10 in
theorem canon_plane (j : Fin 8) (x : Vec Ideal S1x128x128 .f32) (L : List (View.Piece (Elt Ideal) S8x128x128 .f32))
    (h : Fin 8) (d t : Fin 128) :
    View.canon ((⟨Rect.unit (s := S8x128x128) ![j.val, 0, 0] S1x128x128.size (inb_plane j), x⟩ :
        View.Piece (Elt Ideal) S8x128x128 .f32) :: L) (ix3 h d t)
      = if h = j then x (ix3 0 d t) else View.canon L (ix3 h d t) := by
  rw [← View.read_writes_junk_apply_eq_canon v10]
  split
  · next e =>
    subst e
    exact View.read_writes_cons_unit_of_mem v10 _ (inb_plane h) x L (ix3 h d t) (ix3 0 d t) rfl
      fun a => by fin_cases a; exacts [(Nat.add_zero _).symm, (Nat.zero_add _).symm, (Nat.zero_add _).symm]
  · next e =>
    rw [View.read_writes_cons_unit_of_not_mem v10 _ (inb_plane j) x L (ix3 h d t) rfl 0 (by
      have : h.val ≠ j.val := fun e' => e (Fin.ext e')
      show h.val < j.val ∨ j.val + 1 ≤ h.val
      omega), View.read_writes_junk_apply_eq_canon]

theorem readCov_row (v : View sig .tc .vmem S8x1x128 .f32) (L : List (View.Piece (Elt Ideal) S8x1x128 .f32)) (h : Fin 8)
    (t : Fin 128) :
    v.readCov L (Rect.unit (s := S8x1x128) ![h.val, 0, 0] S1x1x128.size (inb_row h)).toLoadRect (ix3 0 0 t)
      = View.canon L (ix3 h 0 t) := by
  rw [View.readCov_eq_canon']
  exact row_apply (View.canon L) h t

theorem readCov_plane (L : List (View.Piece (Elt Ideal) S8x128x128 .f32)) (h : Fin 8) (d t : Fin 128) :
    v10.readCov L (Rect.unit (s := S8x128x128) ![h.val, 0, 0] S1x128x128.size (inb_plane h)).toLoadRect (ix3 0 d t)
      = View.canon L (ix3 h d t) := by
  rw [View.readCov_eq_canon']
  exact plane_apply (View.canon L) h d t

variable (hD : ∀ (h : Fin 8) (r : Fin 512) (t : Fin 128), D h (ix2 r t) = s h t (n + r.val))
  (hW : ∀ (h : Fin 8) (d : Fin 128) (r : Fin 512), W h (ix3 0 d r) = w h d (n + r.val))
  (h8 : ∀ (h : Fin 8) (t : Fin 128), View.canon P8 (ix3 h 0 t) = top (s h t) n)
  (h9 : ∀ (h : Fin 8) (t : Fin 128), View.canon P9 (ix3 h 0 t) = den (s h t) n)
  (h10 : ∀ (h : Fin 8) (d t : Fin 128), View.canon P10 (ix3 h d t) = acc (s h t) (w h d) n)

include hD h8

theorem canon_max (j : ℕ) (hj : j ≤ 8) (h : Fin 8) (t : Fin 128) :
    View.canon (maxPieces v8 P8 D j hj) (ix3 h 0 t) = top (s h t) (if h.val < j then n + 512 else n) := by
  induction j generalizing h t with
  | zero => exact h8 h t
  | succ j ih =>
    rw [maxPieces]
    rw [canon_row v8 ⟨j, hj⟩]
    split
    · next e =>
      subst e
      rw [if_pos (Nat.lt_succ_self j), stored_apply, newMax_top _ _ (s ⟨j, hj⟩ t) n t (fun r => hD _ r t)]
      rw [readCov_row v8 _ ⟨j, hj⟩, ih, if_neg (Nat.lt_irrefl j)]
    · next e =>
      rw [ih]
      have : h.val ≠ j := fun e' => e (Fin.ext e')
      congr 1
      split <;> split <;> omega

include h9

theorem canon_den (j : ℕ) (hj : j ≤ 8) (h : Fin 8) (t : Fin 128) :
    View.canon (denPieces v8 v9 P8 P9 D j hj) (ix3 h 0 t) = den (s h t) (if h.val < j then n + 512 else n) := by
  induction j generalizing h t with
  | zero => exact h9 h t
  | succ j ih =>
    rw [denPieces]
    rw [canon_row v9 ⟨j, hj⟩]
    split
    · next e =>
      subst e
      rw [if_pos (Nat.lt_succ_self j), stored_apply, newDen_den _ _ _ (s ⟨j, hj⟩ t) n t (fun r => hD _ r t)]
      · rw [readCov_row v8 _ ⟨j, hj⟩, canon_max v8 P8 D s n hD h8, if_neg (Nat.lt_irrefl j)]
      · rw [readCov_row v9 _ ⟨j, hj⟩, ih, if_neg (Nat.lt_irrefl j)]
    · next e =>
      rw [ih]
      have : h.val ≠ j := fun e' => e (Fin.ext e')
      congr 1
      split <;> split <;> omega

omit h9
include hW h10

theorem canon_acc (j : ℕ) (hj : j ≤ 8) (h : Fin 8) (d t : Fin 128) :
    View.canon (accPieces v8 v10 P8 P10 D W j hj) (ix3 h d t)
      = acc (s h t) (w h d) (if h.val < j then n + 512 else n) := by
  induction j generalizing h d t with
  | zero => exact h10 h d t
  | succ j ih =>
    rw [accPieces]
    rw [canon_plane v10 ⟨j, hj⟩]
    split
    · next e =>
      subst e
      rw [if_pos (Nat.lt_succ_self j), newAcc_acc _ _ _ _ (s ⟨j, hj⟩ t) (w ⟨j, hj⟩ d) n t d (fun r => hD _ r t)]
      · rw [readCov_row v8 _ ⟨j, hj⟩, canon_max v8 P8 D s n hD h8, if_neg (Nat.lt_irrefl j)]
      · rw [readCov_plane v10 _ ⟨j, hj⟩, ih, if_neg (Nat.lt_irrefl j)]
      · exact fun r => hW _ d r
    · next e =>
      rw [ih]
      have : h.val ≠ j := fun e' => e (Fin.ext e')
      congr 1
      split <;> split <;> omega

end pieces

/-! ### The mask and the reset, at an index -/

theorem mask_bot : (Named.named (F := Ideal) Cert.KernelIdeal.κ "mask" 0xF149F2CA#32 : Ideal .f32) = (⊥ : EReal) := rfl

theorem q0_eq : ∀ i : grid0.Coords, q0 i = BitVec.ofNat 32 (128 * (i 1).val) := by decide +kernel

theorem full_eq : ∀ i : grid0.Coords, Scalar.muli (full i) 512#32 = BitVec.ofNat 32 (diag i) := by decide +kernel

theorem maskTile_apply (i : grid0.Coords) (r : Fin 512) (t : Fin 128) :
    (maskTile (F := Ideal) i) (ix2 r t) = if diag i + r.val ≤ 128 * (i 1).val + t.val then (0 : EReal) else ⊥ := by
  unfold maskTile k0_pay162 queryIota keyIota
  rw [q0_eq, full_eq]
  pointwise
  have h := diag_le i
  have h' : (i 1).val < 32 := (i 1).isLt
  rw [mask_bot, show IntOp.addi (BitVec.ofNat 32 r.val) (BitVec.ofNat 32 (diag i)) = BitVec.ofNat 32 (diag i + r.val) by
      rw [Nat.add_comm]; exact (BitVec.ofNat_add ..).symm,
    show IntOp.addi (BitVec.ofNat 32 t.val) (BitVec.ofNat 32 (128 * (i 1).val))
      = BitVec.ofNat 32 (128 * (i 1).val + t.val) by rw [Nat.add_comm]; exact (BitVec.ofNat_add ..).symm,
    select_sle (by omega) (by omega)]

theorem reset8_apply (v : View sig .tc .vmem S8x1x128 .f32) (h : Fin 8) (t : Fin 128) :
    v.read (Elt Ideal) (v.writes (Elt Ideal) v.junk reset8) (ix3 h 0 t) = (⊥ : EReal) := by
  rw [reset8]
  refine (View.read_writes_cons_unit_of_mem v _ _ _ _ (ix3 h 0 t) (ix3 h 0 t) rfl
    (fun a => by fin_cases a; exacts [(Nat.zero_add _).symm, rfl, (Nat.zero_add _).symm])).trans ?_
  unfold k0_pay159
  pointwise
  rfl

theorem reset9_apply (v : View sig .tc .vmem S8x1x128 .f32) (h : Fin 8) (t : Fin 128) :
    v.read (Elt Ideal) (v.writes (Elt Ideal) v.junk reset9) (ix3 h 0 t) = (0 : EReal) := by
  rw [reset9]
  refine (View.read_writes_cons_unit_of_mem v _ _ _ _ (ix3 h 0 t) (ix3 h 0 t) rfl
    (fun a => by fin_cases a; exacts [(Nat.zero_add _).symm, rfl, (Nat.zero_add _).symm])).trans ?_
  unfold k0_pay160
  pointwise

theorem reset10_apply (v : View sig .tc .vmem S8x128x128 .f32) (h : Fin 8) (d t : Fin 128) :
    v.read (Elt Ideal) (v.writes (Elt Ideal) v.junk reset10) (ix3 h d t) = (0 : EReal) := by
  rw [reset10]
  refine (View.read_writes_cons_unit_of_mem v _ _ _ _ (ix3 h d t) (ix3 h d t) rfl
    (fun a => by fin_cases a; exacts [(Nat.zero_add _).symm, (Nat.zero_add _).symm, (Nat.zero_add _).symm])).trans ?_
  unfold k0_pay161
  pointwise

theorem trips2_eq : ∀ i : grid0.Coords, (k0_t2_loop i).trips = 0 := by decide +kernel

/-! ### The state over masked scores -/

/-- The scores of a query at position `q`: of the keys not after it, and nothing of the others. -/
def causal (s : ℕ → EReal) (q : ℕ) (k : ℕ) : EReal := if k ≤ q then s k else ⊥

theorem top_congr {s s' : ℕ → EReal} {n : ℕ} (h : ∀ k < n, s k = s' k) : top s n = top s' n :=
  Finset.sup_congr rfl fun k hk => h k (Finset.mem_range.mp hk)

theorem den_congr {s s' : ℕ → EReal} {n : ℕ} (h : ∀ k < n, s k = s' k) : den s n = den s' n := by
  unfold den
  rw [top_congr h]
  exact Finset.sum_congr rfl fun k hk => by rw [h k (Finset.mem_range.mp hk)]

theorem acc_congr {s s' v : ℕ → EReal} {n : ℕ} (h : ∀ k < n, s k = s' k) : acc s v n = acc s' v n := by
  unfold acc
  rw [top_congr h]
  exact Finset.sum_congr rfl fun k hk => by rw [h k (Finset.mem_range.mp hk)]

section body

variable (c : Dev nD) (i : grid0.Coords)
  (arg2 : Memref sig .tc .vmem S1x4096x1024 .bf16) (harg2 : arg2.IsWhole) (arg3 : Memref sig .tc .vmem S128x1024 .bf16)
  (harg3 : arg3.IsWhole) (arg4 : Memref sig .tc .vmem S128x1024 .bf16) (harg4 : arg4.IsWhole)
  (arg5 : Memref sig .tc .vmem S1x4096x128 .bf16) (harg5 : arg5.IsWhole)
  (arg6 : Memref sig .tc .vmem S1x1024x4096 .bf16) (harg6 : arg6.IsWhole)
  (arg7 : Memref sig .tc .vmem S128x1024 .bf16) (harg7 : arg7.IsWhole) (arg8 : Memref sig .tc .vmem S8x1x128 .f32)
  (harg8 : arg8.IsWhole) (arg9 : Memref sig .tc .vmem S8x1x128 .f32) (harg9 : arg9.IsWhole)
  (arg10 : Memref sig .tc .vmem S8x128x128 .f32) (harg10 : arg10.IsWhole)
  (x0 : Vec Ideal S1x4096x1024 .bf16) (x1 x2 : Vec Ideal S128x1024 .bf16) (x3 : Vec Ideal S1x4096x128 .bf16)
  (x4 : Vec Ideal S1x1024x4096 .bf16)
  (s w : Fin 8 → Fin 128 → ℕ → EReal)
  (hs : ∀ (n : ℕ) (hn : n + 512 ≤ 4096) (h : Fin 8) (r : Fin 512) (t : Fin 128),
    scores x0 x1 x2 x3 n hn h (ix2 r t) = s h t (n + r.val))
  (hw : ∀ (n : ℕ) (hn : n + 512 ≤ 4096) (h : Fin 8) (d : Fin 128) (r : Fin 512),
    value x4 n hn h (ix3 0 d r) = w h d (n + r.val))

include hs hw

/-- Before the diagonal tile the state is that of the first `diag i` keys. -/
theorem before_state :
    (∀ (h : Fin 8) (t : Fin 128), View.canon (before8 c i arg2 harg2 arg3 harg3 arg4 harg4 arg5 harg5 arg6 harg6 arg7
      harg7 arg8 harg8 arg9 harg9 arg10 harg10 x0 x1 x2 x3 x4) (ix3 h 0 t) = top (s h t) (diag i))
    ∧ (∀ (h : Fin 8) (t : Fin 128), View.canon (before9 c i arg2 harg2 arg3 harg3 arg4 harg4 arg5 harg5 arg6 harg6 arg7
      harg7 arg8 harg8 arg9 harg9 arg10 harg10 x0 x1 x2 x3 x4) (ix3 h 0 t) = den (s h t) (diag i))
    ∧ (∀ (h : Fin 8) (d t : Fin 128), View.canon (before10 c i arg2 harg2 arg3 harg3 arg4 harg4 arg5 harg5 arg6 harg6
      arg7 harg7 arg8 harg8 arg9 harg9 arg10 harg10 x0 x1 x2 x3 x4) (ix3 h d t) = acc (s h t) (w h d) (diag i)) := by
  have l := loop_state Variants.none c none i arg2 harg2 arg3 harg3 arg4 harg4 arg5 harg5 arg6 harg6 arg7 harg7 arg8 harg8
    arg9 harg9 arg10 harg10 (q0 i) (full i) queryIota keyIota (Scalar.muli (full i) 512#32) (harg2.unread x0)
    (harg3.unread x1) (harg4.unread x2) (harg5.unread x3) (harg6.unread x4)
    (arg8.view.writes (Elt Ideal) arg8.view.junk reset8) (arg9.view.writes (Elt Ideal) arg9.view.junk reset9)
    (arg10.view.writes (Elt Ideal) arg10.view.junk reset10) s w
    (by rw [harg2.read_unread, harg3.read_unread, harg4.read_unread, harg5.read_unread]; exact hs)
    (by rw [harg6.read_unread]; exact hw)
    (reset8_apply _) (reset9_apply _) (reset10_apply _) (k0_t1_loop i).trips (Nat.le_refl _)
  rw [trips_eq i, ← diag_eq i, ← trips_eq i] at l
  have e2 : loop2 c i arg2 harg2 arg3 harg3 arg4 harg4 arg5 harg5 arg6 harg6 arg7 harg7 arg8 harg8 arg9 harg9 arg10 harg10
      x0 x1 x2 x3 x4 = ([], [], []) := by
    unfold loop2
    rw [trips2_eq i]
    rfl
  refine ⟨fun h t => ?_, fun h t => ?_, fun h d t => ?_⟩
  · rw [before8, e2, List.nil_append, ← View.read_writes_junk_apply_eq_canon arg8.view, View.writes_append]
    exact l.1 h t
  · rw [before9, e2, List.nil_append, ← View.read_writes_junk_apply_eq_canon arg9.view, View.writes_append]
    exact l.2.1 h t
  · rw [before10, e2, List.nil_append, ← View.read_writes_junk_apply_eq_canon arg10.view, View.writes_append]
    exact l.2.2 h d t

/-- The result's block at query `t`, head `h`, column `d`. -/
theorem block_apply {κ : Kind} {sp : Space} (O : View sig κ sp S128x1024 .bf16) (h : Fin 8) (t d : Fin 128) (hd : 128 * h.val + d.val < 1024) :
    O.read (Elt Ideal) (O.writes (Elt Ideal) O.junk
        (kernelRun0_A c i arg2 harg2 arg3 harg3 arg4 harg4 arg5 harg5 arg6 harg6 arg7 harg7 arg8 harg8 arg9 harg9 arg10
          harg10 x0 x1 x2 x3 x4).1) (ix2 t ⟨128 * h.val + d.val, hd⟩)
      = Ideal.div (acc (causal (s h t) (128 * (i 1).val + t.val)) (w h d) 4096)
          (max (den (causal (s h t) (128 * (i 1).val + t.val)) 4096) floorDen) := by
  have hi : (i 1).val < 32 := (i 1).isLt
  have hn := diag_eq i
  obtain ⟨b8, b9, b10⟩ := before_state c i arg2 harg2 arg3 harg3 arg4 harg4 arg5 harg5 arg6 harg6 arg7 harg7 arg8 harg8
    arg9 harg9 arg10 harg10 x0 x1 x2 x3 x4 s w hs hw
  have hc : ∀ (h : Fin 8) (t : Fin 128), ∀ k < diag i, s h t k = causal (s h t) (128 * (i 1).val + t.val) k :=
    fun h t k hk => (if_pos (by omega)).symm
  have hD : ∀ (h : Fin 8) (r : Fin 512) (t : Fin 128),
      diagScores i arg2 harg2 arg3 harg3 arg4 harg4 arg5 harg5 x0 x1 x2 x3 h (ix2 r t)
        = causal (s h t) (128 * (i 1).val + t.val) (diag i + r.val) := by
    intro h r t
    unfold diagScores causal
    rw [harg2.read_unread, harg3.read_unread, harg4.read_unread, harg5.read_unread]
    show scores x0 x1 x2 x3 (diag i) (diag_le i) h (ix2 r t) + maskTile i (ix2 r t) = _
    rw [hs, maskTile_apply]
    split
    · exact add_zero _
    · exact EReal.add_bot _
  rw [run_pieces]
  rw [View.read_tilePieces O _ _ _ inb_query _ 8 (Nat.le_refl 8) _ h h.isLt (ix2 t d)
    (fun a => by fin_cases a; exacts [(Nat.zero_add _).symm, rfl]) 1
    (fun i' hi' => by
      have : i'.val ≠ h.val := fun e => hi' (Fin.ext e)
      have := d.isLt
      show 128 * h.val + d.val < 128 * i'.val ∨ 128 * i'.val + 128 ≤ 128 * h.val + d.val
      omega)]
  rw [quot_apply, readCov_plane, readCov_row,
    canon_acc arg8.view arg10.view _ _ _ _ (fun h t => causal (s h t) (128 * (i 1).val + t.val)) w (diag i) hD
      (fun h d r => (congrFun (congrArg (fun x => value x (diag i) (diag_le i) h) (harg6.read_unread x4)) _).trans
        (hw _ _ h d r))
      (fun h t => (b8 h t).trans (top_congr (hc h t))) (fun h d t => (b10 h d t).trans (acc_congr (hc h t))),
    canon_den arg8.view arg9.view _ _ _ (fun h t => causal (s h t) (128 * (i 1).val + t.val)) (diag i) hD
      (fun h t => (b8 h t).trans (top_congr (hc h t))) (fun h t => (b9 h t).trans (den_congr (hc h t))),
    if_pos h.isLt]
  have hb : ∀ k, diag i + 512 ≤ k → causal (s h t) (128 * (i 1).val + t.val) k = ⊥ := fun k hk =>
    if_neg (by have := t.isLt; omega)
  rw [acc_of_bot _ _ (diag_le i) hb, den_of_bot _ (diag_le i) hb]

end body

end Cert.Flash

end
-- ==== Proof.Flash.Value.lean ====
/-
The kernel's whole result: every block it writes back, read at an index of the array, is the quotient of the sums over
all keys of that query's sequence.
-/
module

public import proofs.«01_k».proof.Proof.Flash.State
public import proofs.«01_k».proof.Proof.Gen.KernelIdeal.Value
public import Idealize.ShloMosaic.Lib.Pointwise
public import Idealize.ShloMosaic.Lib.Pipeline.Value
public import Idealize.ShloMosaic.Lib.Pipeline.ValueKit

@[expose] public section

set_option maxRecDepth 16384

noncomputable section

namespace Cert.Flash

open Cert.KernelIdeal Cert.KernelIdeal.Gen Idealize.ShloMosaic Idealize.ShloMosaic.TcCoe

/-- The score of the query at `row` for head `h` against key `k` of sequence `n`. -/
def pairScore (q qr : Vec Ideal S16384x1024 .bf16) (kn : Vec Ideal S4x4096x1024 .bf16) (kr : Vec Ideal S4x4096x128 .bf16)
    (n : Fin 4) (row : Fin 16384) (h : Fin 8) (k : ℕ) : EReal :=
  if hk : k < 4096 then
    ∑ d : Fin 128, kn (ix3 n ⟨k, hk⟩ ⟨128 * h.val + d.val, by omega⟩) * q (ix2 row ⟨128 * h.val + d.val, by omega⟩)
      + ∑ d : Fin 128, kr (ix3 n ⟨k, hk⟩ d) * qr (ix2 row ⟨128 * h.val + d.val, by omega⟩)
  else ⊥

/-- Row `e` of the values of sequence `n`. -/
def valueRow (v : Vec Ideal S4x1024x4096 .bf16) (n : Fin 4) (e : Fin 1024) (k : ℕ) : EReal :=
  if hk : k < 4096 then v (ix3 n e ⟨k, hk⟩) else ⊥

/-- The attention at head `h` and column `d` of the query at position `p` of sequence `n`. -/
def attend (q qr : Vec Ideal S16384x1024 .bf16) (kn : Vec Ideal S4x4096x1024 .bf16) (kr : Vec Ideal S4x4096x128 .bf16)
    (v : Vec Ideal S4x1024x4096 .bf16) (n : Fin 4) (p : Fin 4096) (h : Fin 8) (d : Fin 128) : EReal :=
  Ideal.div (acc (causal (pairScore q qr kn kr n ⟨4096 * n.val + p.val, by omega⟩ h) p.val)
      (valueRow v n ⟨128 * h.val + d.val, by omega⟩) 4096)
    (max (den (causal (pairScore q qr kn kr n ⟨4096 * n.val + p.val, by omega⟩ h) p.val) 4096) floorDen)

variable (m : (ℓ : Loc nD τ sig) → Buf (Elt Ideal) ℓ) (c : Dev nD)

/-- Where each window's block stands at a grid point. -/
theorem index_at : ∀ t : Fin cfg0.N,
    (cfg0.win 0).index t = ![(grid0.coords t 0).val, 0, 0]
    ∧ (cfg0.win 1).index t = ![32 * (grid0.coords t 0).val + (grid0.coords t 1).val, 0]
    ∧ (cfg0.win 2).index t = ![32 * (grid0.coords t 0).val + (grid0.coords t 1).val, 0]
    ∧ (cfg0.win 3).index t = ![(grid0.coords t 0).val, 0, 0]
    ∧ (cfg0.win 4).index t = ![(grid0.coords t 0).val, 0, 0]
    ∧ (cfg0.win 5).index t = ![32 * (grid0.coords t 0).val + (grid0.coords t 1).val, 0] := by
  decide +kernel

theorem read_key (t : Fin cfg0.N) (k : Fin 4096) (e : Fin 1024) :
    iblk m c 0 t (ix3 0 k e) = m ((c : Thread nD τ).loc main_arg2) (ix3 (grid0.coords t 0) k e) := by
  blk_ext [iblk, V, (index_at t).1]

theorem read_rope (t : Fin cfg0.N) (k : Fin 4096) (e : Fin 128) :
    iblk m c 3 t (ix3 0 k e) = m ((c : Thread nD τ).loc main_arg3) (ix3 (grid0.coords t 0) k e) := by
  blk_ext [iblk, V, (index_at t).2.2.2.1]

theorem read_value (t : Fin cfg0.N) (e : Fin 1024) (k : Fin 4096) :
    iblk m c 4 t (ix3 0 e k) = m ((c : Thread nD τ).loc main_arg4) (ix3 (grid0.coords t 0) e k) := by
  blk_ext [iblk, V, (index_at t).2.2.2.2.1]

/-- The row of the query array at which row `r` of a point's block stands. -/
def rowAt (t : Fin cfg0.N) (r : Fin 128) : Fin 16384 :=
  ⟨4096 * (grid0.coords t 0).val + (128 * (grid0.coords t 1).val + r.val), by
    have : (grid0.coords t 0).val < 4 := (grid0.coords t 0).isLt
    have : (grid0.coords t 1).val < 32 := (grid0.coords t 1).isLt
    omega⟩

theorem read_query (t : Fin cfg0.N) (r : Fin 128) (e : Fin 1024) :
    iblk m c 1 t (ix2 r e) = m ((c : Thread nD τ).loc main_arg0) (ix2 (rowAt t r) e) := by
  blk_ext [iblk, V, (index_at t).2.1, rowAt]

theorem read_query_rope (t : Fin cfg0.N) (r : Fin 128) (e : Fin 1024) :
    iblk m c 2 t (ix2 r e) = m ((c : Thread nD τ).loc main_arg1) (ix2 (rowAt t r) e) := by
  blk_ext [iblk, V, (index_at t).2.2.1, rowAt]

theorem query_apply (x : Vec Ideal S128x1024 .bf16) (h : Fin 8) (t d : Fin 128) (hd : 128 * h.val + d.val < 1024) :
    query x h (ix2 t d) = x (ix2 t ⟨128 * h.val + d.val, hd⟩) := by
  unfold query
  pointwise

theorem key_apply (x : Vec Ideal S1x4096x1024 .bf16) (n : ℕ) (hn : n + 512 ≤ 4096) (h : Fin 8) (r : Fin 512)
    (d : Fin 128) (hd : 128 * h.val + d.val < 1024) :
    key x n hn h (ix3 0 r d) = x (ix3 0 ⟨n + r.val, by omega⟩ ⟨128 * h.val + d.val, hd⟩) := by
  unfold key
  pointwise

theorem rope_apply (x : Vec Ideal S1x4096x128 .bf16) (n : ℕ) (hn : n + 512 ≤ 4096) (r : Fin 512) (d : Fin 128) :
    rope x n hn (ix3 0 r d) = x (ix3 0 ⟨n + r.val, by omega⟩ d) := by
  unfold rope
  pointwise

theorem value_apply (x : Vec Ideal S1x1024x4096 .bf16) (n : ℕ) (hn : n + 512 ≤ 4096) (h : Fin 8) (d : Fin 128)
    (r : Fin 512) (hd : 128 * h.val + d.val < 1024) :
    value x n hn h (ix3 0 d r) = x (ix3 0 ⟨128 * h.val + d.val, hd⟩ ⟨n + r.val, by omega⟩) := by
  unfold value
  pointwise

/-- What a grid point leaves in the result's block. -/
theorem point_apply (t : Fin cfg0.N) (r : Fin 128) (h : Fin 8) (d : Fin 128) (hd : 128 * h.val + d.val < 1024) :
    outsAt0 m c t (ix2 r ⟨128 * h.val + d.val, hd⟩)
      = attend (m ((c : Thread nD τ).loc main_arg0)) (m ((c : Thread nD τ).loc main_arg1))
          (m ((c : Thread nD τ).loc main_arg2)) (m ((c : Thread nD τ).loc main_arg3))
          (m ((c : Thread nD τ).loc main_arg4)) (grid0.coords t 0)
          ⟨128 * (grid0.coords t 1).val + r.val, by
            have : (grid0.coords t 1).val < 32 := (grid0.coords t 1).isLt
            omega⟩ h d := by
  unfold outsAt0 out0_A_5 attend
  refine block_apply c (grid0.coords t) (ms0_0 t) (hs0_0 t) (ms0_1 t) (hs0_1 t) (ms0_2 t) (hs0_2 t) (ms0_3 t) (hs0_3 t)
    (ms0_4 t) (hs0_4 t) (ms0_5 t) (hs0_5 t) scM0_0 (Memref.isWhole_whole _) scM0_1 (Memref.isWhole_whole _) scM0_2
    (Memref.isWhole_whole _) (iblk m c 0 t) (iblk m c 1 t)
    (iblk m c 2 t) (iblk m c 3 t) (iblk m c 4 t)
    (fun h r => pairScore (m ((c : Thread nD τ).loc main_arg0)) (m ((c : Thread nD τ).loc main_arg1))
      (m ((c : Thread nD τ).loc main_arg2)) (m ((c : Thread nD τ).loc main_arg3)) (grid0.coords t 0) (rowAt t r) h)
    (fun h d => valueRow (m ((c : Thread nD τ).loc main_arg4)) (grid0.coords t 0) ⟨128 * h.val + d.val, by omega⟩)
    (fun n hn h r u => ?_) (fun n hn h d r => ?_) VO0_5 h r d hd
  · show score _ _ _ _ _ = _
    rw [score_apply]
    unfold pairScore
    rw [dif_pos (by omega)]
    congr 1 <;> refine Finset.sum_congr rfl fun d _ => ?_
    · rw [key_apply _ _ _ _ _ _ (by omega), query_apply _ _ _ _ (by omega), read_key, read_query]
    · rw [rope_apply, query_apply _ _ _ _ (by omega), read_rope, read_query_rope]
  · unfold valueRow
    rw [dif_pos (by omega), value_apply _ _ _ _ _ _ (by omega), read_value]

/-- The result array, as a function of the arguments. -/
def attention (q qr : Vec Ideal S16384x1024 .bf16) (kn : Vec Ideal S4x4096x1024 .bf16) (kr : Vec Ideal S4x4096x128 .bf16)
    (v : Vec Ideal S4x1024x4096 .bf16) : Vec Ideal S16384x1024 .bf16 := fun y =>
  attend q qr kn kr v ⟨(y 0).val / 4096, by have := (y 0).isLt; change (y 0).val < 16384 at this; omega⟩
    ⟨(y 0).val % 4096, by omega⟩
    ⟨(y 1).val / 128, by have := (y 1).isLt; change (y 1).val < 1024 at this; omega⟩ ⟨(y 1).val % 128, by omega⟩

theorem array_eq :
    (dats m 0 c).arrAt 5 cfg0.N
      = attention (m ((c : Thread nD τ).loc main_arg0)) (m ((c : Thread nD τ).loc main_arg1))
          (m ((c : Thread nD τ).loc main_arg2)) (m ((c : Thread nD τ).loc main_arg3))
          (m ((c : Thread nD τ).loc main_arg4)) := by
  refine (dats m 0 c).arrAt_eq_of_covers 5 _ (by decide +kernel) fun t hf y => ?_
  blk_simp
  rw [after0_5]
  have hy0 : (y 0).val < 128 := (y 0).isLt
  have hy1 : (y 1).val < 1024 := (y 1).isLt
  have hc0 : (grid0.coords t 0).val < 4 := (grid0.coords t 0).isLt
  have hc1 : (grid0.coords t 1).val < 32 := (grid0.coords t 1).isLt
  have e : y = ix2 ⟨(y 0).val, hy0⟩ ⟨128 * ((⟨(y 1).val / 128, by omega⟩ : Fin 8)).val
      + ((⟨(y 1).val % 128, by omega⟩ : Fin 128)).val, by show 128 * ((y 1).val / 128) + (y 1).val % 128 < 1024; omega⟩ := by
    refine funext fun a => Fin.ext ?_
    fin_cases a
    · rfl
    · exact (Nat.div_add_mod _ _).symm
  have e0 : (((win0_5.blk t).view.emb y) 0).val
      = 4096 * (grid0.coords t 0).val + (128 * (grid0.coords t 1).val + (y 0).val) := by
    blk_simp [(index_at t).2.2.2.2.2]
    omega
  have e1 : (((win0_5.blk t).view.emb y) 1).val = (y 1).val := by
    blk_simp [(index_at t).2.2.2.2.2]
  refine (congrArg (outsAt0 m c t) e).trans ((point_apply m c t _ _ _ _).trans ?_)
  unfold attention
  congr 1 <;> refine Fin.ext ?_
  · show (grid0.coords t 0).val = (((win0_5.blk t).view.emb y) 0).val / 4096
    omega
  · show 128 * (grid0.coords t 1).val + (y 0).val = (((win0_5.blk t).view.emb y) 0).val % 4096
    omega
  · show (y 1).val / 128 = (((win0_5.blk t).view.emb y) 1).val / 128
    omega
  · show (y 1).val % 128 = (((win0_5.blk t).view.emb y) 1).val % 128
    omega

end Cert.Flash

end
-- ==== Proof.Flash.Reference.lean ====
/-
The reference's attention: its plain softmax, in stages, each read at an index over the extended reals.

`logits` are the scores of every query against every key, the keys after the query at minus infinity; `peak` is the
largest of a query's scores; `weight` is the power of two of a score below the peak; `total` is their sum; `out` is the
sum of the values by their normalised weights.
-/
module

public import proofs.«01_k».proof.Proof.Flash.Tile
public import proofs.«01_k».proof.Proof.Flash.Fold
public import proofs.«01_k».proof.Proof.Flash.Value
public import proofs.«01_k».proof.Proof.Flash.Words
public import proofs.«01_k».proof.Proof.Gen.ReferenceIdeal.Run
public import Idealize.ShloMosaic.Lib.Pointwise

@[expose] public section

set_option maxRecDepth 16384

noncomputable section

namespace Cert.Flash.Ref

open Cert.ReferenceIdeal Cert.ReferenceIdeal.Gen Idealize.ShloMosaic Idealize.ShloMosaic.TcCoe

variable {F : FTy → Type} [FloatOps F]

/-- Which key a query may see. -/
def seen : Vec F S4096x4096 .i1 :=
  cmpi .sle (broadcastInDim S4096x4096 ![0, 1] bcast_S1x4096_S4096x4096_0_1
      (broadcastInDim S1x4096 ![1] bcast_S4096_S1x4096_1 (iotaInDim S4096 32 0)))
    (broadcastInDim S4096x4096 ![0, 1] bcast_S4096x1_S4096x4096_0_1
      (broadcastInDim S4096x1 ![0] bcast_S4096_S4096x1_0 (iotaInDim S4096 32 0)))

/-- The scores, before the mask. -/
def scores (q qr : Vec F S16384x1024 .bf16) (k : Vec F S4x4096x1024 .bf16) (kr : Vec F S4x4096x128 .bf16) :
    FVec F S4x8x4096x4096 .f32 :=
  addf (Host.dotGeneral dot_S4x4096x8x128_S4x4096x8x128_S4x8x4096x4096_3_3_1_1_02_02 none
      (shapeCast _ (extf .f32 q bitsLt_bf16_f32) shapeCasts_S16384x1024_S4x4096x8x128)
      (shapeCast _ (extf .f32 k bitsLt_bf16_f32) shapeCasts_S4x4096x1024_S4x4096x8x128))
    (transpose S4x8x4096x4096 [0, 3, 2, 1]
      (Host.dotGeneral dot_S4x4096x128_S4x4096x8x128_S4x4096x4096x8_2_3_1_12_0_0 none (extf .f32 kr bitsLt_bf16_f32)
        (shapeCast _ (extf .f32 qr bitsLt_bf16_f32) shapeCasts_S16384x1024_S4x4096x8x128))
      transposes_S4x4096x4096x8_S4x8x4096x4096_0_3_2_1)

/-- The scores, a key after the query at minus infinity. -/
def logits (s : FVec F S4x8x4096x4096 .f32) : FVec F S4x8x4096x4096 .f32 :=
  select (broadcastInDim S4x8x4096x4096 ![2, 3] bcast_S4096x4096_S4x8x4096x4096_2_3 (seen (F := F))) s
    (broadcastInDim S4x8x4096x4096 ![] bcast_S_S4x8x4096x4096 (id (constant S_ .f32 0xFF800000#32)))

/-- The largest score of each query. -/
def peak (l : FVec F S4x8x4096x4096 .f32) : FVec F S4x8x4096 .f32 :=
  Host.reduce FloatOps.maximumf l (constant S_ .f32 0xFF800000#32) reducesTo_S4x8x4096x4096_S4x8x4096_d3 h_S_

/-- The weights, not yet normalised. -/
def weight (l : FVec F S4x8x4096x4096 .f32) : FVec F S4x8x4096x4096 .f32 :=
  mulf (Host.powf (broadcastInDim S4x8x4096x4096 ![] bcast_S_S4x8x4096x4096 (constant S_ .f32 0x40000000#32))
      (subf l (broadcastInDim S4x8x4096x4096 ![0, 1, 2, 3] bcast_S4x8x4096x1_S4x8x4096x4096_0_1_2_3
        (broadcastInDim S4x8x4096x1 ![0, 1, 2] bcast_S4x8x4096_S4x8x4096x1_0_1_2 (peak l)))))
    (broadcastInDim S4x8x4096x4096 ![0, 1, 2, 3] bcast_S1x1x4096x4096_S4x8x4096x4096_0_1_2_3
      (broadcastInDim S1x1x4096x4096 ![2, 3] bcast_S4096x4096_S1x1x4096x4096_2_3 (uitofp .f32 (seen (F := F)))))

/-- The sum of a query's weights. -/
def total (p : FVec F S4x8x4096x4096 .f32) : FVec F S4x8x4096 .f32 :=
  Host.reduceAdd p (constant S_ .f32 0x00000000#32) reducesTo_S4x8x4096x4096_S4x8x4096_d3 h_S_

/-- The weights, normalised. -/
def normal (p : FVec F S4x8x4096x4096 .f32) : FVec F S4x8x4096x4096 .f32 :=
  Host.divf p (broadcastInDim S4x8x4096x4096 ![0, 1, 2, 3] bcast_S4x8x4096x1_S4x8x4096x4096_0_1_2_3
    (maximumf (broadcastInDim S4x8x4096x1 ![0, 1, 2] bcast_S4x8x4096_S4x8x4096x1_0_1_2 (total p))
      (broadcastInDim S4x8x4096x1 ![] bcast_S_S4x8x4096x1 (constant S_ .f32 0x0DA24260#32))))

/-- The values summed by the weights. -/
def out (p : FVec F S4x8x4096x4096 .f32) (v : Vec F S4x1024x4096 .bf16) : FVec F S16384x1024 .bf16 :=
  truncf .bf16 (shapeCast _ (transpose S4x4096x8x128 [0, 3, 1, 2]
    (Host.dotGeneral dot_S4x8x128x4096_S4x8x4096x4096_S4x8x128x4096_3_3_2_2_01_01 none
      (shapeCast _ (extf .f32 v bitsLt_bf16_f32) shapeCasts_S4x1024x4096_S4x8x128x4096)
      p)
    transposes_S4x8x128x4096_S4x4096x8x128_0_3_1_2) shapeCasts_S4x4096x8x128_S16384x1024) bitsLt_bf16_f32

/-- The reference's result is these stages, one after the other. -/
theorem res_eq (m : (ℓ : Loc nD τ sig) → Buf (Elt F) ℓ) (c : Dev nD) :
    Value.res_out0 m c
      = out (normal (weight (logits (scores (m ((c.tc : Thread nD τ).loc main_arg0))
          (m ((c.tc : Thread nD τ).loc main_arg1)) (m ((c.tc : Thread nD τ).loc main_arg2))
          (m ((c.tc : Thread nD τ).loc main_arg3)))))) (m ((c.tc : Thread nD τ).loc main_arg4)) := by
  unfold Value.res_out0 Value.res_main_v39
  rfl

/-! ### Read at an index -/

/-- The host's power of two is the kernel's. -/
theorem pow_two (x : EReal) : Ideal.pow (Ideal.ofBits .f32 0x40000000#32) x = Ideal.exp2 x := by
  rw [show Ideal.ofBits .f32 0x40000000#32 = ((2 : ℝ) : EReal) by
    simp [Ideal.ofBits, Ideal.ieee, -EReal.coe_mul]; norm_num]
  induction x with
  | bot => rw [Ideal.pow_coe_bot, if_neg (by norm_num), if_pos (by norm_num)]; rfl
  | top => rw [Ideal.pow_coe_top, if_neg (by norm_num), if_pos (by norm_num)]; rfl
  | coe r => rfl

theorem seen_apply (p k : Fin 4096) : seen (F := Ideal) (ix2 p k) = if k.val ≤ p.val then 1#1 else 0#1 := by
  rw [← cmpi_sle (by omega) (by omega)]
  unfold seen
  pointwise

theorem logits_apply (s : FVec Ideal S4x8x4096x4096 .f32) (n : Fin 4) (h : Fin 8) (p k : Fin 4096) :
    logits s (ix4 n h p k) = if k.val ≤ p.val then s (ix4 n h p k) else ⊥ := by
  unfold logits
  pointwise
  rw [seen_apply]
  by_cases hk : k.val ≤ p.val
  · rw [if_pos hk, if_pos hk]; rfl
  · rw [if_neg hk, if_neg hk]
    show Ideal.ofBits .f32 0xFF800000#32 = ⊥
    simp [Ideal.ofBits, Ideal.ieee]

theorem peak_apply (l : FVec Ideal S4x8x4096x4096 .f32) (n : Fin 4) (h : Fin 8) (p : Fin 4096) :
    peak l (ix3 n h p) = Finset.univ.sup fun k : Fin 4096 => l (ix4 n h p k) := by
  unfold peak
  pointwise
  rw [show Ideal.ofBits .f32 0xFF800000#32 = ⊥ by simp [Ideal.ofBits, Ideal.ieee]]
  rfl

theorem weight_apply (l : FVec Ideal S4x8x4096x4096 .f32) (n : Fin 4) (h : Fin 8) (p k : Fin 4096) :
    weight l (ix4 n h p k)
      = Ideal.exp2 (l (ix4 n h p k) - peak l (ix3 n h p)) * (if k.val ≤ p.val then 1 else 0) := by
  unfold weight
  pointwise
  rw [seen_apply, pow_two]
  congr 1
  by_cases hk : k.val ≤ p.val
  · rw [if_pos hk, if_pos hk]
    show (((1#1).toNat : ℝ) : EReal) = 1
    simp
  · rw [if_neg hk, if_neg hk]
    show (((0#1).toNat : ℝ) : EReal) = 0
    simp

theorem total_apply (p : FVec Ideal S4x8x4096x4096 .f32) (n : Fin 4) (h : Fin 8) (q : Fin 4096) :
    total p (ix3 n h q) = ∑ k : Fin 4096, p (ix4 n h q k) := by
  unfold total
  pointwise

theorem normal_apply (p : FVec Ideal S4x8x4096x4096 .f32) (n : Fin 4) (h : Fin 8) (q k : Fin 4096) :
    normal p (ix4 n h q k) = Ideal.div (p (ix4 n h q k)) (max (total p (ix3 n h q)) floorDen) := by
  unfold normal floorDen
  pointwise

theorem scores_apply (q qr : Vec Ideal S16384x1024 .bf16) (k : Vec Ideal S4x4096x1024 .bf16)
    (kr : Vec Ideal S4x4096x128 .bf16) (n : Fin 4) (h : Fin 8) (p r : Fin 4096)
    (hp : 4096 * n.val + p.val < 16384) (hh : ∀ d : Fin 128, 128 * h.val + d.val < 1024) :
    scores q qr k kr (ix4 n h p r)
      = ∑ d : Fin 128, k (ix3 n r ⟨128 * h.val + d.val, hh d⟩)
            * q (ix2 ⟨4096 * n.val + p.val, hp⟩ ⟨128 * h.val + d.val, hh d⟩)
        + ∑ d : Fin 128, kr (ix3 n r d) * qr (ix2 ⟨4096 * n.val + p.val, hp⟩ ⟨128 * h.val + d.val, hh d⟩) := by
  unfold scores
  pointwise
  simp only [Nat.mul_comm n.val, Nat.mul_comm h.val]
  congr 1
  exact Finset.sum_congr rfl fun d _ => mul_comm _ _

theorem out_apply (w : FVec Ideal S4x8x4096x4096 .f32) (v : Vec Ideal S4x1024x4096 .bf16) (n : Fin 4) (h : Fin 8)
    (p : Fin 4096) (d : Fin 128) (hp : 4096 * n.val + p.val < 16384) (hd : 128 * h.val + d.val < 1024) :
    out w v (ix2 ⟨4096 * n.val + p.val, hp⟩ ⟨128 * h.val + d.val, hd⟩)
      = ∑ k : Fin 4096, v (ix3 n ⟨128 * h.val + d.val, hd⟩ k) * w (ix4 n h p k) := by
  unfold out
  pointwise
  simp only [Nat.mul_comm h.val]

/-- The plain softmax is the quotient of the sums over all keys, with the keys after the query at minus infinity. -/
theorem softmax_apply (S : FVec Ideal S4x8x4096x4096 .f32) (v : Vec Ideal S4x1024x4096 .bf16) (n : Fin 4) (h : Fin 8)
    (p : Fin 4096) (d : Fin 128) (hp : 4096 * n.val + p.val < 16384) (hd : 128 * h.val + d.val < 1024)
    (s w : ℕ → EReal) (hs : ∀ k : Fin 4096, S (ix4 n h p k) = s k.val)
    (hw : ∀ k : Fin 4096, v (ix3 n ⟨128 * h.val + d.val, hd⟩ k) = w k.val) :
    out (normal (weight (logits S))) v (ix2 ⟨4096 * n.val + p.val, hp⟩ ⟨128 * h.val + d.val, hd⟩)
      = Ideal.div (acc (causal s p.val) w 4096) (max (den (causal s p.val) 4096) floorDen) := by
  have hl : ∀ k : Fin 4096, logits S (ix4 n h p k) = causal s p.val k.val := fun k => by
    rw [logits_apply, hs]; rfl
  have hpk : peak (logits S) (ix3 n h p) = top (causal s p.val) 4096 := by
    rw [peak_apply, top, ← sup_fin]
    simp only [hl]
  have hwt : ∀ k : Fin 4096, weight (logits S) (ix4 n h p k)
      = Ideal.exp2 (causal s p.val k.val - top (causal s p.val) 4096) := fun k => by
    rw [weight_apply, hl, hpk]
    by_cases hk : k.val ≤ p.val
    · rw [if_pos hk, mul_one]
    · rw [if_neg hk, mul_zero, causal, if_neg hk, EReal.bot_sub, exp2_bot]
  have ht : total (weight (logits S)) (ix3 n h p) = den (causal s p.val) 4096 := by
    rw [total_apply, den, Finset.sum_range]
    exact Finset.sum_congr rfl fun k _ => hwt k
  rw [out_apply, div_acc _ _ _ (lt_max_of_lt_right floorDen_pos), Finset.sum_range]
  · refine Finset.sum_congr rfl fun k _ => ?_
    rw [normal_apply, hwt, ht, hw]
  · rcases max_choice (den (causal s p.val) 4096) floorDen with e | e <;> rw [e]
    · exact den_ne_top _ _
    · exact floorDen_ne_top

/-- The reference's result array is the kernel's. -/
theorem softmax_attention (q qr : Vec Ideal S16384x1024 .bf16) (k : Vec Ideal S4x4096x1024 .bf16)
    (kr : Vec Ideal S4x4096x128 .bf16) (v : Vec Ideal S4x1024x4096 .bf16) :
    out (normal (weight (logits (scores q qr k kr)))) v = attention q qr k kr v := by
  funext y
  have h0 : (y 0).val < 16384 := (y 0).isLt
  have h1 : (y 1).val < 1024 := (y 1).isLt
  let n : Fin 4 := ⟨(y 0).val / 4096, by omega⟩
  let p : Fin 4096 := ⟨(y 0).val % 4096, by omega⟩
  let h : Fin 8 := ⟨(y 1).val / 128, by omega⟩
  let d : Fin 128 := ⟨(y 1).val % 128, by omega⟩
  have hp : 4096 * n.val + p.val < 16384 := by omega
  have hd : ∀ d : Fin 128, 128 * h.val + d.val < 1024 := fun d => by omega
  have e : y = ix2 ⟨4096 * n.val + p.val, hp⟩ ⟨128 * h.val + d.val, hd d⟩ := by
    refine funext fun a => Fin.ext ?_
    fin_cases a
    · exact (Nat.div_add_mod _ _).symm
    · exact (Nat.div_add_mod _ _).symm
  refine (congrArg _ e).trans ((softmax_apply (scores q qr k kr) v n h p d hp (hd d)
    (pairScore q qr k kr n ⟨4096 * n.val + p.val, hp⟩ h) (valueRow v n ⟨128 * h.val + d.val, hd d⟩)
    (fun r => ?_) (fun r => ?_)).trans ?_)
  · rw [scores_apply q qr k kr n h p r hp hd, pairScore, dif_pos r.isLt]
  · rw [valueRow, dif_pos r.isLt]
  · rfl

end Cert.Flash.Ref

end
-- ==== Proof.Ffn.Spec.lean ====
/-
The gated feed-forward layer and the root-mean-square normalisation over the extended reals, as functions of whole
arrays: a row's gate and its linear branch, their product sent down, the residual, and the normalised row.
-/
module

public import Idealize.ShloMosaic.Lib.Pointwise
public import Idealize.ShloMosaic.Lib.Pipeline.ValueKit

@[expose] public section

set_option maxRecDepth 16384

noncomputable section

namespace Cert.Ffn

open Idealize.ShloMosaic

/-- `x` times the logistic function of `x`. -/
def silu (x : EReal) : EReal := x * Ideal.logistic x

/-- The word for a small number added under the root. -/
def eps : EReal := Ideal.ofBits .f32 0x358637BD#32

/-- The word for the number of columns. -/
def columns : EReal := Ideal.ofBits .f32 0x45000000#32

/-- A row divided by the root of its mean square, column by column times a gain. -/
def normalised (x g : Fin 2048 → EReal) (c : Fin 2048) : EReal :=
  x c * Ideal.rsqrt (Ideal.div (∑ k, x k * x k) columns + eps) * g c

/-- Column `f` of the hidden row of a token whose entries are `h`. -/
def hidden (h : Fin 2048 → EReal) (wg wu : Fin 2048 → Fin 5632 → EReal) (f : Fin 5632) : EReal :=
  silu (∑ k, h k * wg k f) * ∑ k, h k * wu k f

/-- Column `c` of the layer's row for a token. -/
def down (h : Fin 2048 → EReal) (wg wu : Fin 2048 → Fin 5632 → EReal) (wd : Fin 5632 → Fin 2048 → EReal)
    (c : Fin 2048) : EReal :=
  ∑ f, hidden h wg wu f * wd f c

end Cert.Ffn

end
-- ==== Proof.Ffn.Kernel.lean ====
/-
The feed-forward kernel's result. A row block's accumulator, after its eleven column blocks of the hidden row, holds the
sum over all hidden columns; the last of the eleven points adds the residual and normalises the rows.
-/
module

public import proofs.«01_k».proof.Proof.Ffn.Spec
public import proofs.«01_k».proof.Proof.Gen.Kernel2Ideal.Value
public import Idealize.ShloMosaic.Lib.Pointwise
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.Ffn

open Cert.Kernel2Ideal Cert.Kernel2Ideal.Gen Idealize.ShloMosaic Idealize.ShloMosaic.TcCoe

/-! ### The body's arithmetic at an index -/

theorem part_apply (h : Vec Ideal S512x2048 .bf16) (wg wu : Vec Ideal S2048x512 .bf16) (wd : Vec Ideal S512x2048 .bf16)
    (r : Fin 512) (c : Fin 2048) :
    k0_pay1 h wg wu wd (ix2 r c)
      = ∑ f : Fin 512, (silu (∑ k : Fin 2048, h (ix2 r k) * wg (ix2 k f)) * ∑ k : Fin 2048, h (ix2 r k) * wu (ix2 k f))
          * wd (ix2 f c) := by
  unfold k0_pay1 silu
  pointwise

theorem first_eq (h : Vec Ideal S512x2048 .bf16) (wg wu : Vec Ideal S2048x512 .bf16) (wd : Vec Ideal S512x2048 .bf16) :
    k0_pay2 h wg wu wd = k0_pay1 h wg wu wd := by
  unfold k0_pay2
  exact shapeCast_self _ _

theorem next_apply (h : Vec Ideal S512x2048 .bf16) (wg wu : Vec Ideal S2048x512 .bf16) (wd : Vec Ideal S512x2048 .bf16)
    (a : Vec Ideal S512x2048 .f32) (j : S512x2048.Idx) :
    k0_pay3 h wg wu wd a j = a j + k0_pay1 h wg wu wd j := by
  unfold k0_pay3
  rw [shapeCast_self]
  rfl

theorem last_apply (x : Vec Ideal S512x2048 .f32) (gt : Vec Ideal S1x1x2048 .f32) (a : Vec Ideal S512x2048 .f32)
    (g : Vec Ideal S1x2048 .f32) (r : Fin 512) (c : Fin 2048) :
    k0_pay4 x gt a g (ix2 r c)
      = normalised (fun k => x (ix2 r k) + gt (ix3 0 0 k) * a (ix2 r k)) (fun k => g (ix2 0 k)) c := by
  unfold k0_pay4 normalised columns eps
  pointwise

variable (m : (ℓ : Loc nD τ sig) → Buf (Elt Ideal) ℓ) (c : Dev nD)

/-! ### The accumulator -/

/-- What a point adds to the accumulator. -/
def part (t : Fin cfg0.N) : Vec Ideal S512x2048 .f32 := k0_pay1 (iblk m c 0 t) (iblk m c 1 t) (iblk m c 2 t) (iblk m c 3 t)

theorem carried_first (t : Fin cfg0.N) (h : t.val % 11 = 0) (j : S512x2048.Idx) :
    (outsAt0 m c t.val t.isLt).2 j = 0 + part m c t j := by
  rw [outsAt0_A m c t h (by omega) (by omega)]
  frame_out
  rw [first_eq, zero_add]
  rfl

theorem carried_next (t : Fin cfg0.N) (h : ¬t.val % 11 = 0) (j : S512x2048.Idx) :
    (outsAt0 m c t.val t.isLt).2 j
      = (outsAt0 m c (t.val - 1) (Nat.lt_of_le_of_lt (Nat.sub_le _ _) t.isLt)).2 j + part m c t j := by
  by_cases h2 : t.val % 11 = 10
  · rw [outsAt0_C m c t h (by omega) h2]
    frame_out
    simp only [read_unread_whole]
    rw [next_apply]
    rfl
  · rw [outsAt0_B m c t h (by omega) h2]
    frame_out
    simp only [read_unread_whole]
    rw [next_apply]
    rfl

/-- The result's block at the last point of a run, from the accumulator that point leaves. -/
theorem block_eq (t : Fin cfg0.N) (h : t.val % 11 = 10) :
    (outsAt0 m c t.val t.isLt).1
      = k0_pay4 (iblk m c 4 t) (iblk m c 5 t) ((outsAt0 m c t.val t.isLt).2) (iblk m c 6 t) := by
  rw [outsAt0_C m c t (by omega) (by omega) h]
  frame_out

theorem carried_eq (t : Fin cfg0.N) (h : t.val % 11 = 10) (j : S512x2048.Idx) :
    (outsAt0 m c t.val t.isLt).2 j
      = ∑ s : Fin 11, part m c ⟨11 * (t.val / 11) + s.val, by have := t.isLt; omega⟩ j := by
  rw [Pipeline.eq_sum_fin_of_reset_step_apply_of_flush (fun n h => (outsAt0 m c n h).2) 11 (fun _ => 0)
    (fun t j => part m c t j) (carried_first m c) (carried_next m c) t h j, zero_add]

/-! ### The blocks a point reads -/

/-- Where each window's block stands at a grid point. -/
theorem index_at : ∀ t : Fin cfg0.N,
    (cfg0.win 0).index t = ![t.val / 11, 0]
    ∧ (cfg0.win 1).index t = ![0, t.val % 11]
    ∧ (cfg0.win 2).index t = ![0, t.val % 11]
    ∧ (cfg0.win 3).index t = ![t.val % 11, 0]
    ∧ (cfg0.win 4).index t = ![t.val / 11, 0]
    ∧ (cfg0.win 5).index t = ![t.val / 88, 0, 0]
    ∧ (cfg0.win 6).index t = ![0, 0]
    ∧ (cfg0.win 7).index t = ![t.val / 11, 0] := by
  decide +kernel

/-- The row of the arrays at which row `r` of a point's block stands. -/
def rowAt (t : Fin cfg0.N) (r : Fin 512) : Fin 16384 :=
  ⟨512 * (t.val / 11) + r.val, by
    have h : t.val < 352 := lt_of_lt_of_eq t.isLt N_0
    omega⟩

/-- The hidden column at which column `f` of a point's block stands. -/
def colAt (t : Fin cfg0.N) (f : Fin 512) : Fin 5632 := ⟨(t.val % 11) * 512 + f.val, by omega⟩

theorem read_h (t : Fin cfg0.N) (r : Fin 512) (k : Fin 2048) :
    iblk m c 0 t (ix2 r k) = m ((c : Thread nD τ).loc main_arg0) (ix2 (rowAt t r) k) := by
  blk_ext [iblk, V, (index_at t).1, rowAt]

theorem read_gate (t : Fin cfg0.N) (k : Fin 2048) (f : Fin 512) :
    iblk m c 1 t (ix2 k f) = m ((c : Thread nD τ).loc main_arg1) (ix2 k (colAt t f)) := by
  blk_ext [iblk, V, (index_at t).2.1, colAt]

theorem read_up (t : Fin cfg0.N) (k : Fin 2048) (f : Fin 512) :
    iblk m c 2 t (ix2 k f) = m ((c : Thread nD τ).loc main_arg2) (ix2 k (colAt t f)) := by
  blk_ext [iblk, V, (index_at t).2.2.1, colAt]

theorem read_down (t : Fin cfg0.N) (f : Fin 512) (k : Fin 2048) :
    iblk m c 3 t (ix2 f k) = m ((c : Thread nD τ).loc main_arg3) (ix2 (colAt t f) k) := by
  blk_ext [iblk, V, (index_at t).2.2.2.1, colAt]

theorem read_x (t : Fin cfg0.N) (r : Fin 512) (k : Fin 2048) :
    iblk m c 4 t (ix2 r k) = m ((c : Thread nD τ).loc main_arg4) (ix2 (rowAt t r) k) := by
  blk_ext [iblk, V, (index_at t).2.2.2.2.1, rowAt]

theorem read_gain (t : Fin cfg0.N) (k : Fin 2048) (n : Fin 4) (hn : n.val = t.val / 88) :
    iblk m c 5 t (ix3 0 0 k) = m ((c : Thread nD τ).loc main_arg5) (ix3 n 0 k) := by
  blk_ext [iblk, V, (index_at t).2.2.2.2.2.1, hn]

theorem entry_final (k : Fin 2048) : V m c main_v0 (ix2 0 k) = m ((c : Thread nD τ).loc main_arg6) (ix1 k) := by
  entry_read
  pointwise

theorem read_final (t : Fin cfg0.N) (k : Fin 2048) :
    iblk m c 6 t (ix2 0 k) = m ((c : Thread nD τ).loc main_arg6) (ix1 k) := by
  refine Eq.trans ?_ (entry_final m c k)
  blk_ext [iblk, (index_at t).2.2.2.2.2.2.1]

/-! ### The result -/

/-- Row `row`, column `k` of the result, from the arguments. -/
def layer (h : Vec Ideal S16384x2048 .bf16) (wg wu : Vec Ideal S2048x5632 .bf16) (wd : Vec Ideal S5632x2048 .bf16)
    (x : Vec Ideal S16384x2048 .f32) (gt : Vec Ideal S4x1x2048 .f32) (g : Vec Ideal S2048 .f32) (row : Fin 16384)
    (k : Fin 2048) : EReal :=
  normalised (fun k => x (ix2 row k) + gt (ix3 ⟨row.val / 4096, by omega⟩ 0 k)
      * down (fun k => h (ix2 row k)) (fun k f => wg (ix2 k f)) (fun k f => wu (ix2 k f)) (fun f k => wd (ix2 f k)) k)
    (fun k => g (ix1 k)) k

theorem carried_apply (t : Fin cfg0.N) (h : t.val % 11 = 10) (r : Fin 512) (k : Fin 2048) :
    (outsAt0 m c t.val t.isLt).2 (ix2 r k)
      = down (fun k => m ((c : Thread nD τ).loc main_arg0) (ix2 (rowAt t r) k))
          (fun k f => m ((c : Thread nD τ).loc main_arg1) (ix2 k f))
          (fun k f => m ((c : Thread nD τ).loc main_arg2) (ix2 k f))
          (fun f k => m ((c : Thread nD τ).loc main_arg3) (ix2 f k)) k := by
  have ht : t.val < 352 := lt_of_lt_of_eq t.isLt N_0
  rw [carried_eq m c t h]
  unfold part down
  simp only [part_apply]
  refine Fin.sum_mul_add_congr fun s f hf => ?_
  have hs : 11 * (t.val / 11) + s.val < cfg0.N := lt_of_lt_of_eq (by omega) N_0.symm
  have er : rowAt ⟨11 * (t.val / 11) + s.val, hs⟩ r = rowAt t r :=
    Fin.ext (by show 512 * ((11 * (t.val / 11) + s.val) / 11) + r.val = 512 * (t.val / 11) + r.val; omega)
  have ec : colAt ⟨11 * (t.val / 11) + s.val, hs⟩ f = ⟨s.val * 512 + f.val, hf⟩ :=
    Fin.ext (by show ((11 * (t.val / 11) + s.val) % 11) * 512 + f.val = s.val * 512 + f.val; omega)
  unfold hidden
  simp only [read_h, read_gate, read_up, read_down, er, ec]

theorem array_eq :
    (dats m 0 c).arrAt 7 cfg0.N = fun y : S16384x2048.Idx =>
      layer (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (y 0) (y 1) := by
  refine (dats m 0 c).arrAt_eq_of_covers 7 _ (by decide +kernel) fun t hf y => ?_
  blk_simp
  rw [after0_7]
  have h10 : t.val % 11 = 10 := (flush0_7 t).mp hf
  have ht : t.val < 352 := lt_of_lt_of_eq t.isLt N_0
  have hy0 : (y 0).val < 512 := (y 0).isLt
  have hy1 : (y 1).val < 2048 := (y 1).isLt
  have e : y = ix2 ⟨(y 0).val, hy0⟩ ⟨(y 1).val, hy1⟩ := by
    refine funext fun a => ?_
    fin_cases a <;> rfl
  have e0 : ((win0_7.blk t).view.emb y) 0 = rowAt t ⟨(y 0).val, hy0⟩ := by
    refine Fin.ext ?_
    show (((win0_7.blk t).view.emb y) 0).val = 512 * (t.val / 11) + (y 0).val
    blk_simp [(index_at t).2.2.2.2.2.2.2]
    omega
  have e1 : ((win0_7.blk t).view.emb y) 1 = (⟨(y 1).val, hy1⟩ : Fin 2048) := by
    refine Fin.ext ?_
    blk_simp [(index_at t).2.2.2.2.2.2.2]
  have hn : t.val / 88 = (rowAt t ⟨(y 0).val, hy0⟩).val / 4096 := by
    show t.val / 88 = (512 * (t.val / 11) + (y 0).val) / 4096
    omega
  rw [e0, e1]
  refine (congrArg (outsAt0 m c t.val t.isLt).1 e).trans ?_
  rw [block_eq m c t h10, last_apply]
  unfold layer
  simp only [carried_apply m c t h10, read_x, read_final, read_gain m c t _ ⟨(rowAt t ⟨(y 0).val, hy0⟩).val / 4096, by omega⟩ hn.symm]

end Cert.Ffn

end
-- ==== Proof.Ffn.Reference.lean ====
/-
The reference's feed-forward layer, in stages, each read at an index over the extended reals: `gated` is the hidden
array, `residual` the sum of the input and the layer's output, `final` the normalised rows.
-/
module

public import proofs.«01_k».proof.Proof.Ffn.Spec
public import proofs.«01_k».proof.Proof.Ffn.Kernel
public import proofs.«01_k».proof.Proof.Gen.Reference2Ideal.Run
public import Idealize.ShloMosaic.Lib.Pointwise

@[expose] public section

set_option maxRecDepth 16384

noncomputable section

namespace Cert.Ffn.Ref

open Cert.Reference2Ideal Cert.Reference2Ideal.Gen Idealize.ShloMosaic Idealize.ShloMosaic.TcCoe

variable {F : FTy → Type} [FloatOps F]

/-- A branch's array: the tokens by the branch's weights. -/
def branch (h : Vec F S16384x2048 .bf16) (w : Vec F S2048x5632 .bf16) : FVec F S4x4096x5632 .f32 :=
  Host.dotGeneral dot_S4x4096x2048_S2048x5632_S4x4096x5632_2_0_01_1_n_n none
    (shapeCast _ (extf .f32 h bitsLt_bf16_f32) shapeCasts_S16384x2048_S4x4096x2048) (extf .f32 w bitsLt_bf16_f32)

/-- The hidden array, from the two branches. -/
def gated (a b : FVec F S4x4096x5632 .f32) : FVec F S4x4096x5632 .f32 :=
  mulf (mulf a (Host.divf (broadcastInDim S4x4096x5632 ![] bcast_S_S4x4096x5632 (constant S_ .f32 0x3F800000#32))
    (addf (broadcastInDim S4x4096x5632 ![] bcast_S_S4x4096x5632 (constant S_ .f32 0x3F800000#32))
      (Host.exp (Host.negf a))))) b

/-- The input with the layer's output added. -/
def residual (p : FVec F S4x4096x5632 .f32) (wd : Vec F S5632x2048 .bf16) (x : Vec F S16384x2048 .f32)
    (gt : Vec F S4x1x2048 .f32) : FVec F S4x4096x2048 .f32 :=
  addf (shapeCast _ x shapeCasts_S16384x2048_S4x4096x2048)
    (mulf (broadcastInDim S4x4096x2048 ![0, 1, 2] bcast_S4x1x2048_S4x4096x2048_0_1_2 gt)
      (Host.dotGeneral dot_S4x4096x5632_S5632x2048_S4x4096x2048_2_0_01_1_n_n none p (extf .f32 wd bitsLt_bf16_f32)))

/-- The rows normalised. -/
def final (x : FVec F S4x4096x2048 .f32) (g : Vec F S2048 .f32) : FVec F S16384x2048 .f32 :=
  shapeCast _ (mulf (mulf x (broadcastInDim S4x4096x2048 ![0, 1, 2] bcast_S4x4096x1_S4x4096x2048_0_1_2
    (Host.rsqrt (addf (Host.divf (broadcastInDim S4x4096x1 ![0, 1] bcast_S4x4096_S4x4096x1_0_1
      (Host.reduceAdd (mulf x x) (constant S_ .f32 0x00000000#32) reducesTo_S4x4096x2048_S4x4096_d2 h_S_))
      (broadcastInDim S4x4096x1 ![] bcast_S_S4x4096x1 (constant S_ .f32 0x45000000#32)))
      (broadcastInDim S4x4096x1 ![] bcast_S_S4x4096x1 (constant S_ .f32 0x358637BD#32))))))
    (broadcastInDim S4x4096x2048 ![0, 1, 2] bcast_S1x1x2048_S4x4096x2048_0_1_2
      (broadcastInDim S1x1x2048 ![2] bcast_S2048_S1x1x2048_2 g))) shapeCasts_S4x4096x2048_S16384x2048

/-- The reference's result is these stages, one after the other. -/
theorem res_eq (m : (ℓ : Loc nD τ sig) → Buf (Elt F) ℓ) (c : Dev nD) :
    Value.res_out0 m c
      = final (residual (gated (branch (m ((c.tc : Thread nD τ).loc main_arg0)) (m ((c.tc : Thread nD τ).loc main_arg1)))
          (branch (m ((c.tc : Thread nD τ).loc main_arg0)) (m ((c.tc : Thread nD τ).loc main_arg2))))
          (m ((c.tc : Thread nD τ).loc main_arg3)) (m ((c.tc : Thread nD τ).loc main_arg4))
          (m ((c.tc : Thread nD τ).loc main_arg5))) (m ((c.tc : Thread nD τ).loc main_arg6)) := by
  unfold Value.res_out0 Value.res_main_v27
  rfl

/-! ### Read at an index -/

theorem branch_apply (h : Vec Ideal S16384x2048 .bf16) (w : Vec Ideal S2048x5632 .bf16) (n : Fin 4) (p : Fin 4096)
    (f : Fin 5632) (hp : n.val * 4096 + p.val < 16384) :
    branch h w (ix3 n p f) = ∑ k : Fin 2048, h (ix2 ⟨n.val * 4096 + p.val, hp⟩ k) * w (ix2 k f) := by
  unfold branch
  pointwise

theorem gated_apply (a b : FVec Ideal S4x4096x5632 .f32) (j : S4x4096x5632.Idx) :
    gated a b j = silu (a j) * b j := by
  unfold gated silu Ideal.logistic
  pointwise

theorem residual_apply (q : FVec Ideal S4x4096x5632 .f32) (wd : Vec Ideal S5632x2048 .bf16) (x : Vec Ideal S16384x2048 .f32)
    (gt : Vec Ideal S4x1x2048 .f32) (n : Fin 4) (p : Fin 4096) (k : Fin 2048) (hp : n.val * 4096 + p.val < 16384) :
    residual q wd x gt (ix3 n p k)
      = x (ix2 ⟨n.val * 4096 + p.val, hp⟩ k) + gt (ix3 n 0 k) * ∑ f : Fin 5632, q (ix3 n p f) * wd (ix2 f k) := by
  unfold residual
  pointwise

theorem final_apply (x : FVec Ideal S4x4096x2048 .f32) (g : Vec Ideal S2048 .f32) (n : Fin 4) (p : Fin 4096) (k : Fin 2048)
    (hp : n.val * 4096 + p.val < 16384) :
    final x g (ix2 ⟨n.val * 4096 + p.val, hp⟩ k) = normalised (fun k => x (ix3 n p k)) (fun k => g (ix1 k)) k := by
  unfold final normalised columns eps
  pointwise

/-- The stages give the layer's rows. -/
theorem stages_eq (h : Vec Ideal S16384x2048 .bf16) (wg wu : Vec Ideal S2048x5632 .bf16) (wd : Vec Ideal S5632x2048 .bf16)
    (x : Vec Ideal S16384x2048 .f32) (gt : Vec Ideal S4x1x2048 .f32) (g : Vec Ideal S2048 .f32) :
    final (residual (gated (branch h wg) (branch h wu)) wd x gt) g
      = fun y : S16384x2048.Idx => Cert.Ffn.layer h wg wu wd x gt g (y 0) (y 1) := by
  funext y
  have hy : (y 0).val < 16384 := (y 0).isLt
  obtain ⟨n, hn⟩ : ∃ n : Fin 4, n.val = (y 0).val / 4096 := ⟨⟨(y 0).val / 4096, by omega⟩, rfl⟩
  obtain ⟨p, hp⟩ : ∃ p : Fin 4096, p.val = (y 0).val % 4096 := ⟨⟨(y 0).val % 4096, by omega⟩, rfl⟩
  have hr : n.val * 4096 + p.val < 16384 := by omega
  have e0 : y 0 = (⟨n.val * 4096 + p.val, hr⟩ : Fin 16384) := Fin.ext (by show (y 0).val = n.val * 4096 + p.val; omega)
  obtain ⟨k, hk⟩ : ∃ k : Fin 2048, y 1 = k := ⟨y 1, rfl⟩
  have e : y = ix2 ⟨n.val * 4096 + p.val, hr⟩ k := by
    refine funext fun a => ?_
    fin_cases a
    · exact e0
    · exact hk
  have en : (⟨(n.val * 4096 + p.val) / 4096, by omega⟩ : Fin 4) = n := Fin.ext (by show (n.val * 4096 + p.val) / 4096 = n.val; omega)
  show _ = Cert.Ffn.layer h wg wu wd x gt g (y 0) (y 1)
  rw [e0, hk]
  refine (congrArg (final (residual (gated (branch h wg) (branch h wu)) wd x gt) g) e).trans ?_
  rw [final_apply]
  unfold Cert.Ffn.layer Cert.Ffn.down Cert.Ffn.hidden
  simp only [residual_apply _ _ _ _ n p _ hr, gated_apply, branch_apply _ _ n p _ hr, en]

end Cert.Ffn.Ref

end
-- ==== Proof.Mix.Kernel.lean ====
/-
The output projection's two results: the input with the two mixers' projected rows added, and its modulated norm. The
kernel multiplies each mixer's rows by its own half of the weights.
-/
module

public import proofs.«01_k».proof.Proof.Ffn.Spec
public import proofs.«01_k».proof.Proof.Gen.Kernel3Ideal.Value
public import Idealize.ShloMosaic.Lib.Pointwise
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.Mix

open Cert.Kernel3Ideal Cert.Kernel3Ideal.Gen Idealize.ShloMosaic Idealize.ShloMosaic.TcCoe Cert.Ffn

/-- The word for one. -/
def one : EReal := Ideal.ofBits .f32 0x3F800000#32

/-- Column `k` of a token's row projected: the first mixer's row by the upper half of the weights, the second's by the
lower half. -/
def project (a b : Fin 1024 → EReal) (w : Fin 2048 → Fin 2048 → EReal) (k : Fin 2048) : EReal :=
  ∑ e : Fin 1024, a e * w ⟨e.val, by omega⟩ k + ∑ e : Fin 1024, b e * w ⟨1024 + e.val, by omega⟩ k

variable (m : (ℓ : Loc nD τ sig) → Buf (Elt Ideal) ℓ) (c : Dev nD)

/-! ### The body's arithmetic at an index -/

theorem sum_apply (a : Vec Ideal S512x1024 .bf16) (wa : Vec Ideal S1024x2048 .bf16) (b : Vec Ideal S512x1024 .bf16)
    (wb : Vec Ideal S1024x2048 .bf16) (x : Vec Ideal S512x2048 .f32) (gt : Vec Ideal S1x1x2048 .f32) (r : Fin 512)
    (k : Fin 2048) :
    k0_pay2 a wa b wb x gt (ix2 r k)
      = x (ix2 r k) + gt (ix3 0 0 k)
          * (∑ e : Fin 1024, a (ix2 r e) * wa (ix2 e k) + ∑ e : Fin 1024, b (ix2 r e) * wb (ix2 e k)) := by
  unfold k0_pay2
  pointwise

theorem norm_apply (a : Vec Ideal S512x1024 .bf16) (wa : Vec Ideal S1024x2048 .bf16) (b : Vec Ideal S512x1024 .bf16)
    (wb : Vec Ideal S1024x2048 .bf16) (x : Vec Ideal S512x2048 .f32) (gt : Vec Ideal S1x1x2048 .f32)
    (g : Vec Ideal S1x2048 .f32) (r : Fin 512) (k : Fin 2048) :
    k0_pay3 a wa b wb x gt g (ix2 r k)
      = normalised (fun k => k0_pay2 a wa b wb x gt (ix2 r k)) (fun k => g (ix2 0 k)) k := by
  unfold k0_pay3 normalised columns eps
  pointwise

theorem scale_apply (s : Vec Ideal S1x1x2048 .f32) (k : Fin 2048) : k0_pay4 s (ix2 0 k) = one + s (ix3 0 0 k) := by
  unfold k0_pay4 one
  pointwise

theorem modulate_apply (y : FVec Ideal S512x2048 .f32) (s : FVec Ideal S1x2048 .f32) (sh : Vec Ideal S1x1x2048 .f32)
    (r : Fin 512) (k : Fin 2048) : k0_pay1 y s sh (ix2 r k) = y (ix2 r k) * s (ix2 0 k) + sh (ix3 0 0 k) := by
  unfold k0_pay1
  pointwise

/-! The two halves of the weights, as the body reads them. -/

theorem upper_apply (w : Vec Ideal S2048x2048 .bf16) (e : Fin 1024) (k : Fin 2048) :
    View.ld w r0_1 (ix2 e k) = w (ix2 ⟨e.val, by omega⟩ k) := by
  unfold r0_1
  pointwise

theorem lower_apply (w : Vec Ideal S2048x2048 .bf16) (e : Fin 1024) (k : Fin 2048) :
    View.ld w r0_2 (ix2 e k) = w (ix2 ⟨1024 + e.val, by omega⟩ k) := by
  unfold r0_2
  pointwise

/-! ### The blocks a point reads -/

/-- Where each window's block stands at a grid point. -/
theorem index_at : ∀ t : Fin cfg0.N,
    (cfg0.win 0).index t = ![t.val, 0]
    ∧ (cfg0.win 1).index t = ![t.val, 0]
    ∧ (cfg0.win 2).index t = ![0, 0]
    ∧ (cfg0.win 3).index t = ![t.val, 0]
    ∧ (cfg0.win 4).index t = ![t.val / 8, 0, 0]
    ∧ (cfg0.win 5).index t = ![t.val / 8, 0, 0]
    ∧ (cfg0.win 6).index t = ![t.val / 8, 0, 0]
    ∧ (cfg0.win 7).index t = ![0, 0]
    ∧ (cfg0.win 8).index t = ![t.val, 0]
    ∧ (cfg0.win 9).index t = ![t.val, 0] := by
  decide +kernel

/-- The row of the arrays at which row `r` of a point's block stands. -/
def rowAt (t : Fin cfg0.N) (r : Fin 512) : Fin 16384 :=
  ⟨512 * t.val + r.val, by
    have h : t.val < 32 := lt_of_lt_of_eq t.isLt N_0
    omega⟩

/-- The sequence to which a row belongs. -/
def groupOf (row : Fin 16384) : Fin 4 := ⟨row.val / 4096, by omega⟩

theorem group_at (t : Fin cfg0.N) (r : Fin 512) : (groupOf (rowAt t r)).val = t.val / 8 := by
  show (512 * t.val + r.val) / 4096 = t.val / 8
  omega

theorem read_a (t : Fin cfg0.N) (r : Fin 512) (k : Fin 1024) :
    iblk m c 0 t (ix2 r k) = m ((c : Thread nD τ).loc main_arg0) (ix2 (rowAt t r) k) := by
  blk_ext [iblk, V, (index_at t).1, rowAt]

theorem read_b (t : Fin cfg0.N) (r : Fin 512) (k : Fin 1024) :
    iblk m c 1 t (ix2 r k) = m ((c : Thread nD τ).loc main_arg1) (ix2 (rowAt t r) k) := by
  blk_ext [iblk, V, (index_at t).2.1, rowAt]

theorem read_w (t : Fin cfg0.N) (e : Fin 2048) (k : Fin 2048) :
    iblk m c 2 t (ix2 e k) = m ((c : Thread nD τ).loc main_arg2) (ix2 e k) := by
  blk_ext [iblk, V, (index_at t).2.2.1]

theorem read_upper (t : Fin cfg0.N) (e : Fin 1024) (k : Fin 2048) :
    View.ld (iblk m c 2 t) r0_1 (ix2 e k) = m ((c : Thread nD τ).loc main_arg2) (ix2 ⟨e.val, by omega⟩ k) :=
  (upper_apply _ e k).trans (read_w m c t _ k)

theorem read_lower (t : Fin cfg0.N) (e : Fin 1024) (k : Fin 2048) :
    View.ld (iblk m c 2 t) r0_2 (ix2 e k) = m ((c : Thread nD τ).loc main_arg2) (ix2 ⟨1024 + e.val, by omega⟩ k) :=
  (lower_apply _ e k).trans (read_w m c t _ k)

theorem read_x (t : Fin cfg0.N) (r : Fin 512) (k : Fin 2048) :
    iblk m c 3 t (ix2 r k) = m ((c : Thread nD τ).loc main_arg3) (ix2 (rowAt t r) k) := by
  blk_ext [iblk, V, (index_at t).2.2.2.1, rowAt]

theorem read_gain (t : Fin cfg0.N) (r : Fin 512) (k : Fin 2048) :
    iblk m c 4 t (ix3 0 0 k) = m ((c : Thread nD τ).loc main_arg4) (ix3 (groupOf (rowAt t r)) 0 k) := by
  blk_ext [iblk, V, (index_at t).2.2.2.2.1, group_at t r]

theorem read_scale (t : Fin cfg0.N) (r : Fin 512) (k : Fin 2048) :
    iblk m c 5 t (ix3 0 0 k) = m ((c : Thread nD τ).loc main_arg5) (ix3 (groupOf (rowAt t r)) 0 k) := by
  blk_ext [iblk, V, (index_at t).2.2.2.2.2.1, group_at t r]

theorem read_shift (t : Fin cfg0.N) (r : Fin 512) (k : Fin 2048) :
    iblk m c 6 t (ix3 0 0 k) = m ((c : Thread nD τ).loc main_arg6) (ix3 (groupOf (rowAt t r)) 0 k) := by
  blk_ext [iblk, V, (index_at t).2.2.2.2.2.2.1, group_at t r]

theorem entry_norm (k : Fin 2048) : V m c main_v0 (ix2 0 k) = m ((c : Thread nD τ).loc main_arg7) (ix1 k) := by
  entry_read
  pointwise

theorem read_norm (t : Fin cfg0.N) (k : Fin 2048) :
    iblk m c 7 t (ix2 0 k) = m ((c : Thread nD τ).loc main_arg7) (ix1 k) := by
  refine Eq.trans ?_ (entry_norm m c k)
  blk_ext [iblk, (index_at t).2.2.2.2.2.2.2.1]

/-! ### The results -/

/-- Row `row`, column `k` of the first result, from the arguments. -/
def mixed (a b : Vec Ideal S16384x1024 .bf16) (w : Vec Ideal S2048x2048 .bf16) (x : Vec Ideal S16384x2048 .f32)
    (gt : Vec Ideal S4x1x2048 .f32) (row : Fin 16384) (k : Fin 2048) : EReal :=
  x (ix2 row k) + gt (ix3 (groupOf row) 0 k)
    * project (fun e => a (ix2 row e)) (fun e => b (ix2 row e)) (fun e k => w (ix2 e k)) k

/-- Row `row`, column `k` of the second result: the norm of the first, scaled and shifted. -/
def modulated (x : Fin 16384 → Fin 2048 → EReal) (sc sh : Vec Ideal S4x1x2048 .f32) (g : Vec Ideal S2048 .f32)
    (row : Fin 16384) (k : Fin 2048) : EReal :=
  normalised (x row) (fun k => g (ix1 k)) k * (one + sc (ix3 (groupOf row) 0 k)) + sh (ix3 (groupOf row) 0 k)

theorem point_sum (t : Fin cfg0.N) (r : Fin 512) (k : Fin 2048) :
    k0_pay2 (iblk m c 0 t) (View.ld (iblk m c 2 t) r0_1) (iblk m c 1 t) (View.ld (iblk m c 2 t) r0_2) (iblk m c 3 t)
        (iblk m c 4 t) (ix2 r k)
      = mixed (m ((c : Thread nD τ).loc main_arg0)) (m ((c : Thread nD τ).loc main_arg1))
          (m ((c : Thread nD τ).loc main_arg2)) (m ((c : Thread nD τ).loc main_arg3))
          (m ((c : Thread nD τ).loc main_arg4)) (rowAt t r) k := by
  rw [sum_apply]
  unfold mixed project
  simp only [read_upper, read_lower, read_a, read_b, read_x, read_gain m c t r]

theorem point_norm (t : Fin cfg0.N) (r : Fin 512) (k : Fin 2048) :
    k0_pay1 (k0_pay3 (iblk m c 0 t) (View.ld (iblk m c 2 t) r0_1) (iblk m c 1 t) (View.ld (iblk m c 2 t) r0_2)
        (iblk m c 3 t) (iblk m c 4 t) (iblk m c 7 t)) (k0_pay4 (iblk m c 5 t)) (iblk m c 6 t) (ix2 r k)
      = modulated (mixed (m ((c : Thread nD τ).loc main_arg0)) (m ((c : Thread nD τ).loc main_arg1))
          (m ((c : Thread nD τ).loc main_arg2)) (m ((c : Thread nD τ).loc main_arg3))
          (m ((c : Thread nD τ).loc main_arg4))) (m ((c : Thread nD τ).loc main_arg5))
          (m ((c : Thread nD τ).loc main_arg6)) (m ((c : Thread nD τ).loc main_arg7)) (rowAt t r) k := by
  rw [modulate_apply, norm_apply, scale_apply]
  unfold modulated
  simp only [point_sum, read_norm, read_scale m c t r, read_shift m c t r]

/-- A block's index, from its two coordinates. -/
theorem index_eq (y : S512x2048.Idx) : ∃ (r : Fin 512) (k : Fin 2048), y = ix2 r k ∧ (y 0).val = r.val ∧ (y 1).val = k.val :=
  ⟨y 0, y 1, by refine funext fun a => ?_; fin_cases a <;> rfl, rfl, rfl⟩

theorem first_eq :
    (dats m 0 c).arrAt 8 cfg0.N = fun y : S16384x2048.Idx =>
      mixed (m ((c : Thread nD τ).loc main_arg0)) (m ((c : Thread nD τ).loc main_arg1))
          (m ((c : Thread nD τ).loc main_arg2)) (m ((c : Thread nD τ).loc main_arg3))
          (m ((c : Thread nD τ).loc main_arg4)) (y 0) (y 1) := by
  refine (dats m 0 c).arrAt_eq_of_covers 8 _ (by decide +kernel) fun t hf y => ?_
  blk_simp
  rw [after0_8]
  frame_out
  obtain ⟨r, k, e, h0, h1⟩ := index_eq y
  have e0 : ((win0_8.blk t).view.emb y) 0 = rowAt t r := by
    refine Fin.ext ?_
    show (((win0_8.blk t).view.emb y) 0).val = 512 * t.val + r.val
    blk_simp [(index_at t).2.2.2.2.2.2.2.2.1]
    omega
  have e1 : ((win0_8.blk t).view.emb y) 1 = k := by
    refine Fin.ext ?_
    blk_simp [(index_at t).2.2.2.2.2.2.2.2.1]
    exact h1
  rw [e0, e1]
  refine (congrArg _ e).trans ?_
  exact point_sum m c t r k

theorem second_eq :
    (dats m 0 c).arrAt 9 cfg0.N = fun y : S16384x2048.Idx =>
      modulated (mixed (m ((c : Thread nD τ).loc main_arg0)) (m ((c : Thread nD τ).loc main_arg1))
          (m ((c : Thread nD τ).loc main_arg2)) (m ((c : Thread nD τ).loc main_arg3))
          (m ((c : Thread nD τ).loc main_arg4))) (m ((c : Thread nD τ).loc main_arg5))
          (m ((c : Thread nD τ).loc main_arg6)) (m ((c : Thread nD τ).loc main_arg7)) (y 0) (y 1) := by
  refine (dats m 0 c).arrAt_eq_of_covers 9 _ (by decide +kernel) fun t hf y => ?_
  blk_simp
  rw [after0_9]
  frame_out
  obtain ⟨r, k, e, h0, h1⟩ := index_eq y
  have e0 : ((win0_9.blk t).view.emb y) 0 = rowAt t r := by
    refine Fin.ext ?_
    show (((win0_9.blk t).view.emb y) 0).val = 512 * t.val + r.val
    blk_simp [(index_at t).2.2.2.2.2.2.2.2.2]
    omega
  have e1 : ((win0_9.blk t).view.emb y) 1 = k := by
    refine Fin.ext ?_
    blk_simp [(index_at t).2.2.2.2.2.2.2.2.2]
    exact h1
  rw [e0, e1]
  refine (congrArg _ e).trans ?_
  exact point_norm m c t r k

end Cert.Mix

end
-- ==== Proof.Mix.Reference.lean ====
/-
The reference's output projection, in stages, each read at an index over the extended reals: `joined` sets the two
mixers' rows side by side and multiplies them by the weights, `residual` adds the input, `modulate` is the modulated norm.
-/
module

public import proofs.«01_k».proof.Proof.Mix.Kernel
public import proofs.«01_k».proof.Proof.Gen.Reference3Ideal.Run
public import Idealize.ShloMosaic.Lib.Pointwise

@[expose] public section

set_option maxRecDepth 16384

noncomputable section

namespace Cert.Mix.Ref

open Cert.Reference3Ideal Cert.Reference3Ideal.Gen Idealize.ShloMosaic Idealize.ShloMosaic.TcCoe Cert.Ffn

variable {F : FTy → Type} [FloatOps F]

/-- The two mixers' rows side by side, by the weights. -/
def joined (a b : Vec F S16384x1024 .bf16) (w : Vec F S2048x2048 .bf16) : FVec F S4x4096x2048 .f32 :=
  Host.dotGeneral dot_S4x4096x2048_S2048x2048_S4x4096x2048_2_0_01_1_n_n none
    (shapeCast _ (concatenate S16384x2048 1 [⟨S16384x1024, (extf .f32 a bitsLt_bf16_f32)⟩,
      ⟨S16384x1024, (extf .f32 b bitsLt_bf16_f32)⟩] concatenates_S16384x1024_S16384x1024_S16384x2048_d1)
      shapeCasts_S16384x2048_S4x4096x2048) (extf .f32 w bitsLt_bf16_f32)

/-- The input with the projected rows added. -/
def residual (p : FVec F S4x4096x2048 .f32) (x : Vec F S16384x2048 .f32) (gt : Vec F S4x1x2048 .f32) :
    FVec F S4x4096x2048 .f32 :=
  addf (shapeCast _ x shapeCasts_S16384x2048_S4x4096x2048)
    (mulf (broadcastInDim S4x4096x2048 ![0, 1, 2] bcast_S4x1x2048_S4x4096x2048_0_1_2 gt) p)

/-- The rows normalised, scaled and shifted. -/
def modulate (x : FVec F S4x4096x2048 .f32) (sc sh : Vec F S4x1x2048 .f32) (g : Vec F S2048 .f32) :
    FVec F S16384x2048 .bf16 :=
  truncf .bf16 (shapeCast _ (addf (mulf (mulf (mulf x
    (broadcastInDim S4x4096x2048 ![0, 1, 2] bcast_S4x4096x1_S4x4096x2048_0_1_2
    (Host.rsqrt (addf (Host.divf (broadcastInDim S4x4096x1 ![0, 1] bcast_S4x4096_S4x4096x1_0_1
      (Host.reduceAdd (mulf x x) (constant S_ .f32 0x00000000#32) reducesTo_S4x4096x2048_S4x4096_d2 h_S_))
      (broadcastInDim S4x4096x1 ![] bcast_S_S4x4096x1 (constant S_ .f32 0x45000000#32)))
      (broadcastInDim S4x4096x1 ![] bcast_S_S4x4096x1 (constant S_ .f32 0x358637BD#32))))))
    (broadcastInDim S4x4096x2048 ![0, 1, 2] bcast_S1x1x2048_S4x4096x2048_0_1_2
      (broadcastInDim S1x1x2048 ![2] bcast_S2048_S1x1x2048_2 g)))
    (broadcastInDim S4x4096x2048 ![0, 1, 2] bcast_S4x1x2048_S4x4096x2048_0_1_2
      (addf (broadcastInDim S4x1x2048 ![] bcast_S_S4x1x2048 (constant S_ .f32 0x3F800000#32)) sc)))
    (broadcastInDim S4x4096x2048 ![0, 1, 2] bcast_S4x1x2048_S4x4096x2048_0_1_2 sh))
    shapeCasts_S4x4096x2048_S16384x2048) bitsLt_bf16_f32

/-- The first result, as the reference returns it. -/
def flat (x : FVec F S4x4096x2048 .f32) : FVec F S16384x2048 .f32 := shapeCast _ x shapeCasts_S4x4096x2048_S16384x2048

/-! ### Read at an index -/

theorem joined_apply (a b : Vec Ideal S16384x1024 .bf16) (w : Vec Ideal S2048x2048 .bf16) (n : Fin 4) (p : Fin 4096)
    (k : Fin 2048) (hp : n.val * 4096 + p.val < 16384) :
    joined a b w (ix3 n p k)
      = project (fun e => a (ix2 ⟨n.val * 4096 + p.val, hp⟩ e)) (fun e => b (ix2 ⟨n.val * 4096 + p.val, hp⟩ e))
          (fun e k => w (ix2 e k)) k := by
  unfold joined project
  pointwise

theorem residual_apply (q : FVec Ideal S4x4096x2048 .f32) (x : Vec Ideal S16384x2048 .f32)
    (gt : Vec Ideal S4x1x2048 .f32) (n : Fin 4) (p : Fin 4096) (k : Fin 2048) (hp : n.val * 4096 + p.val < 16384) :
    residual q x gt (ix3 n p k) = x (ix2 ⟨n.val * 4096 + p.val, hp⟩ k) + gt (ix3 n 0 k) * q (ix3 n p k) := by
  unfold residual
  pointwise

theorem modulate_apply (x : FVec Ideal S4x4096x2048 .f32) (sc sh : Vec Ideal S4x1x2048 .f32) (g : Vec Ideal S2048 .f32)
    (n : Fin 4) (p : Fin 4096) (k : Fin 2048) (hp : n.val * 4096 + p.val < 16384) :
    modulate x sc sh g (ix2 ⟨n.val * 4096 + p.val, hp⟩ k)
      = normalised (fun k => x (ix3 n p k)) (fun k => g (ix1 k)) k * (one + sc (ix3 n 0 k)) + sh (ix3 n 0 k) := by
  unfold modulate normalised columns eps one
  pointwise

theorem flat_apply (x : FVec Ideal S4x4096x2048 .f32) (n : Fin 4) (p : Fin 4096) (k : Fin 2048)
    (hp : n.val * 4096 + p.val < 16384) : flat x (ix2 ⟨n.val * 4096 + p.val, hp⟩ k) = x (ix3 n p k) := by
  unfold flat
  pointwise

/-- An index of a result, from the sequence, the position and the column. -/
theorem index_eq (y : S16384x2048.Idx) : ∃ (n : Fin 4) (p : Fin 4096) (k : Fin 2048) (hp : n.val * 4096 + p.val < 16384),
    y = ix2 ⟨n.val * 4096 + p.val, hp⟩ k ∧ y 0 = (⟨n.val * 4096 + p.val, hp⟩ : Fin 16384) ∧ y 1 = k
      ∧ groupOf ⟨n.val * 4096 + p.val, hp⟩ = n := by
  have hy : (y 0).val < 16384 := (y 0).isLt
  have hr : (y 0).val / 4096 * 4096 + (y 0).val % 4096 < 16384 := by omega
  have e0 : y 0 = (⟨(y 0).val / 4096 * 4096 + (y 0).val % 4096, hr⟩ : Fin 16384) :=
    Fin.ext (by show (y 0).val = (y 0).val / 4096 * 4096 + (y 0).val % 4096; omega)
  refine ⟨⟨(y 0).val / 4096, by omega⟩, ⟨(y 0).val % 4096, by omega⟩, y 1, hr, ?_, e0, rfl, ?_⟩
  · refine funext fun a => ?_
    fin_cases a
    · exact e0
    · rfl
  · refine Fin.ext ?_
    show ((y 0).val / 4096 * 4096 + (y 0).val % 4096) / 4096 = (y 0).val / 4096
    omega

/-- The stages give the two results. -/
theorem first_eq (a b : Vec Ideal S16384x1024 .bf16) (w : Vec Ideal S2048x2048 .bf16) (x : Vec Ideal S16384x2048 .f32)
    (gt : Vec Ideal S4x1x2048 .f32) :
    flat (residual (joined a b w) x gt) = fun y : S16384x2048.Idx => mixed a b w x gt (y 0) (y 1) := by
  funext y
  obtain ⟨n, p, k, hp, e, e0, e1, en⟩ := index_eq y
  show _ = mixed a b w x gt (y 0) (y 1)
  rw [e0, e1]
  refine (congrArg _ e).trans ?_
  rw [flat_apply]
  unfold mixed
  rw [residual_apply _ _ _ n p k hp, joined_apply _ _ _ n p k hp, en]

theorem second_eq (a b : Vec Ideal S16384x1024 .bf16) (w : Vec Ideal S2048x2048 .bf16) (x : Vec Ideal S16384x2048 .f32)
    (gt sc sh : Vec Ideal S4x1x2048 .f32) (g : Vec Ideal S2048 .f32) :
    modulate (residual (joined a b w) x gt) sc sh g
      = fun y : S16384x2048.Idx => modulated (mixed a b w x gt) sc sh g (y 0) (y 1) := by
  funext y
  obtain ⟨n, p, k, hp, e, e0, e1, en⟩ := index_eq y
  show _ = modulated (mixed a b w x gt) sc sh g (y 0) (y 1)
  rw [e0, e1]
  refine (congrArg _ e).trans ?_
  rw [modulate_apply]
  unfold modulated mixed
  simp only [residual_apply _ _ _ n p _ hp, joined_apply _ _ _ n p _ hp, en]

end Cert.Mix.Ref

end
-- ==== Proof.In.Spec.lean ====
/-
The input projection over the extended reals, for one token: its modulated row, the sections of the projected row, the
normalised rows of 512 columns, the rotation of 64 columns, and the heads' rows made from them.
-/
module

public import proofs.«01_k».proof.Proof.Ffn.Spec

@[expose] public section

set_option maxRecDepth 16384

noncomputable section

namespace Cert.In

open Idealize.ShloMosaic Cert.Ffn

/-- The word for one. -/
def one : EReal := Ideal.ofBits .f32 0x3F800000#32

/-- The word for the number of columns of a latent row. -/
def latents : EReal := Ideal.ofBits .f32 0x44000000#32

/-- A row of 512 columns divided by the root of its mean square, column by column times a gain. -/
def unit (x g : Fin 512 → EReal) (k : Fin 512) : EReal :=
  x k * Ideal.rsqrt (Ideal.div (∑ e, x e * x e) latents + eps) * g k

/-- A token's row, normalised, scaled and shifted. -/
def modulated (x g sc sh : Fin 2048 → EReal) (e : Fin 2048) : EReal := normalised x g e * (one + sc e) + sh e

/-- Column `k` of a row of 64 columns, rotated in pairs of columns 32 apart. -/
def rotated (x : Fin 64 → EReal) (cos sin : Fin 32 → EReal) (k : Fin 64) : EReal :=
  if h : k.val < 32 then x k * cos ⟨k.val, h⟩ - x ⟨k.val + 32, by omega⟩ * sin ⟨k.val, h⟩
  else x ⟨k.val - 32, by omega⟩ * sin ⟨k.val - 32, by omega⟩ + x k * cos ⟨k.val - 32, by omega⟩

/-- A row of 64 columns, with 64 zeros after it. -/
def padded (x : Fin 64 → EReal) (k : Fin 128) : EReal := if h : k.val < 64 then x ⟨k.val, h⟩ else 0

/-- A row of 64 columns turned a quarter in pairs of columns 32 apart. -/
def turned (x : Fin 64 → EReal) (k : Fin 64) : EReal :=
  if h : k.val < 32 then -x ⟨32 + k.val, by omega⟩ else x ⟨k.val - 32, by omega⟩

/-- A row of 32 columns, twice. -/
def twice (x : Fin 32 → EReal) (k : Fin 64) : EReal := x ⟨k.val % 32, by omega⟩

/-- A row of 24 columns, with 104 zeros after it. -/
def widened (x : Fin 24 → EReal) (k : Fin 128) : EReal := if h : k.val < 24 then x ⟨k.val, h⟩ else 0

/-- The columns of the input projection, in the order in which the body reads them: the rotary section stands there
twice, once turned, each filled up to 128 columns, and the gates last. -/
def extended (w : Fin 2904 → EReal) (j : Fin 3200) : EReal :=
  if h : j.val < 1792 then w ⟨j.val, by omega⟩
  else if h : j.val < 2304 then w ⟨1816 + (j.val - 1792), by omega⟩
  else if h : j.val < 2816 then w ⟨2328 + (j.val - 2304), by omega⟩
  else if h : j.val < 2944 then padded (fun k => w ⟨2840 + k.val, by omega⟩) ⟨j.val - 2816, by omega⟩
  else if h : j.val < 3072 then padded (turned fun k => w ⟨2840 + k.val, by omega⟩) ⟨j.val - 2944, by omega⟩
  else widened (fun k => w ⟨1792 + k.val, by omega⟩) ⟨j.val - 3072, by omega⟩

/-- The columns of the queries' projection, in the order in which the body reads them: every head's plain columns, then
every head's rotary columns, then those turned. -/
def regrouped (w : Fin 1536 → EReal) (j : Fin 3072) : EReal :=
  if h : j.val < 1024 then w ⟨j.val / 128 * 192 + j.val % 128, by omega⟩
  else if h : j.val < 2048 then
    padded (fun k => w ⟨(j.val - 1024) / 128 * 192 + 128 + k.val, by omega⟩) ⟨(j.val - 1024) % 128, by omega⟩
  else padded (turned fun k => w ⟨(j.val - 2048) / 128 * 192 + 128 + k.val, by omega⟩) ⟨(j.val - 2048) % 128, by omega⟩

/-- The same columns, each piece counted from its first column. -/
theorem regrouped_eq (w : Fin 1536 → EReal) (j : Fin 3072) :
    (if h : j.val < 1024 then w ⟨j.val / 128 * 192 + j.val % 128, by omega⟩
    else
      if h : j.val - 1024 < 1024 then
        if h' : (j.val - 1024) / 128 < 8 ∧ (j.val - 1024) % 128 < 64 then
          w ⟨(j.val - 1024) / 128 * 192 + (128 + (j.val - 1024) % 128), by omega⟩
        else 0
      else
        if h' : (j.val - 1024 - 1024) / 128 < 8 ∧ (j.val - 1024 - 1024) % 128 < 64 then
          if h'' : (j.val - 1024 - 1024) % 128 < 32 then
            -w ⟨(j.val - 1024 - 1024) / 128 * 192 + (128 + (32 + (j.val - 1024 - 1024) % 128)), by omega⟩
          else w ⟨(j.val - 1024 - 1024) / 128 * 192 + (128 + ((j.val - 1024 - 1024) % 128 - 32)), by omega⟩
        else 0) = regrouped w j := by
  unfold regrouped padded turned
  have hj := j.isLt
  by_cases h1 : j.val < 1024
  · simp only [h1, dif_pos]
  · by_cases h2 : j.val < 2048
    · have h3 : j.val - 1024 < 1024 := by omega
      have h4 : (j.val - 1024) / 128 < 8 := by omega
      simp only [h1, h2, h3, h4, dif_pos, dif_neg, not_false_eq_true, true_and, Nat.add_assoc]
    · have h3 : ¬j.val - 1024 < 1024 := by omega
      have h5 : j.val - 1024 - 1024 = j.val - 2048 := by omega
      have h4 : (j.val - 2048) / 128 < 8 := by omega
      simp only [h1, h2, h3, h4, h5, dif_neg, not_false_eq_true, true_and, Nat.add_assoc]

/-- Column `j` of a row by a matrix. -/
def through {n p : Nat} (h : Fin n → EReal) (w : Fin n → Fin p → EReal) (j : Fin p) : EReal := ∑ e, h e * w e j

/-! ### Sums of filled and turned columns -/

theorem through_padded {n : Nat} (h : Fin n → EReal) (x : Fin n → Fin 64 → EReal) (k : Fin 128) :
    ∑ e, h e * padded (x e) k = padded (through h x) k := by
  unfold padded through
  split
  · rfl
  · simp only [mul_zero, Finset.sum_const_zero]

theorem through_widened {n : Nat} (h : Fin n → EReal) (x : Fin n → Fin 24 → EReal) (k : Fin 128) :
    ∑ e, h e * widened (x e) k = widened (through h x) k := by
  unfold widened through
  split
  · rfl
  · simp only [mul_zero, Finset.sum_const_zero]

/-- An extended real that is a real number. -/
def IsReal (x : EReal) : Prop := ∃ r : ℝ, x = (r : EReal)

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.sum {n : Nat} {f : Fin n → EReal} (hf : ∀ e, IsReal (f e)) : IsReal (∑ e, f e) := by
  choose g hg using hf
  refine ⟨∑ e, g e, ?_⟩
  simp only [hg]
  exact (map_sum (⟨⟨Real.toEReal, EReal.coe_zero⟩, EReal.coe_add⟩ : ℝ →+ EReal) g Finset.univ).symm

theorem IsReal.through {n p : Nat} {h : Fin n → EReal} {w : Fin n → Fin p → EReal} (hh : ∀ e, IsReal (h e))
    (hw : ∀ e j, IsReal (w e j)) (j : Fin p) : IsReal (through h w j) :=
  IsReal.sum fun e => (hh e).mul (hw e j)

/-- Opposites of reals add up to the opposite of their sum. -/
theorem sum_opposite {n : Nat} {f : Fin n → EReal} (hf : ∀ e, IsReal (f e)) : ∑ e, -f e = -∑ e, f e := by
  choose g hg using hf
  let φ : ℝ →+ EReal := ⟨⟨Real.toEReal, EReal.coe_zero⟩, EReal.coe_add⟩
  have h1 : ∑ e, ((g e : ℝ) : EReal) = ((∑ e, g e : ℝ) : EReal) := (map_sum φ g Finset.univ).symm
  have h2 : ∑ e, ((-g e : ℝ) : EReal) = ((∑ e, -g e : ℝ) : EReal) := (map_sum φ (fun e => -g e) Finset.univ).symm
  simp only [hg, h1, ← EReal.coe_neg, h2, Finset.sum_neg_distrib]

theorem through_turned {n : Nat} {h : Fin n → EReal} {x : Fin n → Fin 64 → EReal} (hh : ∀ e, IsReal (h e))
    (hx : ∀ e k, IsReal (x e k)) (k : Fin 64) : through h (fun e => turned (x e)) k = turned (through h x) k := by
  unfold turned through
  by_cases h' : k.val < 32
  · simp only [h', dif_pos, mul_neg]
    exact sum_opposite fun e => (hh e).mul (hx e _)
  · simp only [h', dif_neg, not_false_eq_true]

/-- The filled section times the filled cosines, with the turned section times the sines, is the rotated section. -/
theorem rotary (x : Fin 64 → EReal) (c s : Fin 32 → EReal) (k : Fin 128) :
    padded x k * padded (twice c) k + padded (turned x) k * padded (twice s) k = padded (rotated x c s) k := by
  unfold padded rotated twice turned
  by_cases h : k.val < 64
  · simp only [h, dif_pos]
    by_cases h' : k.val < 32
    · have e1 : (⟨32 + k.val, by omega⟩ : Fin 64) = ⟨k.val + 32, by omega⟩ := Fin.ext (Nat.add_comm _ _)
      have e2 : (⟨k.val % 32, by omega⟩ : Fin 32) = ⟨k.val, h'⟩ := Fin.ext (Nat.mod_eq_of_lt h')
      simp only [h', dif_pos, e1, e2, neg_mul, sub_eq_add_neg]
    · have e2 : (⟨k.val % 32, by omega⟩ : Fin 32) = ⟨k.val - 32, by omega⟩ := Fin.ext (by show k.val % 32 = k.val - 32; omega)
      simp only [h', dif_neg, not_false_eq_true, e2]
      exact add_comm _ _
  · simp only [h, dif_neg, not_false_eq_true, mul_zero, add_zero]

end Cert.In

end
-- ==== Proof.In.Finite.lean ====
module

public import proofs.«01_k».proof.Proof.In.Spec

@[expose] public section

/-! A row of reals stays a row of reals through its norm: the mean square with the small constant added is positive. -/

noncomputable section

namespace Cert.In

open Idealize.ShloMosaic Cert.Ffn

/-- A word with a plus sign and an exponent that is neither the least nor the greatest denotes a positive real. -/
theorem word_positive (b : BitVec 32) (hs : (b.extractLsb' 31 1 == 1#1) = false) (h1 : (b.extractLsb' 23 8).toNat ≠ 2 ^ 8 - 1)
    (h0 : (b.extractLsb' 23 8).toNat ≠ 0) : ∃ r : ℝ, 0 < r ∧ Ideal.ofBits .f32 b = (r : EReal) := by
  have e : Ideal.ofBits .f32 b
      = (((1 : ℝ) * (2 ^ 23 + (b.extractLsb' 0 23).toNat : Nat)
          * (2 : ℝ) ^ (((b.extractLsb' 23 8).toNat : Int) - (2 ^ (8 - 1) - 1) - 23) : ℝ) : EReal) := by
    show Ideal.ieee 8 23 b = _
    unfold Ideal.ieee
    simp only [hs, h1, h0, if_false, Bool.false_eq_true, Nat.reduceAdd]
    rfl
  refine ⟨_, ?_, e⟩
  have : 0 < ((2 ^ 23 + (b.extractLsb' 0 23).toNat : Nat) : ℝ) := by
    exact_mod_cast Nat.lt_of_lt_of_le (by decide : 0 < 2 ^ 23) (Nat.le_add_right _ _)
  exact mul_pos (mul_pos one_pos this) (zpow_pos two_pos _)

theorem eps_positive : ∃ r : ℝ, 0 < r ∧ eps = (r : EReal) := word_positive _ (by decide) (by decide) (by decide)

theorem columns_positive : ∃ r : ℝ, 0 < r ∧ columns = (r : EReal) := word_positive _ (by decide) (by decide) (by decide)

theorem latents_positive : ∃ r : ℝ, 0 < r ∧ latents = (r : EReal) := word_positive _ (by decide) (by decide) (by decide)

theorem one_real : IsReal one := by
  obtain ⟨r, -, h⟩ := word_positive 0x3F800000#32 (by decide) (by decide) (by decide)
  exact ⟨r, h⟩

/-- The word for plus infinity. -/
theorem word_top : Ideal.ofBits .f32 0x7F800000#32 = ⊤ := by
  show Ideal.ieee 8 23 0x7F800000#32 = ⊤
  unfold Ideal.ieee
  rfl

/-- The factor of a row's norm is a real number. -/
theorem factor_real {n : Nat} {x : Fin n → EReal} (hx : ∀ e, IsReal (x e)) {d a : EReal}
    (hd : ∃ r : ℝ, 0 < r ∧ d = (r : EReal)) (ha : ∃ r : ℝ, 0 < r ∧ a = (r : EReal)) :
    IsReal (Ideal.rsqrt (Ideal.div (∑ e, x e * x e) d + a)) := by
  choose y hy using hx
  obtain ⟨r, hr, rfl⟩ := hd
  obtain ⟨s, hs, rfl⟩ := ha
  have h1 : ∑ e, x e * x e = ((∑ e, y e * y e : ℝ) : EReal) := by
    simp only [hy, ← EReal.coe_mul]
    exact (map_sum (⟨⟨Real.toEReal, EReal.coe_zero⟩, EReal.coe_add⟩ : ℝ →+ EReal) (fun e => y e * y e) Finset.univ).symm
  have h2 : Ideal.div (∑ e, x e * x e) (r : EReal) + (s : EReal) = (((∑ e, y e * y e) * r⁻¹ + s : ℝ) : EReal) := by
    unfold Ideal.div
    rw [if_neg (by exact_mod_cast hr.ne'), h1, ← EReal.coe_inv, ← EReal.coe_mul, ← EReal.coe_add]
  have h3 : 0 < (∑ e, y e * y e) * r⁻¹ + s :=
    add_pos_of_nonneg_of_pos (mul_nonneg (Finset.sum_nonneg fun e _ => mul_self_nonneg (y e)) (inv_nonneg.mpr hr.le)) hs
  rw [h2]
  refine ⟨(Real.sqrt ((∑ e, y e * y e) * r⁻¹ + s))⁻¹, ?_⟩
  show (if (∑ e, y e * y e) * r⁻¹ + s < 0 then (⊥ : EReal) else if (∑ e, y e * y e) * r⁻¹ + s = 0 then ⊤
    else (((Real.sqrt ((∑ e, y e * y e) * r⁻¹ + s))⁻¹ : ℝ) : EReal)) = _
  rw [if_neg (not_lt.mpr h3.le), if_neg h3.ne']

/-- The square of an infinity is plus infinity. -/
theorem square_top {x : EReal} (hx : ¬IsReal x) : x * x = ⊤ := by
  induction x with
  | bot => exact EReal.bot_mul_bot
  | coe r => exact absurd ⟨r, rfl⟩ hx
  | top => exact EReal.top_mul_top

theorem square_nonneg (x : EReal) : 0 ≤ x * x := by
  by_cases hx : IsReal x
  · obtain ⟨r, rfl⟩ := hx
    rw [← EReal.coe_mul]
    exact_mod_cast mul_self_nonneg r
  · rw [square_top hx]
    exact le_top

/-- A normalised entry is a real number, whatever the row: an infinite entry makes the factor zero. -/
theorem normed_real {n : Nat} (x : Fin n → EReal) {d a : EReal} (hd : ∃ r : ℝ, 0 < r ∧ d = (r : EReal))
    (ha : ∃ r : ℝ, 0 < r ∧ a = (r : EReal)) (k : Fin n) :
    IsReal (x k * Ideal.rsqrt (Ideal.div (∑ e, x e * x e) d + a)) := by
  by_cases hx : ∀ e, IsReal (x e)
  · exact (hx k).mul (factor_real hx hd ha)
  · obtain ⟨i, hi⟩ := not_forall.mp hx
    obtain ⟨r, hr, rfl⟩ := hd
    obtain ⟨s, hs, rfl⟩ := ha
    have hsum : ∑ e, x e * x e = ⊤ := by
      refine top_le_iff.mp ?_
      rw [← square_top hi]
      exact Finset.single_le_sum (f := fun e => x e * x e) (fun e _ => square_nonneg (x e)) (Finset.mem_univ i)
    have htop : Ideal.div (∑ e, x e * x e) (r : EReal) + (s : EReal) = ⊤ := by
      unfold Ideal.div
      rw [if_neg (by exact_mod_cast hr.ne'), hsum, ← EReal.coe_inv, EReal.top_mul_coe_of_pos (inv_pos.mpr hr),
        EReal.top_add_coe]
    rw [htop]
    refine ⟨0, ?_⟩
    show x k * 0 = _
    rw [mul_zero]
    rfl

theorem unit_real (x : Fin 512 → EReal) {g : Fin 512 → EReal} (hg : ∀ e, IsReal (g e)) (k : Fin 512) :
    IsReal (unit x g k) :=
  (normed_real x latents_positive eps_positive k).mul (hg k)

theorem modulated_real (x : Fin 2048 → EReal) {g sc sh : Fin 2048 → EReal} (hg : ∀ e, IsReal (g e))
    (hc : ∀ e, IsReal (sc e)) (hs : ∀ e, IsReal (sh e)) (k : Fin 2048) : IsReal (modulated x g sc sh k) :=
  (((normed_real x columns_positive eps_positive k).mul (hg k)).mul (one_real.add (hc k))).add (hs k)

/-- An entry below plus infinity in absolute value is a real number. -/
theorem real_of_abs {x : EReal} (h : Ideal.cmp .olt (max x (-x)) (Ideal.ofBits .f32 0x7F800000#32) = 1#1) : IsReal x := by
  rw [word_top] at h
  have hlt : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  have h1 : x ≠ ⊤ := fun e => absurd hlt (by rw [e]; simp)
  have h2 : x ≠ ⊥ := fun e => absurd hlt (by rw [e]; simp)
  exact ⟨x.toReal, (EReal.coe_toReal h1 h2).symm⟩

end Cert.In

end
-- ==== Proof.In.Layer.lean ====
module

public import proofs.«01_k».proof.Proof.In.Finite

@[expose] public section

/-! The input projection of every token, from the arguments: the results' entries, and the two products by reordered
weights as the reordered products. -/

noncomputable section

namespace Cert.In

open Idealize.ShloMosaic Cert.Ffn

/-! ### Products by reordered columns -/

theorem through_extended {h : Fin 2048 → EReal} {w : Fin 2048 → Fin 2904 → EReal} (hh : ∀ e, IsReal (h e))
    (hw : ∀ e (k : Fin 64), IsReal (w e ⟨2840 + k.val, by omega⟩)) (j : Fin 3200) :
    through h (fun e => extended (w e)) j = extended (through h w) j := by
  unfold extended
  show (∑ e, h e * _) = _
  by_cases h1 : j.val < 1792
  · simp only [h1, dif_pos]
    rfl
  · by_cases h2 : j.val < 2304
    · simp only [h1, h2, dif_pos, dif_neg, not_false_eq_true]
      rfl
    · by_cases h3 : j.val < 2816
      · simp only [h1, h2, h3, dif_pos, dif_neg, not_false_eq_true]
        rfl
      · by_cases h4 : j.val < 2944
        · simp only [h1, h2, h3, h4, dif_pos, dif_neg, not_false_eq_true]
          exact through_padded h (fun e k => w e ⟨2840 + k.val, by omega⟩) _
        · by_cases h5 : j.val < 3072
          · simp only [h1, h2, h3, h4, h5, dif_pos, dif_neg, not_false_eq_true]
            refine (through_padded h (fun e => turned fun k => w e ⟨2840 + k.val, by omega⟩) _).trans ?_
            refine congrArg (fun x => padded x _) (funext fun k => ?_)
            exact through_turned (x := fun e k => w e ⟨2840 + k.val, by omega⟩) hh hw k
          · simp only [h1, h2, h3, h4, h5, dif_neg, not_false_eq_true]
            exact through_widened h (fun e k => w e ⟨1792 + k.val, by omega⟩) _

theorem through_regrouped {h : Fin 512 → EReal} {w : Fin 512 → Fin 1536 → EReal} (hh : ∀ e, IsReal (h e))
    (hw : ∀ e (a : Fin 8) (k : Fin 64), IsReal (w e ⟨a.val * 192 + 128 + k.val, by omega⟩)) (j : Fin 3072) :
    through h (fun e => regrouped (w e)) j = regrouped (through h w) j := by
  unfold regrouped
  show (∑ e, h e * _) = _
  by_cases h1 : j.val < 1024
  · simp only [h1, dif_pos]
    rfl
  · by_cases h2 : j.val < 2048
    · simp only [h1, h2, dif_pos, dif_neg, not_false_eq_true]
      exact through_padded h (fun e k => w e ⟨(j.val - 1024) / 128 * 192 + 128 + k.val, by omega⟩) _
    · simp only [h1, h2, dif_neg, not_false_eq_true]
      refine (through_padded h (fun e => turned fun k => w e ⟨(j.val - 2048) / 128 * 192 + 128 + k.val, by omega⟩) _).trans ?_
      refine congrArg (fun x => padded x _) (funext fun k => ?_)
      exact through_turned (x := fun e k => w e ⟨(j.val - 2048) / 128 * 192 + 128 + k.val, by omega⟩) hh
        (fun e k => hw e ⟨(j.val - 2048) / 128, by omega⟩ k) k

/-! ### The reordered columns, section by section -/

section sections

variable (z : Fin 2904 → EReal)

theorem extended_plain (j : Fin 3200) (h : j.val < 1792) : extended z j = z ⟨j.val, by omega⟩ := by
  unfold extended
  rw [dif_pos h]

theorem extended_queries (k : Fin 512) : extended z ⟨1792 + k.val, by omega⟩ = z ⟨1816 + k.val, by omega⟩ := by
  unfold extended
  rw [dif_neg (by show ¬1792 + k.val < 1792; omega), dif_pos (by show 1792 + k.val < 2304; omega)]
  exact congrArg z (Fin.ext (by show 1816 + (1792 + k.val - 1792) = 1816 + k.val; omega))

theorem extended_latent (k : Fin 512) : extended z ⟨2304 + k.val, by omega⟩ = z ⟨2328 + k.val, by omega⟩ := by
  unfold extended
  rw [dif_neg (by show ¬2304 + k.val < 1792; omega), dif_neg (by show ¬2304 + k.val < 2304; omega),
    dif_pos (by show 2304 + k.val < 2816; omega)]
  exact congrArg z (Fin.ext (by show 2328 + (2304 + k.val - 2304) = 2328 + k.val; omega))

theorem extended_rotary (k : Fin 128) :
    extended z ⟨2816 + k.val, by omega⟩ = padded (fun k => z ⟨2840 + k.val, by omega⟩) k := by
  unfold extended
  rw [dif_neg (by show ¬2816 + k.val < 1792; omega), dif_neg (by show ¬2816 + k.val < 2304; omega),
    dif_neg (by show ¬2816 + k.val < 2816; omega), dif_pos (by show 2816 + k.val < 2944; omega)]
  exact congrArg (padded _) (Fin.ext (by show 2816 + k.val - 2816 = k.val; omega))

theorem extended_turned (k : Fin 128) :
    extended z ⟨2944 + k.val, by omega⟩ = padded (turned fun k => z ⟨2840 + k.val, by omega⟩) k := by
  unfold extended
  rw [dif_neg (by show ¬2944 + k.val < 1792; omega), dif_neg (by show ¬2944 + k.val < 2304; omega),
    dif_neg (by show ¬2944 + k.val < 2816; omega), dif_neg (by show ¬2944 + k.val < 2944; omega),
    dif_pos (by show 2944 + k.val < 3072; omega)]
  exact congrArg (padded _) (Fin.ext (by show 2944 + k.val - 2944 = k.val; omega))

theorem extended_gates (k : Fin 128) :
    extended z ⟨3072 + k.val, by omega⟩ = widened (fun k => z ⟨1792 + k.val, by omega⟩) k := by
  unfold extended
  rw [dif_neg (by show ¬3072 + k.val < 1792; omega), dif_neg (by show ¬3072 + k.val < 2304; omega),
    dif_neg (by show ¬3072 + k.val < 2816; omega), dif_neg (by show ¬3072 + k.val < 2944; omega),
    dif_neg (by show ¬3072 + k.val < 3072; omega)]
  exact congrArg (widened _) (Fin.ext (by show 3072 + k.val - 3072 = k.val; omega))

variable (q : Fin 1536 → EReal)

theorem regrouped_plain (j : Fin 3072) (h : j.val < 1024) :
    regrouped q j = q ⟨j.val / 128 * 192 + j.val % 128, by omega⟩ := by
  unfold regrouped
  rw [dif_pos h]

theorem regrouped_rotary (h : Fin 8) (d : Fin 128) :
    regrouped q ⟨1024 + 128 * h.val + d.val, by omega⟩ = padded (fun k => q ⟨h.val * 192 + 128 + k.val, by omega⟩) d := by
  unfold regrouped
  rw [dif_neg (by show ¬1024 + 128 * h.val + d.val < 1024; omega), dif_pos (by show 1024 + 128 * h.val + d.val < 2048; omega)]
  have e1 : (1024 + 128 * h.val + d.val - 1024) / 128 = h.val := by omega
  have e2 : (⟨(1024 + 128 * h.val + d.val - 1024) % 128, by omega⟩ : Fin 128) = d := Fin.ext (by
    show (1024 + 128 * h.val + d.val - 1024) % 128 = d.val; omega)
  simp only [e1, e2]

theorem regrouped_turned (h : Fin 8) (d : Fin 128) :
    regrouped q ⟨2048 + 128 * h.val + d.val, by omega⟩
      = padded (turned fun k => q ⟨h.val * 192 + 128 + k.val, by omega⟩) d := by
  unfold regrouped
  rw [dif_neg (by show ¬2048 + 128 * h.val + d.val < 1024; omega), dif_neg (by show ¬2048 + 128 * h.val + d.val < 2048; omega)]
  have e1 : (2048 + 128 * h.val + d.val - 2048) / 128 = h.val := by omega
  have e2 : (⟨(2048 + 128 * h.val + d.val - 2048) % 128, by omega⟩ : Fin 128) = d := Fin.ext (by
    show (2048 + 128 * h.val + d.val - 2048) % 128 = d.val; omega)
  simp only [e1, e2]

end sections

/-! ### The layer -/

/-- The arguments, entry by entry, for the tokens of `R`: each with its row, its modulation and its angles. -/
structure Layer (R : Type) where
  x : R → Fin 2048 → EReal
  scale : R → Fin 2048 → EReal
  shift : R → Fin 2048 → EReal
  gain : Fin 2048 → EReal
  weight : Fin 2048 → Fin 2904 → EReal
  queryGain : Fin 512 → EReal
  queryWeight : Fin 512 → Fin 1536 → EReal
  latentGain : Fin 512 → EReal
  keyWeight : Fin 512 → Fin 8 → Fin 128 → EReal
  valueWeight : Fin 512 → Fin 8 → Fin 128 → EReal
  angle : R → Fin 32 → EReal

/-- The word for the scale of the sparse queries. -/
def scaleA : EReal := Ideal.ofBits .f32 0x3E0293EE#32

/-- The word for the scale of the latent queries. -/
def scaleB : EReal := Ideal.ofBits .f32 0x3DD53B95#32

/-- The sequence to which a row belongs. -/
def groupOf (row : Fin 16384) : Fin 4 := ⟨row.val / 4096, by omega⟩

/-- A row's position in its sequence. -/
def posOf (row : Fin 16384) : Fin 4096 := ⟨row.val % 4096, by omega⟩

namespace Layer

variable {R : Type} (A : Layer R) (row : R)

/-- What enters the products that the body takes with turned columns is real: the modulation, the gains, and the rotary
columns of the weights. -/
structure Reals : Prop where
  scale : ∀ i k, IsReal (A.scale i k)
  shift : ∀ i k, IsReal (A.shift i k)
  gain : ∀ k, IsReal (A.gain k)
  weight : ∀ e (k : Fin 64), IsReal (A.weight e ⟨2840 + k.val, by omega⟩)
  queryGain : ∀ k, IsReal (A.queryGain k)
  queryWeight : ∀ e (a : Fin 8) (k : Fin 64), IsReal (A.queryWeight e ⟨a.val * 192 + 128 + k.val, by omega⟩)

/-- A token's modulated row. -/
def hidden : Fin 2048 → EReal := modulated (A.x row) A.gain (A.scale row) (A.shift row)

/-- Its projection. -/
def z : Fin 2904 → EReal := through (A.hidden row) A.weight

/-- The latent row from which keys and values are made. -/
def latent : Fin 512 → EReal := unit (fun k => A.z row ⟨2328 + k.val, by omega⟩) A.latentGain

/-- The latent row from which the queries are made. -/
def queryLatent : Fin 512 → EReal := unit (fun k => A.z row ⟨1816 + k.val, by omega⟩) A.queryGain

/-- The queries of the latent attention, all heads. -/
def query : Fin 1536 → EReal := through (A.queryLatent row) A.queryWeight

/-- A section of 64 columns of a token, rotated by the angles of its position. -/
def turn (v : Fin 64 → EReal) : Fin 64 → EReal :=
  rotated v (fun k => Ideal.cos (A.angle row k)) fun k => Ideal.sin (A.angle row k)

/-- The rotary section of the latent row, rotated. -/
def shared : Fin 64 → EReal := A.turn row fun k => A.z row ⟨2840 + k.val, by omega⟩

/-! The results. -/

def sparseQueries (j : Fin 1024) : EReal := A.z row ⟨j.val, by omega⟩ * scaleA

def sparse (j : Fin 512) : EReal := A.z row ⟨1024 + j.val, by omega⟩

def window (j : Fin 256) : EReal := A.z row ⟨1536 + j.val, by omega⟩

def gates (j : Fin 128) : EReal := Ideal.logistic (widened (fun k => A.z row ⟨1792 + k.val, by omega⟩) j)

def latents (j : Fin 576) : EReal :=
  if h : j.val < 512 then A.latent row ⟨j.val, h⟩ else A.shared row ⟨j.val - 512, by omega⟩

def plainQueries (j : Fin 1024) : EReal := A.query row ⟨j.val / 128 * 192 + j.val % 128, by omega⟩ * scaleB

def rotaryQueries (j : Fin 1024) : EReal :=
  padded (fun k => A.turn row (fun k => A.query row ⟨j.val / 128 * 192 + 128 + k.val, by omega⟩) k * scaleB)
    ⟨j.val % 128, by omega⟩

def rotaryKeys (j : Fin 128) : EReal := padded (A.shared row) j

def keys (j : Fin 1024) : EReal :=
  through (A.latent row) (fun e j => A.keyWeight e ⟨j.val / 128, by omega⟩ ⟨j.val % 128, by omega⟩) j

def values (j : Fin 1024) : EReal :=
  through (A.latent row) (fun e j => A.valueWeight e ⟨j.val / 128, by omega⟩ ⟨j.val % 128, by omega⟩) j

def both (j : Fin 768) : EReal := A.z row ⟨1024 + j.val, by omega⟩

variable {A}

theorem Reals.hidden (h : A.Reals) (e : Fin 2048) : IsReal (A.hidden row e) :=
  modulated_real (A.x row) h.gain (h.scale _) (h.shift _) e

theorem Reals.queryLatent (h : A.Reals) (k : Fin 512) : IsReal (A.queryLatent row k) :=
  unit_real _ h.queryGain k

end Layer

end Cert.In

end
-- ==== Proof.In.Stages.lean ====
module

public import proofs.«01_k».proof.Proof.In.Layer
public import proofs.«01_k».proof.Proof.Gen.Kernel4Ideal.Skeleton
public import Idealize.ShloMosaic.Lib.Pointwise

@[expose] public section

set_option maxRecDepth 16384

/-! The arithmetic of the input projection's body, entry by entry. -/

noncomputable section

namespace Cert.In

open Cert.Kernel4Ideal Cert.Kernel4Ideal.Gen Idealize.ShloMosaic Idealize.ShloMosaic.TcCoe Cert.Ffn

/-! ### The projected row and its plain sections -/

theorem row_apply (x : Vec Ideal S512x2048 .f32) (g : Vec Ideal S1x2048 .f32) (sc sh : Vec Ideal S1x1x2048 .f32)
    (w : Vec Ideal S2048x3200 .bf16) (r : Fin 512) (j : Fin 3200) :
    k0_pay6 x g sc sh w (ix2 r j)
      = through (modulated (fun k => x (ix2 r k)) (fun k => g (ix2 0 k)) (fun k => sc (ix3 0 0 k))
          fun k => sh (ix3 0 0 k)) (fun e j => w (ix2 e j)) j := by
  unfold k0_pay6 through modulated normalised columns eps one
  pointwise

theorem queries_apply (x : Vec Ideal S512x2048 .f32) (g : Vec Ideal S1x2048 .f32) (sc sh : Vec Ideal S1x1x2048 .f32)
    (w : Vec Ideal S2048x3200 .bf16) (r : Fin 512) (j : Fin 1024) :
    k0_pay7 x g sc sh w (ix2 r j) = k0_pay6 x g sc sh w (ix2 r ⟨j.val, by omega⟩) * scaleA := by
  unfold k0_pay7 scaleA
  pointwise

theorem sparse_apply (x : Vec Ideal S512x2048 .f32) (g : Vec Ideal S1x2048 .f32) (sc sh : Vec Ideal S1x1x2048 .f32)
    (w : Vec Ideal S2048x3200 .bf16) (r : Fin 512) (j : Fin 512) :
    k0_pay8 x g sc sh w (ix2 r j) = k0_pay6 x g sc sh w (ix2 r ⟨1024 + j.val, by omega⟩) := by
  unfold k0_pay8
  pointwise

variable (z : FVec Ideal S512x3200 .f32)

theorem window_apply (r : Fin 512) (j : Fin 256) : k0_pay9 z (ix2 r j) = z (ix2 r ⟨1536 + j.val, by omega⟩) := by
  unfold k0_pay9
  pointwise

theorem both_apply (r : Fin 512) (j : Fin 768) : k0_pay10 z (ix2 r j) = z (ix2 r ⟨1024 + j.val, by omega⟩) := by
  unfold k0_pay10
  pointwise

theorem gates_apply (r : Fin 512) (j : Fin 128) :
    k0_pay11 z (ix2 r j) = Ideal.logistic (z (ix2 r ⟨3072 + j.val, by omega⟩)) := by
  unfold k0_pay11
  pointwise

/-! ### The latent row, its rotary section, keys and values -/

theorem latent_apply (g : Vec Ideal S1x512 .f32) (r : Fin 512) (j : Fin 512) :
    k0_pay14 z g (ix2 r j) = unit (fun k => z (ix2 r ⟨2304 + k.val, by omega⟩)) (fun k => g (ix2 0 k)) j := by
  unfold k0_pay14 unit latents eps
  pointwise

theorem turning_apply (co si : Vec Ideal S512x128 .f32) (r : Fin 512) (j : Fin 128) :
    k0_pay15 z co si (ix2 r j)
      = z (ix2 r ⟨2816 + j.val, by omega⟩) * co (ix2 r j) + z (ix2 r ⟨2944 + j.val, by omega⟩) * si (ix2 r j) := by
  unfold k0_pay15 k0_pay12 k0_pay13
  pointwise

theorem narrow_apply (co si : Vec Ideal S512x128 .f32) (r : Fin 512) (j : Fin 64) :
    k0_pay16 z co si (ix2 r j) = k0_pay15 z co si (ix2 r ⟨j.val, by omega⟩) := by
  unfold k0_pay16
  pointwise

theorem rounded_apply (v : FVec Ideal S512x128 .f32) (r : Fin 512) (j : Fin 128) : k0_pay17 v (ix2 r j) = v (ix2 r j) := by
  unfold k0_pay17
  pointwise

theorem pair_apply (v : FVec Ideal S512x512 .f32) (w : Vec Ideal S512x2048 .bf16) (r : Fin 512) (j : Fin 2048) :
    k0_pay3 v w (ix2 r j) = through (fun k => v (ix2 r k)) (fun e j => w (ix2 e j)) j := by
  unfold k0_pay3 through
  pointwise

theorem keys_apply (v : FVec Ideal S512x512 .f32) (w : Vec Ideal S512x2048 .bf16) (r : Fin 512) (j : Fin 1024) :
    k0_pay4 v w (ix2 r j) = k0_pay3 v w (ix2 r ⟨j.val, by omega⟩) := by
  unfold k0_pay4
  pointwise

theorem values_apply (v : FVec Ideal S512x512 .f32) (w : Vec Ideal S512x2048 .bf16) (r : Fin 512) (j : Fin 1024) :
    k0_pay5 v w (ix2 r j) = k0_pay3 v w (ix2 r ⟨1024 + j.val, by omega⟩) := by
  unfold k0_pay5
  pointwise

/-! ### The queries of the latent attention -/

theorem lifted_apply (g : Vec Ideal S1x512 .f32) (w : Vec Ideal S512x3072 .bf16) (r : Fin 512) (j : Fin 3072) :
    k0_pay18 z g w (ix2 r j)
      = through (unit (fun k => z (ix2 r ⟨1792 + k.val, by omega⟩)) fun k => g (ix2 0 k)) (fun e j => w (ix2 e j)) j := by
  unfold k0_pay18 through unit latents eps
  pointwise

theorem plain_apply (g : Vec Ideal S1x512 .f32) (w : Vec Ideal S512x3072 .bf16) (r : Fin 512) (j : Fin 1024) :
    k0_pay19 z g w (ix2 r j) = k0_pay18 z g w (ix2 r ⟨j.val, by omega⟩) * scaleB := by
  unfold k0_pay19 scaleB
  pointwise

/-- Head `h`'s rotary columns: its section times the cosines with its turned section times the sines, scaled. -/
def headRow (q : FVec Ideal S512x3072 .f32) (co si : FVec Ideal S512x128 .f32) (h : Fin 8) (r : Fin 512) (d : Fin 128) :
    EReal :=
  (q (ix2 r ⟨1024 + 128 * h.val + d.val, by omega⟩) * co (ix2 r d)
    + q (ix2 r ⟨2048 + 128 * h.val + d.val, by omega⟩) * si (ix2 r d)) * scaleB

/-- What the body stores of each head's rotary columns, in the order of the heads. -/
def headTile (z : FVec Ideal S512x3200 .f32) (co si : FVec Ideal S512x128 .f32) (g : Vec Ideal S1x512 .f32)
    (w : Vec Ideal S512x3072 .bf16) : Fin 8 → FVec Ideal S512x128 .bf16 :=
  ![k0_pay20 z co si g w, k0_pay22 (k0_pay21 z co si g w) (Scalar.ofBits .f32 0x3DD53B95#32),
    k0_pay23 co si (k0_pay18 z g w), k0_pay24 co si (k0_pay18 z g w), k0_pay25 co si (k0_pay18 z g w),
    k0_pay26 co si (k0_pay18 z g w), k0_pay1 co si (k0_pay18 z g w) (k0_pay27 (k0_pay18 z g w)),
    k0_pay2 co si (k0_pay18 z g w)]

theorem headTile_apply (co si : FVec Ideal S512x128 .f32) (g : Vec Ideal S1x512 .f32)
    (w : Vec Ideal S512x3072 .bf16) (h : Fin 8) (r : Fin 512) (d : Fin 128) :
    headTile z co si g w h (ix2 r d) = headRow (k0_pay18 z g w) co si h r d := by
  unfold headRow scaleB
  fin_cases h
  · show k0_pay20 z co si g w (ix2 r d) = _
    unfold k0_pay20
    pointwise
  · show k0_pay22 (k0_pay21 z co si g w) (Scalar.ofBits .f32 0x3DD53B95#32) (ix2 r d) = _
    unfold k0_pay22 k0_pay21
    pointwise
  · show k0_pay23 co si (k0_pay18 z g w) (ix2 r d) = _
    unfold k0_pay23
    pointwise
  · show k0_pay24 co si (k0_pay18 z g w) (ix2 r d) = _
    unfold k0_pay24
    pointwise
  · show k0_pay25 co si (k0_pay18 z g w) (ix2 r d) = _
    unfold k0_pay25
    pointwise
  · show k0_pay26 co si (k0_pay18 z g w) (ix2 r d) = _
    unfold k0_pay26
    pointwise
  · show k0_pay1 co si (k0_pay18 z g w) (k0_pay27 (k0_pay18 z g w)) (ix2 r d) = _
    unfold k0_pay1 k0_pay27
    pointwise
  · show k0_pay2 co si (k0_pay18 z g w) (ix2 r d) = _
    unfold k0_pay2
    pointwise

end Cert.In

end
-- ==== Proof.In.Prepared.lean ====
module

public import proofs.«01_k».proof.Proof.In.Spec
public import proofs.«01_k».proof.Proof.Gen.Kernel4Ideal.Frame.Runs
public import Idealize.ShloMosaic.Lib.Pointwise
public import Idealize.ShloMosaic.Lib.Pipeline.ValueKit
public import Idealize.ShloMosaic.Lib.StableHlo.RunRead

@[expose] public section

set_option maxRecDepth 16384

/-! What the host prepares before the input projection is called, entry by entry from the arguments. -/

noncomputable section

namespace Cert.In

open Cert.Kernel4Ideal Cert.Kernel4Ideal.Gen Idealize.ShloMosaic Idealize.ShloMosaic.TcCoe Cert.Ffn

variable (m : (ℓ : Loc nD τ sig) → Buf (Elt Ideal) ℓ) (c : Dev nD)

/-- The integer zero, converted. -/
theorem zero_int : (FloatOps.sitofp (F := Ideal) .f32 (0#32 : BitVec 32) : EReal) = 0 := by
  show ((((0#32 : BitVec 32).toInt : ℤ) : ℝ) : EReal) = 0
  simp

set_option maxHeartbeats 2000000 in
theorem entry_extended (e : Fin 2048) (j : Fin 3200) :
    V m c main_v15 (ix2 e j) = extended (fun j => m ((c : Thread nD τ).loc main_arg4) (ix2 e j)) j := by
  have hj := j.isLt
  unfold V
  simp only [List.flatten_cons, List.flatten_nil, List.append_nil]
  after_reads_simp
  simp only [Matrix.cons_val]
  pointwise
  unfold extended
  by_cases h1 : j.val < 1024
  · have p1 : j.val < 1792 := by omega
    simp only [h1, p1, dif_pos]
    after_reads_simp
    pointwise
  by_cases h2 : j.val - 1024 < 512
  · have p1 : j.val < 1792 := by omega
    simp only [h1, h2, p1, dif_pos, dif_neg, not_false_eq_true]
    after_reads_simp
    pointwise
    exact congrArg (fun k => m ((c : Thread nD τ).loc main_arg4) (ix2 e k)) (Fin.ext (by dsimp only; omega))
  by_cases h3 : j.val - 1024 - 512 < 256
  · have p1 : j.val < 1792 := by omega
    simp only [h1, h2, h3, p1, dif_pos, dif_neg, not_false_eq_true]
    after_reads_simp
    pointwise
    exact congrArg (fun k => m ((c : Thread nD τ).loc main_arg4) (ix2 e k)) (Fin.ext (by dsimp only; omega))
  have p1 : ¬j.val < 1792 := by omega
  by_cases h4 : j.val - 1024 - 512 - 256 < 512
  · have p2 : j.val < 2304 := by omega
    simp only [h1, h2, h3, h4, p1, p2, dif_pos, dif_neg, not_false_eq_true]
    after_reads_simp
    pointwise
    exact congrArg (fun k => m ((c : Thread nD τ).loc main_arg4) (ix2 e k)) (Fin.ext (by dsimp only; omega))
  have p2 : ¬j.val < 2304 := by omega
  by_cases h5 : j.val - 1024 - 512 - 256 - 512 < 512
  · have p3 : j.val < 2816 := by omega
    simp only [h1, h2, h3, h4, h5, p1, p2, p3, dif_pos, dif_neg, not_false_eq_true]
    after_reads_simp
    pointwise
    exact congrArg (fun k => m ((c : Thread nD τ).loc main_arg4) (ix2 e k)) (Fin.ext (by dsimp only; omega))
  have p3 : ¬j.val < 2816 := by omega
  by_cases h6 : j.val - 1024 - 512 - 256 - 512 - 512 < 128
  · have p4 : j.val < 2944 := by omega
    simp only [h1, h2, h3, h4, h5, h6, p1, p2, p3, p4, dif_pos, dif_neg, not_false_eq_true]
    after_reads_simp
    simp -implicitDefEqProofs only [StableHlo.TRef.toBuf, StableHlo.TRef.ofBuf, cast_cast, cast_eq, Matrix.cons_val]
    pointwise
    simp only [zero_int]
    unfold padded
    by_cases q : j.val - 2816 < 64
    · have q' : j.val - 1024 - 512 - 256 - 512 - 512 < 64 := by omega
      simp only [q, q', dif_pos]
      exact congrArg (fun k => m ((c : Thread nD τ).loc main_arg4) (ix2 e k)) (Fin.ext (by dsimp only; omega))
    · have q' : ¬j.val - 1024 - 512 - 256 - 512 - 512 < 64 := by omega
      simp only [q, q', dif_neg, not_false_eq_true]
  have p4 : ¬j.val < 2944 := by omega
  by_cases h7 : j.val - 1024 - 512 - 256 - 512 - 512 - 128 < 128
  · have p5 : j.val < 3072 := by omega
    simp only [h1, h2, h3, h4, h5, h6, h7, p1, p2, p3, p4, p5, dif_pos, dif_neg, not_false_eq_true]
    after_reads_simp
    simp -implicitDefEqProofs only [StableHlo.TRef.toBuf, StableHlo.TRef.ofBuf, cast_cast, cast_eq, Matrix.cons_val]
    pointwise
    after_reads_simp
    pointwise
    simp only [zero_int]
    unfold padded turned
    by_cases q : j.val - 2944 < 64
    · have q' : j.val - 1024 - 512 - 256 - 512 - 512 - 128 < 64 := by omega
      by_cases u : j.val - 2944 < 32
      · have u' : j.val - 1024 - 512 - 256 - 512 - 512 - 128 < 32 := by omega
        simp only [q, q', u, u', dif_pos]
        exact congrArg (fun x : EReal => -x) (congrArg (fun k => m ((c : Thread nD τ).loc main_arg4) (ix2 e k))
          (Fin.ext (by dsimp only; omega)))
      · have u' : ¬j.val - 1024 - 512 - 256 - 512 - 512 - 128 < 32 := by omega
        simp only [q, q', u, u', dif_pos, dif_neg, not_false_eq_true]
        exact congrArg (fun k => m ((c : Thread nD τ).loc main_arg4) (ix2 e k)) (Fin.ext (by dsimp only; omega))
    · have q' : ¬j.val - 1024 - 512 - 256 - 512 - 512 - 128 < 64 := by omega
      simp only [q, q', dif_neg, not_false_eq_true]
  have p5 : ¬j.val < 3072 := by omega
  simp only [h1, h2, h3, h4, h5, h6, h7, p1, p2, p3, p4, p5, dif_neg, not_false_eq_true]
  after_reads_simp
  simp -implicitDefEqProofs only [StableHlo.TRef.toBuf, StableHlo.TRef.ofBuf, cast_cast, cast_eq, Matrix.cons_val]
  pointwise
  simp only [zero_int]
  unfold widened
  by_cases q : j.val - 3072 < 24
  · have q' : j.val - 1024 - 512 - 256 - 512 - 512 - 128 - 128 < 24 := by omega
    simp only [q, q', dif_pos]
    exact congrArg (fun k => m ((c : Thread nD τ).loc main_arg4) (ix2 e k)) (Fin.ext (by dsimp only; omega))
  · have q' : ¬j.val - 1024 - 512 - 256 - 512 - 512 - 128 - 128 < 24 := by omega
    simp only [q, q', dif_neg, not_false_eq_true]

set_option maxHeartbeats 2000000 in
theorem entry_regrouped (e : Fin 512) (j : Fin 3072) :
    V m c main_v29 (ix2 e j) = regrouped (fun j => m ((c : Thread nD τ).loc main_arg6) (ix2 e j)) j := by
  unfold V
  simp only [List.flatten_cons, List.flatten_nil, List.append_nil]
  after_reads_simp
  simp only [Matrix.cons_val]
  pointwise
  after_reads_simp
  simp -implicitDefEqProofs only [StableHlo.TRef.toBuf, StableHlo.TRef.ofBuf, cast_cast, cast_eq, Matrix.cons_val]
  pointwise
  after_reads_simp
  pointwise
  simp only [zero_int]
  exact regrouped_eq (fun j => m ((c : Thread nD τ).loc main_arg6) (ix2 e j)) j

/-- The keys' and the values' projections stand side by side. -/
theorem entry_keys (e : Fin 512) (j : Fin 1024) :
    V m c main_v33 (ix2 e ⟨j.val, by omega⟩)
      = m ((c : Thread nD τ).loc main_arg8) (ix3 e ⟨j.val / 128, by omega⟩ ⟨j.val % 128, by omega⟩) := by
  unfold V
  simp only [List.flatten_cons, List.flatten_nil, List.append_nil]
  after_reads_simp
  pointwise
  after_reads_simp
  pointwise

theorem entry_values (e : Fin 512) (j : Fin 1024) :
    V m c main_v33 (ix2 e ⟨1024 + j.val, by omega⟩)
      = m ((c : Thread nD τ).loc main_arg9) (ix3 e ⟨j.val / 128, by omega⟩ ⟨j.val % 128, by omega⟩) := by
  unfold V
  simp only [List.flatten_cons, List.flatten_nil, List.append_nil]
  after_reads_simp
  pointwise
  after_reads_simp
  pointwise

theorem entry_cos (p : Fin 4096) (j : Fin 128) :
    V m c main_v37 (ix2 p j)
      = padded (twice fun k => Ideal.cos (m ((c : Thread nD τ).loc main_arg10) (ix2 p k))) j := by
  unfold V
  simp only [List.flatten_cons, List.flatten_nil, List.append_nil]
  after_reads_simp
  simp only [Matrix.cons_val]
  pointwise
  after_reads_simp
  pointwise
  unfold padded twice
  dsimp only
  repeat' split
  all_goals first
    | rfl
    | (exfalso; omega)
    | exact congrArg (fun k => Ideal.cos (m ((c : Thread nD τ).loc main_arg10) (ix2 p k))) (Fin.ext (by first | rfl | omega | (dsimp only; omega)))

theorem entry_sin (p : Fin 4096) (j : Fin 128) :
    V m c main_v38 (ix2 p j)
      = padded (twice fun k => Ideal.sin (m ((c : Thread nD τ).loc main_arg10) (ix2 p k))) j := by
  unfold V
  simp only [List.flatten_cons, List.flatten_nil, List.append_nil]
  after_reads_simp
  simp only [Matrix.cons_val]
  pointwise
  after_reads_simp
  pointwise
  unfold padded twice
  dsimp only
  repeat' split
  all_goals first
    | rfl
    | (exfalso; omega)
    | exact congrArg (fun k => Ideal.sin (m ((c : Thread nD τ).loc main_arg10) (ix2 p k))) (Fin.ext (by first | rfl | omega | (dsimp only; omega)))

/-! The gains, as rows. -/

theorem entry_gain (k : Fin 2048) : V m c main_v39 (ix2 0 k) = m ((c : Thread nD τ).loc main_arg3) (ix1 k) := by
  unfold V
  simp only [List.flatten_cons, List.flatten_nil, List.append_nil]
  after_reads_simp
  pointwise

theorem entry_query_gain (k : Fin 512) : V m c main_v40 (ix2 0 k) = m ((c : Thread nD τ).loc main_arg5) (ix1 k) := by
  unfold V
  simp only [List.flatten_cons, List.flatten_nil, List.append_nil]
  after_reads_simp
  pointwise

theorem entry_latent_gain (k : Fin 512) : V m c main_v41 (ix2 0 k) = m ((c : Thread nD τ).loc main_arg7) (ix1 k) := by
  unfold V
  simp only [List.flatten_cons, List.flatten_nil, List.append_nil]
  after_reads_simp
  pointwise

end Cert.In

end
-- ==== Proof.In.Blocks.lean ====
module

public import proofs.«01_k».proof.Proof.In.Stages
public import proofs.«01_k».proof.Proof.In.Prepared
public import proofs.«01_k».proof.Proof.Gen.Kernel4Ideal.Value
public import Idealize.ShloMosaic.Lib.Pipeline.Value
public import Idealize.ShloMosaic.Lib.Pipeline.ValueKit
public import Idealize.ShloMosaic.Lib.Pipeline.ReadBack

@[expose] public section

set_option maxRecDepth 16384

/-! The blocks which a grid point of the input projection reads, and its rows in the terms of the layer. -/

noncomputable section

namespace Cert.In

open Cert.Kernel4Ideal Cert.Kernel4Ideal.Gen Idealize.ShloMosaic Idealize.ShloMosaic.TcCoe Cert.Ffn

variable (m : (ℓ : Loc nD τ sig) → Buf (Elt Ideal) ℓ) (c : Dev nD)

/-- An index of two axes, from its coordinates. -/
theorem pair_eq {n p : Nat} (y : (⟨2, ![n, p]⟩ : Shape).Idx) : y = ix2 (y 0) (y 1) :=
  funext fun a => by fin_cases a <;> rfl

/-- The layer of a memory's arguments. -/
def layer : Layer (Fin 16384) where
  x i k := m ((c : Thread nD τ).loc main_arg0) (ix2 i k)
  scale i k := m ((c : Thread nD τ).loc main_arg1) (ix3 (groupOf i) 0 k)
  shift i k := m ((c : Thread nD τ).loc main_arg2) (ix3 (groupOf i) 0 k)
  gain k := m ((c : Thread nD τ).loc main_arg3) (ix1 k)
  weight e j := m ((c : Thread nD τ).loc main_arg4) (ix2 e j)
  queryGain k := m ((c : Thread nD τ).loc main_arg5) (ix1 k)
  queryWeight e j := m ((c : Thread nD τ).loc main_arg6) (ix2 e j)
  latentGain k := m ((c : Thread nD τ).loc main_arg7) (ix1 k)
  keyWeight e h d := m ((c : Thread nD τ).loc main_arg8) (ix3 e h d)
  valueWeight e h d := m ((c : Thread nD τ).loc main_arg9) (ix3 e h d)
  angle i k := m ((c : Thread nD τ).loc main_arg10) (ix2 (posOf i) k)

/-- Where each window's block stands at a grid point. -/
theorem index_in : ∀ t : Fin cfg0.N,
    (cfg0.win 0).index t = ![t.val, 0]
    ∧ (cfg0.win 1).index t = ![t.val / 8, 0, 0]
    ∧ (cfg0.win 2).index t = ![t.val / 8, 0, 0]
    ∧ (cfg0.win 3).index t = ![0, 0]
    ∧ (cfg0.win 4).index t = ![0, 0]
    ∧ (cfg0.win 5).index t = ![0, 0]
    ∧ (cfg0.win 6).index t = ![0, 0]
    ∧ (cfg0.win 7).index t = ![0, 0]
    ∧ (cfg0.win 8).index t = ![0, 0]
    ∧ (cfg0.win 9).index t = ![t.val % 8, 0]
    ∧ (cfg0.win 10).index t = ![t.val % 8, 0] := by
  decide +kernel

theorem index_out : ∀ t : Fin cfg0.N,
    (cfg0.win 11).index t = ![t.val, 0]
    ∧ (cfg0.win 12).index t = ![t.val, 0]
    ∧ (cfg0.win 13).index t = ![t.val, 0]
    ∧ (cfg0.win 14).index t = ![t.val, 0]
    ∧ (cfg0.win 15).index t = ![t.val, 0]
    ∧ (cfg0.win 16).index t = ![t.val, 0]
    ∧ (cfg0.win 17).index t = ![t.val, 0]
    ∧ (cfg0.win 18).index t = ![t.val, 0]
    ∧ (cfg0.win 19).index t = ![t.val, 0]
    ∧ (cfg0.win 20).index t = ![t.val, 0]
    ∧ (cfg0.win 21).index t = ![t.val, 0] := by
  decide +kernel

/-- The row of the arrays at which row `r` of a point's block stands. -/
def rowAt (t : Fin cfg0.N) (r : Fin 512) : Fin 16384 :=
  ⟨512 * t.val + r.val, by
    have h : t.val < 32 := lt_of_lt_of_eq t.isLt N_0
    omega⟩

theorem group_at (t : Fin cfg0.N) (r : Fin 512) : (groupOf (rowAt t r)).val = t.val / 8 := by
  show (512 * t.val + r.val) / 4096 = t.val / 8
  omega

theorem pos_at (t : Fin cfg0.N) (r : Fin 512) : (posOf (rowAt t r)).val = 512 * (t.val % 8) + r.val := by
  show (512 * t.val + r.val) % 4096 = 512 * (t.val % 8) + r.val
  omega

variable (t : Fin cfg0.N) (r : Fin 512)

theorem read_x (k : Fin 2048) : iblk m c 0 t (ix2 r k) = (layer m c).x (rowAt t r) k := by
  unfold layer
  blk_ext [iblk, V, (index_in t).1, rowAt]

theorem read_scale (k : Fin 2048) : iblk m c 1 t (ix3 0 0 k) = (layer m c).scale (rowAt t r) k := by
  unfold layer
  blk_ext [iblk, V, (index_in t).2.1, group_at t r]

theorem read_shift (k : Fin 2048) : iblk m c 2 t (ix3 0 0 k) = (layer m c).shift (rowAt t r) k := by
  unfold layer
  blk_ext [iblk, V, (index_in t).2.2.1, group_at t r]

theorem read_gain (k : Fin 2048) : iblk m c 3 t (ix2 0 k) = (layer m c).gain k := by
  refine Eq.trans ?_ (entry_gain m c k)
  blk_ext [iblk, (index_in t).2.2.2.1]

theorem read_weight (e : Fin 2048) (j : Fin 3200) : iblk m c 4 t (ix2 e j) = extended ((layer m c).weight e) j := by
  refine Eq.trans ?_ (entry_extended m c e j)
  blk_ext [iblk, (index_in t).2.2.2.2.1]

theorem read_query_gain (k : Fin 512) : iblk m c 5 t (ix2 0 k) = (layer m c).queryGain k := by
  refine Eq.trans ?_ (entry_query_gain m c k)
  blk_ext [iblk, (index_in t).2.2.2.2.2.1]

theorem read_query_weight (e : Fin 512) (j : Fin 3072) :
    iblk m c 6 t (ix2 e j) = regrouped ((layer m c).queryWeight e) j := by
  refine Eq.trans ?_ (entry_regrouped m c e j)
  blk_ext [iblk, (index_in t).2.2.2.2.2.2.1]

theorem read_latent_gain (k : Fin 512) : iblk m c 7 t (ix2 0 k) = (layer m c).latentGain k := by
  refine Eq.trans ?_ (entry_latent_gain m c k)
  blk_ext [iblk, (index_in t).2.2.2.2.2.2.2.1]

theorem read_keys (e : Fin 512) (j : Fin 1024) :
    iblk m c 8 t (ix2 e ⟨j.val, by omega⟩) = (layer m c).keyWeight e ⟨j.val / 128, by omega⟩ ⟨j.val % 128, by omega⟩ := by
  refine Eq.trans ?_ (entry_keys m c e j)
  blk_ext [iblk, (index_in t).2.2.2.2.2.2.2.2.1]

theorem read_values (e : Fin 512) (j : Fin 1024) :
    iblk m c 8 t (ix2 e ⟨1024 + j.val, by omega⟩)
      = (layer m c).valueWeight e ⟨j.val / 128, by omega⟩ ⟨j.val % 128, by omega⟩ := by
  refine Eq.trans ?_ (entry_values m c e j)
  blk_ext [iblk, (index_in t).2.2.2.2.2.2.2.2.1]

theorem read_cos (j : Fin 128) :
    iblk m c 9 t (ix2 r j) = padded (twice fun k => Ideal.cos ((layer m c).angle (rowAt t r) k)) j := by
  refine Eq.trans ?_ (entry_cos m c (posOf (rowAt t r)) j)
  blk_ext [iblk, (index_in t).2.2.2.2.2.2.2.2.2.1, pos_at t r]

theorem read_sin (j : Fin 128) :
    iblk m c 10 t (ix2 r j) = padded (twice fun k => Ideal.sin ((layer m c).angle (rowAt t r) k)) j := by
  refine Eq.trans ?_ (entry_sin m c (posOf (rowAt t r)) j)
  blk_ext [iblk, (index_in t).2.2.2.2.2.2.2.2.2.2, pos_at t r]

/-! ### A point's rows -/

variable {m} {c}

/-- The projected row of the body is the layer's, its columns in the body's order. -/
theorem point_row (h : (layer m c).Reals) (j : Fin 3200) :
    k0_pay6 (iblk m c 0 t) (iblk m c 3 t) (iblk m c 1 t) (iblk m c 2 t) (iblk m c 4 t) (ix2 r j)
      = extended ((layer m c).z (rowAt t r)) j := by
  rw [row_apply]
  simp only [read_x, read_gain, read_scale m c t r, read_shift m c t r, read_weight]
  exact through_extended (h.hidden (rowAt t r)) h.weight j

variable {z : FVec Ideal S512x3200 .f32} {R : Type} {A : Layer R} {row : R}

theorem point_query_latent (hz : ∀ j, z (ix2 r j) = extended (A.z row) j) (k : Fin 512) (g : Fin 512 → EReal)
    (hg : ∀ k, g k = A.queryGain k) :
    unit (fun k => z (ix2 r ⟨1792 + k.val, by omega⟩)) g k = A.queryLatent row k := by
  unfold Layer.queryLatent
  rw [funext hg]
  simp only [hz, extended_queries]

theorem point_latent (hz : ∀ j, z (ix2 r j) = extended (A.z row) j) (g : Vec Ideal S1x512 .f32)
    (hg : ∀ k, g (ix2 0 k) = A.latentGain k) (j : Fin 512) :
    k0_pay14 z g (ix2 r j) = A.latent row j := by
  rw [latent_apply]
  unfold Layer.latent
  simp only [hz, hg, extended_latent]

theorem point_query (h : A.Reals) (hz : ∀ j, z (ix2 r j) = extended (A.z row) j) (g : Vec Ideal S1x512 .f32)
    (w : Vec Ideal S512x3072 .bf16) (hg : ∀ k, g (ix2 0 k) = A.queryGain k)
    (hw : ∀ e j, w (ix2 e j) = regrouped (A.queryWeight e) j) (j : Fin 3072) :
    k0_pay18 z g w (ix2 r j) = regrouped (A.query row) j := by
  rw [lifted_apply]
  refine Eq.trans ?_ (through_regrouped (h.queryLatent row) h.queryWeight j)
  unfold through
  simp only [point_query_latent r hz _ _ hg, hw]

theorem point_shared (hz : ∀ j, z (ix2 r j) = extended (A.z row) j) (co si : Vec Ideal S512x128 .f32)
    (hc : ∀ j, co (ix2 r j) = padded (twice fun k => Ideal.cos (A.angle row k)) j)
    (hs : ∀ j, si (ix2 r j) = padded (twice fun k => Ideal.sin (A.angle row k)) j) (j : Fin 128) :
    k0_pay15 z co si (ix2 r j) = padded (A.shared row) j := by
  rw [turning_apply, hz, hz, hc, hs, extended_rotary, extended_turned, rotary]
  rfl

theorem padded_scaled (x : Fin 64 → EReal) (d : Fin 128) : padded x d * scaleB = padded (fun k => x k * scaleB) d := by
  unfold padded
  split
  · rfl
  · exact zero_mul _

theorem point_head (co si : FVec Ideal S512x128 .f32) (q : FVec Ideal S512x3072 .f32)
    (hq : ∀ j, q (ix2 r j) = regrouped (A.query row) j)
    (hc : ∀ j, co (ix2 r j) = padded (twice fun k => Ideal.cos (A.angle row k)) j)
    (hs : ∀ j, si (ix2 r j) = padded (twice fun k => Ideal.sin (A.angle row k)) j) (h : Fin 8) (d : Fin 128) :
    headRow q co si h r d = A.rotaryQueries row ⟨128 * h.val + d.val, by omega⟩ := by
  unfold headRow
  rw [hq, hq, hc, hs, regrouped_rotary, regrouped_turned, rotary, padded_scaled]
  unfold Layer.rotaryQueries Layer.turn
  have e1 : (128 * h.val + d.val) / 128 = h.val := by omega
  have e2 : (⟨(128 * h.val + d.val) % 128, by omega⟩ : Fin 128) = d := Fin.ext (by
    show (128 * h.val + d.val) % 128 = d.val; omega)
  simp only [e1, e2]

end Cert.In

end
-- ==== Proof.In.Whole.lean ====
module

public import proofs.«01_k».proof.Proof.In.Blocks

@[expose] public section

set_option maxRecDepth 16384

/-! The results of the input projection that are stored in one piece: a point's block of each, and the whole array. -/

noncomputable section

namespace Cert.In

open Cert.Kernel4Ideal Cert.Kernel4Ideal.Gen Idealize.ShloMosaic Idealize.ShloMosaic.TcCoe Cert.Ffn

variable {m : (ℓ : Loc nD τ sig) → Buf (Elt Ideal) ℓ} {c : Dev nD}

variable (t : Fin cfg0.N) (r : Fin 512)

variable (m c) in
/-- The projected rows of a point. -/
def rows : FVec Ideal S512x3200 .f32 :=
  k0_pay6 (iblk m c 0 t) (iblk m c 3 t) (iblk m c 1 t) (iblk m c 2 t) (iblk m c 4 t)

theorem rows_apply (h : (layer m c).Reals) (j : Fin 3200) :
    rows m c t (ix2 r j) = extended ((layer m c).z (rowAt t r)) j := point_row t r h j

variable (m c) in
/-- The queries of the latent attention at a point. -/
def lifted : FVec Ideal S512x3072 .f32 := k0_pay18 (rows m c t) (iblk m c 5 t) (iblk m c 6 t)

theorem lifted_rows (h : (layer m c).Reals) (j : Fin 3072) :
    lifted m c t (ix2 r j) = regrouped ((layer m c).query (rowAt t r)) j :=
  point_query r h (rows_apply t r h) _ _ (read_query_gain m c t) (read_query_weight m c t) j

variable (m c) in
/-- The latent rows at a point. -/
def latentRows : FVec Ideal S512x512 .f32 := k0_pay14 (rows m c t) (iblk m c 7 t)

theorem latent_rows (h : (layer m c).Reals) (j : Fin 512) :
    latentRows m c t (ix2 r j) = (layer m c).latent (rowAt t r) j :=
  point_latent r (rows_apply t r h) _ (read_latent_gain m c t) j

variable (m c) in
/-- The rotated sections at a point. -/
def sharedRows : FVec Ideal S512x128 .f32 := k0_pay15 (rows m c t) (iblk m c 9 t) (iblk m c 10 t)

theorem shared_rows (h : (layer m c).Reals) (j : Fin 128) :
    sharedRows m c t (ix2 r j) = padded ((layer m c).shared (rowAt t r)) j :=
  point_shared r (rows_apply t r h) _ _ (read_cos m c t r) (read_sin m c t r) j

theorem sparseQueries_at (h : (layer m c).Reals) (j : Fin 1024) :
    k0_pay7 (iblk m c 0 t) (iblk m c 3 t) (iblk m c 1 t) (iblk m c 2 t) (iblk m c 4 t) (ix2 r j) = (layer m c).sparseQueries (rowAt t r) j := by
  rw [queries_apply, point_row t r h, extended_plain _ _ (by dsimp only; omega)]
  rfl

theorem sparseQueries_eq (h : (layer m c).Reals) :
    (dats m 0 c).arrAt 11 cfg0.N = fun y : S16384x1024.Idx => (layer m c).sparseQueries (y 0) (y 1) := by
  refine (dats m 0 c).arrAt_eq_of_covers 11 _ (by decide +kernel) fun t hf y => ?_
  blk_simp
  rw [after0_11]
  unfold outsAt0 out0_A_11
  frame_out
  have e0 : ((win0_11.blk t).view.emb y) 0 = rowAt t (y 0) := by
    refine Fin.ext ?_
    show (((win0_11.blk t).view.emb y) 0).val = 512 * t.val + (y 0).val
    blk_simp [(index_out t).1]
    omega
  have e1 : ((win0_11.blk t).view.emb y) 1 = y 1 := by
    refine Fin.ext ?_
    blk_simp [(index_out t).1]
  rw [e0, e1]
  exact (congrArg _ (pair_eq y)).trans (sparseQueries_at t (y 0) h (y 1))

theorem sparse_at (h : (layer m c).Reals) (j : Fin 512) :
    k0_pay8 (iblk m c 0 t) (iblk m c 3 t) (iblk m c 1 t) (iblk m c 2 t) (iblk m c 4 t) (ix2 r j) = (layer m c).sparse (rowAt t r) j := by
  rw [sparse_apply, point_row t r h, extended_plain _ _ (by dsimp only; omega)]
  rfl

theorem sparse_eq (h : (layer m c).Reals) :
    (dats m 0 c).arrAt 12 cfg0.N = fun y : S16384x512.Idx => (layer m c).sparse (y 0) (y 1) := by
  refine (dats m 0 c).arrAt_eq_of_covers 12 _ (by decide +kernel) fun t hf y => ?_
  blk_simp
  rw [after0_12]
  unfold outsAt0 out0_A_12
  frame_out
  have e0 : ((win0_12.blk t).view.emb y) 0 = rowAt t (y 0) := by
    refine Fin.ext ?_
    show (((win0_12.blk t).view.emb y) 0).val = 512 * t.val + (y 0).val
    blk_simp [(index_out t).2.1]
    omega
  have e1 : ((win0_12.blk t).view.emb y) 1 = y 1 := by
    refine Fin.ext ?_
    blk_simp [(index_out t).2.1]
  rw [e0, e1]
  exact (congrArg _ (pair_eq y)).trans (sparse_at t (y 0) h (y 1))

theorem window_at (h : (layer m c).Reals) (j : Fin 256) :
    k0_pay9 (rows m c t) (ix2 r j) = (layer m c).window (rowAt t r) j := by
  rw [window_apply, rows_apply t r h, extended_plain _ _ (by dsimp only; omega)]
  rfl

theorem window_eq (h : (layer m c).Reals) :
    (dats m 0 c).arrAt 13 cfg0.N = fun y : S16384x256.Idx => (layer m c).window (y 0) (y 1) := by
  refine (dats m 0 c).arrAt_eq_of_covers 13 _ (by decide +kernel) fun t hf y => ?_
  blk_simp
  rw [after0_13]
  unfold outsAt0 out0_A_13
  frame_out
  have e0 : ((win0_13.blk t).view.emb y) 0 = rowAt t (y 0) := by
    refine Fin.ext ?_
    show (((win0_13.blk t).view.emb y) 0).val = 512 * t.val + (y 0).val
    blk_simp [(index_out t).2.2.1]
    omega
  have e1 : ((win0_13.blk t).view.emb y) 1 = y 1 := by
    refine Fin.ext ?_
    blk_simp [(index_out t).2.2.1]
  rw [e0, e1]
  exact (congrArg _ (pair_eq y)).trans (window_at t (y 0) h (y 1))

theorem gates_at (h : (layer m c).Reals) (j : Fin 128) :
    k0_pay11 (rows m c t) (ix2 r j) = (layer m c).gates (rowAt t r) j := by
  rw [gates_apply, rows_apply t r h, extended_gates]
  rfl

theorem gates_eq (h : (layer m c).Reals) :
    (dats m 0 c).arrAt 14 cfg0.N = fun y : S16384x128.Idx => (layer m c).gates (y 0) (y 1) := by
  refine (dats m 0 c).arrAt_eq_of_covers 14 _ (by decide +kernel) fun t hf y => ?_
  blk_simp
  rw [after0_14]
  unfold outsAt0 out0_A_14
  frame_out
  have e0 : ((win0_14.blk t).view.emb y) 0 = rowAt t (y 0) := by
    refine Fin.ext ?_
    show (((win0_14.blk t).view.emb y) 0).val = 512 * t.val + (y 0).val
    blk_simp [(index_out t).2.2.2.1]
    omega
  have e1 : ((win0_14.blk t).view.emb y) 1 = y 1 := by
    refine Fin.ext ?_
    blk_simp [(index_out t).2.2.2.1]
  rw [e0, e1]
  exact (congrArg _ (pair_eq y)).trans (gates_at t (y 0) h (y 1))

theorem plainQueries_at (h : (layer m c).Reals) (j : Fin 1024) :
    k0_pay19 (rows m c t) (iblk m c 5 t) (iblk m c 6 t) (ix2 r j) = (layer m c).plainQueries (rowAt t r) j := by
  rw [plain_apply]
  show lifted m c t (ix2 r ⟨j.val, by omega⟩) * scaleB = _
  rw [lifted_rows t r h, regrouped_plain _ _ (by dsimp only; omega)]
  rfl

theorem plainQueries_eq (h : (layer m c).Reals) :
    (dats m 0 c).arrAt 16 cfg0.N = fun y : S16384x1024.Idx => (layer m c).plainQueries (y 0) (y 1) := by
  refine (dats m 0 c).arrAt_eq_of_covers 16 _ (by decide +kernel) fun t hf y => ?_
  blk_simp
  rw [after0_16]
  unfold outsAt0 out0_A_16
  frame_out
  have e0 : ((win0_16.blk t).view.emb y) 0 = rowAt t (y 0) := by
    refine Fin.ext ?_
    show (((win0_16.blk t).view.emb y) 0).val = 512 * t.val + (y 0).val
    blk_simp [(index_out t).2.2.2.2.2.1]
    omega
  have e1 : ((win0_16.blk t).view.emb y) 1 = y 1 := by
    refine Fin.ext ?_
    blk_simp [(index_out t).2.2.2.2.2.1]
  rw [e0, e1]
  exact (congrArg _ (pair_eq y)).trans (plainQueries_at t (y 0) h (y 1))

theorem rotaryKeys_at (h : (layer m c).Reals) (j : Fin 128) :
    k0_pay17 (sharedRows m c t) (ix2 r j) = (layer m c).rotaryKeys (rowAt t r) j := by
  rw [rounded_apply, shared_rows t r h]
  rfl

theorem rotaryKeys_eq (h : (layer m c).Reals) :
    (dats m 0 c).arrAt 18 cfg0.N = fun y : S16384x128.Idx => (layer m c).rotaryKeys (y 0) (y 1) := by
  refine (dats m 0 c).arrAt_eq_of_covers 18 _ (by decide +kernel) fun t hf y => ?_
  blk_simp
  rw [after0_18]
  unfold outsAt0 out0_A_18
  frame_out
  have e0 : ((win0_18.blk t).view.emb y) 0 = rowAt t (y 0) := by
    refine Fin.ext ?_
    show (((win0_18.blk t).view.emb y) 0).val = 512 * t.val + (y 0).val
    blk_simp [(index_out t).2.2.2.2.2.2.2.1]
    omega
  have e1 : ((win0_18.blk t).view.emb y) 1 = y 1 := by
    refine Fin.ext ?_
    blk_simp [(index_out t).2.2.2.2.2.2.2.1]
  rw [e0, e1]
  exact (congrArg _ (pair_eq y)).trans (rotaryKeys_at t (y 0) h (y 1))

theorem keys_at (h : (layer m c).Reals) (j : Fin 1024) :
    k0_pay4 (latentRows m c t) (iblk m c 8 t) (ix2 r j) = (layer m c).keys (rowAt t r) j := by
  rw [keys_apply, pair_apply]
  unfold Layer.keys through
  simp only [latent_rows t r h, read_keys]

theorem keys_eq (h : (layer m c).Reals) :
    (dats m 0 c).arrAt 19 cfg0.N = fun y : S16384x1024.Idx => (layer m c).keys (y 0) (y 1) := by
  refine (dats m 0 c).arrAt_eq_of_covers 19 _ (by decide +kernel) fun t hf y => ?_
  blk_simp
  rw [after0_19]
  unfold outsAt0 out0_A_19
  frame_out
  have e0 : ((win0_19.blk t).view.emb y) 0 = rowAt t (y 0) := by
    refine Fin.ext ?_
    show (((win0_19.blk t).view.emb y) 0).val = 512 * t.val + (y 0).val
    blk_simp [(index_out t).2.2.2.2.2.2.2.2.1]
    omega
  have e1 : ((win0_19.blk t).view.emb y) 1 = y 1 := by
    refine Fin.ext ?_
    blk_simp [(index_out t).2.2.2.2.2.2.2.2.1]
  rw [e0, e1]
  exact (congrArg _ (pair_eq y)).trans (keys_at t (y 0) h (y 1))

theorem values_at (h : (layer m c).Reals) (j : Fin 1024) :
    k0_pay5 (latentRows m c t) (iblk m c 8 t) (ix2 r j) = (layer m c).values (rowAt t r) j := by
  rw [values_apply, pair_apply]
  unfold Layer.values through
  simp only [latent_rows t r h, read_values]

theorem values_eq (h : (layer m c).Reals) :
    (dats m 0 c).arrAt 20 cfg0.N = fun y : S16384x1024.Idx => (layer m c).values (y 0) (y 1) := by
  refine (dats m 0 c).arrAt_eq_of_covers 20 _ (by decide +kernel) fun t hf y => ?_
  blk_simp
  rw [after0_20]
  unfold outsAt0 out0_A_20
  frame_out
  have e0 : ((win0_20.blk t).view.emb y) 0 = rowAt t (y 0) := by
    refine Fin.ext ?_
    show (((win0_20.blk t).view.emb y) 0).val = 512 * t.val + (y 0).val
    blk_simp [(index_out t).2.2.2.2.2.2.2.2.2.1]
    omega
  have e1 : ((win0_20.blk t).view.emb y) 1 = y 1 := by
    refine Fin.ext ?_
    blk_simp [(index_out t).2.2.2.2.2.2.2.2.2.1]
  rw [e0, e1]
  exact (congrArg _ (pair_eq y)).trans (values_at t (y 0) h (y 1))

theorem both_at (h : (layer m c).Reals) (j : Fin 768) :
    k0_pay10 (rows m c t) (ix2 r j) = (layer m c).both (rowAt t r) j := by
  rw [both_apply, rows_apply t r h, extended_plain _ _ (by dsimp only; omega)]
  rfl

theorem both_eq (h : (layer m c).Reals) :
    (dats m 0 c).arrAt 21 cfg0.N = fun y : S16384x768.Idx => (layer m c).both (y 0) (y 1) := by
  refine (dats m 0 c).arrAt_eq_of_covers 21 _ (by decide +kernel) fun t hf y => ?_
  blk_simp
  rw [after0_21]
  unfold outsAt0 out0_A_21
  frame_out
  have e0 : ((win0_21.blk t).view.emb y) 0 = rowAt t (y 0) := by
    refine Fin.ext ?_
    show (((win0_21.blk t).view.emb y) 0).val = 512 * t.val + (y 0).val
    blk_simp [(index_out t).2.2.2.2.2.2.2.2.2.2]
    omega
  have e1 : ((win0_21.blk t).view.emb y) 1 = y 1 := by
    refine Fin.ext ?_
    blk_simp [(index_out t).2.2.2.2.2.2.2.2.2.2]
  rw [e0, e1]
  exact (congrArg _ (pair_eq y)).trans (both_at t (y 0) h (y 1))

end Cert.In

end
-- ==== Proof.In.Pieces.lean ====
module

public import proofs.«01_k».proof.Proof.In.Whole
public import Idealize.ShloMosaic.Lib.WritesUnit

@[expose] public section

set_option maxRecDepth 16384

/-! The results of the input projection that are stored in several pieces: the latent rows with their rotary section,
and the heads' rotary queries. -/

noncomputable section

namespace Cert.In

open Cert.Kernel4Ideal Cert.Kernel4Ideal.Gen Idealize.ShloMosaic Idealize.ShloMosaic.TcCoe Cert.Ffn

variable {m : (ℓ : Loc nD τ sig) → Buf (Elt Ideal) ℓ} {c : Dev nD}

/-! ### The latent rows -/

theorem shared_at (t : Fin cfg0.N) (r : Fin 512) (h : (layer m c).Reals) (j : Fin 64) :
    k0_pay16 (rows m c t) (iblk m c 9 t) (iblk m c 10 t) (ix2 r j) = (layer m c).shared (rowAt t r) j := by
  rw [narrow_apply]
  refine (shared_rows t r h _).trans ?_
  unfold padded
  exact dif_pos j.isLt

theorem latents_eq (h : (layer m c).Reals) :
    (dats m 0 c).arrAt 15 cfg0.N = fun y : S16384x576.Idx => (layer m c).latents (y 0) (y 1) := by
  refine (dats m 0 c).arrAt_eq_of_covers 15 _ (by decide +kernel) fun t hf y => ?_
  blk_simp
  rw [after0_15]
  frame_out
  have e0 : ((win0_15.blk t).view.emb y) 0 = rowAt t (y 0) := by
    refine Fin.ext ?_
    show (((win0_15.blk t).view.emb y) 0).val = 512 * t.val + (y 0).val
    blk_simp [(index_out t).2.2.2.2.1]
    omega
  have e1 : ((win0_15.blk t).view.emb y) 1 = y 1 := by
    refine Fin.ext ?_
    blk_simp [(index_out t).2.2.2.2.1]
  rw [e0, e1]
  refine View.canon_apply_of_pieces (Val := Elt Ideal) (S := S512x576) (e := .f32)
    (fun y => (layer m c).latents (rowAt t (y 0)) (y 1)) _ ?_ y ?_
  · intro p hp x
    simp only [List.mem_cons, List.not_mem_nil, or_false] at hp
    rcases hp with rfl | rfl
    · refine (congrArg _ (pair_eq x)).trans ((shared_at t (x 0) h (x 1)).trans ?_)
      have f0 : ((Rect.unit (s := S512x576) ![0, 512] ![512, 64] inb_S512x576_S512x64_0_512).emb x) 0 = x 0 := Fin.ext (by
        rw [Rect.emb_apply]
        show 0 + 1 * (x 0).val = (x 0).val
        omega)
      have f1 : (((Rect.unit (s := S512x576) ![0, 512] ![512, 64] inb_S512x576_S512x64_0_512).emb x) 1).val = 512 + (x 1).val := by
        rw [Rect.emb_apply]
        show 512 + 1 * (x 1).val = 512 + (x 1).val
        omega
      have hx : (x 1).val < 64 := (x 1).isLt
      show _ = (layer m c).latents (rowAt t (((Rect.unit (s := S512x576) ![0, 512] ![512, 64] inb_S512x576_S512x64_0_512).emb x) 0)) (((Rect.unit (s := S512x576) ![0, 512] ![512, 64] inb_S512x576_S512x64_0_512).emb x) 1)
      rw [f0]
      unfold Layer.latents
      rw [dif_neg (by omega)]
      exact congrArg ((layer m c).shared _) (Fin.ext (by dsimp only; omega))
    · refine (congrArg _ (pair_eq x)).trans ((latent_rows t (x 0) h (x 1)).trans ?_)
      have f0 : ((Rect.unit (s := S512x576) ![0, 0] ![512, 512] inb_S512x576_S512x512_0_0).emb x) 0 = x 0 := Fin.ext (by
        rw [Rect.emb_apply]
        show 0 + 1 * (x 0).val = (x 0).val
        omega)
      have f1 : (((Rect.unit (s := S512x576) ![0, 0] ![512, 512] inb_S512x576_S512x512_0_0).emb x) 1).val = 0 + (x 1).val := by
        rw [Rect.emb_apply]
        show 0 + 1 * (x 1).val = 0 + (x 1).val
        omega
      have hx : (x 1).val < 512 := (x 1).isLt
      show _ = (layer m c).latents (rowAt t (((Rect.unit (s := S512x576) ![0, 0] ![512, 512] inb_S512x576_S512x512_0_0).emb x) 0)) (((Rect.unit (s := S512x576) ![0, 0] ![512, 512] inb_S512x576_S512x512_0_0).emb x) 1)
      rw [f0]
      unfold Layer.latents
      rw [dif_pos (by omega)]
      exact congrArg ((layer m c).latent _) (Fin.ext (by dsimp only; omega))
  · by_cases hy : (y 1).val < 512
    · refine ⟨_, List.mem_cons_of_mem _ List.mem_cons_self, (Rect.mem_set_unit (inb := inb_S512x576_S512x512_0_0)).mpr fun a => ?_⟩
      fin_cases a
      · exact ⟨Nat.zero_le _, (show (y 0).val < 512 from (y 0).isLt).trans_eq (Nat.zero_add 512).symm⟩
      · exact ⟨Nat.zero_le _, hy.trans_eq (Nat.zero_add 512).symm⟩
    · refine ⟨_, List.mem_cons_self, (Rect.mem_set_unit (inb := inb_S512x576_S512x64_0_512)).mpr fun a => ?_⟩
      fin_cases a
      · exact ⟨Nat.zero_le _, (show (y 0).val < 512 from (y 0).isLt).trans_eq (Nat.zero_add 512).symm⟩
      · exact ⟨Nat.le_of_not_lt hy, (show (y 1).val < 576 from (y 1).isLt)⟩

/-! ### The heads' rotary queries -/

theorem inb_head (h : Fin 8) (a : Fin 2) : (![0, 128 * h.val] : Fin 2 → ℕ) a + S512x128.size a ≤ S512x1024.size a := by
  have := h.isLt
  fin_cases a
  · exact Nat.le_refl 512
  · show 128 * h.val + 128 ≤ 1024
    omega

theorem canon_heads (D : Fin 8 → FVec Ideal S512x128 .bf16) (r : Fin 512) (h : Fin 8) (d : Fin 128) :
    View.canon (Val := Elt Ideal) (e := .bf16) (View.tilePieces (s := S512x1024) (NT := 8) S512x128.size (fun h => ![0, 128 * h.val]) inb_head D 8
      (Nat.le_refl 8)) (ix2 r ⟨128 * h.val + d.val, by omega⟩) = D h (ix2 r d) := by
  rw [← View.read_writes_junk_apply_eq_canon VO0_17]
  exact View.read_tilePieces VO0_17 _ _ _ inb_head _ 8 (Nat.le_refl 8) _ h h.isLt (ix2 r d)
    (fun a => by fin_cases a; exacts [(Nat.zero_add _).symm, rfl]) 1
    (fun i' hi' => by
      have : i'.val ≠ h.val := fun e => hi' (Fin.ext e)
      have := d.isLt
      show 128 * h.val + d.val < 128 * i'.val ∨ 128 * i'.val + 128 ≤ 128 * h.val + d.val
      omega)

theorem cos_block (x : Vec Ideal S512x128 .f32) (y : S512x128.Idx) : k0_pay12 x y = x y := by
  rw [pair_eq y]
  unfold k0_pay12
  pointwise

theorem sin_block (x : Vec Ideal S512x128 .f32) (y : S512x128.Idx) : k0_pay13 x y = x y := by
  rw [pair_eq y]
  unfold k0_pay13
  pointwise

theorem head_at (t : Fin cfg0.N) (r : Fin 512) (hr : (layer m c).Reals) (h : Fin 8) (d : Fin 128) :
    headTile (rows m c t) (k0_pay12 (iblk m c 9 t)) (k0_pay13 (iblk m c 10 t)) (iblk m c 5 t) (iblk m c 6 t) h (ix2 r d)
      = (layer m c).rotaryQueries (rowAt t r) ⟨128 * h.val + d.val, by omega⟩ := by
  rw [headTile_apply]
  exact point_head r _ _ _ (lifted_rows t r hr) (fun j => (cos_block _ _).trans (read_cos m c t r j))
    (fun j => (sin_block _ _).trans (read_sin m c t r j)) h d

theorem rotaryQueries_eq (h : (layer m c).Reals) :
    (dats m 0 c).arrAt 17 cfg0.N = fun y : S16384x1024.Idx => (layer m c).rotaryQueries (y 0) (y 1) := by
  refine (dats m 0 c).arrAt_eq_of_covers 17 _ (by decide +kernel) fun t hf y => ?_
  blk_simp
  rw [after0_17]
  frame_out
  have e0 : ((win0_17.blk t).view.emb y) 0 = rowAt t (y 0) := by
    refine Fin.ext ?_
    show (((win0_17.blk t).view.emb y) 0).val = 512 * t.val + (y 0).val
    blk_simp [(index_out t).2.2.2.2.2.2.1]
    omega
  have e1 : ((win0_17.blk t).view.emb y) 1 = y 1 := by
    refine Fin.ext ?_
    blk_simp [(index_out t).2.2.2.2.2.2.1]
  rw [e0, e1]
  have hy : (y 1).val < 1024 := (y 1).isLt
  have ey : y = ix2 (y 0) ⟨128 * ((y 1).val / 128) + (y 1).val % 128, by omega⟩ := by
    refine (pair_eq y).trans (congrArg (ix2 (y 0)) (Fin.ext ?_))
    show (y 1).val = 128 * ((y 1).val / 128) + (y 1).val % 128
    omega
  refine (congrArg _ ey).trans ?_
  refine (canon_heads (headTile (rows m c t) (k0_pay12 (iblk m c 9 t)) (k0_pay13 (iblk m c 10 t)) (iblk m c 5 t)
    (iblk m c 6 t)) (y 0) ⟨(y 1).val / 128, by omega⟩ ⟨(y 1).val % 128, by omega⟩).trans ?_
  refine (head_at t (y 0) h _ _).trans (congrArg ((layer m c).rotaryQueries _) (Fin.ext ?_))
  show 128 * ((y 1).val / 128) + (y 1).val % 128 = (y 1).val
  omega

end Cert.In

end
-- ==== Proof.In.Pre.lean ====
/-
What the precondition of the input projection says: every entry of the modulation rows, of the two gains and of the
rotary columns of the two weights is below plus infinity in absolute value, and so it is a real number.
-/
module

public import proofs.«01_k».proof.Defs
public import proofs.«01_k».proof.Proof.In.Blocks

@[expose] public section

set_option maxRecDepth 16384

noncomputable section

namespace Cert.In

open Cert.Kernel4Ideal Cert.Kernel4Ideal.Gen Idealize.ShloMosaic Idealize.ShloMosaic.TcCoe

/-- The precondition's broadcasts, slices and shapes are well formed. -/
theorem pre_facts : Cert.Pre_finite.Facts where
  bcast_S_S4x1x2048 := by decide
  bcast_S_S2048 := by decide
  slices_S2048x2904_S2048x64_0_2840 := by decide
  bcast_S_S2048x64 := by decide
  bcast_S_S512 := by decide
  shapeCasts_S512x1536_S512x8x192 := by decide
  slices_S512x8x192_S512x8x64_0_0_128 := by decide
  bcast_S_S512x8x64 := by decide

/-- The rotary columns of the input weights. -/
theorem rotary_columns (w : FVec Ideal Cert.Pre_finite.S2048x2904 .f32)
    (hs : Cert.Pre_finite.S2048x2904.Slices ![0, 2840] Cert.Pre_finite.S2048x64) (e : Fin 2048) (k : Fin 64) :
    extractStridedSlice Cert.Pre_finite.S2048x64 ![0, 2840] w hs (ix2 e k) = w (ix2 e ⟨2840 + k.val, by omega⟩) := by
  pointwise

/-- The rotary columns of the queries' weights, head by head. -/
theorem rotary_query_columns (w : FVec Ideal Cert.Pre_finite.S512x1536 .f32)
    (hc : Cert.Pre_finite.S512x1536.ShapeCasts Cert.Pre_finite.S512x8x192)
    (hs : Cert.Pre_finite.S512x8x192.Slices ![0, 0, 128] Cert.Pre_finite.S512x8x64) (e : Fin 512) (a : Fin 8)
    (k : Fin 64) :
    extractStridedSlice Cert.Pre_finite.S512x8x64 ![0, 0, 128] (shapeCast _ w hc) hs (ix3 e a k)
      = w (ix2 e ⟨a.val * 192 + 128 + k.val, by omega⟩) := by
  have h : a.val * 192 + 128 + k.val = a.val * 192 + (128 + k.val) := Nat.add_assoc _ _ _
  simp only [h]
  pointwise

/-- Under the precondition those arguments are real. -/
theorem reals_of_pre {m : (ℓ : Loc nD τ sig) → Buf (Elt Ideal) ℓ}
    (h : Cert.Pre_Kernel4Ideal_finite (hPre_finite := pre_facts) m) (c : Dev nD) : (layer m c).Reals := by
  obtain ⟨h1, h2, h3, h4, h5, h6⟩ := h c
  refine
    { scale := fun n k => real_of_abs (congrFun h1 (ix3 (groupOf n) 0 k))
      shift := fun n k => real_of_abs (congrFun h2 (ix3 (groupOf n) 0 k))
      gain := fun k => real_of_abs (congrFun h3 (ix1 k))
      weight := fun e k => ?_
      queryGain := fun k => real_of_abs (congrFun h5 (ix1 k))
      queryWeight := fun e a k => ?_ }
  · have hr := real_of_abs (congrFun h4 (ix2 e k))
    exact (congrArg IsReal (rotary_columns _ _ e k)).mp hr
  · have hr := real_of_abs (congrFun h6 (ix3 e a k))
    exact (congrArg IsReal (rotary_query_columns _ _ _ e a k)).mp hr

end Cert.In

end
-- ==== Proof.In.Reference.lean ====
/-
The reference's input projection, in stages, each read at an index over the extended reals: the modulated rows and their
projection, the sections that are results themselves, the latent rows, the rotated sections, and the heads' rows.
-/
module

public import proofs.«01_k».proof.Proof.In.Layer
public import proofs.«01_k».proof.Proof.In.Prepared
public import proofs.«01_k».proof.Proof.Gen.Reference4Ideal.Run
public import Idealize.ShloMosaic.Lib.Pointwise
public import Idealize.ShloMosaic.Lib.IdealHost

@[expose] public section

set_option maxRecDepth 16384

noncomputable section

namespace Cert.In.Ref

open Cert.Reference4Ideal Cert.Reference4Ideal.Gen Idealize.ShloMosaic Idealize.ShloMosaic.TcCoe Cert.Ffn

section Stages

variable {F : FTy → Type} [FloatOps F]

/-- The modulated rows. -/
def hidden (x : FVec F S4x4096x2048 .f32) (g : Vec F S2048 .f32) (sc sh : Vec F S4x1x2048 .f32) :
    FVec F S4x4096x2048 .f32 :=
  addf (mulf (mulf (mulf x (broadcastInDim S4x4096x2048 ![0, 1, 2] bcast_S4x4096x1_S4x4096x2048_0_1_2
    (Host.rsqrt (addf (Host.divf (broadcastInDim S4x4096x1 ![0, 1] bcast_S4x4096_S4x4096x1_0_1
      (Host.reduceAdd (mulf x x) (constant S_ .f32 0x00000000#32) reducesTo_S4x4096x2048_S4x4096_d2 h_S_))
      (broadcastInDim S4x4096x1 ![] bcast_S_S4x4096x1 (constant S_ .f32 0x45000000#32)))
      (broadcastInDim S4x4096x1 ![] bcast_S_S4x4096x1 (constant S_ .f32 0x358637BD#32))))))
    (broadcastInDim S4x4096x2048 ![0, 1, 2] bcast_S1x1x2048_S4x4096x2048_0_1_2
      (broadcastInDim S1x1x2048 ![2] bcast_S2048_S1x1x2048_2 g)))
    (broadcastInDim S4x4096x2048 ![0, 1, 2] bcast_S4x1x2048_S4x4096x2048_0_1_2
      (addf (broadcastInDim S4x1x2048 ![] bcast_S_S4x1x2048 (constant S_ .f32 0x3F800000#32)) sc)))
    (broadcastInDim S4x4096x2048 ![0, 1, 2] bcast_S4x1x2048_S4x4096x2048_0_1_2 sh)

/-- The input, sequence by sequence. -/
def split (x : Vec F S16384x2048 .f32) : FVec F S4x4096x2048 .f32 :=
  shapeCast _ x shapeCasts_S16384x2048_S4x4096x2048

/-- The projected rows. -/
def projected (h : FVec F S4x4096x2048 .f32) (w : Vec F S2048x2904 .f32) : FVec F S4x4096x2904 .f32 :=
  Host.dotGeneral dot_S4x4096x2048_S2048x2904_S4x4096x2904_2_0_01_1_n_n none h w

/-- A row of 512 columns, normalised. -/
def norm (y : FVec F S4x4096x512 .f32) (g : Vec F S512 .f32) : FVec F S4x4096x512 .f32 :=
  mulf (mulf y (broadcastInDim S4x4096x512 ![0, 1, 2] bcast_S4x4096x1_S4x4096x512_0_1_2
    (Host.rsqrt (addf (Host.divf (broadcastInDim S4x4096x1 ![0, 1] bcast_S4x4096_S4x4096x1_0_1
      (Host.reduceAdd (mulf y y) (constant S_ .f32 0x00000000#32) reducesTo_S4x4096x512_S4x4096_d2 h_S_))
      (broadcastInDim S4x4096x1 ![] bcast_S_S4x4096x1 (constant S_ .f32 0x44000000#32)))
      (broadcastInDim S4x4096x1 ![] bcast_S_S4x4096x1 (constant S_ .f32 0x358637BD#32))))))
    (broadcastInDim S4x4096x512 ![0, 1, 2] bcast_S1x1x512_S4x4096x512_0_1_2
      (broadcastInDim S1x1x512 ![2] bcast_S512_S1x1x512_2 g))

/-- The latent section of the projected rows. -/
def latentPart (z : FVec F S4x4096x2904 .f32) : FVec F S4x4096x512 .f32 :=
  extractStridedSlice S4x4096x512 ![0, 0, 2328] z slices_S4x4096x2904_S4x4096x512_0_0_2328

/-- The section from which the queries are made. -/
def queryPart (z : FVec F S4x4096x2904 .f32) : FVec F S4x4096x512 .f32 :=
  extractStridedSlice S4x4096x512 ![0, 0, 1816] z slices_S4x4096x2904_S4x4096x512_0_0_1816

/-- A table with one row per position, for every sequence. -/
def spread (t : FVec F S4096x32 .f32) : FVec F S4x4096x32 .f32 :=
  broadcastInDim S4x4096x32 ![0, 1, 2] bcast_S1x4096x32_S4x4096x32_0_1_2
    (broadcastInDim S1x4096x32 ![1, 2] bcast_S4096x32_S1x4096x32_1_2 t)

/-- The rotary section of the projected rows, rotated. -/
def shared (z : FVec F S4x4096x2904 .f32) (ang : Vec F S4096x32 .f32) : FVec F S4x4096x64 .f32 :=
  concatenate S4x4096x64 2 [
    ⟨S4x4096x32, (subf
      (mulf (extractStridedSlice S4x4096x32 ![0, 0, 0]
        (extractStridedSlice S4x4096x64 ![0, 0, 2840] z slices_S4x4096x2904_S4x4096x64_0_0_2840)
        slices_S4x4096x64_S4x4096x32_0_0_0) (spread (Host.cos ang)))
      (mulf (extractStridedSlice S4x4096x32 ![0, 0, 32]
        (extractStridedSlice S4x4096x64 ![0, 0, 2840] z slices_S4x4096x2904_S4x4096x64_0_0_2840)
        slices_S4x4096x64_S4x4096x32_0_0_32) (spread (Host.sin ang))))⟩,
    ⟨S4x4096x32, (addf
      (mulf (extractStridedSlice S4x4096x32 ![0, 0, 0]
        (extractStridedSlice S4x4096x64 ![0, 0, 2840] z slices_S4x4096x2904_S4x4096x64_0_0_2840)
        slices_S4x4096x64_S4x4096x32_0_0_0) (spread (Host.sin ang)))
      (mulf (extractStridedSlice S4x4096x32 ![0, 0, 32]
        (extractStridedSlice S4x4096x64 ![0, 0, 2840] z slices_S4x4096x2904_S4x4096x64_0_0_2840)
        slices_S4x4096x64_S4x4096x32_0_0_32) (spread (Host.cos ang))))⟩]
    concatenates_S4x4096x32_S4x4096x32_S4x4096x64_d2

/-- The queries, head by head. -/
def heads (l : FVec F S4x4096x512 .f32) (w : Vec F S512x1536 .f32) : FVec F S4x4096x8x192 .f32 :=
  shapeCast _ (Host.dotGeneral dot_S4x4096x512_S512x1536_S4x4096x1536_2_0_01_1_n_n none l w)
    shapeCasts_S4x4096x1536_S4x4096x8x192

/-- A table with one row per position, for every sequence and head. -/
def spreadHeads (t : FVec F S4096x32 .f32) : FVec F S4x4096x8x32 .f32 :=
  broadcastInDim S4x4096x8x32 ![0, 1, 2, 3] bcast_S1x4096x1x32_S4x4096x8x32_0_1_2_3
    (broadcastInDim S1x4096x1x32 ![1, 2, 3] bcast_S4096x1x32_S1x4096x1x32_1_2_3
      (shapeCast _ t shapeCasts_S4096x32_S4096x1x32))

/-- The queries' rotary columns, rotated. -/
def turnedHeads (q : FVec F S4x4096x8x192 .f32) (ang : Vec F S4096x32 .f32) : FVec F S4x4096x8x64 .f32 :=
  concatenate S4x4096x8x64 3 [
    ⟨S4x4096x8x32, (subf
      (mulf (extractStridedSlice S4x4096x8x32 ![0, 0, 0, 128] q slices_S4x4096x8x192_S4x4096x8x32_0_0_0_128)
        (spreadHeads (Host.cos ang)))
      (mulf (extractStridedSlice S4x4096x8x32 ![0, 0, 0, 160] q slices_S4x4096x8x192_S4x4096x8x32_0_0_0_160)
        (spreadHeads (Host.sin ang))))⟩,
    ⟨S4x4096x8x32, (addf
      (mulf (extractStridedSlice S4x4096x8x32 ![0, 0, 0, 128] q slices_S4x4096x8x192_S4x4096x8x32_0_0_0_128)
        (spreadHeads (Host.sin ang)))
      (mulf (extractStridedSlice S4x4096x8x32 ![0, 0, 0, 160] q slices_S4x4096x8x192_S4x4096x8x32_0_0_0_160)
        (spreadHeads (Host.cos ang))))⟩]
    concatenates_S4x4096x8x32_S4x4096x8x32_S4x4096x8x64_d3

/-! The results. -/

def sparseQueries (z : FVec F S4x4096x2904 .f32) : FVec F S16384x1024 .bf16 :=
  truncf .bf16 (shapeCast _ (mulf
    (extractStridedSlice S4x4096x1024 ![0, 0, 0] z slices_S4x4096x2904_S4x4096x1024_0_0_0)
    (broadcastInDim S4x4096x1024 ![] bcast_S_S4x4096x1024 (constant S_ .f32 0x3E0293EE#32)))
    shapeCasts_S4x4096x1024_S16384x1024) bitsLt_bf16_f32

def sparse (z : FVec F S4x4096x2904 .f32) : FVec F S16384x512 .f32 :=
  shapeCast _ (extractStridedSlice S4x4096x512 ![0, 0, 1024] z slices_S4x4096x2904_S4x4096x512_0_0_1024)
    shapeCasts_S4x4096x512_S16384x512

def window (z : FVec F S4x4096x2904 .f32) : FVec F S16384x256 .f32 :=
  shapeCast _ (extractStridedSlice S4x4096x256 ![0, 0, 1536] z slices_S4x4096x2904_S4x4096x256_0_0_1536)
    shapeCasts_S4x4096x256_S16384x256

def gates (z : FVec F S4x4096x2904 .f32) : FVec F S16384x128 .f32 :=
  shapeCast _ (Host.divf (broadcastInDim S4x4096x128 ![] bcast_S_S4x4096x128 (constant S_ .f32 0x3F800000#32))
    (addf (broadcastInDim S4x4096x128 ![] bcast_S_S4x4096x128 (constant S_ .f32 0x3F800000#32))
      (Host.exp (Host.negf (pad S4x4096x128 ![0, 0, 0] ![0, 0, 104] ![0, 0, 0]
        (extractStridedSlice S4x4096x24 ![0, 0, 1792] z slices_S4x4096x2904_S4x4096x24_0_0_1792)
        (sitofp .f32 (constantI S_ 32 0#32)) pads_S4x4096x24_S4x4096x128_000_000_01040 h_S_)))))
    shapeCasts_S4x4096x128_S16384x128

def latentRows (l : FVec F S4x4096x512 .f32) (k : FVec F S4x4096x64 .f32) : FVec F S16384x576 .f32 :=
  shapeCast _ (concatenate S4x4096x576 2 [⟨S4x4096x512, l⟩, ⟨S4x4096x64, k⟩]
    concatenates_S4x4096x512_S4x4096x64_S4x4096x576_d2) shapeCasts_S4x4096x576_S16384x576

def plainQueries (q : FVec F S4x4096x8x192 .f32) : FVec F S16384x1024 .bf16 :=
  truncf .bf16 (shapeCast _ (mulf
    (extractStridedSlice S4x4096x8x128 ![0, 0, 0, 0] q slices_S4x4096x8x192_S4x4096x8x128_0_0_0_0)
    (broadcastInDim S4x4096x8x128 ![] bcast_S_S4x4096x8x128 (constant S_ .f32 0x3DD53B95#32)))
    shapeCasts_S4x4096x8x128_S16384x1024) bitsLt_bf16_f32

def rotaryQueries (q : FVec F S4x4096x8x64 .f32) : FVec F S16384x1024 .bf16 :=
  truncf .bf16 (shapeCast _ (pad S4x4096x8x128 ![0, 0, 0, 0] ![0, 0, 0, 64] ![0, 0, 0, 0]
    (mulf q (broadcastInDim S4x4096x8x64 ![] bcast_S_S4x4096x8x64 (constant S_ .f32 0x3DD53B95#32)))
    (sitofp .f32 (constantI S_ 32 0#32)) pads_S4x4096x8x64_S4x4096x8x128_000_000_000_0640 h_S_)
    shapeCasts_S4x4096x8x128_S16384x1024) bitsLt_bf16_f32

def rotaryKeys (k : FVec F S4x4096x64 .f32) : FVec F S16384x128 .bf16 :=
  truncf .bf16 (shapeCast _ (pad S4x4096x128 ![0, 0, 0] ![0, 0, 64] ![0, 0, 0] k
    (sitofp .f32 (constantI S_ 32 0#32)) pads_S4x4096x64_S4x4096x128_000_000_0640 h_S_)
    shapeCasts_S4x4096x128_S16384x128) bitsLt_bf16_f32

def byHeads (l : FVec F S4x4096x512 .f32) (w : Vec F S512x8x128 .f32) : FVec F S16384x1024 .bf16 :=
  truncf .bf16 (shapeCast _ (Host.dotGeneral dot_S4x4096x512_S512x8x128_S4x4096x8x128_2_0_01_12_n_n none l w)
    shapeCasts_S4x4096x8x128_S16384x1024) bitsLt_bf16_f32

def both (z : FVec F S4x4096x2904 .f32) : FVec F S16384x768 .bf16 :=
  truncf .bf16 (shapeCast _ (concatenate S4x4096x768 2 [
    ⟨S4x4096x512, (extractStridedSlice S4x4096x512 ![0, 0, 1024] z slices_S4x4096x2904_S4x4096x512_0_0_1024)⟩,
    ⟨S4x4096x256, (extractStridedSlice S4x4096x256 ![0, 0, 1536] z slices_S4x4096x2904_S4x4096x256_0_0_1536)⟩]
    concatenates_S4x4096x512_S4x4096x256_S4x4096x768_d2) shapeCasts_S4x4096x768_S16384x768) bitsLt_bf16_f32

end Stages

/-! ### Read at an index -/

variable (n : Fin 4) (p : Fin 4096) (hp : n.val * 4096 + p.val < 16384) (z : FVec Ideal S4x4096x2904 .f32)

theorem hidden_apply (x : FVec Ideal S4x4096x2048 .f32) (g : Vec Ideal S2048 .f32) (sc sh : Vec Ideal S4x1x2048 .f32)
    (k : Fin 2048) :
    hidden x g sc sh (ix3 n p k)
      = modulated (fun k => x (ix3 n p k)) (fun k => g (ix1 k)) (fun k => sc (ix3 n 0 k)) (fun k => sh (ix3 n 0 k)) k := by
  unfold hidden modulated normalised columns eps one
  pointwise

theorem split_apply (x : Vec Ideal S16384x2048 .f32) (k : Fin 2048) :
    split x (ix3 n p k) = x (ix2 ⟨n.val * 4096 + p.val, hp⟩ k) := by
  unfold split
  pointwise

theorem projected_apply (h : FVec Ideal S4x4096x2048 .f32) (w : Vec Ideal S2048x2904 .f32) (j : Fin 2904) :
    projected h w (ix3 n p j) = through (fun e => h (ix3 n p e)) (fun e j => w (ix2 e j)) j := by
  unfold projected through
  pointwise

theorem norm_apply (y : FVec Ideal S4x4096x512 .f32) (g : Vec Ideal S512 .f32) (k : Fin 512) :
    norm y g (ix3 n p k) = unit (fun k => y (ix3 n p k)) (fun k => g (ix1 k)) k := by
  unfold norm unit latents eps
  pointwise

theorem latentPart_apply (k : Fin 512) : latentPart z (ix3 n p k) = z (ix3 n p ⟨2328 + k.val, by omega⟩) := by
  unfold latentPart
  pointwise

theorem queryPart_apply (k : Fin 512) : queryPart z (ix3 n p k) = z (ix3 n p ⟨1816 + k.val, by omega⟩) := by
  unfold queryPart
  pointwise

theorem shared_apply (ang : Vec Ideal S4096x32 .f32) (k : Fin 64) :
    shared z ang (ix3 n p k)
      = rotated (fun k => z (ix3 n p ⟨2840 + k.val, by omega⟩)) (fun k => Ideal.cos (ang (ix2 p k)))
          (fun k => Ideal.sin (ang (ix2 p k))) k := by
  unfold shared spread rotated
  by_cases h : k.val < 32
  · have e : 2840 + (k.val + 32) = 2840 + (32 + k.val) := by omega
    pointwise
    simp only [h, dif_pos, e]
  · have e : 2840 + (32 + (k.val - 32)) = 2840 + k.val := by omega
    pointwise
    simp only [h, dif_neg, not_false_eq_true, e]

theorem heads_apply (l : FVec Ideal S4x4096x512 .f32) (w : Vec Ideal S512x1536 .f32) (a : Fin 8) (d : Fin 192) :
    heads l w (ix4 n p a d)
      = through (fun e => l (ix3 n p e)) (fun e j => w (ix2 e j)) ⟨a.val * 192 + d.val, by omega⟩ := by
  unfold heads through
  pointwise

theorem turnedHeads_apply (q : FVec Ideal S4x4096x8x192 .f32) (ang : Vec Ideal S4096x32 .f32) (a : Fin 8) (k : Fin 64) :
    turnedHeads q ang (ix4 n p a k)
      = rotated (fun k => q (ix4 n p a ⟨128 + k.val, by omega⟩)) (fun k => Ideal.cos (ang (ix2 p k)))
          (fun k => Ideal.sin (ang (ix2 p k))) k := by
  unfold turnedHeads spreadHeads rotated
  by_cases h : k.val < 32
  · have e : 128 + (k.val + 32) = 160 + k.val := by omega
    pointwise
    simp only [h, dif_pos, e]
  · have e : 160 + (k.val - 32) = 128 + k.val := by omega
    pointwise
    simp only [h, dif_neg, not_false_eq_true, e]

theorem sparseQueries_apply (j : Fin 1024) :
    sparseQueries z (ix2 ⟨n.val * 4096 + p.val, hp⟩ j) = z (ix3 n p ⟨j.val, by omega⟩) * scaleA := by
  unfold sparseQueries scaleA
  pointwise

theorem sparse_apply (j : Fin 512) :
    sparse z (ix2 ⟨n.val * 4096 + p.val, hp⟩ j) = z (ix3 n p ⟨1024 + j.val, by omega⟩) := by
  unfold sparse
  pointwise

theorem window_apply (j : Fin 256) :
    window z (ix2 ⟨n.val * 4096 + p.val, hp⟩ j) = z (ix3 n p ⟨1536 + j.val, by omega⟩) := by
  unfold window
  pointwise

theorem gates_apply (j : Fin 128) :
    gates z (ix2 ⟨n.val * 4096 + p.val, hp⟩ j)
      = Ideal.logistic (widened (fun k => z (ix3 n p ⟨1792 + k.val, by omega⟩)) j) := by
  unfold gates widened Ideal.logistic
  pointwise
  simp only [zero_int]

theorem latentRows_apply (l : FVec Ideal S4x4096x512 .f32) (k : FVec Ideal S4x4096x64 .f32) (j : Fin 576) :
    latentRows l k (ix2 ⟨n.val * 4096 + p.val, hp⟩ j)
      = if h : j.val < 512 then l (ix3 n p ⟨j.val, h⟩) else k (ix3 n p ⟨j.val - 512, by omega⟩) := by
  unfold latentRows
  pointwise

theorem plainQueries_apply (q : FVec Ideal S4x4096x8x192 .f32) (j : Fin 1024) :
    plainQueries q (ix2 ⟨n.val * 4096 + p.val, hp⟩ j)
      = q (ix4 n p ⟨j.val / 128, by omega⟩ ⟨j.val % 128, by omega⟩) * scaleB := by
  unfold plainQueries scaleB
  pointwise

theorem rotaryQueries_apply (q : FVec Ideal S4x4096x8x64 .f32) (j : Fin 1024) :
    rotaryQueries q (ix2 ⟨n.val * 4096 + p.val, hp⟩ j)
      = padded (fun k => q (ix4 n p ⟨j.val / 128, by omega⟩ k) * scaleB) ⟨j.val % 128, by omega⟩ := by
  unfold rotaryQueries scaleB padded
  have e : j.val / 128 < 8 := by omega
  pointwise
  simp only [zero_int, e, true_and]

theorem rotaryKeys_apply (k : FVec Ideal S4x4096x64 .f32) (j : Fin 128) :
    rotaryKeys k (ix2 ⟨n.val * 4096 + p.val, hp⟩ j) = padded (fun e => k (ix3 n p e)) j := by
  unfold rotaryKeys padded
  pointwise
  simp only [zero_int]

theorem byHeads_apply (l : FVec Ideal S4x4096x512 .f32) (w : Vec Ideal S512x8x128 .f32) (j : Fin 1024) :
    byHeads l w (ix2 ⟨n.val * 4096 + p.val, hp⟩ j)
      = through (fun e => l (ix3 n p e)) (fun e j => w (ix3 e ⟨j.val / 128, by omega⟩ ⟨j.val % 128, by omega⟩)) j := by
  unfold byHeads through
  pointwise

theorem both_apply (j : Fin 768) :
    both z (ix2 ⟨n.val * 4096 + p.val, hp⟩ j) = z (ix3 n p ⟨1024 + j.val, by omega⟩) := by
  unfold both
  by_cases h : j.val < 512
  · pointwise
    simp only [h, dif_pos]
  · have e : 1536 + (j.val - 512) = 1024 + j.val := by omega
    pointwise
    simp only [h, dif_neg, not_false_eq_true, e]

/-! ### The results, row by row -/

variable {m : (ℓ : Loc nD τ sig) → Buf (Elt Ideal) ℓ} {c : Dev nD}

variable (m c) in
/-- The layer's arguments, from the reference's memory. -/
def layer : Layer (Fin 16384) where
  x i k := m ((c.tc : Thread nD τ).loc main_arg0) (ix2 i k)
  scale i k := m ((c.tc : Thread nD τ).loc main_arg1) (ix3 (groupOf i) 0 k)
  shift i k := m ((c.tc : Thread nD τ).loc main_arg2) (ix3 (groupOf i) 0 k)
  gain k := m ((c.tc : Thread nD τ).loc main_arg3) (ix1 k)
  weight e j := m ((c.tc : Thread nD τ).loc main_arg4) (ix2 e j)
  queryGain k := m ((c.tc : Thread nD τ).loc main_arg5) (ix1 k)
  queryWeight e j := m ((c.tc : Thread nD τ).loc main_arg6) (ix2 e j)
  latentGain k := m ((c.tc : Thread nD τ).loc main_arg7) (ix1 k)
  keyWeight e h d := m ((c.tc : Thread nD τ).loc main_arg8) (ix3 e h d)
  valueWeight e h d := m ((c.tc : Thread nD τ).loc main_arg9) (ix3 e h d)
  angle i k := m ((c.tc : Thread nD τ).loc main_arg10) (ix2 (posOf i) k)

variable (m c) in
/-- The projected rows of the reference's memory. -/
def zs : FVec Ideal S4x4096x2904 .f32 :=
  projected (hidden (split (m ((c.tc : Thread nD τ).loc main_arg0))) (m ((c.tc : Thread nD τ).loc main_arg3))
    (m ((c.tc : Thread nD τ).loc main_arg1)) (m ((c.tc : Thread nD τ).loc main_arg2)))
    (m ((c.tc : Thread nD τ).loc main_arg4))

variable (m c) in
/-- The latent rows. -/
def ls : FVec Ideal S4x4096x512 .f32 := norm (latentPart (zs m c)) (m ((c.tc : Thread nD τ).loc main_arg7))

variable (m c) in
/-- The latent rows' rotated sections. -/
def ks : FVec Ideal S4x4096x64 .f32 := shared (zs m c) (m ((c.tc : Thread nD τ).loc main_arg10))

variable (m c) in
/-- The queries, head by head. -/
def qs : FVec Ideal S4x4096x8x192 .f32 :=
  heads (norm (queryPart (zs m c)) (m ((c.tc : Thread nD τ).loc main_arg5))) (m ((c.tc : Thread nD τ).loc main_arg6))

theorem group_eq : groupOf ⟨n.val * 4096 + p.val, hp⟩ = n :=
  Fin.ext (by show (n.val * 4096 + p.val) / 4096 = n.val; omega)

theorem pos_eq : posOf ⟨n.val * 4096 + p.val, hp⟩ = p :=
  Fin.ext (by show (n.val * 4096 + p.val) % 4096 = p.val; omega)

theorem scale_eq :
    (layer m c).scale ⟨n.val * 4096 + p.val, hp⟩ = fun k => m ((c.tc : Thread nD τ).loc main_arg1) (ix3 n 0 k) := by
  unfold layer
  dsimp only
  rw [group_eq n p hp]

theorem shift_eq :
    (layer m c).shift ⟨n.val * 4096 + p.val, hp⟩ = fun k => m ((c.tc : Thread nD τ).loc main_arg2) (ix3 n 0 k) := by
  unfold layer
  dsimp only
  rw [group_eq n p hp]

theorem angle_eq :
    (layer m c).angle ⟨n.val * 4096 + p.val, hp⟩ = fun k => m ((c.tc : Thread nD τ).loc main_arg10) (ix2 p k) := by
  unfold layer
  dsimp only
  rw [pos_eq n p hp]

theorem zs_apply (j : Fin 2904) : zs m c (ix3 n p j) = (layer m c).z ⟨n.val * 4096 + p.val, hp⟩ j := by
  unfold zs
  rw [projected_apply]
  unfold Layer.z
  refine congrArg (fun v => through v _ j) (funext fun e => ?_)
  rw [hidden_apply]
  unfold Layer.hidden
  rw [scale_eq n p hp, shift_eq n p hp]
  refine congrArg (fun v => modulated v _ _ _ e) (funext fun k => ?_)
  exact split_apply n p hp _ k

theorem ls_apply (k : Fin 512) : ls m c (ix3 n p k) = (layer m c).latent ⟨n.val * 4096 + p.val, hp⟩ k := by
  unfold ls Layer.latent
  rw [norm_apply]
  refine congrArg (fun v => unit v _ k) (funext fun k => ?_)
  rw [latentPart_apply]
  exact zs_apply n p hp _

theorem ks_apply (k : Fin 64) : ks m c (ix3 n p k) = (layer m c).shared ⟨n.val * 4096 + p.val, hp⟩ k := by
  unfold ks Layer.shared Layer.turn
  rw [shared_apply, angle_eq n p hp]
  exact congrArg (fun v => rotated v _ _ k) (funext fun k => zs_apply n p hp _)

theorem qs_apply (a : Fin 8) (d : Fin 192) :
    qs m c (ix4 n p a d) = (layer m c).query ⟨n.val * 4096 + p.val, hp⟩ ⟨a.val * 192 + d.val, by omega⟩ := by
  unfold qs Layer.query
  rw [heads_apply]
  refine congrArg (fun v => through v _ _) (funext fun e => ?_)
  unfold Layer.queryLatent
  rw [norm_apply]
  refine congrArg (fun v => unit v _ e) (funext fun k => ?_)
  rw [queryPart_apply]
  exact zs_apply n p hp _

/-- Two arrays with the same rows are equal. -/
theorem rows_ext {k : Nat} {f : (⟨2, ![16384, k]⟩ : Shape).Idx → EReal} {g : Fin 16384 → Fin k → EReal}
    (h : ∀ (n : Fin 4) (p : Fin 4096) (hp : n.val * 4096 + p.val < 16384) (j : Fin k),
      f (ix2 ⟨n.val * 4096 + p.val, hp⟩ j) = g ⟨n.val * 4096 + p.val, hp⟩ j) :
    f = fun y => g (y 0) (y 1) := by
  have hr : ∀ (i : Fin 16384) (j : Fin k), f (ix2 i j) = g i j := fun i j => by
    have hi : i.val / 4096 * 4096 + i.val % 4096 < 16384 := by omega
    have e : i = ⟨i.val / 4096 * 4096 + i.val % 4096, hi⟩ :=
      Fin.ext (by show i.val = i.val / 4096 * 4096 + i.val % 4096; omega)
    rw [e]
    exact h ⟨i.val / 4096, by omega⟩ ⟨i.val % 4096, by omega⟩ hi j
  refine funext fun y => ?_
  have e : y = ix2 (y 0) (y 1) := funext fun a => by fin_cases a <;> rfl
  exact (congrArg f e).trans (hr (y 0) (y 1))

theorem sparseQueries_eq :
    sparseQueries (zs m c) = fun y : S16384x1024.Idx => (layer m c).sparseQueries (y 0) (y 1) :=
  rows_ext fun n p hp j => by rw [sparseQueries_apply, zs_apply n p hp]; rfl

theorem sparse_eq : sparse (zs m c) = fun y : S16384x512.Idx => (layer m c).sparse (y 0) (y 1) :=
  rows_ext fun n p hp j => by rw [sparse_apply, zs_apply n p hp]; rfl

theorem window_eq : window (zs m c) = fun y : S16384x256.Idx => (layer m c).window (y 0) (y 1) :=
  rows_ext fun n p hp j => by rw [window_apply, zs_apply n p hp]; rfl

theorem gates_eq : gates (zs m c) = fun y : S16384x128.Idx => (layer m c).gates (y 0) (y 1) :=
  rows_ext fun n p hp j => by
    rw [gates_apply]
    exact congrArg (fun v => Ideal.logistic (widened v j)) (funext fun k => zs_apply n p hp _)

theorem latents_eq :
    latentRows (ls m c) (ks m c) = fun y : S16384x576.Idx => (layer m c).latents (y 0) (y 1) :=
  rows_ext fun n p hp j => by
    rw [latentRows_apply]
    unfold Layer.latents
    by_cases h : j.val < 512
    · simp only [h, dif_pos]
      exact ls_apply n p hp _
    · simp only [h, dif_neg, not_false_eq_true]
      exact ks_apply n p hp _

theorem plainQueries_eq :
    plainQueries (qs m c) = fun y : S16384x1024.Idx => (layer m c).plainQueries (y 0) (y 1) :=
  rows_ext fun n p hp j => by rw [plainQueries_apply, qs_apply n p hp]; rfl

theorem rotaryQueries_eq :
    rotaryQueries (turnedHeads (qs m c) (m ((c.tc : Thread nD τ).loc main_arg10)))
      = fun y : S16384x1024.Idx => (layer m c).rotaryQueries (y 0) (y 1) :=
  rows_ext fun n p hp j => by
    rw [rotaryQueries_apply]
    unfold Layer.rotaryQueries
    refine congrArg (fun v => padded v _) (funext fun k => ?_)
    rw [turnedHeads_apply]
    unfold Layer.turn
    rw [angle_eq n p hp]
    refine congrArg (fun v => rotated v _ _ k * scaleB) (funext fun k => ?_)
    rw [qs_apply n p hp]
    exact congrArg _ (Fin.ext (Nat.add_assoc _ _ _).symm)

theorem rotaryKeys_eq : rotaryKeys (ks m c) = fun y : S16384x128.Idx => (layer m c).rotaryKeys (y 0) (y 1) :=
  rows_ext fun n p hp j => by
    rw [rotaryKeys_apply]
    exact congrArg (fun v => padded v j) (funext fun k => ks_apply n p hp k)

theorem keys_eq :
    byHeads (ls m c) (m ((c.tc : Thread nD τ).loc main_arg8))
      = fun y : S16384x1024.Idx => (layer m c).keys (y 0) (y 1) :=
  rows_ext fun n p hp j => by
    rw [byHeads_apply]
    exact congrArg (fun v => through v _ j) (funext fun k => ls_apply n p hp k)

theorem values_eq :
    byHeads (ls m c) (m ((c.tc : Thread nD τ).loc main_arg9))
      = fun y : S16384x1024.Idx => (layer m c).values (y 0) (y 1) :=
  rows_ext fun n p hp j => by
    rw [byHeads_apply]
    exact congrArg (fun v => through v _ j) (funext fun k => ls_apply n p hp k)

theorem both_eq : both (zs m c) = fun y : S16384x768.Idx => (layer m c).both (y 0) (y 1) :=
  rows_ext fun n p hp j => by rw [both_apply, zs_apply n p hp]; rfl

end Cert.In.Ref

end
-- ==== Proof.InS.Stages.lean ====
module

public import proofs.«01_k».proof.Proof.In.Stages
public import proofs.«01_k».proof.Proof.Gen.Kernel5Ideal.Skeleton
public import Idealize.ShloMosaic.Lib.Pointwise

@[expose] public section

set_option maxRecDepth 16384

/-! The arithmetic of the body for the sample group, entry by entry.  From the projected rows on it is the prompt's, so
those entries are the prompt's lemmas; before them the modulation has a row for each token. -/

noncomputable section

namespace Cert.InS

open Cert.In Cert.Kernel5Ideal Cert.Kernel5Ideal.Gen Idealize.ShloMosaic Idealize.ShloMosaic.TcCoe Cert.Ffn

/-! ### The projected row and its plain sections -/

theorem row_apply (x : Vec Ideal S512x2048 .f32) (g : Vec Ideal S1x2048 .f32) (sc sh : Vec Ideal S1x512x2048 .f32)
    (w : Vec Ideal S2048x3200 .bf16) (r : Fin 512) (j : Fin 3200) :
    k0_pay6 x g sc sh w (ix2 r j)
      = through (modulated (fun k => x (ix2 r k)) (fun k => g (ix2 0 k)) (fun k => sc (ix3 0 r k))
          fun k => sh (ix3 0 r k)) (fun e j => w (ix2 e j)) j := by
  unfold k0_pay6 through modulated normalised columns eps one
  pointwise

theorem queries_apply (x : Vec Ideal S512x2048 .f32) (g : Vec Ideal S1x2048 .f32) (sc sh : Vec Ideal S1x512x2048 .f32)
    (w : Vec Ideal S2048x3200 .bf16) (r : Fin 512) (j : Fin 1024) :
    k0_pay7 x g sc sh w (ix2 r j) = k0_pay6 x g sc sh w (ix2 r ⟨j.val, by omega⟩) * scaleA := by
  unfold k0_pay7 scaleA
  pointwise

theorem sparse_apply (x : Vec Ideal S512x2048 .f32) (g : Vec Ideal S1x2048 .f32) (sc sh : Vec Ideal S1x512x2048 .f32)
    (w : Vec Ideal S2048x3200 .bf16) (r : Fin 512) (j : Fin 512) :
    k0_pay8 x g sc sh w (ix2 r j) = k0_pay6 x g sc sh w (ix2 r ⟨1024 + j.val, by omega⟩) := by
  unfold k0_pay8
  pointwise

theorem window_apply (x : Vec Ideal S512x2048 .f32) (g : Vec Ideal S1x2048 .f32) (sc sh : Vec Ideal S1x512x2048 .f32)
    (w : Vec Ideal S2048x3200 .bf16) (r : Fin 512) (j : Fin 256) :
    k0_pay9 x g sc sh w (ix2 r j) = k0_pay6 x g sc sh w (ix2 r ⟨1536 + j.val, by omega⟩) := by
  unfold k0_pay9
  pointwise

variable (z : FVec Ideal S512x3200 .f32)

theorem both_apply (r : Fin 512) (j : Fin 768) : k0_pay10 z (ix2 r j) = z (ix2 r ⟨1024 + j.val, by omega⟩) :=
  In.both_apply z r j

theorem gates_apply (r : Fin 512) (j : Fin 128) :
    k0_pay11 z (ix2 r j) = Ideal.logistic (z (ix2 r ⟨3072 + j.val, by omega⟩)) :=
  In.gates_apply z r j

/-! ### The latent row, its rotary section, keys and values -/

theorem latent_apply (g : Vec Ideal S1x512 .f32) (r : Fin 512) (j : Fin 512) :
    k0_pay14 z g (ix2 r j) = unit (fun k => z (ix2 r ⟨2304 + k.val, by omega⟩)) (fun k => g (ix2 0 k)) j :=
  In.latent_apply z g r j

theorem turning_apply (co si : Vec Ideal S512x128 .f32) (r : Fin 512) (j : Fin 128) :
    k0_pay15 z co si (ix2 r j)
      = z (ix2 r ⟨2816 + j.val, by omega⟩) * co (ix2 r j) + z (ix2 r ⟨2944 + j.val, by omega⟩) * si (ix2 r j) :=
  In.turning_apply z co si r j

theorem narrow_apply (co si : Vec Ideal S512x128 .f32) (r : Fin 512) (j : Fin 64) :
    k0_pay16 z co si (ix2 r j) = k0_pay15 z co si (ix2 r ⟨j.val, by omega⟩) :=
  In.narrow_apply z co si r j

theorem rounded_apply (co si : Vec Ideal S512x128 .f32) (r : Fin 512) (j : Fin 128) :
    k0_pay17 z co si (ix2 r j) = k0_pay15 z co si (ix2 r j) := by
  unfold k0_pay17
  pointwise

theorem pair_apply (v : FVec Ideal S512x512 .f32) (w : Vec Ideal S512x2048 .bf16) (r : Fin 512) (j : Fin 2048) :
    k0_pay3 v w (ix2 r j) = through (fun k => v (ix2 r k)) (fun e j => w (ix2 e j)) j :=
  In.pair_apply v w r j

theorem keys_apply (v : FVec Ideal S512x512 .f32) (w : Vec Ideal S512x2048 .bf16) (r : Fin 512) (j : Fin 1024) :
    k0_pay4 v w (ix2 r j) = k0_pay3 v w (ix2 r ⟨j.val, by omega⟩) :=
  In.keys_apply v w r j

theorem values_apply (v : FVec Ideal S512x512 .f32) (w : Vec Ideal S512x2048 .bf16) (r : Fin 512) (j : Fin 1024) :
    k0_pay5 v w (ix2 r j) = k0_pay3 v w (ix2 r ⟨1024 + j.val, by omega⟩) :=
  In.values_apply v w r j

/-! ### The queries of the latent attention -/

theorem lifted_apply (g : Vec Ideal S1x512 .f32) (w : Vec Ideal S512x3072 .bf16) (r : Fin 512) (j : Fin 3072) :
    k0_pay18 z g w (ix2 r j)
      = through (unit (fun k => z (ix2 r ⟨1792 + k.val, by omega⟩)) fun k => g (ix2 0 k)) (fun e j => w (ix2 e j)) j :=
  In.lifted_apply z g w r j

theorem plain_apply (g : Vec Ideal S1x512 .f32) (w : Vec Ideal S512x3072 .bf16) (r : Fin 512) (j : Fin 1024) :
    k0_pay19 z g w (ix2 r j) = k0_pay18 z g w (ix2 r ⟨j.val, by omega⟩) * scaleB :=
  In.plain_apply z g w r j

/-- What the body stores of each head's rotary columns, in the order of the heads. -/
def headTile (z : FVec Ideal S512x3200 .f32) (co si : FVec Ideal S512x128 .f32) (g : Vec Ideal S1x512 .f32)
    (w : Vec Ideal S512x3072 .bf16) : Fin 8 → FVec Ideal S512x128 .bf16 :=
  ![k0_pay20 z co si g w, k0_pay22 (k0_pay21 z co si g w),
    k0_pay23 co si (k0_pay18 z g w), k0_pay24 co si (k0_pay18 z g w), k0_pay25 co si (k0_pay18 z g w),
    k0_pay26 co si (k0_pay18 z g w), k0_pay1 si (k0_pay27 (k0_pay18 z g w)) (k0_pay28 co (k0_pay18 z g w)),
    k0_pay2 co si (k0_pay18 z g w)]

theorem headTile_apply (co si : FVec Ideal S512x128 .f32) (g : Vec Ideal S1x512 .f32)
    (w : Vec Ideal S512x3072 .bf16) (h : Fin 8) (r : Fin 512) (d : Fin 128) :
    headTile z co si g w h (ix2 r d) = headRow (k0_pay18 z g w) co si h r d := by
  unfold headRow scaleB
  fin_cases h
  · show k0_pay20 z co si g w (ix2 r d) = _
    unfold k0_pay20
    pointwise
  · show k0_pay22 (k0_pay21 z co si g w) (ix2 r d) = _
    unfold k0_pay22 k0_pay21
    pointwise
  · show k0_pay23 co si (k0_pay18 z g w) (ix2 r d) = _
    unfold k0_pay23
    pointwise
  · show k0_pay24 co si (k0_pay18 z g w) (ix2 r d) = _
    unfold k0_pay24
    pointwise
  · show k0_pay25 co si (k0_pay18 z g w) (ix2 r d) = _
    unfold k0_pay25
    pointwise
  · show k0_pay26 co si (k0_pay18 z g w) (ix2 r d) = _
    unfold k0_pay26
    pointwise
  · show k0_pay1 si (k0_pay27 (k0_pay18 z g w)) (k0_pay28 co (k0_pay18 z g w)) (ix2 r d) = _
    unfold k0_pay1 k0_pay27 k0_pay28
    pointwise
  · show k0_pay2 co si (k0_pay18 z g w) (ix2 r d) = _
    unfold k0_pay2
    pointwise

end Cert.InS

end
-- ==== Proof.InS.Prepared.lean ====
module

public import proofs.«01_k».proof.Proof.In.Prepared
public import proofs.«01_k».proof.Proof.Gen.Kernel5Ideal.Frame.Runs
public import Idealize.ShloMosaic.Lib.Pointwise
public import Idealize.ShloMosaic.Lib.Pipeline.ValueKit
public import Idealize.ShloMosaic.Lib.StableHlo.RunRead

@[expose] public section

set_option maxRecDepth 16384

/-! What the host prepares before the sample group's input projection is called, entry by entry from the arguments. -/

noncomputable section

namespace Cert.InS

open Cert.In Cert.Kernel5Ideal Cert.Kernel5Ideal.Gen Idealize.ShloMosaic Idealize.ShloMosaic.TcCoe Cert.Ffn

variable (m : (ℓ : Loc nD τ sig) → Buf (Elt Ideal) ℓ) (c : Dev nD)

set_option maxHeartbeats 2000000 in
theorem entry_extended (e : Fin 2048) (j : Fin 3200) :
    V m c main_v15 (ix2 e j) = extended (fun j => m ((c : Thread nD τ).loc main_arg4) (ix2 e j)) j := by
  have hj := j.isLt
  unfold V
  simp only [List.flatten_cons, List.flatten_nil, List.append_nil]
  after_reads_simp
  simp only [Matrix.cons_val]
  pointwise
  unfold extended
  by_cases h1 : j.val < 1024
  · have p1 : j.val < 1792 := by omega
    simp only [h1, p1, dif_pos]
    after_reads_simp
    pointwise
  by_cases h2 : j.val - 1024 < 512
  · have p1 : j.val < 1792 := by omega
    simp only [h1, h2, p1, dif_pos, dif_neg, not_false_eq_true]
    after_reads_simp
    pointwise
    exact congrArg (fun k => m ((c : Thread nD τ).loc main_arg4) (ix2 e k)) (Fin.ext (by dsimp only; omega))
  by_cases h3 : j.val - 1024 - 512 < 256
  · have p1 : j.val < 1792 := by omega
    simp only [h1, h2, h3, p1, dif_pos, dif_neg, not_false_eq_true]
    after_reads_simp
    pointwise
    exact congrArg (fun k => m ((c : Thread nD τ).loc main_arg4) (ix2 e k)) (Fin.ext (by dsimp only; omega))
  have p1 : ¬j.val < 1792 := by omega
  by_cases h4 : j.val - 1024 - 512 - 256 < 512
  · have p2 : j.val < 2304 := by omega
    simp only [h1, h2, h3, h4, p1, p2, dif_pos, dif_neg, not_false_eq_true]
    after_reads_simp
    pointwise
    exact congrArg (fun k => m ((c : Thread nD τ).loc main_arg4) (ix2 e k)) (Fin.ext (by dsimp only; omega))
  have p2 : ¬j.val < 2304 := by omega
  by_cases h5 : j.val - 1024 - 512 - 256 - 512 < 512
  · have p3 : j.val < 2816 := by omega
    simp only [h1, h2, h3, h4, h5, p1, p2, p3, dif_pos, dif_neg, not_false_eq_true]
    after_reads_simp
    pointwise
    exact congrArg (fun k => m ((c : Thread nD τ).loc main_arg4) (ix2 e k)) (Fin.ext (by dsimp only; omega))
  have p3 : ¬j.val < 2816 := by omega
  by_cases h6 : j.val - 1024 - 512 - 256 - 512 - 512 < 128
  · have p4 : j.val < 2944 := by omega
    simp only [h1, h2, h3, h4, h5, h6, p1, p2, p3, p4, dif_pos, dif_neg, not_false_eq_true]
    after_reads_simp
    simp -implicitDefEqProofs only [StableHlo.TRef.toBuf, StableHlo.TRef.ofBuf, cast_cast, cast_eq, Matrix.cons_val]
    pointwise
    simp only [zero_int]
    unfold padded
    by_cases q : j.val - 2816 < 64
    · have q' : j.val - 1024 - 512 - 256 - 512 - 512 < 64 := by omega
      simp only [q, q', dif_pos]
      exact congrArg (fun k => m ((c : Thread nD τ).loc main_arg4) (ix2 e k)) (Fin.ext (by dsimp only; omega))
    · have q' : ¬j.val - 1024 - 512 - 256 - 512 - 512 < 64 := by omega
      simp only [q, q', dif_neg, not_false_eq_true]
  have p4 : ¬j.val < 2944 := by omega
  by_cases h7 : j.val - 1024 - 512 - 256 - 512 - 512 - 128 < 128
  · have p5 : j.val < 3072 := by omega
    simp only [h1, h2, h3, h4, h5, h6, h7, p1, p2, p3, p4, p5, dif_pos, dif_neg, not_false_eq_true]
    after_reads_simp
    simp -implicitDefEqProofs only [StableHlo.TRef.toBuf, StableHlo.TRef.ofBuf, cast_cast, cast_eq, Matrix.cons_val]
    pointwise
    after_reads_simp
    pointwise
    simp only [zero_int]
    unfold padded turned
    by_cases q : j.val - 2944 < 64
    · have q' : j.val - 1024 - 512 - 256 - 512 - 512 - 128 < 64 := by omega
      by_cases u : j.val - 2944 < 32
      · have u' : j.val - 1024 - 512 - 256 - 512 - 512 - 128 < 32 := by omega
        simp only [q, q', u, u', dif_pos]
        exact congrArg (fun x : EReal => -x) (congrArg (fun k => m ((c : Thread nD τ).loc main_arg4) (ix2 e k))
          (Fin.ext (by dsimp only; omega)))
      · have u' : ¬j.val - 1024 - 512 - 256 - 512 - 512 - 128 < 32 := by omega
        simp only [q, q', u, u', dif_pos, dif_neg, not_false_eq_true]
        exact congrArg (fun k => m ((c : Thread nD τ).loc main_arg4) (ix2 e k)) (Fin.ext (by dsimp only; omega))
    · have q' : ¬j.val - 1024 - 512 - 256 - 512 - 512 - 128 < 64 := by omega
      simp only [q, q', dif_neg, not_false_eq_true]
  have p5 : ¬j.val < 3072 := by omega
  simp only [h1, h2, h3, h4, h5, h6, h7, p1, p2, p3, p4, p5, dif_neg, not_false_eq_true]
  after_reads_simp
  simp -implicitDefEqProofs only [StableHlo.TRef.toBuf, StableHlo.TRef.ofBuf, cast_cast, cast_eq, Matrix.cons_val]
  pointwise
  simp only [zero_int]
  unfold widened
  by_cases q : j.val - 3072 < 24
  · have q' : j.val - 1024 - 512 - 256 - 512 - 512 - 128 - 128 < 24 := by omega
    simp only [q, q', dif_pos]
    exact congrArg (fun k => m ((c : Thread nD τ).loc main_arg4) (ix2 e k)) (Fin.ext (by dsimp only; omega))
  · have q' : ¬j.val - 1024 - 512 - 256 - 512 - 512 - 128 - 128 < 24 := by omega
    simp only [q, q', dif_neg, not_false_eq_true]

set_option maxHeartbeats 2000000 in
theorem entry_regrouped (e : Fin 512) (j : Fin 3072) :
    V m c main_v29 (ix2 e j) = regrouped (fun j => m ((c : Thread nD τ).loc main_arg6) (ix2 e j)) j := by
  unfold V
  simp only [List.flatten_cons, List.flatten_nil, List.append_nil]
  after_reads_simp
  simp only [Matrix.cons_val]
  pointwise
  after_reads_simp
  simp -implicitDefEqProofs only [StableHlo.TRef.toBuf, StableHlo.TRef.ofBuf, cast_cast, cast_eq, Matrix.cons_val]
  pointwise
  after_reads_simp
  pointwise
  simp only [zero_int]
  exact regrouped_eq (fun j => m ((c : Thread nD τ).loc main_arg6) (ix2 e j)) j

/-- The keys' and the values' projections stand side by side. -/
theorem entry_keys (e : Fin 512) (j : Fin 1024) :
    V m c main_v33 (ix2 e ⟨j.val, by omega⟩)
      = m ((c : Thread nD τ).loc main_arg8) (ix3 e ⟨j.val / 128, by omega⟩ ⟨j.val % 128, by omega⟩) := by
  unfold V
  simp only [List.flatten_cons, List.flatten_nil, List.append_nil]
  after_reads_simp
  pointwise
  after_reads_simp
  pointwise

theorem entry_values (e : Fin 512) (j : Fin 1024) :
    V m c main_v33 (ix2 e ⟨1024 + j.val, by omega⟩)
      = m ((c : Thread nD τ).loc main_arg9) (ix3 e ⟨j.val / 128, by omega⟩ ⟨j.val % 128, by omega⟩) := by
  unfold V
  simp only [List.flatten_cons, List.flatten_nil, List.append_nil]
  after_reads_simp
  pointwise
  after_reads_simp
  pointwise

theorem entry_cos (p : Fin 512) (j : Fin 128) :
    V m c main_v37 (ix2 p j)
      = padded (twice fun k => Ideal.cos (m ((c : Thread nD τ).loc main_arg10) (ix2 p k))) j := by
  unfold V
  simp only [List.flatten_cons, List.flatten_nil, List.append_nil]
  after_reads_simp
  simp only [Matrix.cons_val]
  pointwise
  after_reads_simp
  pointwise
  unfold padded twice
  dsimp only
  repeat' split
  all_goals first
    | rfl
    | (exfalso; omega)
    | exact congrArg (fun k => Ideal.cos (m ((c : Thread nD τ).loc main_arg10) (ix2 p k))) (Fin.ext (by first | rfl | omega | (dsimp only; omega)))

theorem entry_sin (p : Fin 512) (j : Fin 128) :
    V m c main_v38 (ix2 p j)
      = padded (twice fun k => Ideal.sin (m ((c : Thread nD τ).loc main_arg10) (ix2 p k))) j := by
  unfold V
  simp only [List.flatten_cons, List.flatten_nil, List.append_nil]
  after_reads_simp
  simp only [Matrix.cons_val]
  pointwise
  after_reads_simp
  pointwise
  unfold padded twice
  dsimp only
  repeat' split
  all_goals first
    | rfl
    | (exfalso; omega)
    | exact congrArg (fun k => Ideal.sin (m ((c : Thread nD τ).loc main_arg10) (ix2 p k))) (Fin.ext (by first | rfl | omega | (dsimp only; omega)))

/-! The gains, as rows. -/

theorem entry_gain (k : Fin 2048) : V m c main_v39 (ix2 0 k) = m ((c : Thread nD τ).loc main_arg3) (ix1 k) := by
  unfold V
  simp only [List.flatten_cons, List.flatten_nil, List.append_nil]
  after_reads_simp
  pointwise

theorem entry_query_gain (k : Fin 512) : V m c main_v40 (ix2 0 k) = m ((c : Thread nD τ).loc main_arg5) (ix1 k) := by
  unfold V
  simp only [List.flatten_cons, List.flatten_nil, List.append_nil]
  after_reads_simp
  pointwise

theorem entry_latent_gain (k : Fin 512) : V m c main_v41 (ix2 0 k) = m ((c : Thread nD τ).loc main_arg7) (ix1 k) := by
  unfold V
  simp only [List.flatten_cons, List.flatten_nil, List.append_nil]
  after_reads_simp
  pointwise

end Cert.InS

end
-- ==== Proof.InS.Blocks.lean ====
module

public import proofs.«01_k».proof.Proof.InS.Stages
public import proofs.«01_k».proof.Proof.InS.Prepared
public import proofs.«01_k».proof.Proof.In.Blocks
public import proofs.«01_k».proof.Proof.Gen.Kernel5Ideal.Value
public import Idealize.ShloMosaic.Lib.Pipeline.Value
public import Idealize.ShloMosaic.Lib.Pipeline.ValueKit
public import Idealize.ShloMosaic.Lib.Pipeline.ReadBack

@[expose] public section

set_option maxRecDepth 16384

/-! The blocks which a grid point of the sample group's input projection reads, and its rows in the terms of the layer. -/

noncomputable section

namespace Cert.InS

open Cert.In Cert.Kernel5Ideal Cert.Kernel5Ideal.Gen Idealize.ShloMosaic Idealize.ShloMosaic.TcCoe Cert.Ffn

variable (m : (ℓ : Loc nD τ sig) → Buf (Elt Ideal) ℓ) (c : Dev nD)

/-- The layer of a memory's arguments. -/
def layer : Layer (Fin 512) where
  x i k := m ((c : Thread nD τ).loc main_arg0) (ix2 i k)
  scale i k := m ((c : Thread nD τ).loc main_arg1) (ix3 0 i k)
  shift i k := m ((c : Thread nD τ).loc main_arg2) (ix3 0 i k)
  gain k := m ((c : Thread nD τ).loc main_arg3) (ix1 k)
  weight e j := m ((c : Thread nD τ).loc main_arg4) (ix2 e j)
  queryGain k := m ((c : Thread nD τ).loc main_arg5) (ix1 k)
  queryWeight e j := m ((c : Thread nD τ).loc main_arg6) (ix2 e j)
  latentGain k := m ((c : Thread nD τ).loc main_arg7) (ix1 k)
  keyWeight e h d := m ((c : Thread nD τ).loc main_arg8) (ix3 e h d)
  valueWeight e h d := m ((c : Thread nD τ).loc main_arg9) (ix3 e h d)
  angle i k := m ((c : Thread nD τ).loc main_arg10) (ix2 i k)

/-- Where each window's block stands at a grid point. -/
theorem index_in : ∀ t : Fin cfg0.N,
    (cfg0.win 0).index t = ![t.val, 0]
    ∧ (cfg0.win 1).index t = ![0, 0, 0]
    ∧ (cfg0.win 2).index t = ![0, 0, 0]
    ∧ (cfg0.win 3).index t = ![0, 0]
    ∧ (cfg0.win 4).index t = ![0, 0]
    ∧ (cfg0.win 5).index t = ![0, 0]
    ∧ (cfg0.win 6).index t = ![0, 0]
    ∧ (cfg0.win 7).index t = ![0, 0]
    ∧ (cfg0.win 8).index t = ![0, 0]
    ∧ (cfg0.win 9).index t = ![0, 0]
    ∧ (cfg0.win 10).index t = ![0, 0] := by
  decide +kernel

theorem index_out : ∀ t : Fin cfg0.N,
    (cfg0.win 11).index t = ![t.val, 0]
    ∧ (cfg0.win 12).index t = ![t.val, 0]
    ∧ (cfg0.win 13).index t = ![t.val, 0]
    ∧ (cfg0.win 14).index t = ![t.val, 0]
    ∧ (cfg0.win 15).index t = ![t.val, 0]
    ∧ (cfg0.win 16).index t = ![t.val, 0]
    ∧ (cfg0.win 17).index t = ![t.val, 0]
    ∧ (cfg0.win 18).index t = ![t.val, 0]
    ∧ (cfg0.win 19).index t = ![t.val, 0]
    ∧ (cfg0.win 20).index t = ![t.val, 0]
    ∧ (cfg0.win 21).index t = ![t.val, 0] := by
  decide +kernel

/-- There is one grid point. -/
theorem point_zero (t : Fin cfg0.N) : t.val = 0 := by
  have h : t.val < 1 := lt_of_lt_of_eq t.isLt N_0
  omega

variable (t : Fin cfg0.N) (r : Fin 512)

theorem read_x (k : Fin 2048) : iblk m c 0 t (ix2 r k) = (layer m c).x r k := by
  unfold layer
  blk_ext [iblk, V, (index_in t).1, point_zero t]

theorem read_scale (k : Fin 2048) : iblk m c 1 t (ix3 0 r k) = (layer m c).scale r k := by
  unfold layer
  blk_ext [iblk, V, (index_in t).2.1, point_zero t]

theorem read_shift (k : Fin 2048) : iblk m c 2 t (ix3 0 r k) = (layer m c).shift r k := by
  unfold layer
  blk_ext [iblk, V, (index_in t).2.2.1, point_zero t]

theorem read_gain (k : Fin 2048) : iblk m c 3 t (ix2 0 k) = (layer m c).gain k := by
  refine Eq.trans ?_ (entry_gain m c k)
  blk_ext [iblk, (index_in t).2.2.2.1]

theorem read_weight (e : Fin 2048) (j : Fin 3200) : iblk m c 4 t (ix2 e j) = extended ((layer m c).weight e) j := by
  refine Eq.trans ?_ (entry_extended m c e j)
  blk_ext [iblk, (index_in t).2.2.2.2.1]

theorem read_query_gain (k : Fin 512) : iblk m c 5 t (ix2 0 k) = (layer m c).queryGain k := by
  refine Eq.trans ?_ (entry_query_gain m c k)
  blk_ext [iblk, (index_in t).2.2.2.2.2.1]

theorem read_query_weight (e : Fin 512) (j : Fin 3072) :
    iblk m c 6 t (ix2 e j) = regrouped ((layer m c).queryWeight e) j := by
  refine Eq.trans ?_ (entry_regrouped m c e j)
  blk_ext [iblk, (index_in t).2.2.2.2.2.2.1]

theorem read_latent_gain (k : Fin 512) : iblk m c 7 t (ix2 0 k) = (layer m c).latentGain k := by
  refine Eq.trans ?_ (entry_latent_gain m c k)
  blk_ext [iblk, (index_in t).2.2.2.2.2.2.2.1]

theorem read_keys (e : Fin 512) (j : Fin 1024) :
    iblk m c 8 t (ix2 e ⟨j.val, by omega⟩) = (layer m c).keyWeight e ⟨j.val / 128, by omega⟩ ⟨j.val % 128, by omega⟩ := by
  refine Eq.trans ?_ (entry_keys m c e j)
  blk_ext [iblk, (index_in t).2.2.2.2.2.2.2.2.1]

theorem read_values (e : Fin 512) (j : Fin 1024) :
    iblk m c 8 t (ix2 e ⟨1024 + j.val, by omega⟩)
      = (layer m c).valueWeight e ⟨j.val / 128, by omega⟩ ⟨j.val % 128, by omega⟩ := by
  refine Eq.trans ?_ (entry_values m c e j)
  blk_ext [iblk, (index_in t).2.2.2.2.2.2.2.2.1]

theorem read_cos (j : Fin 128) :
    iblk m c 9 t (ix2 r j) = padded (twice fun k => Ideal.cos ((layer m c).angle r k)) j := by
  refine Eq.trans ?_ (entry_cos m c r j)
  blk_ext [iblk, (index_in t).2.2.2.2.2.2.2.2.2.1]

theorem read_sin (j : Fin 128) :
    iblk m c 10 t (ix2 r j) = padded (twice fun k => Ideal.sin ((layer m c).angle r k)) j := by
  refine Eq.trans ?_ (entry_sin m c r j)
  blk_ext [iblk, (index_in t).2.2.2.2.2.2.2.2.2.2]

/-! ### A point's rows -/

variable {m} {c}

/-- The projected row of the body is the layer's, its columns in the body's order. -/
theorem point_row (h : (layer m c).Reals) (j : Fin 3200) :
    k0_pay6 (iblk m c 0 t) (iblk m c 3 t) (iblk m c 1 t) (iblk m c 2 t) (iblk m c 4 t) (ix2 r j)
      = extended ((layer m c).z r) j := by
  rw [row_apply]
  simp only [read_x, read_gain, read_scale m c t r, read_shift m c t r, read_weight]
  exact through_extended (h.hidden r) h.weight j

end Cert.InS

end
-- ==== Proof.InS.Whole.lean ====
module

public import proofs.«01_k».proof.Proof.InS.Blocks

@[expose] public section

set_option maxRecDepth 16384

/-! The results of the input projection that are stored in one piece: a point's block of each, and the whole array. -/

noncomputable section

namespace Cert.InS

open Cert.In Cert.Kernel5Ideal Cert.Kernel5Ideal.Gen Idealize.ShloMosaic Idealize.ShloMosaic.TcCoe Cert.Ffn

variable {m : (ℓ : Loc nD τ sig) → Buf (Elt Ideal) ℓ} {c : Dev nD}

variable (t : Fin cfg0.N) (r : Fin 512)

variable (m c) in
/-- The projected rows of a point. -/
def rows : FVec Ideal S512x3200 .f32 :=
  k0_pay6 (iblk m c 0 t) (iblk m c 3 t) (iblk m c 1 t) (iblk m c 2 t) (iblk m c 4 t)

theorem rows_apply (h : (layer m c).Reals) (j : Fin 3200) :
    rows m c t (ix2 r j) = extended ((layer m c).z r) j := point_row t r h j

variable (m c) in
/-- The queries of the latent attention at a point. -/
def lifted : FVec Ideal S512x3072 .f32 := k0_pay18 (rows m c t) (iblk m c 5 t) (iblk m c 6 t)

theorem lifted_rows (h : (layer m c).Reals) (j : Fin 3072) :
    lifted m c t (ix2 r j) = regrouped ((layer m c).query r) j :=
  point_query r h (rows_apply t r h) _ _ (read_query_gain m c t) (read_query_weight m c t) j

variable (m c) in
/-- The latent rows at a point. -/
def latentRows : FVec Ideal S512x512 .f32 := k0_pay14 (rows m c t) (iblk m c 7 t)

theorem latent_rows (h : (layer m c).Reals) (j : Fin 512) :
    latentRows m c t (ix2 r j) = (layer m c).latent r j :=
  point_latent r (rows_apply t r h) _ (read_latent_gain m c t) j

variable (m c) in
/-- The rotated sections at a point. -/
def sharedRows : FVec Ideal S512x128 .f32 := k0_pay15 (rows m c t) (iblk m c 9 t) (iblk m c 10 t)

theorem shared_rows (h : (layer m c).Reals) (j : Fin 128) :
    sharedRows m c t (ix2 r j) = padded ((layer m c).shared r) j :=
  point_shared r (rows_apply t r h) _ _ (read_cos m c t r) (read_sin m c t r) j

theorem sparseQueries_at (h : (layer m c).Reals) (j : Fin 1024) :
    k0_pay7 (iblk m c 0 t) (iblk m c 3 t) (iblk m c 1 t) (iblk m c 2 t) (iblk m c 4 t) (ix2 r j) = (layer m c).sparseQueries r j := by
  rw [queries_apply, point_row t r h, extended_plain _ _ (by dsimp only; omega)]
  rfl

theorem sparseQueries_eq (h : (layer m c).Reals) :
    (dats m 0 c).arrAt 11 cfg0.N = fun y : S512x1024.Idx => (layer m c).sparseQueries (y 0) (y 1) := by
  refine (dats m 0 c).arrAt_eq_of_covers 11 _ (by decide +kernel) fun t hf y => ?_
  blk_simp
  rw [after0_11]
  unfold outsAt0 out0_A_11
  frame_out
  have e0 : ((win0_11.blk t).view.emb y) 0 = y 0 := by
    refine Fin.ext ?_
    show (((win0_11.blk t).view.emb y) 0).val = (y 0).val
    blk_simp [(index_out t).1]
  have e1 : ((win0_11.blk t).view.emb y) 1 = y 1 := by
    refine Fin.ext ?_
    blk_simp [(index_out t).1]
  rw [e0, e1]
  exact (congrArg _ (pair_eq y)).trans (sparseQueries_at t (y 0) h (y 1))

theorem sparse_at (h : (layer m c).Reals) (j : Fin 512) :
    k0_pay8 (iblk m c 0 t) (iblk m c 3 t) (iblk m c 1 t) (iblk m c 2 t) (iblk m c 4 t) (ix2 r j) = (layer m c).sparse r j := by
  rw [sparse_apply, point_row t r h, extended_plain _ _ (by dsimp only; omega)]
  rfl

theorem sparse_eq (h : (layer m c).Reals) :
    (dats m 0 c).arrAt 12 cfg0.N = fun y : S512x512.Idx => (layer m c).sparse (y 0) (y 1) := by
  refine (dats m 0 c).arrAt_eq_of_covers 12 _ (by decide +kernel) fun t hf y => ?_
  blk_simp
  rw [after0_12]
  unfold outsAt0 out0_A_12
  frame_out
  have e0 : ((win0_12.blk t).view.emb y) 0 = y 0 := by
    refine Fin.ext ?_
    show (((win0_12.blk t).view.emb y) 0).val = (y 0).val
    blk_simp [(index_out t).2.1]
  have e1 : ((win0_12.blk t).view.emb y) 1 = y 1 := by
    refine Fin.ext ?_
    blk_simp [(index_out t).2.1]
  rw [e0, e1]
  exact (congrArg _ (pair_eq y)).trans (sparse_at t (y 0) h (y 1))

theorem window_at (h : (layer m c).Reals) (j : Fin 256) :
    k0_pay9 (iblk m c 0 t) (iblk m c 3 t) (iblk m c 1 t) (iblk m c 2 t) (iblk m c 4 t) (ix2 r j) = (layer m c).window r j := by
  rw [window_apply, point_row t r h, extended_plain _ _ (by dsimp only; omega)]
  rfl

theorem window_eq (h : (layer m c).Reals) :
    (dats m 0 c).arrAt 13 cfg0.N = fun y : S512x256.Idx => (layer m c).window (y 0) (y 1) := by
  refine (dats m 0 c).arrAt_eq_of_covers 13 _ (by decide +kernel) fun t hf y => ?_
  blk_simp
  rw [after0_13]
  unfold outsAt0 out0_A_13
  frame_out
  have e0 : ((win0_13.blk t).view.emb y) 0 = y 0 := by
    refine Fin.ext ?_
    show (((win0_13.blk t).view.emb y) 0).val = (y 0).val
    blk_simp [(index_out t).2.2.1]
  have e1 : ((win0_13.blk t).view.emb y) 1 = y 1 := by
    refine Fin.ext ?_
    blk_simp [(index_out t).2.2.1]
  rw [e0, e1]
  exact (congrArg _ (pair_eq y)).trans (window_at t (y 0) h (y 1))

theorem gates_at (h : (layer m c).Reals) (j : Fin 128) :
    k0_pay11 (rows m c t) (ix2 r j) = (layer m c).gates r j := by
  rw [gates_apply, rows_apply t r h, extended_gates]
  rfl

theorem gates_eq (h : (layer m c).Reals) :
    (dats m 0 c).arrAt 14 cfg0.N = fun y : S512x128.Idx => (layer m c).gates (y 0) (y 1) := by
  refine (dats m 0 c).arrAt_eq_of_covers 14 _ (by decide +kernel) fun t hf y => ?_
  blk_simp
  rw [after0_14]
  unfold outsAt0 out0_A_14
  frame_out
  have e0 : ((win0_14.blk t).view.emb y) 0 = y 0 := by
    refine Fin.ext ?_
    show (((win0_14.blk t).view.emb y) 0).val = (y 0).val
    blk_simp [(index_out t).2.2.2.1]
  have e1 : ((win0_14.blk t).view.emb y) 1 = y 1 := by
    refine Fin.ext ?_
    blk_simp [(index_out t).2.2.2.1]
  rw [e0, e1]
  exact (congrArg _ (pair_eq y)).trans (gates_at t (y 0) h (y 1))

theorem plainQueries_at (h : (layer m c).Reals) (j : Fin 1024) :
    k0_pay19 (rows m c t) (iblk m c 5 t) (iblk m c 6 t) (ix2 r j) = (layer m c).plainQueries r j := by
  rw [plain_apply]
  show lifted m c t (ix2 r ⟨j.val, by omega⟩) * scaleB = _
  rw [lifted_rows t r h, regrouped_plain _ _ (by dsimp only; omega)]
  rfl

theorem plainQueries_eq (h : (layer m c).Reals) :
    (dats m 0 c).arrAt 16 cfg0.N = fun y : S512x1024.Idx => (layer m c).plainQueries (y 0) (y 1) := by
  refine (dats m 0 c).arrAt_eq_of_covers 16 _ (by decide +kernel) fun t hf y => ?_
  blk_simp
  rw [after0_16]
  unfold outsAt0 out0_A_16
  frame_out
  have e0 : ((win0_16.blk t).view.emb y) 0 = y 0 := by
    refine Fin.ext ?_
    show (((win0_16.blk t).view.emb y) 0).val = (y 0).val
    blk_simp [(index_out t).2.2.2.2.2.1]
  have e1 : ((win0_16.blk t).view.emb y) 1 = y 1 := by
    refine Fin.ext ?_
    blk_simp [(index_out t).2.2.2.2.2.1]
  rw [e0, e1]
  exact (congrArg _ (pair_eq y)).trans (plainQueries_at t (y 0) h (y 1))

theorem rotaryKeys_at (h : (layer m c).Reals) (j : Fin 128) :
    k0_pay17 (rows m c t) (iblk m c 9 t) (iblk m c 10 t) (ix2 r j) = (layer m c).rotaryKeys r j := by
  rw [rounded_apply]
  exact shared_rows t r h j

theorem rotaryKeys_eq (h : (layer m c).Reals) :
    (dats m 0 c).arrAt 18 cfg0.N = fun y : S512x128.Idx => (layer m c).rotaryKeys (y 0) (y 1) := by
  refine (dats m 0 c).arrAt_eq_of_covers 18 _ (by decide +kernel) fun t hf y => ?_
  blk_simp
  rw [after0_18]
  unfold outsAt0 out0_A_18
  frame_out
  have e0 : ((win0_18.blk t).view.emb y) 0 = y 0 := by
    refine Fin.ext ?_
    show (((win0_18.blk t).view.emb y) 0).val = (y 0).val
    blk_simp [(index_out t).2.2.2.2.2.2.2.1]
  have e1 : ((win0_18.blk t).view.emb y) 1 = y 1 := by
    refine Fin.ext ?_
    blk_simp [(index_out t).2.2.2.2.2.2.2.1]
  rw [e0, e1]
  exact (congrArg _ (pair_eq y)).trans (rotaryKeys_at t (y 0) h (y 1))

theorem keys_at (h : (layer m c).Reals) (j : Fin 1024) :
    k0_pay4 (latentRows m c t) (iblk m c 8 t) (ix2 r j) = (layer m c).keys r j := by
  rw [keys_apply, pair_apply]
  unfold Layer.keys through
  simp only [latent_rows t r h, read_keys]

theorem keys_eq (h : (layer m c).Reals) :
    (dats m 0 c).arrAt 19 cfg0.N = fun y : S512x1024.Idx => (layer m c).keys (y 0) (y 1) := by
  refine (dats m 0 c).arrAt_eq_of_covers 19 _ (by decide +kernel) fun t hf y => ?_
  blk_simp
  rw [after0_19]
  unfold outsAt0 out0_A_19
  frame_out
  have e0 : ((win0_19.blk t).view.emb y) 0 = y 0 := by
    refine Fin.ext ?_
    show (((win0_19.blk t).view.emb y) 0).val = (y 0).val
    blk_simp [(index_out t).2.2.2.2.2.2.2.2.1]
  have e1 : ((win0_19.blk t).view.emb y) 1 = y 1 := by
    refine Fin.ext ?_
    blk_simp [(index_out t).2.2.2.2.2.2.2.2.1]
  rw [e0, e1]
  exact (congrArg _ (pair_eq y)).trans (keys_at t (y 0) h (y 1))

theorem values_at (h : (layer m c).Reals) (j : Fin 1024) :
    k0_pay5 (latentRows m c t) (iblk m c 8 t) (ix2 r j) = (layer m c).values r j := by
  rw [values_apply, pair_apply]
  unfold Layer.values through
  simp only [latent_rows t r h, read_values]

theorem values_eq (h : (layer m c).Reals) :
    (dats m 0 c).arrAt 20 cfg0.N = fun y : S512x1024.Idx => (layer m c).values (y 0) (y 1) := by
  refine (dats m 0 c).arrAt_eq_of_covers 20 _ (by decide +kernel) fun t hf y => ?_
  blk_simp
  rw [after0_20]
  unfold outsAt0 out0_A_20
  frame_out
  have e0 : ((win0_20.blk t).view.emb y) 0 = y 0 := by
    refine Fin.ext ?_
    show (((win0_20.blk t).view.emb y) 0).val = (y 0).val
    blk_simp [(index_out t).2.2.2.2.2.2.2.2.2.1]
  have e1 : ((win0_20.blk t).view.emb y) 1 = y 1 := by
    refine Fin.ext ?_
    blk_simp [(index_out t).2.2.2.2.2.2.2.2.2.1]
  rw [e0, e1]
  exact (congrArg _ (pair_eq y)).trans (values_at t (y 0) h (y 1))

theorem both_at (h : (layer m c).Reals) (j : Fin 768) :
    k0_pay10 (rows m c t) (ix2 r j) = (layer m c).both r j := by
  rw [both_apply, rows_apply t r h, extended_plain _ _ (by dsimp only; omega)]
  rfl

theorem both_eq (h : (layer m c).Reals) :
    (dats m 0 c).arrAt 21 cfg0.N = fun y : S512x768.Idx => (layer m c).both (y 0) (y 1) := by
  refine (dats m 0 c).arrAt_eq_of_covers 21 _ (by decide +kernel) fun t hf y => ?_
  blk_simp
  rw [after0_21]
  unfold outsAt0 out0_A_21
  frame_out
  have e0 : ((win0_21.blk t).view.emb y) 0 = y 0 := by
    refine Fin.ext ?_
    show (((win0_21.blk t).view.emb y) 0).val = (y 0).val
    blk_simp [(index_out t).2.2.2.2.2.2.2.2.2.2]
  have e1 : ((win0_21.blk t).view.emb y) 1 = y 1 := by
    refine Fin.ext ?_
    blk_simp [(index_out t).2.2.2.2.2.2.2.2.2.2]
  rw [e0, e1]
  exact (congrArg _ (pair_eq y)).trans (both_at t (y 0) h (y 1))

end Cert.InS

end
-- ==== Proof.InS.Pieces.lean ====
module

public import proofs.«01_k».proof.Proof.InS.Whole
public import proofs.«01_k».proof.Proof.In.Pieces
public import Idealize.ShloMosaic.Lib.WritesUnit

@[expose] public section

set_option maxRecDepth 16384

/-! The results of the input projection that are stored in several pieces: the latent rows with their rotary section,
and the heads' rotary queries. -/

noncomputable section

namespace Cert.InS

open Cert.In Cert.Kernel5Ideal Cert.Kernel5Ideal.Gen Idealize.ShloMosaic Idealize.ShloMosaic.TcCoe Cert.Ffn

variable {m : (ℓ : Loc nD τ sig) → Buf (Elt Ideal) ℓ} {c : Dev nD}

/-! ### The latent rows -/

theorem shared_at (t : Fin cfg0.N) (r : Fin 512) (h : (layer m c).Reals) (j : Fin 64) :
    k0_pay16 (rows m c t) (iblk m c 9 t) (iblk m c 10 t) (ix2 r j) = (layer m c).shared r j := by
  rw [narrow_apply]
  refine (shared_rows t r h _).trans ?_
  unfold padded
  exact dif_pos j.isLt

theorem latents_eq (h : (layer m c).Reals) :
    (dats m 0 c).arrAt 15 cfg0.N = fun y : S512x576.Idx => (layer m c).latents (y 0) (y 1) := by
  refine (dats m 0 c).arrAt_eq_of_covers 15 _ (by decide +kernel) fun t hf y => ?_
  blk_simp
  rw [after0_15]
  frame_out
  have e0 : ((win0_15.blk t).view.emb y) 0 = y 0 := by
    refine Fin.ext ?_
    show (((win0_15.blk t).view.emb y) 0).val = (y 0).val
    blk_simp [(index_out t).2.2.2.2.1]
  have e1 : ((win0_15.blk t).view.emb y) 1 = y 1 := by
    refine Fin.ext ?_
    blk_simp [(index_out t).2.2.2.2.1]
  rw [e0, e1]
  refine View.canon_apply_of_pieces (Val := Elt Ideal) (S := S512x576) (e := .f32)
    (fun y => (layer m c).latents (y 0) (y 1)) _ ?_ y ?_
  · intro p hp x
    simp only [List.mem_cons, List.not_mem_nil, or_false] at hp
    rcases hp with rfl | rfl
    · refine (congrArg _ (pair_eq x)).trans ((shared_at t (x 0) h (x 1)).trans ?_)
      have f0 : ((Rect.unit (s := S512x576) ![0, 512] ![512, 64] inb_S512x576_S512x64_0_512).emb x) 0 = x 0 := Fin.ext (by
        rw [Rect.emb_apply]
        show 0 + 1 * (x 0).val = (x 0).val
        omega)
      have f1 : (((Rect.unit (s := S512x576) ![0, 512] ![512, 64] inb_S512x576_S512x64_0_512).emb x) 1).val = 512 + (x 1).val := by
        rw [Rect.emb_apply]
        show 512 + 1 * (x 1).val = 512 + (x 1).val
        omega
      have hx : (x 1).val < 64 := (x 1).isLt
      show _ = (layer m c).latents ((((Rect.unit (s := S512x576) ![0, 512] ![512, 64] inb_S512x576_S512x64_0_512).emb x) 0)) (((Rect.unit (s := S512x576) ![0, 512] ![512, 64] inb_S512x576_S512x64_0_512).emb x) 1)
      rw [f0]
      unfold Layer.latents
      rw [dif_neg (by omega)]
      exact congrArg ((layer m c).shared _) (Fin.ext (by dsimp only; omega))
    · refine (congrArg _ (pair_eq x)).trans ((latent_rows t (x 0) h (x 1)).trans ?_)
      have f0 : ((Rect.unit (s := S512x576) ![0, 0] ![512, 512] inb_S512x576_S512x512_0_0).emb x) 0 = x 0 := Fin.ext (by
        rw [Rect.emb_apply]
        show 0 + 1 * (x 0).val = (x 0).val
        omega)
      have f1 : (((Rect.unit (s := S512x576) ![0, 0] ![512, 512] inb_S512x576_S512x512_0_0).emb x) 1).val = 0 + (x 1).val := by
        rw [Rect.emb_apply]
        show 0 + 1 * (x 1).val = 0 + (x 1).val
        omega
      have hx : (x 1).val < 512 := (x 1).isLt
      show _ = (layer m c).latents ((((Rect.unit (s := S512x576) ![0, 0] ![512, 512] inb_S512x576_S512x512_0_0).emb x) 0)) (((Rect.unit (s := S512x576) ![0, 0] ![512, 512] inb_S512x576_S512x512_0_0).emb x) 1)
      rw [f0]
      unfold Layer.latents
      rw [dif_pos (by omega)]
      exact congrArg ((layer m c).latent _) (Fin.ext (by dsimp only; omega))
  · by_cases hy : (y 1).val < 512
    · refine ⟨_, List.mem_cons_of_mem _ List.mem_cons_self, (Rect.mem_set_unit (inb := inb_S512x576_S512x512_0_0)).mpr fun a => ?_⟩
      fin_cases a
      · exact ⟨Nat.zero_le _, (show (y 0).val < 512 from (y 0).isLt).trans_eq (Nat.zero_add 512).symm⟩
      · exact ⟨Nat.zero_le _, hy.trans_eq (Nat.zero_add 512).symm⟩
    · refine ⟨_, List.mem_cons_self, (Rect.mem_set_unit (inb := inb_S512x576_S512x64_0_512)).mpr fun a => ?_⟩
      fin_cases a
      · exact ⟨Nat.zero_le _, (show (y 0).val < 512 from (y 0).isLt).trans_eq (Nat.zero_add 512).symm⟩
      · exact ⟨Nat.le_of_not_lt hy, (show (y 1).val < 576 from (y 1).isLt)⟩

/-! ### The heads' rotary queries -/

theorem cos_block (x : Vec Ideal S512x128 .f32) (y : S512x128.Idx) : k0_pay12 x y = x y := by
  rw [pair_eq y]
  unfold k0_pay12
  pointwise

theorem sin_block (x : Vec Ideal S512x128 .f32) (y : S512x128.Idx) : k0_pay13 x y = x y := by
  rw [pair_eq y]
  unfold k0_pay13
  pointwise

theorem head_at (t : Fin cfg0.N) (r : Fin 512) (hr : (layer m c).Reals) (h : Fin 8) (d : Fin 128) :
    headTile (rows m c t) (k0_pay12 (iblk m c 9 t)) (k0_pay13 (iblk m c 10 t)) (iblk m c 5 t) (iblk m c 6 t) h (ix2 r d)
      = (layer m c).rotaryQueries r ⟨128 * h.val + d.val, by omega⟩ := by
  rw [headTile_apply]
  exact point_head r _ _ _ (lifted_rows t r hr) (fun j => (cos_block _ _).trans (read_cos m c t r j))
    (fun j => (sin_block _ _).trans (read_sin m c t r j)) h d

theorem rotaryQueries_eq (h : (layer m c).Reals) :
    (dats m 0 c).arrAt 17 cfg0.N = fun y : S512x1024.Idx => (layer m c).rotaryQueries (y 0) (y 1) := by
  refine (dats m 0 c).arrAt_eq_of_covers 17 _ (by decide +kernel) fun t hf y => ?_
  blk_simp
  rw [after0_17]
  frame_out
  have e0 : ((win0_17.blk t).view.emb y) 0 = y 0 := by
    refine Fin.ext ?_
    show (((win0_17.blk t).view.emb y) 0).val = (y 0).val
    blk_simp [(index_out t).2.2.2.2.2.2.1]
  have e1 : ((win0_17.blk t).view.emb y) 1 = y 1 := by
    refine Fin.ext ?_
    blk_simp [(index_out t).2.2.2.2.2.2.1]
  rw [e0, e1]
  have hy : (y 1).val < 1024 := (y 1).isLt
  have ey : y = ix2 (y 0) ⟨128 * ((y 1).val / 128) + (y 1).val % 128, by omega⟩ := by
    refine (pair_eq y).trans (congrArg (ix2 (y 0)) (Fin.ext ?_))
    show (y 1).val = 128 * ((y 1).val / 128) + (y 1).val % 128
    omega
  refine (congrArg _ ey).trans ?_
  refine (canon_heads (headTile (rows m c t) (k0_pay12 (iblk m c 9 t)) (k0_pay13 (iblk m c 10 t)) (iblk m c 5 t)
    (iblk m c 6 t)) (y 0) ⟨(y 1).val / 128, by omega⟩ ⟨(y 1).val % 128, by omega⟩).trans ?_
  refine (head_at t (y 0) h _ _).trans (congrArg ((layer m c).rotaryQueries _) (Fin.ext ?_))
  show 128 * ((y 1).val / 128) + (y 1).val % 128 = (y 1).val
  omega

end Cert.InS

end
-- ==== Proof.InS.Pre.lean ====
/-
What the precondition of the sample group's input projection says: every entry of the modulation rows, of the two gains and of the
rotary columns of the two weights is below plus infinity in absolute value, and so it is a real number.
-/
module

public import proofs.«01_k».proof.Defs
public import proofs.«01_k».proof.Proof.InS.Blocks
public import proofs.«01_k».proof.Proof.In.Pre

@[expose] public section

set_option maxRecDepth 16384

noncomputable section

namespace Cert.InS

open Cert.In Cert.Kernel5Ideal Cert.Kernel5Ideal.Gen Idealize.ShloMosaic Idealize.ShloMosaic.TcCoe

/-- The precondition's broadcasts, slices and shapes are well formed. -/
theorem pre_facts : Cert.Pre_finite5.Facts where
  bcast_S_S1x512x2048 := by decide
  bcast_S_S2048 := by decide
  slices_S2048x2904_S2048x64_0_2840 := by decide
  bcast_S_S2048x64 := by decide
  bcast_S_S512 := by decide
  shapeCasts_S512x1536_S512x8x192 := by decide
  slices_S512x8x192_S512x8x64_0_0_128 := by decide
  bcast_S_S512x8x64 := by decide

/-- Under the precondition those arguments are real. -/
theorem reals_of_pre {m : (ℓ : Loc nD τ sig) → Buf (Elt Ideal) ℓ}
    (h : Cert.Pre_Kernel5Ideal_finite5 (hPre_finite5 := pre_facts) m) (c : Dev nD) : (layer m c).Reals := by
  obtain ⟨h1, h2, h3, h4, h5, h6⟩ := h c
  refine
    { scale := fun n k => real_of_abs (congrFun h1 (ix3 0 n k))
      shift := fun n k => real_of_abs (congrFun h2 (ix3 0 n k))
      gain := fun k => real_of_abs (congrFun h3 (ix1 k))
      weight := fun e k => ?_
      queryGain := fun k => real_of_abs (congrFun h5 (ix1 k))
      queryWeight := fun e a k => ?_ }
  · have hr := real_of_abs (congrFun h4 (ix2 e k))
    exact (congrArg IsReal (rotary_columns _ _ e k)).mp hr
  · have hr := real_of_abs (congrFun h6 (ix3 e a k))
    exact (congrArg IsReal (rotary_query_columns _ _ _ e a k)).mp hr

end Cert.InS

end
-- ==== Proof.InS.Reference.lean ====
/-
The reference's input projection of the sample group, in stages, each read at an index over the extended reals: the modulated rows and their
projection, the sections that are results themselves, the latent rows, the rotated sections, and the heads' rows.
-/
module

public import proofs.«01_k».proof.Proof.In.Blocks
public import proofs.«01_k».proof.Proof.Gen.Reference5Ideal.Run
public import Idealize.ShloMosaic.Lib.Pointwise
public import Idealize.ShloMosaic.Lib.IdealHost

@[expose] public section

set_option maxRecDepth 16384

noncomputable section

namespace Cert.InS.Ref

open Cert.In Cert.Reference5Ideal Cert.Reference5Ideal.Gen Idealize.ShloMosaic Idealize.ShloMosaic.TcCoe Cert.Ffn

section Stages

variable {F : FTy → Type} [FloatOps F]

/-- The modulated rows. -/
def hidden (x : Vec F S512x2048 .f32) (g : Vec F S2048 .f32) (sc sh : Vec F S1x512x2048 .f32) : FVec F S512x2048 .f32 :=
  addf (mulf (mulf (mulf x (broadcastInDim S512x2048 ![0, 1] bcast_S512x1_S512x2048_0_1
    (Host.rsqrt (addf (Host.divf (broadcastInDim S512x1 ![0] bcast_S512_S512x1_0
      (Host.reduceAdd (mulf x x) (constant S_ .f32 0x00000000#32) reducesTo_S512x2048_S512_d1 h_S_))
      (broadcastInDim S512x1 ![] bcast_S_S512x1 (constant S_ .f32 0x45000000#32)))
      (broadcastInDim S512x1 ![] bcast_S_S512x1 (constant S_ .f32 0x358637BD#32))))))
    (broadcastInDim S512x2048 ![0, 1] bcast_S1x2048_S512x2048_0_1
      (broadcastInDim S1x2048 ![1] bcast_S2048_S1x2048_1 g)))
    (addf (broadcastInDim S512x2048 ![] bcast_S_S512x2048 (constant S_ .f32 0x3F800000#32))
      (shapeCast _ sc shapeCasts_S1x512x2048_S512x2048)))
    (shapeCast _ sh shapeCasts_S1x512x2048_S512x2048)

/-- The projected rows. -/
def projected (h : FVec F S512x2048 .f32) (w : Vec F S2048x2904 .f32) : FVec F S512x2904 .f32 :=
  Host.dotGeneral dot_S512x2048_S2048x2904_S512x2904_1_0_0_1_n_n none h w

/-- A row of 512 columns, normalised. -/
def norm (y : FVec F S512x512 .f32) (g : Vec F S512 .f32) : FVec F S512x512 .f32 :=
  mulf (mulf y (broadcastInDim S512x512 ![0, 1] bcast_S512x1_S512x512_0_1
    (Host.rsqrt (addf (Host.divf (broadcastInDim S512x1 ![0] bcast_S512_S512x1_0
      (Host.reduceAdd (mulf y y) (constant S_ .f32 0x00000000#32) reducesTo_S512x512_S512_d1 h_S_))
      (broadcastInDim S512x1 ![] bcast_S_S512x1 (constant S_ .f32 0x44000000#32)))
      (broadcastInDim S512x1 ![] bcast_S_S512x1 (constant S_ .f32 0x358637BD#32))))))
    (broadcastInDim S512x512 ![0, 1] bcast_S1x512_S512x512_0_1
      (broadcastInDim S1x512 ![1] bcast_S512_S1x512_1 g))

/-- The latent section of the projected rows. -/
def latentPart (z : FVec F S512x2904 .f32) : FVec F S512x512 .f32 :=
  extractStridedSlice S512x512 ![0, 2328] z slices_S512x2904_S512x512_0_2328

/-- The section from which the queries are made. -/
def queryPart (z : FVec F S512x2904 .f32) : FVec F S512x512 .f32 :=
  extractStridedSlice S512x512 ![0, 1816] z slices_S512x2904_S512x512_0_1816

/-- The rotary section of the projected rows, rotated. -/
def shared (z : FVec F S512x2904 .f32) (ang : Vec F S512x32 .f32) : FVec F S512x64 .f32 :=
  concatenate S512x64 1 [
    ⟨S512x32, (subf
      (mulf (extractStridedSlice S512x32 ![0, 0]
        (extractStridedSlice S512x64 ![0, 2840] z slices_S512x2904_S512x64_0_2840)
        slices_S512x64_S512x32_0_0) (Host.cos ang))
      (mulf (extractStridedSlice S512x32 ![0, 32]
        (extractStridedSlice S512x64 ![0, 2840] z slices_S512x2904_S512x64_0_2840)
        slices_S512x64_S512x32_0_32) (Host.sin ang)))⟩,
    ⟨S512x32, (addf
      (mulf (extractStridedSlice S512x32 ![0, 0]
        (extractStridedSlice S512x64 ![0, 2840] z slices_S512x2904_S512x64_0_2840)
        slices_S512x64_S512x32_0_0) (Host.sin ang))
      (mulf (extractStridedSlice S512x32 ![0, 32]
        (extractStridedSlice S512x64 ![0, 2840] z slices_S512x2904_S512x64_0_2840)
        slices_S512x64_S512x32_0_32) (Host.cos ang)))⟩]
    concatenates_S512x32_S512x32_S512x64_d1

/-- The queries, head by head. -/
def heads (l : FVec F S512x512 .f32) (w : Vec F S512x1536 .f32) : FVec F S512x8x192 .f32 :=
  shapeCast _ (Host.dotGeneral dot_S512x512_S512x1536_S512x1536_1_0_0_1_n_n none l w)
    shapeCasts_S512x1536_S512x8x192

/-- A table with one row per token, for every head. -/
def spreadHeads (t : FVec F S512x32 .f32) : FVec F S512x8x32 .f32 :=
  broadcastInDim S512x8x32 ![0, 1, 2] bcast_S512x1x32_S512x8x32_0_1_2 (shapeCast _ t shapeCasts_S512x32_S512x1x32)

/-- The queries' rotary columns, rotated. -/
def turnedHeads (q : FVec F S512x8x192 .f32) (ang : Vec F S512x32 .f32) : FVec F S512x8x64 .f32 :=
  concatenate S512x8x64 2 [
    ⟨S512x8x32, (subf
      (mulf (extractStridedSlice S512x8x32 ![0, 0, 128] q slices_S512x8x192_S512x8x32_0_0_128)
        (spreadHeads (Host.cos ang)))
      (mulf (extractStridedSlice S512x8x32 ![0, 0, 160] q slices_S512x8x192_S512x8x32_0_0_160)
        (spreadHeads (Host.sin ang))))⟩,
    ⟨S512x8x32, (addf
      (mulf (extractStridedSlice S512x8x32 ![0, 0, 128] q slices_S512x8x192_S512x8x32_0_0_128)
        (spreadHeads (Host.sin ang)))
      (mulf (extractStridedSlice S512x8x32 ![0, 0, 160] q slices_S512x8x192_S512x8x32_0_0_160)
        (spreadHeads (Host.cos ang))))⟩]
    concatenates_S512x8x32_S512x8x32_S512x8x64_d2

/-! The results. -/

def sparseQueries (z : FVec F S512x2904 .f32) : FVec F S512x1024 .bf16 :=
  truncf .bf16 (mulf
    (extractStridedSlice S512x1024 ![0, 0] z slices_S512x2904_S512x1024_0_0)
    (broadcastInDim S512x1024 ![] bcast_S_S512x1024 (constant S_ .f32 0x3E0293EE#32))) bitsLt_bf16_f32

def sparse (z : FVec F S512x2904 .f32) : FVec F S512x512 .f32 :=
  extractStridedSlice S512x512 ![0, 1024] z slices_S512x2904_S512x512_0_1024

def window (z : FVec F S512x2904 .f32) : FVec F S512x256 .f32 :=
  extractStridedSlice S512x256 ![0, 1536] z slices_S512x2904_S512x256_0_1536

def gates (z : FVec F S512x2904 .f32) : FVec F S512x128 .f32 :=
  Host.divf (broadcastInDim S512x128 ![] bcast_S_S512x128 (constant S_ .f32 0x3F800000#32))
    (addf (broadcastInDim S512x128 ![] bcast_S_S512x128 (constant S_ .f32 0x3F800000#32))
      (Host.exp (Host.negf (pad S512x128 ![0, 0] ![0, 104] ![0, 0]
        (extractStridedSlice S512x24 ![0, 1792] z slices_S512x2904_S512x24_0_1792)
        (sitofp .f32 (constantI S_ 32 0#32)) pads_S512x24_S512x128_000_01040 h_S_))))

def latentRows (l : FVec F S512x512 .f32) (k : FVec F S512x64 .f32) : FVec F S512x576 .f32 :=
  concatenate S512x576 1 [⟨S512x512, l⟩, ⟨S512x64, k⟩]
    concatenates_S512x512_S512x64_S512x576_d1

def plainQueries (q : FVec F S512x8x192 .f32) : FVec F S512x1024 .bf16 :=
  truncf .bf16 (shapeCast _ (mulf
    (extractStridedSlice S512x8x128 ![0, 0, 0] q slices_S512x8x192_S512x8x128_0_0_0)
    (broadcastInDim S512x8x128 ![] bcast_S_S512x8x128 (constant S_ .f32 0x3DD53B95#32)))
    shapeCasts_S512x8x128_S512x1024) bitsLt_bf16_f32

def rotaryQueries (q : FVec F S512x8x64 .f32) : FVec F S512x1024 .bf16 :=
  truncf .bf16 (shapeCast _ (pad S512x8x128 ![0, 0, 0] ![0, 0, 64] ![0, 0, 0]
    (mulf q (broadcastInDim S512x8x64 ![] bcast_S_S512x8x64 (constant S_ .f32 0x3DD53B95#32)))
    (sitofp .f32 (constantI S_ 32 0#32)) pads_S512x8x64_S512x8x128_000_000_0640 h_S_)
    shapeCasts_S512x8x128_S512x1024) bitsLt_bf16_f32

def rotaryKeys (k : FVec F S512x64 .f32) : FVec F S512x128 .bf16 :=
  truncf .bf16 (pad S512x128 ![0, 0] ![0, 64] ![0, 0] k
    (sitofp .f32 (constantI S_ 32 0#32)) pads_S512x64_S512x128_000_0640 h_S_) bitsLt_bf16_f32

def byHeads (l : FVec F S512x512 .f32) (w : Vec F S512x8x128 .f32) : FVec F S512x1024 .bf16 :=
  truncf .bf16 (shapeCast _ (Host.dotGeneral dot_S512x512_S512x8x128_S512x8x128_1_0_0_12_n_n none l w)
    shapeCasts_S512x8x128_S512x1024) bitsLt_bf16_f32

def both (z : FVec F S512x2904 .f32) : FVec F S512x768 .bf16 :=
  truncf .bf16 (concatenate S512x768 1 [
    ⟨S512x512, (extractStridedSlice S512x512 ![0, 1024] z slices_S512x2904_S512x512_0_1024)⟩,
    ⟨S512x256, (extractStridedSlice S512x256 ![0, 1536] z slices_S512x2904_S512x256_0_1536)⟩]
    concatenates_S512x512_S512x256_S512x768_d1) bitsLt_bf16_f32

end Stages

/-! ### Read at an index -/

variable (r : Fin 512) (z : FVec Ideal S512x2904 .f32)

theorem hidden_apply (x : FVec Ideal S512x2048 .f32) (g : Vec Ideal S2048 .f32) (sc sh : Vec Ideal S1x512x2048 .f32)
    (k : Fin 2048) :
    hidden x g sc sh (ix2 r k)
      = modulated (fun k => x (ix2 r k)) (fun k => g (ix1 k)) (fun k => sc (ix3 0 r k)) (fun k => sh (ix3 0 r k)) k := by
  unfold hidden modulated normalised columns eps one
  pointwise

theorem projected_apply (h : FVec Ideal S512x2048 .f32) (w : Vec Ideal S2048x2904 .f32) (j : Fin 2904) :
    projected h w (ix2 r j) = through (fun e => h (ix2 r e)) (fun e j => w (ix2 e j)) j := by
  unfold projected through
  pointwise

theorem norm_apply (y : FVec Ideal S512x512 .f32) (g : Vec Ideal S512 .f32) (k : Fin 512) :
    norm y g (ix2 r k) = unit (fun k => y (ix2 r k)) (fun k => g (ix1 k)) k := by
  unfold norm unit latents eps
  pointwise

theorem latentPart_apply (k : Fin 512) : latentPart z (ix2 r k) = z (ix2 r ⟨2328 + k.val, by omega⟩) := by
  unfold latentPart
  pointwise

theorem queryPart_apply (k : Fin 512) : queryPart z (ix2 r k) = z (ix2 r ⟨1816 + k.val, by omega⟩) := by
  unfold queryPart
  pointwise

theorem shared_apply (ang : Vec Ideal S512x32 .f32) (k : Fin 64) :
    shared z ang (ix2 r k)
      = rotated (fun k => z (ix2 r ⟨2840 + k.val, by omega⟩)) (fun k => Ideal.cos (ang (ix2 r k)))
          (fun k => Ideal.sin (ang (ix2 r k))) k := by
  unfold shared rotated
  by_cases h : k.val < 32
  · have e : 2840 + (k.val + 32) = 2840 + (32 + k.val) := by omega
    pointwise
    simp only [h, dif_pos, e]
  · have e : 2840 + (32 + (k.val - 32)) = 2840 + k.val := by omega
    pointwise
    simp only [h, dif_neg, not_false_eq_true, e]

theorem heads_apply (l : FVec Ideal S512x512 .f32) (w : Vec Ideal S512x1536 .f32) (a : Fin 8) (d : Fin 192) :
    heads l w (ix3 r a d)
      = through (fun e => l (ix2 r e)) (fun e j => w (ix2 e j)) ⟨a.val * 192 + d.val, by omega⟩ := by
  unfold heads through
  pointwise

theorem turnedHeads_apply (q : FVec Ideal S512x8x192 .f32) (ang : Vec Ideal S512x32 .f32) (a : Fin 8) (k : Fin 64) :
    turnedHeads q ang (ix3 r a k)
      = rotated (fun k => q (ix3 r a ⟨128 + k.val, by omega⟩)) (fun k => Ideal.cos (ang (ix2 r k)))
          (fun k => Ideal.sin (ang (ix2 r k))) k := by
  unfold turnedHeads spreadHeads rotated
  by_cases h : k.val < 32
  · have e : 128 + (k.val + 32) = 160 + k.val := by omega
    pointwise
    simp only [h, dif_pos, e]
  · have e : 160 + (k.val - 32) = 128 + k.val := by omega
    pointwise
    simp only [h, dif_neg, not_false_eq_true, e]

theorem sparseQueries_apply (j : Fin 1024) :
    sparseQueries z (ix2 r j) = z (ix2 r ⟨j.val, by omega⟩) * scaleA := by
  unfold sparseQueries scaleA
  pointwise

theorem sparse_apply (j : Fin 512) :
    sparse z (ix2 r j) = z (ix2 r ⟨1024 + j.val, by omega⟩) := by
  unfold sparse
  pointwise

theorem window_apply (j : Fin 256) :
    window z (ix2 r j) = z (ix2 r ⟨1536 + j.val, by omega⟩) := by
  unfold window
  pointwise

theorem gates_apply (j : Fin 128) :
    gates z (ix2 r j)
      = Ideal.logistic (widened (fun k => z (ix2 r ⟨1792 + k.val, by omega⟩)) j) := by
  unfold gates widened Ideal.logistic
  pointwise
  simp only [zero_int]

theorem latentRows_apply (l : FVec Ideal S512x512 .f32) (k : FVec Ideal S512x64 .f32) (j : Fin 576) :
    latentRows l k (ix2 r j)
      = if h : j.val < 512 then l (ix2 r ⟨j.val, h⟩) else k (ix2 r ⟨j.val - 512, by omega⟩) := by
  unfold latentRows
  pointwise

theorem plainQueries_apply (q : FVec Ideal S512x8x192 .f32) (j : Fin 1024) :
    plainQueries q (ix2 r j)
      = q (ix3 r ⟨j.val / 128, by omega⟩ ⟨j.val % 128, by omega⟩) * scaleB := by
  unfold plainQueries scaleB
  pointwise

theorem rotaryQueries_apply (q : FVec Ideal S512x8x64 .f32) (j : Fin 1024) :
    rotaryQueries q (ix2 r j)
      = padded (fun k => q (ix3 r ⟨j.val / 128, by omega⟩ k) * scaleB) ⟨j.val % 128, by omega⟩ := by
  unfold rotaryQueries scaleB padded
  have e : j.val / 128 < 8 := by omega
  pointwise
  simp only [zero_int, e, true_and]

theorem rotaryKeys_apply (k : FVec Ideal S512x64 .f32) (j : Fin 128) :
    rotaryKeys k (ix2 r j) = padded (fun e => k (ix2 r e)) j := by
  unfold rotaryKeys padded
  pointwise
  simp only [zero_int]

theorem byHeads_apply (l : FVec Ideal S512x512 .f32) (w : Vec Ideal S512x8x128 .f32) (j : Fin 1024) :
    byHeads l w (ix2 r j)
      = through (fun e => l (ix2 r e)) (fun e j => w (ix3 e ⟨j.val / 128, by omega⟩ ⟨j.val % 128, by omega⟩)) j := by
  unfold byHeads through
  pointwise

theorem both_apply (j : Fin 768) :
    both z (ix2 r j) = z (ix2 r ⟨1024 + j.val, by omega⟩) := by
  unfold both
  by_cases h : j.val < 512
  · pointwise
    simp only [h, dif_pos]
  · have e : 1536 + (j.val - 512) = 1024 + j.val := by omega
    pointwise
    simp only [h, dif_neg, not_false_eq_true, e]

/-! ### The results, row by row -/

variable {m : (ℓ : Loc nD τ sig) → Buf (Elt Ideal) ℓ} {c : Dev nD}

variable (m c) in
/-- The layer's arguments, from the reference's memory. -/
def layer : Layer (Fin 512) where
  x i k := m ((c.tc : Thread nD τ).loc main_arg0) (ix2 i k)
  scale i k := m ((c.tc : Thread nD τ).loc main_arg1) (ix3 0 i k)
  shift i k := m ((c.tc : Thread nD τ).loc main_arg2) (ix3 0 i k)
  gain k := m ((c.tc : Thread nD τ).loc main_arg3) (ix1 k)
  weight e j := m ((c.tc : Thread nD τ).loc main_arg4) (ix2 e j)
  queryGain k := m ((c.tc : Thread nD τ).loc main_arg5) (ix1 k)
  queryWeight e j := m ((c.tc : Thread nD τ).loc main_arg6) (ix2 e j)
  latentGain k := m ((c.tc : Thread nD τ).loc main_arg7) (ix1 k)
  keyWeight e h d := m ((c.tc : Thread nD τ).loc main_arg8) (ix3 e h d)
  valueWeight e h d := m ((c.tc : Thread nD τ).loc main_arg9) (ix3 e h d)
  angle i k := m ((c.tc : Thread nD τ).loc main_arg10) (ix2 i k)

variable (m c) in
/-- The projected rows of the reference's memory. -/
def zs : FVec Ideal S512x2904 .f32 :=
  projected (hidden (m ((c.tc : Thread nD τ).loc main_arg0)) (m ((c.tc : Thread nD τ).loc main_arg3))
    (m ((c.tc : Thread nD τ).loc main_arg1)) (m ((c.tc : Thread nD τ).loc main_arg2)))
    (m ((c.tc : Thread nD τ).loc main_arg4))

variable (m c) in
/-- The latent rows. -/
def ls : FVec Ideal S512x512 .f32 := norm (latentPart (zs m c)) (m ((c.tc : Thread nD τ).loc main_arg7))

variable (m c) in
/-- The latent rows' rotated sections. -/
def ks : FVec Ideal S512x64 .f32 := shared (zs m c) (m ((c.tc : Thread nD τ).loc main_arg10))

variable (m c) in
/-- The queries, head by head. -/
def qs : FVec Ideal S512x8x192 .f32 :=
  heads (norm (queryPart (zs m c)) (m ((c.tc : Thread nD τ).loc main_arg5))) (m ((c.tc : Thread nD τ).loc main_arg6))

theorem zs_apply (j : Fin 2904) : zs m c (ix2 r j) = (layer m c).z r j := by
  unfold zs
  rw [projected_apply]
  unfold Layer.z
  refine congrArg (fun v => through v _ j) (funext fun e => ?_)
  rw [hidden_apply]
  unfold Layer.hidden
  rfl

theorem ls_apply (k : Fin 512) : ls m c (ix2 r k) = (layer m c).latent r k := by
  unfold ls Layer.latent
  rw [norm_apply]
  refine congrArg (fun v => unit v _ k) (funext fun k => ?_)
  rw [latentPart_apply]
  exact zs_apply r _

theorem ks_apply (k : Fin 64) : ks m c (ix2 r k) = (layer m c).shared r k := by
  unfold ks Layer.shared Layer.turn
  rw [shared_apply]
  exact congrArg (fun v => rotated v _ _ k) (funext fun k => zs_apply r _)

theorem qs_apply (a : Fin 8) (d : Fin 192) :
    qs m c (ix3 r a d) = (layer m c).query r ⟨a.val * 192 + d.val, by omega⟩ := by
  unfold qs Layer.query
  rw [heads_apply]
  refine congrArg (fun v => through v _ _) (funext fun e => ?_)
  unfold Layer.queryLatent
  rw [norm_apply]
  refine congrArg (fun v => unit v _ e) (funext fun k => ?_)
  rw [queryPart_apply]
  exact zs_apply r _

/-- Two arrays with the same rows are equal. -/
theorem rows_ext {k : Nat} {f : (⟨2, ![512, k]⟩ : Shape).Idx → EReal} {g : Fin 512 → Fin k → EReal}
    (h : ∀ (i : Fin 512) (j : Fin k), f (ix2 i j) = g i j) : f = fun y => g (y 0) (y 1) :=
  funext fun y => (congrArg f (pair_eq y)).trans (h (y 0) (y 1))

theorem sparseQueries_eq :
    sparseQueries (zs m c) = fun y : S512x1024.Idx => (layer m c).sparseQueries (y 0) (y 1) :=
  rows_ext fun r j => by rw [sparseQueries_apply, zs_apply r]; rfl

theorem sparse_eq : sparse (zs m c) = fun y : S512x512.Idx => (layer m c).sparse (y 0) (y 1) :=
  rows_ext fun r j => by rw [sparse_apply, zs_apply r]; rfl

theorem window_eq : window (zs m c) = fun y : S512x256.Idx => (layer m c).window (y 0) (y 1) :=
  rows_ext fun r j => by rw [window_apply, zs_apply r]; rfl

theorem gates_eq : gates (zs m c) = fun y : S512x128.Idx => (layer m c).gates (y 0) (y 1) :=
  rows_ext fun r j => by
    rw [gates_apply]
    exact congrArg (fun v => Ideal.logistic (widened v j)) (funext fun k => zs_apply r _)

theorem latents_eq :
    latentRows (ls m c) (ks m c) = fun y : S512x576.Idx => (layer m c).latents (y 0) (y 1) :=
  rows_ext fun r j => by
    rw [latentRows_apply]
    unfold Layer.latents
    by_cases h : j.val < 512
    · simp only [h, dif_pos]
      exact ls_apply r _
    · simp only [h, dif_neg, not_false_eq_true]
      exact ks_apply r _

theorem plainQueries_eq :
    plainQueries (qs m c) = fun y : S512x1024.Idx => (layer m c).plainQueries (y 0) (y 1) :=
  rows_ext fun r j => by rw [plainQueries_apply, qs_apply r]; rfl

theorem rotaryQueries_eq :
    rotaryQueries (turnedHeads (qs m c) (m ((c.tc : Thread nD τ).loc main_arg10)))
      = fun y : S512x1024.Idx => (layer m c).rotaryQueries (y 0) (y 1) :=
  rows_ext fun r j => by
    rw [rotaryQueries_apply]
    unfold Layer.rotaryQueries
    refine congrArg (fun v => padded v _) (funext fun k => ?_)
    rw [turnedHeads_apply]
    unfold Layer.turn
    refine congrArg (fun v => rotated v _ _ k * scaleB) (funext fun k => ?_)
    rw [qs_apply r]
    exact congrArg _ (Fin.ext (Nat.add_assoc _ _ _).symm)

theorem rotaryKeys_eq : rotaryKeys (ks m c) = fun y : S512x128.Idx => (layer m c).rotaryKeys (y 0) (y 1) :=
  rows_ext fun r j => by
    rw [rotaryKeys_apply]
    exact congrArg (fun v => padded v j) (funext fun k => ks_apply r k)

theorem keys_eq :
    byHeads (ls m c) (m ((c.tc : Thread nD τ).loc main_arg8))
      = fun y : S512x1024.Idx => (layer m c).keys (y 0) (y 1) :=
  rows_ext fun r j => by
    rw [byHeads_apply]
    exact congrArg (fun v => through v _ j) (funext fun k => ls_apply r k)

theorem values_eq :
    byHeads (ls m c) (m ((c.tc : Thread nD τ).loc main_arg9))
      = fun y : S512x1024.Idx => (layer m c).values (y 0) (y 1) :=
  rows_ext fun r j => by
    rw [byHeads_apply]
    exact congrArg (fun v => through v _ j) (funext fun k => ls_apply r k)

theorem both_eq : both (zs m c) = fun y : S512x768.Idx => (layer m c).both (y 0) (y 1) :=
  rows_ext fun r j => by rw [both_apply, zs_apply r]; rfl

end Cert.InS.Ref

end
-- ==== Proof.FfnS.Kernel.lean ====
/-
The feed-forward kernel's result for the sample group. Its one row block's accumulator, after the eleven column blocks of
the hidden row, holds the sum over all hidden columns; the last of the eleven points adds the residual and normalises the
rows.
-/
module

public import proofs.«01_k».proof.Proof.Ffn.Kernel
public import proofs.«01_k».proof.Proof.Gen.Kernel6Ideal.Value
public import Idealize.ShloMosaic.Lib.Pointwise
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.FfnS

open Cert.Ffn Cert.Kernel6Ideal Cert.Kernel6Ideal.Gen Idealize.ShloMosaic Idealize.ShloMosaic.TcCoe

/-! ### The body's arithmetic at an index -/

theorem part_apply (h : Vec Ideal S512x2048 .bf16) (wg wu : Vec Ideal S2048x512 .bf16) (wd : Vec Ideal S512x2048 .bf16)
    (r : Fin 512) (c : Fin 2048) :
    k0_pay1 h wg wu wd (ix2 r c)
      = ∑ f : Fin 512, (silu (∑ k : Fin 2048, h (ix2 r k) * wg (ix2 k f)) * ∑ k : Fin 2048, h (ix2 r k) * wu (ix2 k f))
          * wd (ix2 f c) :=
  Ffn.part_apply h wg wu wd r c

theorem first_eq (h : Vec Ideal S512x2048 .bf16) (wg wu : Vec Ideal S2048x512 .bf16) (wd : Vec Ideal S512x2048 .bf16) :
    k0_pay2 h wg wu wd = k0_pay1 h wg wu wd := by
  unfold k0_pay2
  exact shapeCast_self _ _

theorem next_apply (h : Vec Ideal S512x2048 .bf16) (wg wu : Vec Ideal S2048x512 .bf16) (wd : Vec Ideal S512x2048 .bf16)
    (a : Vec Ideal S512x2048 .f32) (j : S512x2048.Idx) :
    k0_pay3 h wg wu wd a j = a j + k0_pay1 h wg wu wd j := by
  unfold k0_pay3
  rw [shapeCast_self]
  rfl

theorem last_apply (x : Vec Ideal S512x2048 .f32) (gt : Vec Ideal S1x512x2048 .f32) (a : Vec Ideal S512x2048 .f32)
    (g : Vec Ideal S1x2048 .f32) (r : Fin 512) (c : Fin 2048) :
    k0_pay4 x gt a g (ix2 r c)
      = normalised (fun k => x (ix2 r k) + gt (ix3 0 r k) * a (ix2 r k)) (fun k => g (ix2 0 k)) c := by
  unfold k0_pay4 normalised columns eps
  pointwise

variable (m : (ℓ : Loc nD τ sig) → Buf (Elt Ideal) ℓ) (c : Dev nD)

/-! ### The accumulator -/

/-- What a point adds to the accumulator. -/
def part (t : Fin cfg0.N) : Vec Ideal S512x2048 .f32 := k0_pay1 (iblk m c 0 t) (iblk m c 1 t) (iblk m c 2 t) (iblk m c 3 t)

theorem carried_first (t : Fin cfg0.N) (h : t.val % 11 = 0) (j : S512x2048.Idx) :
    (outsAt0 m c t.val t.isLt).2 j = 0 + part m c t j := by
  have ht : t.val < 11 := lt_of_lt_of_eq t.isLt N_0
  rw [outsAt0_A m c t h (by omega) (by omega)]
  frame_out
  rw [first_eq, zero_add]
  rfl

theorem carried_next (t : Fin cfg0.N) (h : ¬t.val % 11 = 0) (j : S512x2048.Idx) :
    (outsAt0 m c t.val t.isLt).2 j
      = (outsAt0 m c (t.val - 1) (Nat.lt_of_le_of_lt (Nat.sub_le _ _) t.isLt)).2 j + part m c t j := by
  by_cases h2 : t.val % 11 = 10
  · rw [outsAt0_C m c t h (by omega) h2]
    frame_out
    simp only [read_unread_whole]
    rw [next_apply]
    rfl
  · rw [outsAt0_B m c t h (by omega) h2]
    frame_out
    simp only [read_unread_whole]
    rw [next_apply]
    rfl

/-- The result's block at the last point of a run, from the accumulator that point leaves. -/
theorem block_eq (t : Fin cfg0.N) (h : t.val % 11 = 10) :
    (outsAt0 m c t.val t.isLt).1
      = k0_pay4 (iblk m c 4 t) (iblk m c 5 t) ((outsAt0 m c t.val t.isLt).2) (iblk m c 6 t) := by
  rw [outsAt0_C m c t (by omega) (by omega) h]
  frame_out

theorem carried_eq (t : Fin cfg0.N) (h : t.val % 11 = 10) (j : S512x2048.Idx) :
    (outsAt0 m c t.val t.isLt).2 j
      = ∑ s : Fin 11, part m c ⟨11 * (t.val / 11) + s.val, by have := t.isLt; omega⟩ j := by
  rw [Pipeline.eq_sum_fin_of_reset_step_apply_of_flush (fun n h => (outsAt0 m c n h).2) 11 (fun _ => 0)
    (fun t j => part m c t j) (carried_first m c) (carried_next m c) t h j, zero_add]

/-! ### The blocks a point reads -/

/-- Where each window's block stands at a grid point. -/
theorem index_at : ∀ t : Fin cfg0.N,
    (cfg0.win 0).index t = ![0, 0]
    ∧ (cfg0.win 1).index t = ![0, t.val % 11]
    ∧ (cfg0.win 2).index t = ![0, t.val % 11]
    ∧ (cfg0.win 3).index t = ![t.val % 11, 0]
    ∧ (cfg0.win 4).index t = ![0, 0]
    ∧ (cfg0.win 5).index t = ![0, 0, 0]
    ∧ (cfg0.win 6).index t = ![0, 0]
    ∧ (cfg0.win 7).index t = ![0, 0] := by
  decide +kernel

/-- The hidden column at which column `f` of a point's block stands. -/
def colAt (t : Fin cfg0.N) (f : Fin 512) : Fin 5632 := ⟨(t.val % 11) * 512 + f.val, by omega⟩

theorem read_h (t : Fin cfg0.N) (r : Fin 512) (k : Fin 2048) :
    iblk m c 0 t (ix2 r k) = m ((c : Thread nD τ).loc main_arg0) (ix2 r k) := by
  blk_ext [iblk, V, (index_at t).1]

theorem read_gate (t : Fin cfg0.N) (k : Fin 2048) (f : Fin 512) :
    iblk m c 1 t (ix2 k f) = m ((c : Thread nD τ).loc main_arg1) (ix2 k (colAt t f)) := by
  blk_ext [iblk, V, (index_at t).2.1, colAt]

theorem read_up (t : Fin cfg0.N) (k : Fin 2048) (f : Fin 512) :
    iblk m c 2 t (ix2 k f) = m ((c : Thread nD τ).loc main_arg2) (ix2 k (colAt t f)) := by
  blk_ext [iblk, V, (index_at t).2.2.1, colAt]

theorem read_down (t : Fin cfg0.N) (f : Fin 512) (k : Fin 2048) :
    iblk m c 3 t (ix2 f k) = m ((c : Thread nD τ).loc main_arg3) (ix2 (colAt t f) k) := by
  blk_ext [iblk, V, (index_at t).2.2.2.1, colAt]

theorem read_x (t : Fin cfg0.N) (r : Fin 512) (k : Fin 2048) :
    iblk m c 4 t (ix2 r k) = m ((c : Thread nD τ).loc main_arg4) (ix2 r k) := by
  blk_ext [iblk, V, (index_at t).2.2.2.2.1]

theorem read_gain (t : Fin cfg0.N) (r : Fin 512) (k : Fin 2048) :
    iblk m c 5 t (ix3 0 r k) = m ((c : Thread nD τ).loc main_arg5) (ix3 0 r k) := by
  blk_ext [iblk, V, (index_at t).2.2.2.2.2.1]

theorem entry_final (k : Fin 2048) : V m c main_v0 (ix2 0 k) = m ((c : Thread nD τ).loc main_arg6) (ix1 k) := by
  entry_read
  pointwise

theorem read_final (t : Fin cfg0.N) (k : Fin 2048) :
    iblk m c 6 t (ix2 0 k) = m ((c : Thread nD τ).loc main_arg6) (ix1 k) := by
  refine Eq.trans ?_ (entry_final m c k)
  blk_ext [iblk, (index_at t).2.2.2.2.2.2.1]

/-! ### The result -/

/-- Row `row`, column `k` of the result, from the arguments. -/
def layer (h : Vec Ideal S512x2048 .bf16) (wg wu : Vec Ideal S2048x5632 .bf16) (wd : Vec Ideal S5632x2048 .bf16)
    (x : Vec Ideal S512x2048 .f32) (gt : Vec Ideal S1x512x2048 .f32) (g : Vec Ideal S2048 .f32) (row : Fin 512)
    (k : Fin 2048) : EReal :=
  normalised (fun k => x (ix2 row k) + gt (ix3 0 row k)
      * down (fun k => h (ix2 row k)) (fun k f => wg (ix2 k f)) (fun k f => wu (ix2 k f)) (fun f k => wd (ix2 f k)) k)
    (fun k => g (ix1 k)) k

theorem carried_apply (t : Fin cfg0.N) (h : t.val % 11 = 10) (r : Fin 512) (k : Fin 2048) :
    (outsAt0 m c t.val t.isLt).2 (ix2 r k)
      = down (fun k => m ((c : Thread nD τ).loc main_arg0) (ix2 r k))
          (fun k f => m ((c : Thread nD τ).loc main_arg1) (ix2 k f))
          (fun k f => m ((c : Thread nD τ).loc main_arg2) (ix2 k f))
          (fun f k => m ((c : Thread nD τ).loc main_arg3) (ix2 f k)) k := by
  have ht : t.val < 11 := lt_of_lt_of_eq t.isLt N_0
  rw [carried_eq m c t h]
  unfold part down
  simp only [part_apply]
  refine Fin.sum_mul_add_congr fun s f hf => ?_
  have hs : 11 * (t.val / 11) + s.val < cfg0.N := lt_of_lt_of_eq (by omega) N_0.symm
  have ec : colAt ⟨11 * (t.val / 11) + s.val, hs⟩ f = ⟨s.val * 512 + f.val, hf⟩ :=
    Fin.ext (by show ((11 * (t.val / 11) + s.val) % 11) * 512 + f.val = s.val * 512 + f.val; omega)
  unfold Ffn.hidden
  simp only [read_h, read_gate, read_up, read_down, ec]

theorem array_eq :
    (dats m 0 c).arrAt 7 cfg0.N = fun y : S512x2048.Idx =>
      layer (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (y 0) (y 1) := by
  refine (dats m 0 c).arrAt_eq_of_covers 7 _ (by decide +kernel) fun t hf y => ?_
  blk_simp
  rw [after0_7]
  have h10 : t.val % 11 = 10 := (flush0_7 t).mp hf
  have ht : t.val < 11 := lt_of_lt_of_eq t.isLt N_0
  have hy0 : (y 0).val < 512 := (y 0).isLt
  have hy1 : (y 1).val < 2048 := (y 1).isLt
  have e : y = ix2 ⟨(y 0).val, hy0⟩ ⟨(y 1).val, hy1⟩ := by
    refine funext fun a => ?_
    fin_cases a <;> rfl
  have e0 : ((win0_7.blk t).view.emb y) 0 = (⟨(y 0).val, hy0⟩ : Fin 512) := by
    refine Fin.ext ?_
    blk_simp [(index_at t).2.2.2.2.2.2.2]
  have e1 : ((win0_7.blk t).view.emb y) 1 = (⟨(y 1).val, hy1⟩ : Fin 2048) := by
    refine Fin.ext ?_
    blk_simp [(index_at t).2.2.2.2.2.2.2]
  rw [e0, e1]
  refine (congrArg (outsAt0 m c t.val t.isLt).1 e).trans ?_
  rw [block_eq m c t h10, last_apply]
  unfold layer
  simp only [carried_apply m c t h10, read_x, read_final, read_gain]

end Cert.FfnS

end
-- ==== Proof.FfnS.Reference.lean ====
/-
The reference's feed-forward layer of the sample group, in stages, each read at an index over the extended reals: `gated` is the hidden
array, `residual` the sum of the input and the layer's output, `final` the normalised rows.
-/
module

public import proofs.«01_k».proof.Proof.Ffn.Spec
public import proofs.«01_k».proof.Proof.FfnS.Kernel
public import proofs.«01_k».proof.Proof.Gen.Reference6Ideal.Run
public import Idealize.ShloMosaic.Lib.Pointwise

@[expose] public section

set_option maxRecDepth 16384

noncomputable section

namespace Cert.FfnS.Ref

open Cert.Ffn Cert.Reference6Ideal Cert.Reference6Ideal.Gen Idealize.ShloMosaic Idealize.ShloMosaic.TcCoe

variable {F : FTy → Type} [FloatOps F]

/-- A branch's array: the tokens by the branch's weights. -/
def branch (h : Vec F S512x2048 .bf16) (w : Vec F S2048x5632 .bf16) : FVec F S512x5632 .f32 :=
  Host.dotGeneral dot_S512x2048_S2048x5632_S512x5632_1_0_0_1_n_n none (extf .f32 h bitsLt_bf16_f32)
    (extf .f32 w bitsLt_bf16_f32)

/-- The hidden array, from the two branches. -/
def gated (a b : FVec F S512x5632 .f32) : FVec F S512x5632 .f32 :=
  mulf (mulf a (Host.divf (broadcastInDim S512x5632 ![] bcast_S_S512x5632 (constant S_ .f32 0x3F800000#32))
    (addf (broadcastInDim S512x5632 ![] bcast_S_S512x5632 (constant S_ .f32 0x3F800000#32))
      (Host.exp (Host.negf a))))) b

/-- The input with the layer's output added. -/
def residual (p : FVec F S512x5632 .f32) (wd : Vec F S5632x2048 .bf16) (x : Vec F S512x2048 .f32)
    (gt : Vec F S1x512x2048 .f32) : FVec F S512x2048 .f32 :=
  addf x (mulf (shapeCast _ gt shapeCasts_S1x512x2048_S512x2048)
    (Host.dotGeneral dot_S512x5632_S5632x2048_S512x2048_1_0_0_1_n_n none p (extf .f32 wd bitsLt_bf16_f32)))

/-- The rows normalised. -/
def final (x : FVec F S512x2048 .f32) (g : Vec F S2048 .f32) : FVec F S512x2048 .f32 :=
  mulf (mulf x (broadcastInDim S512x2048 ![0, 1] bcast_S512x1_S512x2048_0_1
    (Host.rsqrt (addf (Host.divf (broadcastInDim S512x1 ![0] bcast_S512_S512x1_0
      (Host.reduceAdd (mulf x x) (constant S_ .f32 0x00000000#32) reducesTo_S512x2048_S512_d1 h_S_))
      (broadcastInDim S512x1 ![] bcast_S_S512x1 (constant S_ .f32 0x45000000#32)))
      (broadcastInDim S512x1 ![] bcast_S_S512x1 (constant S_ .f32 0x358637BD#32))))))
    (broadcastInDim S512x2048 ![0, 1] bcast_S1x2048_S512x2048_0_1
      (broadcastInDim S1x2048 ![1] bcast_S2048_S1x2048_1 g))

/-! ### Read at an index -/

theorem branch_apply (h : Vec Ideal S512x2048 .bf16) (w : Vec Ideal S2048x5632 .bf16) (i : Fin 512) (f : Fin 5632) :
    branch h w (ix2 i f) = ∑ k : Fin 2048, h (ix2 i k) * w (ix2 k f) := by
  unfold branch
  pointwise

theorem gated_apply (a b : FVec Ideal S512x5632 .f32) (j : S512x5632.Idx) :
    gated a b j = silu (a j) * b j := by
  unfold gated silu Ideal.logistic
  pointwise

theorem residual_apply (q : FVec Ideal S512x5632 .f32) (wd : Vec Ideal S5632x2048 .bf16) (x : Vec Ideal S512x2048 .f32)
    (gt : Vec Ideal S1x512x2048 .f32) (i : Fin 512) (k : Fin 2048) :
    residual q wd x gt (ix2 i k)
      = x (ix2 i k) + gt (ix3 0 i k) * ∑ f : Fin 5632, q (ix2 i f) * wd (ix2 f k) := by
  unfold residual
  pointwise

theorem final_apply (x : FVec Ideal S512x2048 .f32) (g : Vec Ideal S2048 .f32) (i : Fin 512) (k : Fin 2048) :
    final x g (ix2 i k) = normalised (fun k => x (ix2 i k)) (fun k => g (ix1 k)) k := by
  unfold final normalised columns eps
  pointwise

/-- The stages give the layer's rows. -/
theorem stages_eq (h : Vec Ideal S512x2048 .bf16) (wg wu : Vec Ideal S2048x5632 .bf16) (wd : Vec Ideal S5632x2048 .bf16)
    (x : Vec Ideal S512x2048 .f32) (gt : Vec Ideal S1x512x2048 .f32) (g : Vec Ideal S2048 .f32) :
    final (residual (gated (branch h wg) (branch h wu)) wd x gt) g
      = fun y : S512x2048.Idx => Cert.FfnS.layer h wg wu wd x gt g (y 0) (y 1) := by
  funext y
  obtain ⟨i, hi⟩ : ∃ i : Fin 512, y 0 = i := ⟨y 0, rfl⟩
  obtain ⟨k, hk⟩ : ∃ k : Fin 2048, y 1 = k := ⟨y 1, rfl⟩
  have e : y = ix2 i k := by
    refine funext fun a => ?_
    fin_cases a
    · exact hi
    · exact hk
  show _ = Cert.FfnS.layer h wg wu wd x gt g (y 0) (y 1)
  rw [hi, hk]
  refine (congrArg (final (residual (gated (branch h wg) (branch h wu)) wd x gt) g) e).trans ?_
  rw [final_apply]
  unfold Cert.FfnS.layer Cert.Ffn.down Cert.Ffn.hidden
  simp only [residual_apply, gated_apply, branch_apply]

end Cert.FfnS.Ref

end
-- ==== Proof.MixS.Kernel.lean ====
/-
The output projection's two results for the sample group: the input with the two mixers' projected rows added, and its modulated norm. The
kernel multiplies each mixer's rows by its own half of the weights.
-/
module

public import proofs.«01_k».proof.Proof.Mix.Kernel
public import proofs.«01_k».proof.Proof.Gen.Kernel7Ideal.Value
public import Idealize.ShloMosaic.Lib.Pointwise
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.MixS

open Cert.Kernel7Ideal Cert.Kernel7Ideal.Gen Idealize.ShloMosaic Idealize.ShloMosaic.TcCoe Cert.Ffn Cert.Mix

variable (m : (ℓ : Loc nD τ sig) → Buf (Elt Ideal) ℓ) (c : Dev nD)

/-! ### The body's arithmetic at an index -/

theorem sum_apply (a : Vec Ideal S512x1024 .bf16) (wa : Vec Ideal S1024x2048 .bf16) (b : Vec Ideal S512x1024 .bf16)
    (wb : Vec Ideal S1024x2048 .bf16) (x : Vec Ideal S512x2048 .f32) (gt : Vec Ideal S1x512x2048 .f32) (r : Fin 512)
    (k : Fin 2048) :
    k0_pay2 a wa b wb x gt (ix2 r k)
      = x (ix2 r k) + gt (ix3 0 r k)
          * (∑ e : Fin 1024, a (ix2 r e) * wa (ix2 e k) + ∑ e : Fin 1024, b (ix2 r e) * wb (ix2 e k)) := by
  unfold k0_pay2
  pointwise

theorem norm_apply (a : Vec Ideal S512x1024 .bf16) (wa : Vec Ideal S1024x2048 .bf16) (b : Vec Ideal S512x1024 .bf16)
    (wb : Vec Ideal S1024x2048 .bf16) (x : Vec Ideal S512x2048 .f32) (gt : Vec Ideal S1x512x2048 .f32)
    (g : Vec Ideal S1x2048 .f32) (s : Vec Ideal S1x512x2048 .f32) (r : Fin 512) (k : Fin 2048) :
    k0_pay3 a wa b wb x gt g s (ix2 r k)
      = normalised (fun k => k0_pay2 a wa b wb x gt (ix2 r k)) (fun k => g (ix2 0 k)) k * (one + s (ix3 0 r k)) := by
  unfold k0_pay3 normalised columns eps one
  pointwise

theorem shift_apply (y : FVec Ideal S512x2048 .f32) (sh : Vec Ideal S1x512x2048 .f32) (r : Fin 512) (k : Fin 2048) :
    k0_pay1 y sh (ix2 r k) = y (ix2 r k) + sh (ix3 0 r k) := by
  unfold k0_pay1
  pointwise

/-! The two halves of the weights, as the body reads them. -/

theorem upper_apply (w : Vec Ideal S2048x2048 .bf16) (e : Fin 1024) (k : Fin 2048) :
    View.ld w r0_1 (ix2 e k) = w (ix2 ⟨e.val, by omega⟩ k) := by
  unfold r0_1
  pointwise

theorem lower_apply (w : Vec Ideal S2048x2048 .bf16) (e : Fin 1024) (k : Fin 2048) :
    View.ld w r0_2 (ix2 e k) = w (ix2 ⟨1024 + e.val, by omega⟩ k) := by
  unfold r0_2
  pointwise

/-! ### The blocks a point reads -/

/-- Where each window's block stands at a grid point. -/
theorem index_at : ∀ t : Fin cfg0.N,
    (cfg0.win 0).index t = ![t.val, 0]
    ∧ (cfg0.win 1).index t = ![t.val, 0]
    ∧ (cfg0.win 2).index t = ![0, 0]
    ∧ (cfg0.win 3).index t = ![t.val, 0]
    ∧ (cfg0.win 4).index t = ![0, 0, 0]
    ∧ (cfg0.win 5).index t = ![0, 0, 0]
    ∧ (cfg0.win 6).index t = ![0, 0, 0]
    ∧ (cfg0.win 7).index t = ![0, 0]
    ∧ (cfg0.win 8).index t = ![t.val, 0]
    ∧ (cfg0.win 9).index t = ![t.val, 0] := by
  decide +kernel

/-- There is one grid point. -/
theorem point_zero (t : Fin cfg0.N) : t.val = 0 := by
  have h : t.val < 1 := lt_of_lt_of_eq t.isLt N_0
  omega

theorem read_a (t : Fin cfg0.N) (r : Fin 512) (k : Fin 1024) :
    iblk m c 0 t (ix2 r k) = m ((c : Thread nD τ).loc main_arg0) (ix2 r k) := by
  blk_ext [iblk, V, (index_at t).1, point_zero t]

theorem read_b (t : Fin cfg0.N) (r : Fin 512) (k : Fin 1024) :
    iblk m c 1 t (ix2 r k) = m ((c : Thread nD τ).loc main_arg1) (ix2 r k) := by
  blk_ext [iblk, V, (index_at t).2.1, point_zero t]

theorem read_w (t : Fin cfg0.N) (e : Fin 2048) (k : Fin 2048) :
    iblk m c 2 t (ix2 e k) = m ((c : Thread nD τ).loc main_arg2) (ix2 e k) := by
  blk_ext [iblk, V, (index_at t).2.2.1]

theorem read_upper (t : Fin cfg0.N) (e : Fin 1024) (k : Fin 2048) :
    View.ld (iblk m c 2 t) r0_1 (ix2 e k) = m ((c : Thread nD τ).loc main_arg2) (ix2 ⟨e.val, by omega⟩ k) :=
  (upper_apply _ e k).trans (read_w m c t _ k)

theorem read_lower (t : Fin cfg0.N) (e : Fin 1024) (k : Fin 2048) :
    View.ld (iblk m c 2 t) r0_2 (ix2 e k) = m ((c : Thread nD τ).loc main_arg2) (ix2 ⟨1024 + e.val, by omega⟩ k) :=
  (lower_apply _ e k).trans (read_w m c t _ k)

theorem read_x (t : Fin cfg0.N) (r : Fin 512) (k : Fin 2048) :
    iblk m c 3 t (ix2 r k) = m ((c : Thread nD τ).loc main_arg3) (ix2 r k) := by
  blk_ext [iblk, V, (index_at t).2.2.2.1, point_zero t]

theorem read_gain (t : Fin cfg0.N) (r : Fin 512) (k : Fin 2048) :
    iblk m c 4 t (ix3 0 r k) = m ((c : Thread nD τ).loc main_arg4) (ix3 0 r k) := by
  blk_ext [iblk, V, (index_at t).2.2.2.2.1]

theorem read_scale (t : Fin cfg0.N) (r : Fin 512) (k : Fin 2048) :
    iblk m c 5 t (ix3 0 r k) = m ((c : Thread nD τ).loc main_arg5) (ix3 0 r k) := by
  blk_ext [iblk, V, (index_at t).2.2.2.2.2.1]

theorem read_shift (t : Fin cfg0.N) (r : Fin 512) (k : Fin 2048) :
    iblk m c 6 t (ix3 0 r k) = m ((c : Thread nD τ).loc main_arg6) (ix3 0 r k) := by
  blk_ext [iblk, V, (index_at t).2.2.2.2.2.2.1]

theorem entry_norm (k : Fin 2048) : V m c main_v0 (ix2 0 k) = m ((c : Thread nD τ).loc main_arg7) (ix1 k) := by
  entry_read
  pointwise

theorem read_norm (t : Fin cfg0.N) (k : Fin 2048) :
    iblk m c 7 t (ix2 0 k) = m ((c : Thread nD τ).loc main_arg7) (ix1 k) := by
  refine Eq.trans ?_ (entry_norm m c k)
  blk_ext [iblk, (index_at t).2.2.2.2.2.2.2.1]

/-! ### The results -/

/-- Row `row`, column `k` of the first result, from the arguments. -/
def mixed (a b : Vec Ideal S512x1024 .bf16) (w : Vec Ideal S2048x2048 .bf16) (x : Vec Ideal S512x2048 .f32)
    (gt : Vec Ideal S1x512x2048 .f32) (row : Fin 512) (k : Fin 2048) : EReal :=
  x (ix2 row k) + gt (ix3 0 row k)
    * project (fun e => a (ix2 row e)) (fun e => b (ix2 row e)) (fun e k => w (ix2 e k)) k

/-- Row `row`, column `k` of the second result: the norm of the first, scaled and shifted. -/
def modulated (x : Fin 512 → Fin 2048 → EReal) (sc sh : Vec Ideal S1x512x2048 .f32) (g : Vec Ideal S2048 .f32)
    (row : Fin 512) (k : Fin 2048) : EReal :=
  normalised (x row) (fun k => g (ix1 k)) k * (one + sc (ix3 0 row k)) + sh (ix3 0 row k)

theorem point_sum (t : Fin cfg0.N) (r : Fin 512) (k : Fin 2048) :
    k0_pay2 (iblk m c 0 t) (View.ld (iblk m c 2 t) r0_1) (iblk m c 1 t) (View.ld (iblk m c 2 t) r0_2) (iblk m c 3 t)
        (iblk m c 4 t) (ix2 r k)
      = mixed (m ((c : Thread nD τ).loc main_arg0)) (m ((c : Thread nD τ).loc main_arg1))
          (m ((c : Thread nD τ).loc main_arg2)) (m ((c : Thread nD τ).loc main_arg3))
          (m ((c : Thread nD τ).loc main_arg4)) r k := by
  rw [sum_apply]
  unfold mixed project
  simp only [read_upper, read_lower, read_a, read_b, read_x, read_gain m c t r]

theorem point_norm (t : Fin cfg0.N) (r : Fin 512) (k : Fin 2048) :
    k0_pay1 (k0_pay3 (iblk m c 0 t) (View.ld (iblk m c 2 t) r0_1) (iblk m c 1 t) (View.ld (iblk m c 2 t) r0_2)
        (iblk m c 3 t) (iblk m c 4 t) (iblk m c 7 t) (iblk m c 5 t)) (iblk m c 6 t) (ix2 r k)
      = modulated (mixed (m ((c : Thread nD τ).loc main_arg0)) (m ((c : Thread nD τ).loc main_arg1))
          (m ((c : Thread nD τ).loc main_arg2)) (m ((c : Thread nD τ).loc main_arg3))
          (m ((c : Thread nD τ).loc main_arg4))) (m ((c : Thread nD τ).loc main_arg5))
          (m ((c : Thread nD τ).loc main_arg6)) (m ((c : Thread nD τ).loc main_arg7)) r k := by
  rw [shift_apply, norm_apply]
  unfold modulated
  simp only [point_sum, read_norm, read_scale m c t r, read_shift m c t r]

theorem first_eq :
    (dats m 0 c).arrAt 8 cfg0.N = fun y : S512x2048.Idx =>
      mixed (m ((c : Thread nD τ).loc main_arg0)) (m ((c : Thread nD τ).loc main_arg1))
          (m ((c : Thread nD τ).loc main_arg2)) (m ((c : Thread nD τ).loc main_arg3))
          (m ((c : Thread nD τ).loc main_arg4)) (y 0) (y 1) := by
  refine (dats m 0 c).arrAt_eq_of_covers 8 _ (by decide +kernel) fun t hf y => ?_
  blk_simp
  rw [after0_8]
  frame_out
  obtain ⟨r, k, e, h0, h1⟩ := index_eq y
  have e0 : ((win0_8.blk t).view.emb y) 0 = r := by
    refine Fin.ext ?_
    blk_simp [(index_at t).2.2.2.2.2.2.2.2.1]
    exact h0
  have e1 : ((win0_8.blk t).view.emb y) 1 = k := by
    refine Fin.ext ?_
    blk_simp [(index_at t).2.2.2.2.2.2.2.2.1]
    exact h1
  rw [e0, e1]
  refine (congrArg _ e).trans ?_
  exact point_sum m c t r k

theorem second_eq :
    (dats m 0 c).arrAt 9 cfg0.N = fun y : S512x2048.Idx =>
      modulated (mixed (m ((c : Thread nD τ).loc main_arg0)) (m ((c : Thread nD τ).loc main_arg1))
          (m ((c : Thread nD τ).loc main_arg2)) (m ((c : Thread nD τ).loc main_arg3))
          (m ((c : Thread nD τ).loc main_arg4))) (m ((c : Thread nD τ).loc main_arg5))
          (m ((c : Thread nD τ).loc main_arg6)) (m ((c : Thread nD τ).loc main_arg7)) (y 0) (y 1) := by
  refine (dats m 0 c).arrAt_eq_of_covers 9 _ (by decide +kernel) fun t hf y => ?_
  blk_simp
  rw [after0_9]
  frame_out
  obtain ⟨r, k, e, h0, h1⟩ := index_eq y
  have e0 : ((win0_9.blk t).view.emb y) 0 = r := by
    refine Fin.ext ?_
    blk_simp [(index_at t).2.2.2.2.2.2.2.2.2]
    exact h0
  have e1 : ((win0_9.blk t).view.emb y) 1 = k := by
    refine Fin.ext ?_
    blk_simp [(index_at t).2.2.2.2.2.2.2.2.2]
    exact h1
  rw [e0, e1]
  refine (congrArg _ e).trans ?_
  exact point_norm m c t r k

end Cert.MixS

end
-- ==== Proof.MixS.Reference.lean ====
/-
The reference's output projection of the sample group, in stages, each read at an index over the extended reals: `joined` sets the two
mixers' rows side by side and multiplies them by the weights, `residual` adds the input, `modulate` is the modulated norm.
-/
module

public import proofs.«01_k».proof.Proof.MixS.Kernel
public import proofs.«01_k».proof.Proof.Gen.Reference7Ideal.Run
public import Idealize.ShloMosaic.Lib.Pointwise

@[expose] public section

set_option maxRecDepth 16384

noncomputable section

namespace Cert.MixS.Ref

open Cert.Reference7Ideal Cert.Reference7Ideal.Gen Idealize.ShloMosaic Idealize.ShloMosaic.TcCoe Cert.Ffn Cert.Mix

variable {F : FTy → Type} [FloatOps F]

/-- The two mixers' rows side by side, by the weights. -/
def joined (a b : Vec F S512x1024 .bf16) (w : Vec F S2048x2048 .bf16) : FVec F S512x2048 .f32 :=
  Host.dotGeneral dot_S512x2048_S2048x2048_S512x2048_1_0_0_1_n_n none
    (concatenate S512x2048 1 [⟨S512x1024, (extf .f32 a bitsLt_bf16_f32)⟩,
      ⟨S512x1024, (extf .f32 b bitsLt_bf16_f32)⟩] concatenates_S512x1024_S512x1024_S512x2048_d1)
    (extf .f32 w bitsLt_bf16_f32)

/-- The input with the projected rows added. -/
def residual (p : FVec F S512x2048 .f32) (x : Vec F S512x2048 .f32) (gt : Vec F S1x512x2048 .f32) :
    FVec F S512x2048 .f32 :=
  addf x (mulf (shapeCast _ gt shapeCasts_S1x512x2048_S512x2048) p)

/-- The rows normalised, scaled and shifted. -/
def modulate (x : FVec F S512x2048 .f32) (sc sh : Vec F S1x512x2048 .f32) (g : Vec F S2048 .f32) :
    FVec F S512x2048 .bf16 :=
  truncf .bf16 (addf (mulf (mulf (mulf x (broadcastInDim S512x2048 ![0, 1] bcast_S512x1_S512x2048_0_1
    (Host.rsqrt (addf (Host.divf (broadcastInDim S512x1 ![0] bcast_S512_S512x1_0
      (Host.reduceAdd (mulf x x) (constant S_ .f32 0x00000000#32) reducesTo_S512x2048_S512_d1 h_S_))
      (broadcastInDim S512x1 ![] bcast_S_S512x1 (constant S_ .f32 0x45000000#32)))
      (broadcastInDim S512x1 ![] bcast_S_S512x1 (constant S_ .f32 0x358637BD#32))))))
    (broadcastInDim S512x2048 ![0, 1] bcast_S1x2048_S512x2048_0_1
      (broadcastInDim S1x2048 ![1] bcast_S2048_S1x2048_1 g)))
    (addf (broadcastInDim S512x2048 ![] bcast_S_S512x2048 (constant S_ .f32 0x3F800000#32))
      (shapeCast _ sc shapeCasts_S1x512x2048_S512x2048)))
    (shapeCast _ sh shapeCasts_S1x512x2048_S512x2048)) bitsLt_bf16_f32

/-! ### Read at an index -/

theorem joined_apply (a b : Vec Ideal S512x1024 .bf16) (w : Vec Ideal S2048x2048 .bf16) (i : Fin 512) (k : Fin 2048) :
    joined a b w (ix2 i k)
      = project (fun e => a (ix2 i e)) (fun e => b (ix2 i e)) (fun e k => w (ix2 e k)) k := by
  unfold joined project
  pointwise

theorem residual_apply (q : FVec Ideal S512x2048 .f32) (x : Vec Ideal S512x2048 .f32) (gt : Vec Ideal S1x512x2048 .f32)
    (i : Fin 512) (k : Fin 2048) :
    residual q x gt (ix2 i k) = x (ix2 i k) + gt (ix3 0 i k) * q (ix2 i k) := by
  unfold residual
  pointwise

theorem modulate_apply (x : FVec Ideal S512x2048 .f32) (sc sh : Vec Ideal S1x512x2048 .f32) (g : Vec Ideal S2048 .f32)
    (i : Fin 512) (k : Fin 2048) :
    modulate x sc sh g (ix2 i k)
      = normalised (fun k => x (ix2 i k)) (fun k => g (ix1 k)) k * (one + sc (ix3 0 i k)) + sh (ix3 0 i k) := by
  unfold modulate normalised columns eps one
  pointwise

/-- The stages give the two results. -/
theorem first_eq (a b : Vec Ideal S512x1024 .bf16) (w : Vec Ideal S2048x2048 .bf16) (x : Vec Ideal S512x2048 .f32)
    (gt : Vec Ideal S1x512x2048 .f32) :
    residual (joined a b w) x gt = fun y : S512x2048.Idx => MixS.mixed a b w x gt (y 0) (y 1) := by
  funext y
  obtain ⟨i, k, e, -, -⟩ := Mix.index_eq y
  subst e
  show _ = MixS.mixed a b w x gt i k
  rw [residual_apply, joined_apply]
  rfl

theorem second_eq (a b : Vec Ideal S512x1024 .bf16) (w : Vec Ideal S2048x2048 .bf16) (x : Vec Ideal S512x2048 .f32)
    (gt sc sh : Vec Ideal S1x512x2048 .f32) (g : Vec Ideal S2048 .f32) :
    modulate (residual (joined a b w) x gt) sc sh g
      = fun y : S512x2048.Idx => MixS.modulated (MixS.mixed a b w x gt) sc sh g (y 0) (y 1) := by
  funext y
  obtain ⟨i, k, e, -, -⟩ := Mix.index_eq y
  subst e
  show _ = MixS.modulated (MixS.mixed a b w x gt) sc sh g i k
  rw [modulate_apply]
  unfold MixS.modulated MixS.mixed
  simp only [residual_apply, joined_apply]

end Cert.MixS.Ref

end
-- ==== Proof.Mod.Kernel.lean ====
/-
The modulation rows: the conditioning rows' gated entries by the weights, with the bias added, a tile of 512 columns at
a grid point.
-/
module

public import proofs.«01_k».proof.Proof.Ffn.Spec
public import proofs.«01_k».proof.Proof.Gen.Kernel8Ideal.Value
public import Idealize.ShloMosaic.Lib.Pointwise
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.Modulation

open Cert.Kernel8Ideal Cert.Kernel8Ideal.Gen Idealize.ShloMosaic Idealize.ShloMosaic.TcCoe Cert.Ffn

variable (m : (ℓ : Loc nD τ sig) → Buf (Elt Ideal) ℓ) (c : Dev nD)

/-- Column `k` of the modulation row of sequence `r`, from the conditioning rows, the weights and the bias. -/
def modulation (x : Vec Ideal S136x2048 .f32) (w : Vec Ideal S2048x12288 .f32) (b : Vec Ideal S12288 .f32) (r : Fin 136)
    (k : Fin 12288) : EReal :=
  ∑ e : Fin 2048, silu (x (ix2 r e)) * w (ix2 e k) + b (ix1 k)

/-- The body's arithmetic at an index. -/
theorem tile_apply (x : Vec Ideal S136x2048 .f32) (w : Vec Ideal S2048x512 .f32) (b : Vec Ideal S1x512 .f32)
    (r : Fin 136) (k : Fin 512) :
    k0_pay1 x w b (ix2 r k) = ∑ e : Fin 2048, silu (x (ix2 r e)) * w (ix2 e k) + b (ix2 0 k) := by
  unfold k0_pay1 silu
  pointwise

/-- Where each window's block stands at a grid point. -/
theorem index_at : ∀ t : Fin cfg0.N,
    (cfg0.win 0).index t = ![0, 0]
    ∧ (cfg0.win 1).index t = ![0, t.val]
    ∧ (cfg0.win 2).index t = ![0, t.val]
    ∧ (cfg0.win 3).index t = ![0, t.val] := by
  decide +kernel

/-- The column of the arrays at which column `k` of a point's block stands. -/
def colAt (t : Fin cfg0.N) (k : Fin 512) : Fin 12288 :=
  ⟨512 * t.val + k.val, by
    have h : t.val < 24 := lt_of_lt_of_eq t.isLt N_0
    omega⟩

theorem read_x (t : Fin cfg0.N) (r : Fin 136) (e : Fin 2048) :
    iblk m c 0 t (ix2 r e) = m ((c : Thread nD τ).loc main_arg0) (ix2 r e) := by
  blk_ext [iblk, V, (index_at t).1]

theorem read_w (t : Fin cfg0.N) (e : Fin 2048) (k : Fin 512) :
    iblk m c 1 t (ix2 e k) = m ((c : Thread nD τ).loc main_arg1) (ix2 e (colAt t k)) := by
  blk_ext [iblk, V, (index_at t).2.1, colAt]

theorem entry_bias (k : Fin 12288) : V m c main_v0 (ix2 0 k) = m ((c : Thread nD τ).loc main_arg2) (ix1 k) := by
  entry_read
  pointwise

theorem read_bias (t : Fin cfg0.N) (k : Fin 512) :
    iblk m c 2 t (ix2 0 k) = m ((c : Thread nD τ).loc main_arg2) (ix1 (colAt t k)) := by
  refine Eq.trans ?_ (entry_bias m c (colAt t k))
  blk_ext [iblk, (index_at t).2.2.1, colAt]

theorem point_tile (t : Fin cfg0.N) (r : Fin 136) (k : Fin 512) :
    k0_pay1 (iblk m c 0 t) (iblk m c 1 t) (iblk m c 2 t) (ix2 r k)
      = modulation (m ((c : Thread nD τ).loc main_arg0)) (m ((c : Thread nD τ).loc main_arg1))
          (m ((c : Thread nD τ).loc main_arg2)) r (colAt t k) := by
  rw [tile_apply]
  unfold modulation
  simp only [read_x, read_w, read_bias]

/-- A block's index, from its two coordinates. -/
theorem index_eq (y : S136x512.Idx) : ∃ (r : Fin 136) (k : Fin 512), y = ix2 r k ∧ (y 0).val = r.val ∧ (y 1).val = k.val :=
  ⟨y 0, y 1, by refine funext fun a => ?_; fin_cases a <;> rfl, rfl, rfl⟩

theorem array_eq :
    (dats m 0 c).arrAt 3 cfg0.N = fun y : S136x12288.Idx =>
      modulation (m ((c : Thread nD τ).loc main_arg0)) (m ((c : Thread nD τ).loc main_arg1))
          (m ((c : Thread nD τ).loc main_arg2)) (y 0) (y 1) := by
  refine (dats m 0 c).arrAt_eq_of_covers 3 _ (by decide +kernel) fun t hf y => ?_
  blk_simp
  rw [after0_3]
  frame_out
  obtain ⟨r, k, e, h0, h1⟩ := index_eq y
  have e0 : ((win0_3.blk t).view.emb y) 0 = r := by
    refine Fin.ext ?_
    blk_simp [(index_at t).2.2.2]
    exact h0
  have e1 : ((win0_3.blk t).view.emb y) 1 = colAt t k := by
    refine Fin.ext ?_
    show (((win0_3.blk t).view.emb y) 1).val = 512 * t.val + k.val
    blk_simp [(index_at t).2.2.2]
    omega
  rw [e0, e1]
  refine (congrArg _ e).trans ?_
  exact point_tile m c t r k

end Cert.Modulation

end
-- ==== Proof.Mod.Reference.lean ====
/-
The reference's modulation rows, read at an index over the extended reals.
-/
module

public import proofs.«01_k».proof.Proof.Mod.Kernel
public import proofs.«01_k».proof.Proof.Gen.Reference8Ideal.Run
public import Idealize.ShloMosaic.Lib.Pointwise

@[expose] public section

set_option maxRecDepth 16384

noncomputable section

namespace Cert.Modulation.Ref

open Cert.Reference8Ideal Cert.Reference8Ideal.Gen Idealize.ShloMosaic Idealize.ShloMosaic.TcCoe Cert.Ffn

variable {F : FTy → Type} [FloatOps F]

/-- The modulation rows of all sequences. -/
def rows (x : Vec F S136x2048 .f32) (w : Vec F S2048x12288 .f32) (b : Vec F S12288 .f32) : FVec F S136x12288 .f32 :=
  addf (Host.dotGeneral dot_S136x2048_S2048x12288_S136x12288_1_0_0_1_n_n none
    (mulf x (Host.divf (broadcastInDim S136x2048 ![] bcast_S_S136x2048 (constant S_ .f32 0x3F800000#32))
      (addf (broadcastInDim S136x2048 ![] bcast_S_S136x2048 (constant S_ .f32 0x3F800000#32))
        (Host.exp (Host.negf x))))) w)
    (broadcastInDim S136x12288 ![0, 1] bcast_S1x12288_S136x12288_0_1
      (broadcastInDim S1x12288 ![1] bcast_S12288_S1x12288_1 b))

theorem rows_apply (x : Vec Ideal S136x2048 .f32) (w : Vec Ideal S2048x12288 .f32) (b : Vec Ideal S12288 .f32)
    (r : Fin 136) (k : Fin 12288) : rows x w b (ix2 r k) = modulation x w b r k := by
  unfold rows modulation silu Ideal.logistic
  pointwise

theorem rows_eq (x : Vec Ideal S136x2048 .f32) (w : Vec Ideal S2048x12288 .f32) (b : Vec Ideal S12288 .f32) :
    rows x w b = fun y : S136x12288.Idx => modulation x w b (y 0) (y 1) := by
  funext y
  have e : y = ix2 (y 0) (y 1) := by
    refine funext fun a => ?_
    fin_cases a <;> rfl
  exact (congrArg (rows x w b) e).trans (rows_apply x w b (y 0) (y 1))

end Cert.Modulation.Ref

end
-- ==== Proof.Compress.Kernel.lean ====
/-
The prompt's blocks compressed: the rows of a block side by side through two matrices with a smooth gate between them,
for the keys and for the values.
-/
module

public import proofs.«01_k».proof.Proof.Gen.Kernel9Ideal.Value
public import Idealize.ShloMosaic.Lib.Pointwise
public import Idealize.ShloMosaic.Lib.Pipeline.Value
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Compress

open Cert.Kernel9Ideal Cert.Kernel9Ideal.Gen Idealize.ShloMosaic Idealize.ShloMosaic.TcCoe

variable (m : (ℓ : Loc nD τ sig) → Buf (Elt Ideal) ℓ) (c : Dev nD)

/-- The smooth gate, by its hyperbolic tangent. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * x * x)))))

/-- Column `k` of block `r` compressed, from the blocks' rows and the two matrices. -/
def compressed (b : Vec Ideal S256x8192 .bf16) (w : Vec Ideal S8192x128 .f32) (u : Vec Ideal S128x128 .f32) (r : Fin 256)
    (k : Fin 128) : EReal :=
  ∑ j : Fin 128, gelu (∑ e : Fin 8192, b (ix2 r e) * w (ix2 e j)) * u (ix2 j k)

/-! ### The body's arithmetic at an index -/

theorem key_apply (b : Vec Ideal S256x8192 .bf16) (w : Vec Ideal S8192x128 .bf16) (u : Vec Ideal S128x128 .bf16)
    (r : Fin 256) (k : Fin 128) :
    k0_pay2 b w u (ix2 r k) = ∑ j : Fin 128, gelu (∑ e : Fin 8192, b (ix2 r e) * w (ix2 e j)) * u (ix2 j k) := by
  unfold k0_pay2 gelu
  pointwise
  simp only [mul_assoc]

/-- The values' arithmetic is the keys'. -/
theorem value_eq (b : Vec Ideal S256x8192 .bf16) (w : Vec Ideal S8192x128 .bf16) (u : Vec Ideal S128x128 .bf16) :
    k0_pay1 (k0_pay3 b w) (k0_pay4 b w) u = k0_pay2 b w u := rfl

/-! ### The blocks a point reads -/

/-- Every window's block is its whole array. -/
theorem index_at : ∀ t : Fin cfg0.N,
    (cfg0.win 0).index t = ![0, 0]
    ∧ (cfg0.win 1).index t = ![0, 0]
    ∧ (cfg0.win 2).index t = ![0, 0]
    ∧ (cfg0.win 3).index t = ![0, 0]
    ∧ (cfg0.win 4).index t = ![0, 0]
    ∧ (cfg0.win 5).index t = ![0, 0]
    ∧ (cfg0.win 6).index t = ![0, 0]
    ∧ (cfg0.win 7).index t = ![0, 0] := by
  decide +kernel

theorem read_keys (t : Fin cfg0.N) (r : Fin 256) (e : Fin 8192) :
    iblk m c 0 t (ix2 r e) = m ((c : Thread nD τ).loc main_arg0) (ix2 r e) := by
  blk_ext [iblk, V, (index_at t).1]

theorem read_values (t : Fin cfg0.N) (r : Fin 256) (e : Fin 8192) :
    iblk m c 1 t (ix2 r e) = m ((c : Thread nD τ).loc main_arg1) (ix2 r e) := by
  blk_ext [iblk, V, (index_at t).2.1]

theorem entry_first_key (e : Fin 8192) (j : Fin 128) :
    V m c main_v0 (ix2 e j) = m ((c : Thread nD τ).loc main_arg2) (ix2 e j) := by
  entry_read
  pointwise

theorem entry_second_key (j k : Fin 128) :
    V m c main_v1 (ix2 j k) = m ((c : Thread nD τ).loc main_arg3) (ix2 j k) := by
  entry_read
  pointwise

theorem entry_first_value (e : Fin 8192) (j : Fin 128) :
    V m c main_v2 (ix2 e j) = m ((c : Thread nD τ).loc main_arg4) (ix2 e j) := by
  entry_read
  pointwise

theorem entry_second_value (j k : Fin 128) :
    V m c main_v3 (ix2 j k) = m ((c : Thread nD τ).loc main_arg5) (ix2 j k) := by
  entry_read
  pointwise

theorem read_first_key (t : Fin cfg0.N) (e : Fin 8192) (j : Fin 128) :
    iblk m c 2 t (ix2 e j) = m ((c : Thread nD τ).loc main_arg2) (ix2 e j) := by
  refine Eq.trans ?_ (entry_first_key m c e j)
  blk_ext [iblk, (index_at t).2.2.1]

theorem read_second_key (t : Fin cfg0.N) (j k : Fin 128) :
    iblk m c 3 t (ix2 j k) = m ((c : Thread nD τ).loc main_arg3) (ix2 j k) := by
  refine Eq.trans ?_ (entry_second_key m c j k)
  blk_ext [iblk, (index_at t).2.2.2.1]

theorem read_first_value (t : Fin cfg0.N) (e : Fin 8192) (j : Fin 128) :
    iblk m c 4 t (ix2 e j) = m ((c : Thread nD τ).loc main_arg4) (ix2 e j) := by
  refine Eq.trans ?_ (entry_first_value m c e j)
  blk_ext [iblk, (index_at t).2.2.2.2.1]

theorem read_second_value (t : Fin cfg0.N) (j k : Fin 128) :
    iblk m c 5 t (ix2 j k) = m ((c : Thread nD τ).loc main_arg5) (ix2 j k) := by
  refine Eq.trans ?_ (entry_second_value m c j k)
  blk_ext [iblk, (index_at t).2.2.2.2.2.1]

theorem point_key (t : Fin cfg0.N) (r : Fin 256) (k : Fin 128) :
    k0_pay2 (iblk m c 0 t) (iblk m c 2 t) (iblk m c 3 t) (ix2 r k)
      = compressed (m ((c : Thread nD τ).loc main_arg0)) (m ((c : Thread nD τ).loc main_arg2))
          (m ((c : Thread nD τ).loc main_arg3)) r k := by
  rw [key_apply]
  unfold compressed
  simp only [read_keys, read_first_key, read_second_key]

theorem point_value (t : Fin cfg0.N) (r : Fin 256) (k : Fin 128) :
    k0_pay1 (k0_pay3 (iblk m c 1 t) (iblk m c 4 t)) (k0_pay4 (iblk m c 1 t) (iblk m c 4 t)) (iblk m c 5 t) (ix2 r k)
      = compressed (m ((c : Thread nD τ).loc main_arg1)) (m ((c : Thread nD τ).loc main_arg4))
          (m ((c : Thread nD τ).loc main_arg5)) r k := by
  rw [value_eq, key_apply]
  unfold compressed
  simp only [read_values, read_first_value, read_second_value]

/-! ### The results -/

/-- A block's index, from its two coordinates. -/
theorem index_eq (y : S256x128.Idx) :
    ∃ (r : Fin 256) (k : Fin 128), y = ix2 r k ∧ (y 0).val = r.val ∧ (y 1).val = k.val :=
  ⟨y 0, y 1, by refine funext fun a => ?_; fin_cases a <;> rfl, rfl, rfl⟩

theorem keys_eq :
    (dats m 0 c).arrAt 6 cfg0.N = fun y : S256x128.Idx =>
      compressed (m ((c : Thread nD τ).loc main_arg0)) (m ((c : Thread nD τ).loc main_arg2))
          (m ((c : Thread nD τ).loc main_arg3)) (y 0) (y 1) := by
  refine (dats m 0 c).arrAt_eq_of_covers 6 _ (by decide +kernel) fun t hf y => ?_
  blk_simp
  rw [after0_6]
  frame_out
  obtain ⟨r, k, e, h0, h1⟩ := index_eq y
  have e0 : ((win0_6.blk t).view.emb y) 0 = r := by
    refine Fin.ext ?_
    blk_simp [(index_at t).2.2.2.2.2.2.1]
    exact h0
  have e1 : ((win0_6.blk t).view.emb y) 1 = k := by
    refine Fin.ext ?_
    blk_simp [(index_at t).2.2.2.2.2.2.1]
    exact h1
  rw [e0, e1]
  refine (congrArg _ e).trans ?_
  exact point_key m c t r k

theorem values_eq :
    (dats m 0 c).arrAt 7 cfg0.N = fun y : S256x128.Idx =>
      compressed (m ((c : Thread nD τ).loc main_arg1)) (m ((c : Thread nD τ).loc main_arg4))
          (m ((c : Thread nD τ).loc main_arg5)) (y 0) (y 1) := by
  refine (dats m 0 c).arrAt_eq_of_covers 7 _ (by decide +kernel) fun t hf y => ?_
  blk_simp
  rw [after0_7]
  frame_out
  obtain ⟨r, k, e, h0, h1⟩ := index_eq y
  have e0 : ((win0_7.blk t).view.emb y) 0 = r := by
    refine Fin.ext ?_
    blk_simp [(index_at t).2.2.2.2.2.2.2]
    exact h0
  have e1 : ((win0_7.blk t).view.emb y) 1 = k := by
    refine Fin.ext ?_
    blk_simp [(index_at t).2.2.2.2.2.2.2]
    exact h1
  rw [e0, e1]
  refine (congrArg _ e).trans ?_
  exact point_value m c t r k

end Cert.Compress

end
-- ==== Proof.Compress.Reference.lean ====
/-
The reference's compressed blocks, read at an index over the extended reals.
-/
module

public import proofs.«01_k».proof.Proof.Compress.Kernel
public import proofs.«01_k».proof.Proof.Gen.Reference9Ideal.Run
public import Idealize.ShloMosaic.Lib.Pointwise

@[expose] public section

set_option maxRecDepth 16384

noncomputable section

namespace Cert.Compress.Ref

open Cert.Reference9Ideal Cert.Reference9Ideal.Gen Idealize.ShloMosaic Idealize.ShloMosaic.TcCoe

variable {F : FTy → Type} [FloatOps F]

/-- The blocks by the first matrix. -/
def first (b : Vec F S256x8192 .bf16) (w : Vec F S8192x128 .f32) : FVec F S256x128 .f32 :=
  Host.dotGeneral dot_S256x8192_S8192x128_S256x128_1_0_0_1_n_n none (extf .f32 b bitsLt_bf16_f32) w

/-- The smooth gate of every entry. -/
def gated (x : FVec F S256x128 .f32) : FVec F S256x128 .f32 :=
  mulf x (mulf (broadcastInDim S256x128 ![] bcast_S_S256x128 (constant S_ .f32 0x3F000000#32))
    (addf (broadcastInDim S256x128 ![] bcast_S_S256x128 (constant S_ .f32 0x3F800000#32))
      (Host.tanh (mulf (broadcastInDim S256x128 ![] bcast_S_S256x128 (constant S_ .f32 0x3F4C422A#32))
        (addf x (mulf (broadcastInDim S256x128 ![] bcast_S_S256x128 (constant S_ .f32 0x3D372713#32))
          (mulf (mulf x x) x)))))))

/-- The gated entries by the second matrix. -/
def second (x : FVec F S256x128 .f32) (u : Vec F S128x128 .f32) : FVec F S256x128 .f32 :=
  Host.dotGeneral dot_S256x128_S128x128_S256x128_1_0_0_1_n_n none x u

theorem first_apply (b : Vec Ideal S256x8192 .bf16) (w : Vec Ideal S8192x128 .f32) (r : Fin 256) (j : Fin 128) :
    first b w (ix2 r j) = ∑ e : Fin 8192, b (ix2 r e) * w (ix2 e j) := by
  unfold first
  pointwise

theorem gated_apply (x : FVec Ideal S256x128 .f32) (y : S256x128.Idx) : gated x y = gelu (x y) := by
  unfold gated gelu
  pointwise

theorem second_apply (x : FVec Ideal S256x128 .f32) (u : Vec Ideal S128x128 .f32) (r : Fin 256) (k : Fin 128) :
    second x u (ix2 r k) = ∑ j : Fin 128, x (ix2 r j) * u (ix2 j k) := by
  unfold second
  pointwise

theorem stages_eq (b : Vec Ideal S256x8192 .bf16) (w : Vec Ideal S8192x128 .f32) (u : Vec Ideal S128x128 .f32) :
    second (gated (first b w)) u = fun y : S256x128.Idx => compressed b w u (y 0) (y 1) := by
  funext y
  obtain ⟨r, k, e, -, -⟩ := Compress.index_eq y
  subst e
  show _ = compressed b w u r k
  rw [second_apply]
  unfold compressed
  simp only [gated_apply, first_apply]

end Cert.Compress.Ref

end
-- ==== Proof.Head.Queries.lean ====
/-
The sample group's queries contracted with the keys' weights, head by head: a head at a grid point.
-/
module

public import proofs.«01_k».proof.Proof.Gen.Kernel10Ideal.Value
public import Idealize.ShloMosaic.Lib.Pointwise
public import Idealize.ShloMosaic.Lib.Pipeline.Value
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.HeadQ

open Cert.Kernel10Ideal Cert.Kernel10Ideal.Gen Idealize.ShloMosaic Idealize.ShloMosaic.TcCoe

variable (m : (ℓ : Loc nD τ sig) → Buf (Elt Ideal) ℓ) (c : Dev nD)

/-- The head to which a column of the result belongs. -/
def headOf (k : Fin 4096) : Fin 8 := ⟨k.val / 512, by omega⟩

/-- The latent column of a column of the result. -/
def latentOf (k : Fin 4096) : Fin 512 := ⟨k.val % 512, by omega⟩

/-- Column `d` of head `a` among the queries' columns. -/
def columnOf (a : Fin 8) (d : Fin 128) : Fin 1024 := ⟨a.val * 128 + d.val, by omega⟩

/-- Column `k` of the result for row `r`, from the queries and the weights. -/
def absorbed (q : Vec Ideal S512x1024 .bf16) (w : Vec Ideal S512x8x128 .f32) (r : Fin 512) (k : Fin 4096) : EReal :=
  ∑ d : Fin 128, q (ix2 r (columnOf (headOf k) d)) * w (ix3 (latentOf k) (headOf k) d)

/-- The body's arithmetic at an index. -/
theorem tile_apply (q : Vec Ideal S512x128 .bf16) (w : Vec Ideal S1x128x512 .bf16) (r k : Fin 512) :
    k0_pay1 q w (ix2 r k) = ∑ d : Fin 128, q (ix2 r d) * w (ix3 0 d k) := by
  unfold k0_pay1
  pointwise

/-- Where each window's block stands at a grid point. -/
theorem index_at : ∀ t : Fin cfg0.N,
    (cfg0.win 0).index t = ![0, t.val]
    ∧ (cfg0.win 1).index t = ![t.val, 0, 0]
    ∧ (cfg0.win 2).index t = ![0, t.val] := by
  decide +kernel

/-- The head of a point. -/
def headAt (t : Fin cfg0.N) : Fin 8 := ⟨t.val, lt_of_lt_of_eq t.isLt N_0⟩

/-- The column of the result at which column `k` of a point's block stands. -/
def colAt (t : Fin cfg0.N) (k : Fin 512) : Fin 4096 :=
  ⟨512 * t.val + k.val, by
    have h : t.val < 8 := lt_of_lt_of_eq t.isLt N_0
    omega⟩

theorem head_at (t : Fin cfg0.N) (k : Fin 512) : headOf (colAt t k) = headAt t := by
  refine Fin.ext ?_
  show (512 * t.val + k.val) / 512 = t.val
  omega

theorem latent_at (t : Fin cfg0.N) (k : Fin 512) : latentOf (colAt t k) = k := by
  refine Fin.ext ?_
  show (512 * t.val + k.val) % 512 = k.val
  omega

theorem read_q (t : Fin cfg0.N) (r : Fin 512) (d : Fin 128) :
    iblk m c 0 t (ix2 r d) = m ((c : Thread nD τ).loc main_arg0) (ix2 r (columnOf (headAt t) d)) := by
  blk_ext [iblk, V, (index_at t).1, columnOf, headAt]

theorem entry_w (a : Fin 8) (d : Fin 128) (k : Fin 512) :
    V m c main_v1 (ix3 a d k) = m ((c : Thread nD τ).loc main_arg1) (ix3 k a d) := by
  entry_read
  pointwise

theorem read_w (t : Fin cfg0.N) (d : Fin 128) (k : Fin 512) :
    iblk m c 1 t (ix3 0 d k) = m ((c : Thread nD τ).loc main_arg1) (ix3 k (headAt t) d) := by
  refine Eq.trans ?_ (entry_w m c (headAt t) d k)
  blk_ext [iblk, (index_at t).2.1, headAt]

theorem point_tile (t : Fin cfg0.N) (r k : Fin 512) :
    k0_pay1 (iblk m c 0 t) (iblk m c 1 t) (ix2 r k)
      = absorbed (m ((c : Thread nD τ).loc main_arg0)) (m ((c : Thread nD τ).loc main_arg1)) r (colAt t k) := by
  rw [tile_apply]
  unfold absorbed
  simp only [read_q, read_w, head_at, latent_at]

/-- A block's index, from its two coordinates. -/
theorem index_eq (y : S512x512.Idx) : ∃ (r k : Fin 512), y = ix2 r k ∧ (y 0).val = r.val ∧ (y 1).val = k.val :=
  ⟨y 0, y 1, by refine funext fun a => ?_; fin_cases a <;> rfl, rfl, rfl⟩

theorem array_eq :
    (dats m 0 c).arrAt 2 cfg0.N = fun y : S512x4096.Idx =>
      absorbed (m ((c : Thread nD τ).loc main_arg0)) (m ((c : Thread nD τ).loc main_arg1)) (y 0) (y 1) := by
  refine (dats m 0 c).arrAt_eq_of_covers 2 _ (by decide +kernel) fun t hf y => ?_
  blk_simp
  rw [after0_2]
  frame_out
  obtain ⟨r, k, e, h0, h1⟩ := index_eq y
  have e0 : ((win0_2.blk t).view.emb y) 0 = r := by
    refine Fin.ext ?_
    blk_simp [(index_at t).2.2]
    exact h0
  have e1 : ((win0_2.blk t).view.emb y) 1 = colAt t k := by
    refine Fin.ext ?_
    show (((win0_2.blk t).view.emb y) 1).val = 512 * t.val + k.val
    blk_simp [(index_at t).2.2]
    omega
  rw [e0, e1]
  refine (congrArg _ e).trans ?_
  exact point_tile m c t r k

end Cert.HeadQ

end
-- ==== Proof.Head.Sums.lean ====
/-
The sample group's weighted sums by the values' weights, head by head: a head at a grid point.
-/
module

public import proofs.«01_k».proof.Proof.Gen.Kernel11Ideal.Value
public import Idealize.ShloMosaic.Lib.Pointwise
public import Idealize.ShloMosaic.Lib.Pipeline.Value
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.HeadO

open Cert.Kernel11Ideal Cert.Kernel11Ideal.Gen Idealize.ShloMosaic Idealize.ShloMosaic.TcCoe

variable (m : (ℓ : Loc nD τ sig) → Buf (Elt Ideal) ℓ) (c : Dev nD)

/-- The head to which a column of the result belongs. -/
def headOf (k : Fin 1024) : Fin 8 := ⟨k.val / 128, by omega⟩

/-- The column within its head of a column of the result. -/
def valueOf (k : Fin 1024) : Fin 128 := ⟨k.val % 128, by omega⟩

/-- Latent column `e` of head `a` among the sums' columns. -/
def columnOf (a : Fin 8) (e : Fin 512) : Fin 4096 := ⟨a.val * 512 + e.val, by omega⟩

/-- Column `k` of the result for row `r`, from the sums and the weights. -/
def expanded (o : Vec Ideal S512x4096 .f32) (w : Vec Ideal S512x8x128 .f32) (r : Fin 512) (k : Fin 1024) : EReal :=
  ∑ e : Fin 512, o (ix2 r (columnOf (headOf k) e)) * w (ix3 e (headOf k) (valueOf k))

/-- The body's arithmetic at an index. -/
theorem tile_apply (o : Vec Ideal S512x512 .f32) (w : Vec Ideal S1x512x128 .bf16) (r : Fin 512) (k : Fin 128) :
    k0_pay1 o w (ix2 r k) = ∑ e : Fin 512, o (ix2 r e) * w (ix3 0 e k) := by
  unfold k0_pay1
  pointwise

/-- Where each window's block stands at a grid point. -/
theorem index_at : ∀ t : Fin cfg0.N,
    (cfg0.win 0).index t = ![0, t.val]
    ∧ (cfg0.win 1).index t = ![t.val, 0, 0]
    ∧ (cfg0.win 2).index t = ![0, t.val] := by
  decide +kernel

/-- The head of a point. -/
def headAt (t : Fin cfg0.N) : Fin 8 := ⟨t.val, lt_of_lt_of_eq t.isLt N_0⟩

/-- The column of the result at which column `k` of a point's block stands. -/
def colAt (t : Fin cfg0.N) (k : Fin 128) : Fin 1024 :=
  ⟨128 * t.val + k.val, by
    have h : t.val < 8 := lt_of_lt_of_eq t.isLt N_0
    omega⟩

theorem head_at (t : Fin cfg0.N) (k : Fin 128) : headOf (colAt t k) = headAt t := by
  refine Fin.ext ?_
  show (128 * t.val + k.val) / 128 = t.val
  omega

theorem value_at (t : Fin cfg0.N) (k : Fin 128) : valueOf (colAt t k) = k := by
  refine Fin.ext ?_
  show (128 * t.val + k.val) % 128 = k.val
  omega

theorem read_o (t : Fin cfg0.N) (r e : Fin 512) :
    iblk m c 0 t (ix2 r e) = m ((c : Thread nD τ).loc main_arg0) (ix2 r (columnOf (headAt t) e)) := by
  blk_ext [iblk, V, (index_at t).1, columnOf, headAt]

theorem entry_w (a : Fin 8) (e : Fin 512) (k : Fin 128) :
    V m c main_v1 (ix3 a e k) = m ((c : Thread nD τ).loc main_arg1) (ix3 e a k) := by
  entry_read
  pointwise

theorem read_w (t : Fin cfg0.N) (e : Fin 512) (k : Fin 128) :
    iblk m c 1 t (ix3 0 e k) = m ((c : Thread nD τ).loc main_arg1) (ix3 e (headAt t) k) := by
  refine Eq.trans ?_ (entry_w m c (headAt t) e k)
  blk_ext [iblk, (index_at t).2.1, headAt]

theorem point_tile (t : Fin cfg0.N) (r : Fin 512) (k : Fin 128) :
    k0_pay1 (iblk m c 0 t) (iblk m c 1 t) (ix2 r k)
      = expanded (m ((c : Thread nD τ).loc main_arg0)) (m ((c : Thread nD τ).loc main_arg1)) r (colAt t k) := by
  rw [tile_apply]
  unfold expanded
  simp only [read_o, read_w, head_at, value_at]

/-- A block's index, from its two coordinates. -/
theorem index_eq (y : S512x128.Idx) :
    ∃ (r : Fin 512) (k : Fin 128), y = ix2 r k ∧ (y 0).val = r.val ∧ (y 1).val = k.val :=
  ⟨y 0, y 1, by refine funext fun a => ?_; fin_cases a <;> rfl, rfl, rfl⟩

theorem array_eq :
    (dats m 0 c).arrAt 2 cfg0.N = fun y : S512x1024.Idx =>
      expanded (m ((c : Thread nD τ).loc main_arg0)) (m ((c : Thread nD τ).loc main_arg1)) (y 0) (y 1) := by
  refine (dats m 0 c).arrAt_eq_of_covers 2 _ (by decide +kernel) fun t hf y => ?_
  blk_simp
  rw [after0_2]
  frame_out
  obtain ⟨r, k, e, h0, h1⟩ := index_eq y
  have e0 : ((win0_2.blk t).view.emb y) 0 = r := by
    refine Fin.ext ?_
    blk_simp [(index_at t).2.2]
    exact h0
  have e1 : ((win0_2.blk t).view.emb y) 1 = colAt t k := by
    refine Fin.ext ?_
    show (((win0_2.blk t).view.emb y) 1).val = 128 * t.val + k.val
    blk_simp [(index_at t).2.2]
    omega
  rw [e0, e1]
  refine (congrArg _ e).trans ?_
  exact point_tile m c t r k

end Cert.HeadO

end
-- ==== Proof.Head.Reference.lean ====
/-
The references of the two products with the heads' weights, read at an index over the extended reals.
-/
module

public import proofs.«01_k».proof.Proof.Head.Queries
public import proofs.«01_k».proof.Proof.Head.Sums
public import proofs.«01_k».proof.Proof.Gen.Reference10Ideal.Run
public import proofs.«01_k».proof.Proof.Gen.Reference11Ideal.Run
public import Idealize.ShloMosaic.Lib.Pointwise

@[expose] public section

set_option maxRecDepth 16384

noncomputable section

open Idealize.ShloMosaic Idealize.ShloMosaic.TcCoe

namespace Cert.HeadQ.Ref

open Cert.Reference10Ideal Cert.Reference10Ideal.Gen

variable {F : FTy → Type} [FloatOps F]

/-- The queries of every head contracted with the weights. -/
def contracted (q : Vec F S512x1024 .bf16) (w : Vec F S512x8x128 .f32) : FVec F S512x4096 .f32 :=
  shapeCast _ (transpose S512x8x512 [2, 0, 1]
    (Host.dotGeneral dot_S512x8x128_S512x8x128_S8x512x512_2_2_0_0_1_1 none w
      (shapeCast _ (extf .f32 q bitsLt_bf16_f32) shapeCasts_S512x1024_S512x8x128))
    transposes_S8x512x512_S512x8x512_2_0_1) shapeCasts_S512x8x512_S512x4096

theorem contracted_apply (q : Vec Ideal S512x1024 .bf16) (w : Vec Ideal S512x8x128 .f32) (r : Fin 512) (k : Fin 4096) :
    contracted q w (ix2 r k) = absorbed q w r k := by
  unfold contracted absorbed
  pointwise
  refine Finset.sum_congr rfl fun d _ => ?_
  rw [mul_comm]
  rfl

theorem contracted_eq (q : Vec Ideal S512x1024 .bf16) (w : Vec Ideal S512x8x128 .f32) :
    contracted q w = fun y : S512x4096.Idx => absorbed q w (y 0) (y 1) := by
  funext y
  have e : y = ix2 (y 0) (y 1) := by
    refine funext fun a => ?_
    fin_cases a <;> rfl
  exact (congrArg (contracted q w) e).trans (contracted_apply q w (y 0) (y 1))

end Cert.HeadQ.Ref

namespace Cert.HeadO.Ref

open Cert.Reference11Ideal Cert.Reference11Ideal.Gen

variable {F : FTy → Type} [FloatOps F]

/-- The sums of every head by the weights. -/
def contracted (o : Vec F S512x4096 .f32) (w : Vec F S512x8x128 .f32) : FVec F S512x1024 .f32 :=
  shapeCast _ (transpose S512x8x128 [2, 0, 1]
    (Host.dotGeneral dot_S512x8x128_S512x8x512_S8x128x512_0_2_2_0_1_1 none w
      (shapeCast _ o shapeCasts_S512x4096_S512x8x512))
    transposes_S8x128x512_S512x8x128_2_0_1) shapeCasts_S512x8x128_S512x1024

theorem contracted_apply (o : Vec Ideal S512x4096 .f32) (w : Vec Ideal S512x8x128 .f32) (r : Fin 512) (k : Fin 1024) :
    contracted o w (ix2 r k) = expanded o w r k := by
  unfold contracted expanded
  pointwise
  refine Finset.sum_congr rfl fun e _ => ?_
  rw [mul_comm]
  rfl

theorem contracted_eq (o : Vec Ideal S512x4096 .f32) (w : Vec Ideal S512x8x128 .f32) :
    contracted o w = fun y : S512x1024.Idx => expanded o w (y 0) (y 1) := by
  funext y
  have e : y = ix2 (y 0) (y 1) := by
    refine funext fun a => ?_
    fin_cases a <;> rfl
  exact (congrArg (contracted o w) e).trans (contracted_apply o w (y 0) (y 1))

end Cert.HeadO.Ref

end
-- ==== Proof.lean ====
/-
The proof of `Cert.Claim`.  The frames are the generated ones; the named constant is minus infinity; the value claims
are the arrays the eleven kernels leave (`Flash.array_eq`, `Ffn.array_eq`, `Mix.first_eq`, `Mix.second_eq`, the eleven of
`In.Whole` and `In.Pieces`, the sample group's in `InS`, `FfnS` and `MixS`, `Modulation.array_eq`, `Compress.keys_eq`,
`Compress.values_eq`, `HeadQ.array_eq` and `HeadO.array_eq`) against their references
(`Flash.Ref.softmax_attention`, `Ffn.Ref.stages_eq`, `Mix.Ref.first_eq`, `Mix.Ref.second_eq`, the eleven of
`In.Reference`, the sample group's likewise, `Modulation.Ref.rows_eq`, `Compress.Ref.stages_eq`,
`HeadQ.Ref.contracted_eq` and `HeadO.Ref.contracted_eq`).
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Kernel3Ideal.Value
public import proofs.«01_k».proof.Proof.Gen.Reference2Ideal.Run
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Flash.Value
public import proofs.«01_k».proof.Proof.Flash.Reference
public import proofs.«01_k».proof.Proof.Ffn.Kernel
public import proofs.«01_k».proof.Proof.Ffn.Reference
public import proofs.«01_k».proof.Proof.Mix.Kernel
public import proofs.«01_k».proof.Proof.Mix.Reference
public import proofs.«01_k».proof.Proof.In.Pieces
public import proofs.«01_k».proof.Proof.In.Pre
public import proofs.«01_k».proof.Proof.In.Reference
public import proofs.«01_k».proof.Proof.InS.Pieces
public import proofs.«01_k».proof.Proof.InS.Pre
public import proofs.«01_k».proof.Proof.InS.Reference
public import proofs.«01_k».proof.Proof.FfnS.Kernel
public import proofs.«01_k».proof.Proof.FfnS.Reference
public import proofs.«01_k».proof.Proof.MixS.Kernel
public import proofs.«01_k».proof.Proof.MixS.Reference
public import proofs.«01_k».proof.Proof.Mod.Kernel
public import proofs.«01_k».proof.Proof.Mod.Reference
public import proofs.«01_k».proof.Proof.Compress.Kernel
public import proofs.«01_k».proof.Proof.Compress.Reference
public import proofs.«01_k».proof.Proof.Head.Queries
public import proofs.«01_k».proof.Proof.Head.Sums
public import proofs.«01_k».proof.Proof.Head.Reference
public import Idealize.ShloMosaic.Adequacy
public import Idealize.ShloMosaic.Init
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run

@[expose] public section

noncomputable section

namespace Cert.Proof

open Idealize.ShloMosaic Idealize.SL.Sem Cert.Kernel

/-- The reference leaves its arguments, and has no semaphore. -/
theorem reference_frame : Cert.quiescent_ReferenceIdeal := fun m ρ _ =>
  (θ_run _ _ _).mono (fun _ h => ⟨fun c => (h c).2, sem_eq_zero_of_no_sems (by decide) _⟩)
    (Cert.ReferenceIdeal.Value.run (F := Ideal) m ρ)

/-- The kernel's result is the reference's. -/
theorem value : Cert.algebraic_KernelIdeal_ReferenceIdeal := fun m g m' g' _ hargs =>
  ⟨fun c => Cert.Flash.attention (m ((c.tc : Thread _ _).loc Cert.KernelIdeal.main_arg0))
      (m ((c.tc : Thread _ _).loc Cert.KernelIdeal.main_arg1)) (m ((c.tc : Thread _ _).loc Cert.KernelIdeal.main_arg2))
      (m ((c.tc : Thread _ _).loc Cert.KernelIdeal.main_arg3)) (m ((c.tc : Thread _ _).loc Cert.KernelIdeal.main_arg4)),
    (θ_run _ _ _).mono (fun _ h c => ⟨(h c).1.trans (Cert.Flash.array_eq m c), (h c).2⟩)
      (Cert.KernelIdeal.Value.run_blocks (F := Ideal) m g),
    (θ_run _ _ _).mono (fun _ h c => ⟨(h c).1.trans (by
        obtain ⟨e0, e1, e2, e3, e4⟩ := hargs c
        refine (Cert.Flash.Ref.res_eq m' c).trans ?_
        rw [e0, e1, e2, e3, e4]
        exact Cert.Flash.Ref.softmax_attention _ _ _ _ _), (h c).2⟩)
      (Cert.ReferenceIdeal.Value.run (F := Ideal) m' g')⟩

/-- The feed-forward reference leaves its arguments, and has no semaphore. -/
theorem reference2_frame : Cert.quiescent_Reference2Ideal := fun m ρ _ =>
  (θ_run _ _ _).mono (fun _ h => ⟨fun c => (h c).2, sem_eq_zero_of_no_sems (by decide) _⟩)
    (Cert.Reference2Ideal.Value.run (F := Ideal) m ρ)

/-- The feed-forward kernel's result is its reference's. -/
theorem value2 : Cert.algebraic_Kernel2Ideal_Reference2Ideal := fun m g m' g' _ hargs =>
  ⟨fun c y => Cert.Ffn.layer (m ((c.tc : Thread _ _).loc Cert.Kernel2Ideal.main_arg0))
      (m ((c.tc : Thread _ _).loc Cert.Kernel2Ideal.main_arg1)) (m ((c.tc : Thread _ _).loc Cert.Kernel2Ideal.main_arg2))
      (m ((c.tc : Thread _ _).loc Cert.Kernel2Ideal.main_arg3)) (m ((c.tc : Thread _ _).loc Cert.Kernel2Ideal.main_arg4))
      (m ((c.tc : Thread _ _).loc Cert.Kernel2Ideal.main_arg5)) (m ((c.tc : Thread _ _).loc Cert.Kernel2Ideal.main_arg6))
      (y 0) (y 1),
    (θ_run _ _ _).mono (fun _ h c => ⟨(h c).1.trans (Cert.Ffn.array_eq m c), (h c).2⟩)
      (Cert.Kernel2Ideal.Value.run_blocks (F := Ideal) m g),
    (θ_run _ _ _).mono (fun _ h c => ⟨(h c).1.trans (by
        obtain ⟨e0, e1, e2, e3, e4, e5, e6⟩ := hargs c
        refine (Cert.Ffn.Ref.res_eq m' c).trans ?_
        rw [e0, e1, e2, e3, e4, e5, e6]
        exact Cert.Ffn.Ref.stages_eq _ _ _ _ _ _ _), (h c).2⟩)
      (Cert.Reference2Ideal.Value.run (F := Ideal) m' g')⟩

/-- The projection's reference leaves its arguments, and has no semaphore. -/
theorem reference3_frame : Cert.quiescent_Reference3Ideal := fun m ρ _ =>
  (θ_run _ _ _).mono (fun _ h => ⟨fun c => (h c).2.2, sem_eq_zero_of_no_sems (by decide) _⟩)
    (Cert.Reference3Ideal.Value.run (F := Ideal) m ρ)

/-- The projection kernel's two results are its reference's. -/
theorem value3 : Cert.algebraic_Kernel3Ideal_Reference3Ideal := fun m g m' g' _ hargs =>
  ⟨fun c y => Cert.Mix.mixed (m ((c.tc : Thread _ _).loc Cert.Kernel3Ideal.main_arg0))
      (m ((c.tc : Thread _ _).loc Cert.Kernel3Ideal.main_arg1)) (m ((c.tc : Thread _ _).loc Cert.Kernel3Ideal.main_arg2))
      (m ((c.tc : Thread _ _).loc Cert.Kernel3Ideal.main_arg3)) (m ((c.tc : Thread _ _).loc Cert.Kernel3Ideal.main_arg4))
      (y 0) (y 1),
    fun c y => Cert.Mix.modulated (Cert.Mix.mixed (m ((c.tc : Thread _ _).loc Cert.Kernel3Ideal.main_arg0))
      (m ((c.tc : Thread _ _).loc Cert.Kernel3Ideal.main_arg1)) (m ((c.tc : Thread _ _).loc Cert.Kernel3Ideal.main_arg2))
      (m ((c.tc : Thread _ _).loc Cert.Kernel3Ideal.main_arg3)) (m ((c.tc : Thread _ _).loc Cert.Kernel3Ideal.main_arg4)))
      (m ((c.tc : Thread _ _).loc Cert.Kernel3Ideal.main_arg5)) (m ((c.tc : Thread _ _).loc Cert.Kernel3Ideal.main_arg6))
      (m ((c.tc : Thread _ _).loc Cert.Kernel3Ideal.main_arg7)) (y 0) (y 1),
    (θ_run _ _ _).mono (fun _ h c => ⟨(h c).1.trans (Cert.Mix.first_eq m c), (h c).2.1.trans (Cert.Mix.second_eq m c),
        (h c).2.2⟩)
      (Cert.Kernel3Ideal.Value.run_blocks (F := Ideal) m g),
    (θ_run _ _ _).mono (fun _ h c => ⟨(h c).1.trans (by
        obtain ⟨e0, e1, e2, e3, e4, -, -, -⟩ := hargs c
        rw [e0, e1, e2, e3, e4]
        exact Cert.Mix.Ref.first_eq _ _ _ _ _), (h c).2.1.trans (by
        obtain ⟨e0, e1, e2, e3, e4, e5, e6, e7⟩ := hargs c
        rw [e0, e1, e2, e3, e4, e5, e6, e7]
        exact Cert.Mix.Ref.second_eq _ _ _ _ _ _ _ _), (h c).2.2⟩)
      (Cert.Reference3Ideal.Value.run (F := Ideal) m' g')⟩

theorem reference4_frame : Cert.quiescent_Reference4Ideal := fun m ρ _ =>
  (θ_run _ _ _).mono (fun _ h => ⟨fun c => (h c).2.2.2.2.2.2.2.2.2.2.2, sem_eq_zero_of_no_sems (by decide) _⟩)
    (Cert.Reference4Ideal.Value.run (F := Ideal) m ρ)

/-- Equal arguments make equal layers. -/
theorem layer_eq {m : (ℓ : Loc Cert.Kernel4Ideal.nD Cert.Kernel4Ideal.τ Cert.Kernel4Ideal.sig) → Buf (Elt Ideal) ℓ}
    {m' : (ℓ : Loc Cert.Reference4Ideal.nD Cert.Reference4Ideal.τ Cert.Reference4Ideal.sig) → Buf (Elt Ideal) ℓ}
    {c : Dev Cert.Kernel4Ideal.nD}
    (h : m' ((c.tc : Thread Cert.Reference4Ideal.nD Cert.Reference4Ideal.τ).loc Cert.Reference4Ideal.main_arg0)
        = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1)
        = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2)
        = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3)
        = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4)
        = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5)
        = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6)
        = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7)
        = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8)
        = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9)
        = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10)
        = m ((c.tc : Thread Cert.Kernel4Ideal.nD Cert.Kernel4Ideal.τ).loc Cert.Kernel4Ideal.main_arg10)) :
    Cert.In.Ref.layer m' c = Cert.In.layer m c := by
  obtain ⟨e0, e1, e2, e3, e4, e5, e6, e7, e8, e9, e10⟩ := h
  unfold Cert.In.Ref.layer Cert.In.layer
  rw [e0, e1, e2, e3, e4, e5, e6, e7, e8, e9, e10]

set_option maxHeartbeats 2000000 in
theorem value4 : Cert.algebraic_Kernel4Ideal_Reference4Ideal_pre_finite (hPre_finite := Cert.In.pre_facts) :=
  fun m g m' g' hpre hargs =>
  have hr := fun c => Cert.In.reals_of_pre hpre c
  have hl := fun c => layer_eq (hargs c)
  ⟨fun c y => (Cert.In.layer m c).sparseQueries (y 0) (y 1), fun c y => (Cert.In.layer m c).sparse (y 0) (y 1),
    fun c y => (Cert.In.layer m c).window (y 0) (y 1), fun c y => (Cert.In.layer m c).gates (y 0) (y 1),
    fun c y => (Cert.In.layer m c).latents (y 0) (y 1), fun c y => (Cert.In.layer m c).plainQueries (y 0) (y 1),
    fun c y => (Cert.In.layer m c).rotaryQueries (y 0) (y 1), fun c y => (Cert.In.layer m c).rotaryKeys (y 0) (y 1),
    fun c y => (Cert.In.layer m c).keys (y 0) (y 1), fun c y => (Cert.In.layer m c).values (y 0) (y 1),
    fun c y => (Cert.In.layer m c).both (y 0) (y 1),
    (θ_run _ _ _).mono (fun _ h c => by
        obtain ⟨h0, h1, h2, h3, h4, h5, h6, h7, h8, h9, h10, hu⟩ := h c
        exact ⟨h0.trans (Cert.In.sparseQueries_eq (hr c)), h1.trans (Cert.In.sparse_eq (hr c)),
          h2.trans (Cert.In.window_eq (hr c)), h3.trans (Cert.In.gates_eq (hr c)), h4.trans (Cert.In.latents_eq (hr c)),
          h5.trans (Cert.In.plainQueries_eq (hr c)), h6.trans (Cert.In.rotaryQueries_eq (hr c)),
          h7.trans (Cert.In.rotaryKeys_eq (hr c)), h8.trans (Cert.In.keys_eq (hr c)),
          h9.trans (Cert.In.values_eq (hr c)), h10.trans (Cert.In.both_eq (hr c)), hu⟩)
      (Cert.Kernel4Ideal.Value.run_blocks (F := Ideal) m g),
    (θ_run _ _ _).mono (fun _ h c => by
        obtain ⟨h0, h1, h2, h3, h4, h5, h6, h7, h8, h9, h10, hu⟩ := h c
        exact ⟨h0.trans ((Cert.In.Ref.sparseQueries_eq (m := m') (c := c)).trans (by rw [hl c]; rfl)), h1.trans ((Cert.In.Ref.sparse_eq (m := m') (c := c)).trans (by rw [hl c]; rfl)),
          h2.trans ((Cert.In.Ref.window_eq (m := m') (c := c)).trans (by rw [hl c]; rfl)), h3.trans ((Cert.In.Ref.gates_eq (m := m') (c := c)).trans (by rw [hl c]; rfl)), h4.trans ((Cert.In.Ref.latents_eq (m := m') (c := c)).trans (by rw [hl c]; rfl)),
          h5.trans ((Cert.In.Ref.plainQueries_eq (m := m') (c := c)).trans (by rw [hl c]; rfl)), h6.trans ((Cert.In.Ref.rotaryQueries_eq (m := m') (c := c)).trans (by rw [hl c]; rfl)),
          h7.trans ((Cert.In.Ref.rotaryKeys_eq (m := m') (c := c)).trans (by rw [hl c]; rfl)), h8.trans ((Cert.In.Ref.keys_eq (m := m') (c := c)).trans (by rw [hl c]; rfl)),
          h9.trans ((Cert.In.Ref.values_eq (m := m') (c := c)).trans (by rw [hl c]; rfl)), h10.trans ((Cert.In.Ref.both_eq (m := m') (c := c)).trans (by rw [hl c]; rfl)), hu⟩)
      (Cert.Reference4Ideal.Value.run (F := Ideal) m' g')⟩

theorem reference5_frame : Cert.quiescent_Reference5Ideal := fun m ρ _ =>
  (θ_run _ _ _).mono (fun _ h => ⟨fun c => (h c).2.2.2.2.2.2.2.2.2.2.2, sem_eq_zero_of_no_sems (by decide) _⟩)
    (Cert.Reference5Ideal.Value.run (F := Ideal) m ρ)

/-- Equal arguments make equal layers for the sample group. -/
theorem layer5_eq {m : (ℓ : Loc Cert.Kernel5Ideal.nD Cert.Kernel5Ideal.τ Cert.Kernel5Ideal.sig) → Buf (Elt Ideal) ℓ}
    {m' : (ℓ : Loc Cert.Reference5Ideal.nD Cert.Reference5Ideal.τ Cert.Reference5Ideal.sig) → Buf (Elt Ideal) ℓ}
    {c : Dev Cert.Kernel5Ideal.nD}
    (h : m' ((c.tc : Thread Cert.Reference5Ideal.nD Cert.Reference5Ideal.τ).loc Cert.Reference5Ideal.main_arg0)
        = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1)
        = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2)
        = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3)
        = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4)
        = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5)
        = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6)
        = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7)
        = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8)
        = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9)
        = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10)
        = m ((c.tc : Thread Cert.Kernel5Ideal.nD Cert.Kernel5Ideal.τ).loc Cert.Kernel5Ideal.main_arg10)) :
    Cert.InS.Ref.layer m' c = Cert.InS.layer m c := by
  obtain ⟨e0, e1, e2, e3, e4, e5, e6, e7, e8, e9, e10⟩ := h
  unfold Cert.InS.Ref.layer Cert.InS.layer
  rw [e0, e1, e2, e3, e4, e5, e6, e7, e8, e9, e10]

set_option maxHeartbeats 2000000 in
theorem value5 : Cert.algebraic_Kernel5Ideal_Reference5Ideal_pre_finite5 (hPre_finite5 := Cert.InS.pre_facts) :=
  fun m g m' g' hpre hargs =>
  have hr := fun c => Cert.InS.reals_of_pre hpre c
  have hl := fun c => layer5_eq (hargs c)
  ⟨fun c y => (Cert.InS.layer m c).sparseQueries (y 0) (y 1), fun c y => (Cert.InS.layer m c).sparse (y 0) (y 1),
    fun c y => (Cert.InS.layer m c).window (y 0) (y 1), fun c y => (Cert.InS.layer m c).gates (y 0) (y 1),
    fun c y => (Cert.InS.layer m c).latents (y 0) (y 1), fun c y => (Cert.InS.layer m c).plainQueries (y 0) (y 1),
    fun c y => (Cert.InS.layer m c).rotaryQueries (y 0) (y 1), fun c y => (Cert.InS.layer m c).rotaryKeys (y 0) (y 1),
    fun c y => (Cert.InS.layer m c).keys (y 0) (y 1), fun c y => (Cert.InS.layer m c).values (y 0) (y 1),
    fun c y => (Cert.InS.layer m c).both (y 0) (y 1),
    (θ_run _ _ _).mono (fun _ h c => by
        obtain ⟨h0, h1, h2, h3, h4, h5, h6, h7, h8, h9, h10, hu⟩ := h c
        exact ⟨h0.trans (Cert.InS.sparseQueries_eq (hr c)), h1.trans (Cert.InS.sparse_eq (hr c)),
          h2.trans (Cert.InS.window_eq (hr c)), h3.trans (Cert.InS.gates_eq (hr c)), h4.trans (Cert.InS.latents_eq (hr c)),
          h5.trans (Cert.InS.plainQueries_eq (hr c)), h6.trans (Cert.InS.rotaryQueries_eq (hr c)),
          h7.trans (Cert.InS.rotaryKeys_eq (hr c)), h8.trans (Cert.InS.keys_eq (hr c)),
          h9.trans (Cert.InS.values_eq (hr c)), h10.trans (Cert.InS.both_eq (hr c)), hu⟩)
      (Cert.Kernel5Ideal.Value.run_blocks (F := Ideal) m g),
    (θ_run _ _ _).mono (fun _ h c => by
        obtain ⟨h0, h1, h2, h3, h4, h5, h6, h7, h8, h9, h10, hu⟩ := h c
        exact ⟨h0.trans ((Cert.InS.Ref.sparseQueries_eq (m := m') (c := c)).trans (by rw [hl c]; rfl)), h1.trans ((Cert.InS.Ref.sparse_eq (m := m') (c := c)).trans (by rw [hl c]; rfl)),
          h2.trans ((Cert.InS.Ref.window_eq (m := m') (c := c)).trans (by rw [hl c]; rfl)), h3.trans ((Cert.InS.Ref.gates_eq (m := m') (c := c)).trans (by rw [hl c]; rfl)), h4.trans ((Cert.InS.Ref.latents_eq (m := m') (c := c)).trans (by rw [hl c]; rfl)),
          h5.trans ((Cert.InS.Ref.plainQueries_eq (m := m') (c := c)).trans (by rw [hl c]; rfl)), h6.trans ((Cert.InS.Ref.rotaryQueries_eq (m := m') (c := c)).trans (by rw [hl c]; rfl)),
          h7.trans ((Cert.InS.Ref.rotaryKeys_eq (m := m') (c := c)).trans (by rw [hl c]; rfl)), h8.trans ((Cert.InS.Ref.keys_eq (m := m') (c := c)).trans (by rw [hl c]; rfl)),
          h9.trans ((Cert.InS.Ref.values_eq (m := m') (c := c)).trans (by rw [hl c]; rfl)), h10.trans ((Cert.InS.Ref.both_eq (m := m') (c := c)).trans (by rw [hl c]; rfl)), hu⟩)
      (Cert.Reference5Ideal.Value.run (F := Ideal) m' g')⟩

/-- The sample group's feed-forward reference leaves its arguments, and has no semaphore. -/
theorem reference6_frame : Cert.quiescent_Reference6Ideal := fun m ρ _ =>
  (θ_run _ _ _).mono (fun _ h => ⟨fun c => (h c).2, sem_eq_zero_of_no_sems (by decide) _⟩)
    (Cert.Reference6Ideal.Value.run (F := Ideal) m ρ)

/-- The sample group's feed-forward kernel's result is its reference's. -/
theorem value6 : Cert.algebraic_Kernel6Ideal_Reference6Ideal := fun m g m' g' _ hargs =>
  ⟨fun c y => Cert.FfnS.layer (m ((c.tc : Thread _ _).loc Cert.Kernel6Ideal.main_arg0))
      (m ((c.tc : Thread _ _).loc Cert.Kernel6Ideal.main_arg1)) (m ((c.tc : Thread _ _).loc Cert.Kernel6Ideal.main_arg2))
      (m ((c.tc : Thread _ _).loc Cert.Kernel6Ideal.main_arg3)) (m ((c.tc : Thread _ _).loc Cert.Kernel6Ideal.main_arg4))
      (m ((c.tc : Thread _ _).loc Cert.Kernel6Ideal.main_arg5)) (m ((c.tc : Thread _ _).loc Cert.Kernel6Ideal.main_arg6))
      (y 0) (y 1),
    (θ_run _ _ _).mono (fun _ h c => ⟨(h c).1.trans (Cert.FfnS.array_eq m c), (h c).2⟩)
      (Cert.Kernel6Ideal.Value.run_blocks (F := Ideal) m g),
    (θ_run _ _ _).mono (fun _ h c => ⟨(h c).1.trans (by
        obtain ⟨e0, e1, e2, e3, e4, e5, e6⟩ := hargs c
        rw [e0, e1, e2, e3, e4, e5, e6]
        exact Cert.FfnS.Ref.stages_eq _ _ _ _ _ _ _), (h c).2⟩)
      (Cert.Reference6Ideal.Value.run (F := Ideal) m' g')⟩

/-- The reference of the sample group's projection leaves its arguments, and has no semaphore. -/
theorem reference7_frame : Cert.quiescent_Reference7Ideal := fun m ρ _ =>
  (θ_run _ _ _).mono (fun _ h => ⟨fun c => (h c).2.2, sem_eq_zero_of_no_sems (by decide) _⟩)
    (Cert.Reference7Ideal.Value.run (F := Ideal) m ρ)

/-- The sample group's projection kernel's two results are its reference's. -/
theorem value7 : Cert.algebraic_Kernel7Ideal_Reference7Ideal := fun m g m' g' _ hargs =>
  ⟨fun c y => Cert.MixS.mixed (m ((c.tc : Thread _ _).loc Cert.Kernel7Ideal.main_arg0))
      (m ((c.tc : Thread _ _).loc Cert.Kernel7Ideal.main_arg1)) (m ((c.tc : Thread _ _).loc Cert.Kernel7Ideal.main_arg2))
      (m ((c.tc : Thread _ _).loc Cert.Kernel7Ideal.main_arg3)) (m ((c.tc : Thread _ _).loc Cert.Kernel7Ideal.main_arg4))
      (y 0) (y 1),
    fun c y => Cert.MixS.modulated (Cert.MixS.mixed (m ((c.tc : Thread _ _).loc Cert.Kernel7Ideal.main_arg0))
      (m ((c.tc : Thread _ _).loc Cert.Kernel7Ideal.main_arg1)) (m ((c.tc : Thread _ _).loc Cert.Kernel7Ideal.main_arg2))
      (m ((c.tc : Thread _ _).loc Cert.Kernel7Ideal.main_arg3)) (m ((c.tc : Thread _ _).loc Cert.Kernel7Ideal.main_arg4)))
      (m ((c.tc : Thread _ _).loc Cert.Kernel7Ideal.main_arg5)) (m ((c.tc : Thread _ _).loc Cert.Kernel7Ideal.main_arg6))
      (m ((c.tc : Thread _ _).loc Cert.Kernel7Ideal.main_arg7)) (y 0) (y 1),
    (θ_run _ _ _).mono (fun _ h c => ⟨(h c).1.trans (Cert.MixS.first_eq m c), (h c).2.1.trans (Cert.MixS.second_eq m c),
        (h c).2.2⟩)
      (Cert.Kernel7Ideal.Value.run_blocks (F := Ideal) m g),
    (θ_run _ _ _).mono (fun _ h c => ⟨(h c).1.trans (by
        obtain ⟨e0, e1, e2, e3, e4, -, -, -⟩ := hargs c
        rw [e0, e1, e2, e3, e4]
        exact Cert.MixS.Ref.first_eq _ _ _ _ _), (h c).2.1.trans (by
        obtain ⟨e0, e1, e2, e3, e4, e5, e6, e7⟩ := hargs c
        rw [e0, e1, e2, e3, e4, e5, e6, e7]
        exact Cert.MixS.Ref.second_eq _ _ _ _ _ _ _ _), (h c).2.2⟩)
      (Cert.Reference7Ideal.Value.run (F := Ideal) m' g')⟩

/-- The reference of the modulation rows leaves its arguments, and has no semaphore. -/
theorem reference8_frame : Cert.quiescent_Reference8Ideal := fun m ρ _ =>
  (θ_run _ _ _).mono (fun _ h => ⟨fun c => (h c).2, sem_eq_zero_of_no_sems (by decide) _⟩)
    (Cert.Reference8Ideal.Value.run (F := Ideal) m ρ)

/-- The modulation kernel's result is its reference's. -/
theorem value8 : Cert.algebraic_Kernel8Ideal_Reference8Ideal := fun m g m' g' _ hargs =>
  ⟨fun c y => Cert.Modulation.modulation (m ((c.tc : Thread _ _).loc Cert.Kernel8Ideal.main_arg0))
      (m ((c.tc : Thread _ _).loc Cert.Kernel8Ideal.main_arg1)) (m ((c.tc : Thread _ _).loc Cert.Kernel8Ideal.main_arg2))
      (y 0) (y 1),
    (θ_run _ _ _).mono (fun _ h c => ⟨(h c).1.trans (Cert.Modulation.array_eq m c), (h c).2⟩)
      (Cert.Kernel8Ideal.Value.run_blocks (F := Ideal) m g),
    (θ_run _ _ _).mono (fun _ h c => ⟨(h c).1.trans (by
        obtain ⟨e0, e1, e2⟩ := hargs c
        rw [e0, e1, e2]
        exact Cert.Modulation.Ref.rows_eq _ _ _), (h c).2⟩)
      (Cert.Reference8Ideal.Value.run (F := Ideal) m' g')⟩

/-- The reference of the compressed blocks leaves its arguments, and has no semaphore. -/
theorem reference9_frame : Cert.quiescent_Reference9Ideal := fun m ρ _ =>
  (θ_run _ _ _).mono (fun _ h => ⟨fun c => (h c).2.2, sem_eq_zero_of_no_sems (by decide) _⟩)
    (Cert.Reference9Ideal.Value.run (F := Ideal) m ρ)

/-- The compression kernel's two results are its reference's. -/
theorem value9 : Cert.algebraic_Kernel9Ideal_Reference9Ideal := fun m g m' g' _ hargs =>
  ⟨fun c y => Cert.Compress.compressed (m ((c.tc : Thread _ _).loc Cert.Kernel9Ideal.main_arg0))
      (m ((c.tc : Thread _ _).loc Cert.Kernel9Ideal.main_arg2)) (m ((c.tc : Thread _ _).loc Cert.Kernel9Ideal.main_arg3))
      (y 0) (y 1),
    fun c y => Cert.Compress.compressed (m ((c.tc : Thread _ _).loc Cert.Kernel9Ideal.main_arg1))
      (m ((c.tc : Thread _ _).loc Cert.Kernel9Ideal.main_arg4)) (m ((c.tc : Thread _ _).loc Cert.Kernel9Ideal.main_arg5))
      (y 0) (y 1),
    (θ_run _ _ _).mono (fun _ h c => ⟨(h c).1.trans (Cert.Compress.keys_eq m c),
        (h c).2.1.trans (Cert.Compress.values_eq m c), (h c).2.2⟩)
      (Cert.Kernel9Ideal.Value.run_blocks (F := Ideal) m g),
    (θ_run _ _ _).mono (fun _ h c => ⟨(h c).1.trans (by
        obtain ⟨e0, -, e2, e3, -, -⟩ := hargs c
        rw [e0, e2, e3]
        exact Cert.Compress.Ref.stages_eq _ _ _), (h c).2.1.trans (by
        obtain ⟨-, e1, -, -, e4, e5⟩ := hargs c
        rw [e1, e4, e5]
        exact Cert.Compress.Ref.stages_eq _ _ _), (h c).2.2⟩)
      (Cert.Reference9Ideal.Value.run (F := Ideal) m' g')⟩

/-- The reference of the contracted queries leaves its arguments, and has no semaphore. -/
theorem reference10_frame : Cert.quiescent_Reference10Ideal := fun m ρ _ =>
  (θ_run _ _ _).mono (fun _ h => ⟨fun c => (h c).2, sem_eq_zero_of_no_sems (by decide) _⟩)
    (Cert.Reference10Ideal.Value.run (F := Ideal) m ρ)

/-- The sample group's contracted queries are their reference's. -/
theorem value10 : Cert.algebraic_Kernel10Ideal_Reference10Ideal := fun m g m' g' _ hargs =>
  ⟨fun c y => Cert.HeadQ.absorbed (m ((c.tc : Thread _ _).loc Cert.Kernel10Ideal.main_arg0))
      (m ((c.tc : Thread _ _).loc Cert.Kernel10Ideal.main_arg1)) (y 0) (y 1),
    (θ_run _ _ _).mono (fun _ h c => ⟨(h c).1.trans (Cert.HeadQ.array_eq m c), (h c).2⟩)
      (Cert.Kernel10Ideal.Value.run_blocks (F := Ideal) m g),
    (θ_run _ _ _).mono (fun _ h c => ⟨(h c).1.trans (by
        obtain ⟨e0, e1⟩ := hargs c
        rw [e0, e1]
        exact Cert.HeadQ.Ref.contracted_eq _ _), (h c).2⟩)
      (Cert.Reference10Ideal.Value.run (F := Ideal) m' g')⟩

/-- The reference of the expanded sums leaves its arguments, and has no semaphore. -/
theorem reference11_frame : Cert.quiescent_Reference11Ideal := fun m ρ _ =>
  (θ_run _ _ _).mono (fun _ h => ⟨fun c => (h c).2, sem_eq_zero_of_no_sems (by decide) _⟩)
    (Cert.Reference11Ideal.Value.run (F := Ideal) m ρ)

/-- The sample group's expanded sums are their reference's. -/
theorem value11 : Cert.algebraic_Kernel11Ideal_Reference11Ideal := fun m g m' g' _ hargs =>
  ⟨fun c y => Cert.HeadO.expanded (m ((c.tc : Thread _ _).loc Cert.Kernel11Ideal.main_arg0))
      (m ((c.tc : Thread _ _).loc Cert.Kernel11Ideal.main_arg1)) (y 0) (y 1),
    (θ_run _ _ _).mono (fun _ h c => ⟨(h c).1.trans (Cert.HeadO.array_eq m c), (h c).2⟩)
      (Cert.Kernel11Ideal.Value.run_blocks (F := Ideal) m g),
    (θ_run _ _ _).mono (fun _ h c => ⟨(h c).1.trans (by
        obtain ⟨e0, e1⟩ := hargs c
        rw [e0, e1]
        exact Cert.HeadO.Ref.contracted_eq _ _), (h c).2⟩)
      (Cert.Reference11Ideal.Value.run (F := Ideal) m' g')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.In.pre_facts, Cert.InS.pre_facts,
  fun m ρ _ => Cert.Kernel.Gen.frame m ρ, fun m ρ _ => Cert.KernelIdeal.Gen.frame m ρ, reference_frame,
  fun m ρ _ => Cert.Kernel2.Gen.frame m ρ, fun m ρ _ => Cert.Kernel2Ideal.Gen.frame m ρ, reference2_frame,
  fun m ρ _ => Cert.Kernel3.Gen.frame m ρ, fun m ρ _ => Cert.Kernel3Ideal.Gen.frame m ρ, reference3_frame,
  fun m ρ _ => Cert.Kernel4.Gen.frame m ρ, fun m ρ _ => Cert.Kernel4Ideal.Gen.frame m ρ,
  fun m ρ _ => Cert.Kernel4Ideal.Gen.frame m ρ, reference4_frame, fun m ρ _ => reference4_frame m ρ trivial,
  fun m ρ _ => Cert.Kernel5.Gen.frame m ρ, fun m ρ _ => Cert.Kernel5Ideal.Gen.frame m ρ,
  fun m ρ _ => Cert.Kernel5Ideal.Gen.frame m ρ, reference5_frame, fun m ρ _ => reference5_frame m ρ trivial,
  fun m ρ _ => Cert.Kernel6.Gen.frame m ρ, fun m ρ _ => Cert.Kernel6Ideal.Gen.frame m ρ, reference6_frame,
  fun m ρ _ => Cert.Kernel7.Gen.frame m ρ, fun m ρ _ => Cert.Kernel7Ideal.Gen.frame m ρ, reference7_frame,
  fun m ρ _ => Cert.Kernel8.Gen.frame m ρ, fun m ρ _ => Cert.Kernel8Ideal.Gen.frame m ρ, reference8_frame,
  fun m ρ _ => Cert.Kernel9.Gen.frame m ρ, fun m ρ _ => Cert.Kernel9Ideal.Gen.frame m ρ, reference9_frame,
  fun m ρ _ => Cert.Kernel10.Gen.frame m ρ, fun m ρ _ => Cert.Kernel10Ideal.Gen.frame m ρ, reference10_frame,
  fun m ρ _ => Cert.Kernel11.Gen.frame m ρ, fun m ρ _ => Cert.Kernel11Ideal.Gen.frame m ρ, reference11_frame,
  IdealRules.named_const.statement Cert.KernelIdeal.κ "mask" .f32 0xF149F2CA#32 ⊥ rfl, value,
  trivial, value2, trivial, value3, trivial, value4,
  trivial, value5, trivial, value6, trivial, value7, trivial, value8,
  trivial, value9, trivial, value10, trivial, value11⟩

end Cert.Proof

end
